-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4)
      ∧ r.2.mem ((c.tc : Thread Cert.Forward.nD Cert.Forward.τ).loc Cert.Forward.main_arg5) = m ((c.tc : Thread Cert.Forward.nD Cert.Forward.τ).loc Cert.Forward.main_arg5))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4)
      ∧ r.2.mem ((c.tc : Thread Cert.ForwardReferenceIdeal.nD Cert.ForwardReferenceIdeal.τ).loc Cert.ForwardReferenceIdeal.main_arg5) = m ((c.tc : Thread Cert.ForwardReferenceIdeal.nD Cert.ForwardReferenceIdeal.τ).loc Cert.ForwardReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)
      ∧ m' ((c.tc : Thread Cert.ForwardReferenceIdeal.nD Cert.ForwardReferenceIdeal.τ).loc Cert.ForwardReferenceIdeal.main_arg5) = m ((c.tc : Thread Cert.ForwardIdeal.nD Cert.ForwardIdeal.τ).loc Cert.ForwardIdeal.main_arg5)) →
    ∃ (v0 : (c : Dev Cert.ForwardIdeal.nD) → Buf (Elt Ideal) ((c.tc : Thread Cert.ForwardIdeal.nD Cert.ForwardIdeal.τ).loc Cert.ForwardIdeal.main_v0_0)) (v1 : (c : Dev Cert.ForwardIdeal.nD) → Buf (Elt Ideal) ((c.tc : Thread Cert.ForwardIdeal.nD Cert.ForwardIdeal.τ).loc Cert.ForwardIdeal.main_v0_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0_0) = v0 c
          ∧ r.2.mem ((c.tc : Thread Cert.ForwardIdeal.nD Cert.ForwardIdeal.τ).loc Cert.ForwardIdeal.main_v0_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v19) = v0 c
          ∧ r.2.mem ((c.tc : Thread Cert.ForwardReferenceIdeal.nD Cert.ForwardReferenceIdeal.τ).loc Cert.ForwardReferenceIdeal.main_v17_9) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4)
          ∧ r.2.mem ((c.tc : Thread Cert.ForwardReferenceIdeal.nD Cert.ForwardReferenceIdeal.τ).loc Cert.ForwardReferenceIdeal.main_arg5) = m' ((c.tc : Thread Cert.ForwardReferenceIdeal.nD Cert.ForwardReferenceIdeal.τ).loc Cert.ForwardReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6)) (v1 : (c : Dev Cert.MlpIdeal.nD) → Buf (Elt Ideal) ((c.tc : Thread Cert.MlpIdeal.nD Cert.MlpIdeal.τ).loc Cert.MlpIdeal.main_v11_1)) (v2 : (c : Dev Cert.MlpIdeal.nD) → Buf (Elt Ideal) ((c.tc : Thread Cert.MlpIdeal.nD Cert.MlpIdeal.τ).loc Cert.MlpIdeal.main_v12)) (v3 : (c : Dev Cert.MlpIdeal.nD) → Buf (Elt Ideal) ((c.tc : Thread Cert.MlpIdeal.nD Cert.MlpIdeal.τ).loc Cert.MlpIdeal.main_v10)) (v4 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_v11_1) = v1 c
          ∧ r.2.mem ((c.tc : Thread Cert.MlpIdeal.nD Cert.MlpIdeal.τ).loc Cert.MlpIdeal.main_v12) = v2 c
          ∧ r.2.mem ((c.tc : Thread Cert.MlpIdeal.nD Cert.MlpIdeal.τ).loc Cert.MlpIdeal.main_v10) = v3 c
          ∧ r.2.mem ((c.tc : Thread Cert.MlpIdeal.nD Cert.MlpIdeal.τ).loc Cert.MlpIdeal.main_v8) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v25) = v0 c
          ∧ r.2.mem ((c.tc : Thread Cert.MlpReferenceIdeal.nD Cert.MlpReferenceIdeal.τ).loc Cert.MlpReferenceIdeal.main_v56) = v1 c
          ∧ r.2.mem ((c.tc : Thread Cert.MlpReferenceIdeal.nD Cert.MlpReferenceIdeal.τ).loc Cert.MlpReferenceIdeal.main_v41) = v2 c
          ∧ r.2.mem ((c.tc : Thread Cert.MlpReferenceIdeal.nD Cert.MlpReferenceIdeal.τ).loc Cert.MlpReferenceIdeal.main_v34) = v3 c
          ∧ r.2.mem ((c.tc : Thread Cert.MlpReferenceIdeal.nD Cert.MlpReferenceIdeal.τ).loc Cert.MlpReferenceIdeal.main_v28) = v4 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v7)) (v1 : (c : Dev Cert.ProjIdeal.nD) → Buf (Elt Ideal) ((c.tc : Thread Cert.ProjIdeal.nD Cert.ProjIdeal.τ).loc Cert.ProjIdeal.main_v8)) (v2 : (c : Dev Cert.ProjIdeal.nD) → Buf (Elt Ideal) ((c.tc : Thread Cert.ProjIdeal.nD Cert.ProjIdeal.τ).loc Cert.ProjIdeal.main_v13_1)) (v3 : (c : Dev Cert.ProjIdeal.nD) → Buf (Elt Ideal) ((c.tc : Thread Cert.ProjIdeal.nD Cert.ProjIdeal.τ).loc Cert.ProjIdeal.main_v14)) (v4 : (c : Dev Cert.ProjIdeal.nD) → Buf (Elt Ideal) ((c.tc : Thread Cert.ProjIdeal.nD Cert.ProjIdeal.τ).loc Cert.ProjIdeal.main_v9)) (v5 : (c : Dev Cert.ProjIdeal.nD) → Buf (Elt Ideal) ((c.tc : Thread Cert.ProjIdeal.nD Cert.ProjIdeal.τ).loc Cert.ProjIdeal.main_v12)) (v6 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_v8) = v1 c
          ∧ r.2.mem ((c.tc : Thread Cert.ProjIdeal.nD Cert.ProjIdeal.τ).loc Cert.ProjIdeal.main_v13_1) = v2 c
          ∧ r.2.mem ((c.tc : Thread Cert.ProjIdeal.nD Cert.ProjIdeal.τ).loc Cert.ProjIdeal.main_v14) = v3 c
          ∧ r.2.mem ((c.tc : Thread Cert.ProjIdeal.nD Cert.ProjIdeal.τ).loc Cert.ProjIdeal.main_v9) = v4 c
          ∧ r.2.mem ((c.tc : Thread Cert.ProjIdeal.nD Cert.ProjIdeal.τ).loc Cert.ProjIdeal.main_v12) = v5 c
          ∧ r.2.mem ((c.tc : Thread Cert.ProjIdeal.nD Cert.ProjIdeal.τ).loc Cert.ProjIdeal.main_v10) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v46) = v2 c
          ∧ r.2.mem ((c.tc : Thread Cert.ProjReferenceIdeal.nD Cert.ProjReferenceIdeal.τ).loc Cert.ProjReferenceIdeal.main_v31) = v3 c
          ∧ r.2.mem ((c.tc : Thread Cert.ProjReferenceIdeal.nD Cert.ProjReferenceIdeal.τ).loc Cert.ProjReferenceIdeal.main_v22) = v4 c
          ∧ r.2.mem ((c.tc : Thread Cert.ProjReferenceIdeal.nD Cert.ProjReferenceIdeal.τ).loc Cert.ProjReferenceIdeal.main_v24) = v5 c
          ∧ r.2.mem ((c.tc : Thread Cert.ProjReferenceIdeal.nD Cert.ProjReferenceIdeal.τ).loc Cert.ProjReferenceIdeal.main_v21) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v4)) (v1 : (c : Dev Cert.GateIdeal.nD) → Buf (Elt Ideal) ((c.tc : Thread Cert.GateIdeal.nD Cert.GateIdeal.τ).loc Cert.GateIdeal.main_v3_0)) (v2 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_v3_0) = v1 c
          ∧ r.2.mem ((c.tc : Thread Cert.GateIdeal.nD Cert.GateIdeal.τ).loc Cert.GateIdeal.main_v5) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v39) = v0 c
          ∧ r.2.mem ((c.tc : Thread Cert.GateReferenceIdeal.nD Cert.GateReferenceIdeal.τ).loc Cert.GateReferenceIdeal.main_v24) = v1 c
          ∧ r.2.mem ((c.tc : Thread Cert.GateReferenceIdeal.nD Cert.GateReferenceIdeal.τ).loc Cert.GateReferenceIdeal.main_v42) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v4) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v24) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v36) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts) (hGate : Cert.Gate.Facts) (hGateIdeal : Cert.GateIdeal.Facts) (hGateReferenceIdeal : Cert.GateReferenceIdeal.Facts) (hLoss : Cert.Loss.Facts) (hLossIdeal : Cert.LossIdeal.Facts) (hLossReferenceIdeal : Cert.LossReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Forward (hForward := hForward)
    ∧ quiescent_ForwardIdeal (hForwardIdeal := hForwardIdeal)
    ∧ quiescent_ForwardReferenceIdeal (hForwardReferenceIdeal := hForwardReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Gate (hGate := hGate)
    ∧ quiescent_GateIdeal (hGateIdeal := hGateIdeal)
    ∧ quiescent_GateReferenceIdeal (hGateReferenceIdeal := hGateReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal (hKernelIdeal := hKernelIdeal) (hReferenceIdeal := hReferenceIdeal)
    ∧ preserves_Forward_ForwardIdeal
    ∧ algebraic_ForwardIdeal_ForwardReferenceIdeal (hForwardIdeal := hForwardIdeal) (hForwardReferenceIdeal := hForwardReferenceIdeal)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
    ∧ preserves_Gate_GateIdeal
    ∧ algebraic_GateIdeal_GateReferenceIdeal (hGateIdeal := hGateIdeal) (hGateReferenceIdeal := hGateReferenceIdeal)
    ∧ preserves_Loss_LossIdeal
    ∧ algebraic_LossIdeal_LossReferenceIdeal (hLossIdeal := hLossIdeal) (hLossReferenceIdeal := hLossReferenceIdeal)
-- ==== Kernel.lean ====
abbrev S8192x512 : Shape := ⟨2, ![8192, 512]⟩
abbrev S1024x512 : Shape := ⟨2, ![1024, 512]⟩
abbrev S128x4x128x128 : Shape := ⟨4, ![128, 4, 128, 128]⟩
abbrev S512x512 : Shape := ⟨2, ![512, 512]⟩
abbrev S64x512 : Shape := ⟨2, ![64, 512]⟩
abbrev S8x4x128x128 : Shape := ⟨4, ![8, 4, 128, 128]⟩
abbrev S4x128x128 : Shape := ⟨3, ![4, 128, 128]⟩
abbrev S1x4x128x128 : Shape := ⟨4, ![1, 4, 128, 128]⟩
abbrev S8x512 : Shape := ⟨2, ![8, 512]⟩
abbrev S1x64x512 : Shape := ⟨3, ![1, 64, 512]⟩
abbrev S1x64x128 : Shape := ⟨3, ![1, 64, 128]⟩
abbrev S4x64x128 : Shape := ⟨3, ![4, 64, 128]⟩
abbrev S1x64x64 : Shape := ⟨3, ![1, 64, 64]⟩
abbrev S4x64x64 : Shape := ⟨3, ![4, 64, 64]⟩
abbrev S1x8x512 : Shape := ⟨3, ![1, 8, 512]⟩
abbrev S1x8x128 : Shape := ⟨3, ![1, 8, 128]⟩
abbrev S4x8x128 : Shape := ⟨3, ![4, 8, 128]⟩
abbrev S4x1x1 : Shape := ⟨3, ![4, 1, 1]⟩
abbrev S3x64x128 : Shape := ⟨3, ![3, 64, 128]⟩
abbrev S2x64x128 : Shape := ⟨3, ![2, 64, 128]⟩
abbrev S4 : Shape := ⟨1, ![4]⟩
abbrev S4x7x1 : Shape := ⟨3, ![4, 7, 1]⟩
abbrev S4x8x1 : Shape := ⟨3, ![4, 8, 1]⟩
abbrev S4x8x127 : Shape := ⟨3, ![4, 8, 127]⟩
abbrev S1x8x384 : Shape := ⟨3, ![1, 8, 384]⟩
abbrev S1x8x256 : Shape := ⟨3, ![1, 8, 256]⟩
abbrev S1x64x384 : Shape := ⟨3, ![1, 64, 384]⟩
abbrev S1x64x448 : Shape := ⟨3, ![1, 64, 448]⟩
abbrev S1x64x256 : Shape := ⟨3, ![1, 64, 256]⟩
abbrev S1x64x320 : Shape := ⟨3, ![1, 64, 320]⟩
abbrev S1x64x192 : Shape := ⟨3, ![1, 64, 192]⟩

abbrev nBuf : Space → Nat
  | .hbm => 14
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x512, .f32⟩
  | .hbm, ⟨6, _⟩ => ⟨S128x4x128x128, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S64x512, .f32⟩
  | .local _ .vmem, ⟨11, _⟩ => ⟨S64x512, .f32⟩
  | .local _ .vmem, ⟨12, _⟩ => ⟨S8x4x128x128, .f32⟩
  | .local _ .vmem, ⟨13, _⟩ => ⟨S8x4x128x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S64x512, .f32⟩
  | .local _ .vmem, ⟨27, _⟩ => ⟨S64x512, .f32⟩
  | .local _ .vmem, ⟨28, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S8192x512 : Shape := ⟨2, ![8192, 512]⟩
abbrev S1024x512 : Shape := ⟨2, ![1024, 512]⟩
abbrev S128x4x128x128 : Shape := ⟨4, ![128, 4, 128, 128]⟩
abbrev S128x64x4x128 : Shape := ⟨4, ![128, 64, 4, 128]⟩
abbrev S128x4x64x128 : Shape := ⟨4, ![128, 4, 64, 128]⟩
abbrev S128x4x64x64 : Shape := ⟨4, ![128, 4, 64, 64]⟩
abbrev S128x8x4x128 : Shape := ⟨4, ![128, 8, 4, 128]⟩
abbrev S128x1x4x1 : Shape := ⟨4, ![128, 1, 4, 1]⟩
abbrev S128x4 : Shape := ⟨2, ![128, 4]⟩
abbrev S_ : Shape := ⟨0, ![]⟩
abbrev S4x128x128 : Shape := ⟨3, ![4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4 : Shape := ⟨2, ![1, 4]⟩
abbrev S4 : Shape := ⟨1, ![4]⟩
abbrev S4x1x1 : Shape := ⟨3, ![4, 1, 1]⟩
abbrev S4x128x64 : Shape := ⟨3, ![4, 128, 64]⟩

abbrev nBuf : Space → Nat
  | .hbm => 180
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S1024x512, .f32⟩
  | 6 => ⟨S128x4x128x128, .f32⟩
  | 7 => ⟨S8192x512, .f32⟩
  | 8 => ⟨S128x64x4x128, .f32⟩
  | 9 => ⟨S128x4x64x128, .f32⟩
  | 10 => ⟨S128x64x4x128, .f32⟩
  | 11 => ⟨S128x4x64x128, .f32⟩
  | 12 => ⟨S128x64x4x128, .f32⟩
  | 13 => ⟨S128x4x64x128, .f32⟩
  | 14 => ⟨S128x4x64x64, .f32⟩
  | 15 => ⟨S128x64x4x128, .f32⟩
  | 16 => ⟨S128x4x64x128, .f32⟩
  | 17 => ⟨S128x64x4x128, .f32⟩
  | 18 => ⟨S128x4x64x128, .f32⟩
  | 19 => ⟨S128x8x4x128, .f32⟩
  | 20 => ⟨S128x1x4x1, .f32⟩
  | 21 => ⟨S128x4, .f32⟩
  | 22 => ⟨S_, .f32⟩
  | 23 => ⟨S4x128x128, .f32⟩
  | 24 => ⟨S128x64x4x128, .f32⟩
  | 25 => ⟨S128x4x64x128, .f32⟩
  | 26 => ⟨S_, .f32⟩
  | 27 => ⟨S128x4x64x128, .f32⟩
  | 28 => ⟨S_, .f32⟩
  | 29 => ⟨S128x4x64x128, .f32⟩
  | 30 => ⟨S_, .f32⟩
  | 31 => ⟨S128x4x64x64, .f32⟩
  | 32 => ⟨S_, .f32⟩
  | 33 => ⟨S128x4x64x128, .f32⟩
  | 34 => ⟨S_, .f32⟩
  | 35 => ⟨S128x4x64x128, .f32⟩
  | 36 => ⟨S_, .f32⟩
  | 37 => ⟨S128x4, .f32⟩
  | 38 => ⟨S_, .i32⟩
  | 39 => ⟨S128x4x128x128, .f32⟩
  | 40 => ⟨S128x4x64x128, .f32⟩
  | 41 => ⟨S128x4x64x128, .f32⟩
  | 42 => ⟨S128x4x64x64, .f32⟩
  | 43 => ⟨S128x4x64x128, .f32⟩
  | 44 => ⟨S128x4x64x128, .f32⟩
  | 45 => ⟨S128x4, .f32⟩
  | 46 => ⟨S128x4x64x128, .f32⟩
  | 47 => ⟨S_, .i32⟩
  | 48 => ⟨S4x128x128, .f32⟩
  | 49 => ⟨S128x4x64x128, .f32⟩
  | 50 => ⟨S128x4x64x128, .f32⟩
  | 51 => ⟨S128x4x64x64, .f32⟩
  | 52 => ⟨S128x4x64x128, .f32⟩
  | 53 => ⟨S128x4x64x128, .f32⟩
  | 54 => ⟨S128x4, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x4x128x128, .f32⟩
  | 65 => ⟨S4x128x128, .f32⟩
  | 66 => ⟨S_, .i32⟩
  | 67 => ⟨S_, .i32⟩
  | 68 => ⟨S_, .i32⟩
  | 69 => ⟨S1x4x64x128, .f32⟩
  | 70 => ⟨S4x64x128, .f32⟩
  | 71 => ⟨S_, .i32⟩
  | 72 => ⟨S_, .i32⟩
  | 73 => ⟨S_, .i32⟩
  | 74 => ⟨S1x4x64x128, .f32⟩
  | 75 => ⟨S4x64x128, .f32⟩
  | 76 => ⟨S_, .i32⟩
  | 77 => ⟨S_, .i32⟩
  | 78 => ⟨S_, .i32⟩
  | 79 => ⟨S1x4x64x64, .f32⟩
  | 80 => ⟨S4x64x64, .f32⟩
  | 81 => ⟨S_, .i32⟩
  | 82 => ⟨S_, .i32⟩
  | 83 => ⟨S_, .i32⟩
  | 84 => ⟨S1x4x64x128, .f32⟩
  | 85 => ⟨S4x64x128, .f32⟩
  | 86 => ⟨S_, .i32⟩
  | 87 => ⟨S_, .i32⟩
  | 88 => ⟨S_, .i32⟩
  | 89 => ⟨S1x4x64x128, .f32⟩
  | 90 => ⟨S4x64x128, .f32⟩
  | 91 => ⟨S_, .i32⟩
  | 92 => ⟨S1x4, .f32⟩
  | 93 => ⟨S4, .f32⟩
  | 94 => ⟨S_, .i32⟩
  | 95 => ⟨S_, .i32⟩
  | 96 => ⟨S_, .i32⟩
  | 97 => ⟨S1x4x64x128, .f32⟩
  | 98 => ⟨S4x64x128, .f32⟩
  | 99 => ⟨S4x64x128, .f32⟩
  | 100 => ⟨S4x64x128, .f32⟩
  | 101 => ⟨S4x64x128, .f32⟩
  | 102 => ⟨S4x64x128, .f32⟩
  | 103 => ⟨S4x64x128, .f32⟩
  | 104 => ⟨S4x1x1, .f32⟩
  | 105 => ⟨S4x128x128, .f32⟩
  | 106 => ⟨S4x128x128, .f32⟩
  | 107 => ⟨S4x128x128, .f32⟩
  | 108 => ⟨S4x128x128, .f32⟩
  | 109 => ⟨S4x128x64, .f32⟩
  | 110 => ⟨S4x64x128, .f32⟩
  | 111 => ⟨S4x128x64, .f32⟩
  | 112 => ⟨S4x64x128, .f32⟩
  | 113 => ⟨S4x128x128, .f32⟩
  | 114 => ⟨S_, .f32⟩
  | 115 => ⟨S4, .f32⟩
  | 116 => ⟨S4x1x1, .f32⟩
  | 117 => ⟨S4x128x128, .f32⟩
  | 118 => ⟨S4x128x128, .f32⟩
  | 119 => ⟨S_, .f32⟩
  | 120 => ⟨S4, .f32⟩
  | 121 => ⟨S4x128x64, .f32⟩
  | 122 => ⟨S4x64x128, .f32⟩
  | 123 => ⟨S4x64x128, .f32⟩
  | 124 => ⟨S4x64x64, .f32⟩
  | 125 => ⟨S4x128x128, .f32⟩
  | 126 => ⟨S4x128x128, .f32⟩
  | 127 => ⟨S4x128x128, .f32⟩
  | _ => ⟨S8192x512, .f32⟩

abbrev hbmTy0_1 (i : Nat) : BufTy := match i % 128 with
  | 0 => ⟨S4x64x128, .f32⟩
  | 1 => ⟨S4x64x128, .f32⟩
  | 2 => ⟨S4x128x128, .f32⟩
  | 3 => ⟨S4x128x128, .f32⟩
  | 4 => ⟨S4x128x128, .f32⟩
  | 5 => ⟨S4x64x128, .f32⟩
  | 6 => ⟨S1x4x64x128, .f32⟩
  | 7 => ⟨S_, .i32⟩
  | 8 => ⟨S_, .i32⟩
  | 9 => ⟨S_, .i32⟩
  | 10 => ⟨S128x4x64x128, .f32⟩
  | 11 => ⟨S1x4x64x128, .f32⟩
  | 12 => ⟨S_, .i32⟩
  | 13 => ⟨S_, .i32⟩
  | 14 => ⟨S_, .i32⟩
  | 15 => ⟨S128x4x64x128, .f32⟩
  | 16 => ⟨S1x4x64x64, .f32⟩
  | 17 => ⟨S_, .i32⟩
  | 18 => ⟨S_, .i32⟩
  | 19 => ⟨S_, .i32⟩
  | 20 => ⟨S128x4x64x64, .f32⟩
  | 21 => ⟨S1x4x64x128, .f32⟩
  | 22 => ⟨S_, .i32⟩
  | 23 => ⟨S_, .i32⟩
  | 24 => ⟨S_, .i32⟩
  | 25 => ⟨S128x4x64x128, .f32⟩
  | 26 => ⟨S1x4x64x128, .f32⟩
  | 27 => ⟨S_, .i32⟩
  | 28 => ⟨S_, .i32⟩
  | 29 => ⟨S_, .i32⟩
  | 30 => ⟨S128x4x64x128, .f32⟩
  | 31 => ⟨S1x4, .f32⟩
  | 32 => ⟨S_, .i32⟩
  | 33 => ⟨S128x4, .f32⟩
  | 34 => ⟨S_, .i32⟩
  | 35 => ⟨S_, .i32⟩
  | 36 => ⟨S128x1x4x1, .f32⟩
  | 37 => ⟨S_, .f32⟩
  | 38 => ⟨S128x8x4x128, .f32⟩
  | 39 => ⟨S1024x512, .f32⟩
  | 40 => ⟨S128x64x4x128, .f32⟩
  | 41 => ⟨S8192x512, .f32⟩
  | 42 => ⟨S128x64x4x128, .f32⟩
  | 43 => ⟨S8192x512, .f32⟩
  | 44 => ⟨S_, .f32⟩
  | 45 => ⟨S128x4x64x128, .f32⟩
  | 46 => ⟨S128x64x4x128, .f32⟩
  | 47 => ⟨S8192x512, .f32⟩
  | 48 => ⟨S128x64x4x128, .f32⟩
  | 49 => ⟨S8192x512, .f32⟩
  | 50 => ⟨S128x64x4x128, .f32⟩
  | 51 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_c : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v23_6 : Ref sig .tc := ⟨.hbm, 45, rfl⟩
abbrev main_v23_7 : Ref sig .tc := ⟨.hbm, 46, rfl⟩
abbrev main_v23_8 : Ref sig .tc := ⟨.hbm, 47, rfl⟩
abbrev main_v23_9 : Ref sig .tc := ⟨.hbm, 48, rfl⟩
abbrev main_v23_10 : Ref sig .tc := ⟨.hbm, 49, rfl⟩
abbrev main_v23_11 : Ref sig .tc := ⟨.hbm, 50, rfl⟩
abbrev main_v23_12 : Ref sig .tc := ⟨.hbm, 51, rfl⟩
abbrev main_v23_13 : Ref sig .tc := ⟨.hbm, 52, rfl⟩
abbrev main_v23_14 : Ref sig .tc := ⟨.hbm, 53, rfl⟩
abbrev main_v23_15 : Ref sig .tc := ⟨.hbm, 54, rfl⟩
abbrev main_while0c_c_23 : Ref sig .tc := ⟨.hbm, 55, rfl⟩
abbrev main_while0c_v38 : Ref sig .tc := ⟨.hbm, 56, rfl⟩
abbrev main_while0b_c_23 : Ref sig .tc := ⟨.hbm, 57, rfl⟩
abbrev main_while0b_v38 : Ref sig .tc := ⟨.hbm, 58, rfl⟩
abbrev main_while0b_c_24 : Ref sig .tc := ⟨.hbm, 59, rfl⟩
abbrev main_while0b_v39 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_v0 : Ref sig .tc := ⟨.hbm, 64, rfl⟩
abbrev main_while0b_v40 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_v0 : Ref sig .tc := ⟨.hbm, 69, rfl⟩
abbrev main_while0b_v41 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_v0 : Ref sig .tc := ⟨.hbm, 74, rfl⟩
abbrev main_while0b_v42 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v43 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v44 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_call5_v0 : Ref sig .tc := ⟨.hbm, 89, rfl⟩
abbrev main_while0b_v45 : Ref sig .tc := ⟨.hbm, 90, rfl⟩
abbrev main_while0b_call6_c : Ref sig .tc := ⟨.hbm, 91, rfl⟩
abbrev main_while0b_call6_v0 : Ref sig .tc := ⟨.hbm, 92, rfl⟩
abbrev main_while0b_v46 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_v0 : Ref sig .tc := ⟨.hbm, 97, rfl⟩
abbrev main_while0b_v47 : Ref sig .tc := ⟨.hbm, 98, rfl⟩
abbrev main_while0b_v48 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_v60 : Ref sig .tc := ⟨.hbm, 111, rfl⟩
abbrev main_while0b_v61 : Ref sig .tc := ⟨.hbm, 112, rfl⟩
abbrev main_while0b_v62 : Ref sig .tc := ⟨.hbm, 113, rfl⟩
abbrev main_while0b_cst_25 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_cst_26 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_v77 : Ref sig .tc := ⟨.hbm, 130, rfl⟩
abbrev main_while0b_v78 : Ref sig .tc := ⟨.hbm, 131, rfl⟩
abbrev main_while0b_v79 : Ref sig .tc := ⟨.hbm, 132, rfl⟩
abbrev main_while0b_v80 : Ref sig .tc := ⟨.hbm, 133, rfl⟩
abbrev main_while0b_call8_v0 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_call8_c_1 : Ref sig .tc := ⟨.hbm, 137, rfl⟩
abbrev main_while0b_v81 : Ref sig .tc := ⟨.hbm, 138, rfl⟩
abbrev main_while0b_call9_v0 : Ref sig .tc := ⟨.hbm, 139, rfl⟩
abbrev main_while0b_call9_c : Ref sig .tc := ⟨.hbm, 140, rfl⟩
abbrev main_while0b_call9_c_0 : Ref sig .tc := ⟨.hbm, 141, rfl⟩
abbrev main_while0b_call9_c_1 : Ref sig .tc := ⟨.hbm, 142, rfl⟩
abbrev main_while0b_v82 : Ref sig .tc := ⟨.hbm, 143, rfl⟩
abbrev main_while0b_call10_v0 : Ref sig .tc := ⟨.hbm, 144, rfl⟩
abbrev main_while0b_call10_c : Ref sig .tc := ⟨.hbm, 145, rfl⟩
abbrev main_while0b_call10_c_0 : Ref sig .tc := ⟨.hbm, 146, rfl⟩
abbrev main_while0b_call10_c_1 : Ref sig .tc := ⟨.hbm, 147, rfl⟩
abbrev main_while0b_v83 : Ref sig .tc := ⟨.hbm, 148, rfl⟩
abbrev main_while0b_call11_v0 : Ref sig .tc := ⟨.hbm, 149, rfl⟩
abbrev main_while0b_call11_c : Ref sig .tc := ⟨.hbm, 150, rfl⟩
abbrev main_while0b_call11_c_0 : Ref sig .tc := ⟨.hbm, 151, rfl⟩
abbrev main_while0b_call11_c_1 : Ref sig .tc := ⟨.hbm, 152, rfl⟩
abbrev main_while0b_v84 : Ref sig .tc := ⟨.hbm, 153, rfl⟩
abbrev main_while0b_call12_v0 : Ref sig .tc := ⟨.hbm, 154, rfl⟩
abbrev main_while0b_call12_c : Ref sig .tc := ⟨.hbm, 155, rfl⟩
abbrev main_while0b_call12_c_0 : Ref sig .tc := ⟨.hbm, 156, rfl⟩
abbrev main_while0b_call12_c_1 : Ref sig .tc := ⟨.hbm, 157, rfl⟩
abbrev main_while0b_v85 : Ref sig .tc := ⟨.hbm, 158, rfl⟩
abbrev main_while0b_call13_v0 : Ref sig .tc := ⟨.hbm, 159, rfl⟩
abbrev main_while0b_call13_c : Ref sig .tc := ⟨.hbm, 160, rfl⟩
abbrev main_while0b_v86 : Ref sig .tc := ⟨.hbm, 161, rfl⟩
abbrev main_while0b_c_27 : Ref sig .tc := ⟨.hbm, 162, rfl⟩
abbrev main_while0b_v87 : Ref sig .tc := ⟨.hbm, 163, rfl⟩
abbrev main_v24 : Ref sig .tc := ⟨.hbm, 164, rfl⟩
abbrev main_cst_6 : Ref sig .tc := ⟨.hbm, 165, rfl⟩
abbrev main_v25 : Ref sig .tc := ⟨.hbm, 166, rfl⟩
abbrev main_v26 : Ref sig .tc := ⟨.hbm, 167, rfl⟩
abbrev main_v27 : Ref sig .tc := ⟨.hbm, 168, rfl⟩
abbrev main_v28 : Ref sig .tc := ⟨.hbm, 169, rfl⟩
abbrev main_v29 : Ref sig .tc := ⟨.hbm, 170, rfl⟩
abbrev main_v30 : Ref sig .tc := ⟨.hbm, 171, rfl⟩
abbrev main_cst_7 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩

abbrev nD : Nat := 1
abbrev τ : Topo := Topo.v7x

variable {F : FTy → Type} [FloatOps F]

abbrev main_while0_count : Scf.Loop 32 := ⟨0#32, 128#32, 1#32⟩
-- ==== Forward.lean ====
abbrev S8192x512 : Shape := ⟨2, ![8192, 512]⟩
abbrev S1024x512 : Shape := ⟨2, ![1024, 512]⟩
abbrev S128x4x128x128 : Shape := ⟨4, ![128, 4, 128, 128]⟩
abbrev S512x512 : Shape := ⟨2, ![512, 512]⟩
abbrev S64x512 : Shape := ⟨2, ![64, 512]⟩
abbrev S8x4x128x128 : Shape := ⟨4, ![8, 4, 128, 128]⟩
abbrev S4x128x128 : Shape := ⟨3, ![4, 128, 128]⟩
abbrev S1x4x128x128 : Shape := ⟨4, ![1, 4, 128, 128]⟩
abbrev S8x512 : Shape := ⟨2, ![8, 512]⟩
abbrev S1x64x512 : Shape := ⟨3, ![1, 64, 512]⟩
abbrev S1x64x128 : Shape := ⟨3, ![1, 64, 128]⟩
abbrev S4x64x128 : Shape := ⟨3, ![4, 64, 128]⟩
abbrev S1x64x64 : Shape := ⟨3, ![1, 64, 64]⟩
abbrev S4x64x64 : Shape := ⟨3, ![4, 64, 64]⟩
abbrev S1x8x512 : Shape := ⟨3, ![1, 8, 512]⟩
abbrev S1x8x128 : Shape := ⟨3, ![1, 8, 128]⟩
abbrev S4x8x128 : Shape := ⟨3, ![4, 8, 128]⟩
abbrev S4x1x1 : Shape := ⟨3, ![4, 1, 1]⟩

abbrev nBuf : Space → Nat
  | .hbm => 8
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x512, .f32⟩
  | .hbm, ⟨6, _⟩ => ⟨S8192x512, .f32⟩
  | .hbm, ⟨7, _⟩ => ⟨S128x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S64x512, .f32⟩
  | .local _ .vmem, ⟨11, _⟩ => ⟨S64x512, .f32⟩
  | .local _ .vmem, ⟨12, _⟩ => ⟨S512x512, .f32⟩
  | .local _ .vmem, ⟨13, _⟩ => ⟨S512x512, .f32⟩
  | .local _ .vmem, ⟨14, _⟩ => ⟨S8x4x128x128, .f32⟩
  | .local _ .vmem, ⟨15, _⟩ => ⟨S8x4x128x128, .f32⟩
  | .local _ .vmem, ⟨16, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ForwardReferenceIdeal.lean ====
abbrev S8192x512 : Shape := ⟨2, ![8192, 512]⟩
abbrev S1024x512 : Shape := ⟨2, ![1024, 512]⟩
abbrev S_ : Shape := ⟨0, ![]⟩
abbrev S4x128x128 : Shape := ⟨3, ![4, 128, 128]⟩
abbrev S128x64x4x128 : Shape := ⟨4, ![128, 64, 4, 128]⟩
abbrev S128x4x64x128 : Shape := ⟨4, ![128, 4, 64, 128]⟩
abbrev S128x4x64x64 : Shape := ⟨4, ![128, 4, 64, 64]⟩
abbrev S128x8x4x128 : Shape := ⟨4, ![128, 8, 4, 128]⟩
abbrev S128x1x4x1 : Shape := ⟨4, ![128, 1, 4, 1]⟩
abbrev S128x4 : Shape := ⟨2, ![128, 4]⟩
abbrev S128x4x128x128 : Shape := ⟨4, ![128, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4 : Shape := ⟨2, ![1, 4]⟩
abbrev S4 : Shape := ⟨1, ![4]⟩
abbrev S4x1x1 : Shape := ⟨3, ![4, 1, 1]⟩
abbrev S1x4x128x128 : Shape := ⟨4, ![1, 4, 128, 128]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1024x512, .f32⟩
  | .hbm, ⟨6, _⟩ => ⟨S_, .f32⟩
  | .hbm, ⟨7, _⟩ => ⟨S4x128x128, .f32⟩
  | .hbm, ⟨8, _⟩ => ⟨S128x64x4x128, .f32⟩
  | .hbm, ⟨9, _⟩ => ⟨S128x4x64x128, .f32⟩
  | .hbm, ⟨10, _⟩ => ⟨S128x64x4x128, .f32⟩
  | .hbm, ⟨11, _⟩ => ⟨S128x4x64x128, .f32⟩
  | .hbm, ⟨12, _⟩ => ⟨S128x64x4x128, .f32⟩
  | .hbm, ⟨13, _⟩ => ⟨S128x4x64x128, .f32⟩
  | .hbm, ⟨14, _⟩ => ⟨S128x4x64x64, .f32⟩
  | .hbm, ⟨15, _⟩ => ⟨S128x64x4x128, .f32⟩
  | .hbm, ⟨16, _⟩ => ⟨S128x4x64x128, .f32⟩
  | .hbm, ⟨17, _⟩ => ⟨S128x64x4x128, .f32⟩
  | .hbm, ⟨18, _⟩ => ⟨S128x4x64x128, .f32⟩
  | .hbm, ⟨19, _⟩ => ⟨S128x8x4x128, .f32⟩
  | .hbm, ⟨20, _⟩ => ⟨S128x1x4x1, .f32⟩
  | .hbm, ⟨21, _⟩ => ⟨S128x4, .f32⟩
  | .hbm, ⟨22, _⟩ => ⟨S_, .f32⟩
  | .hbm, ⟨23, _⟩ => ⟨S128x4x64x128, .f32⟩
  | .hbm, ⟨24, _⟩ => ⟨S_, .f32⟩
  | .hbm, ⟨25, _⟩ => ⟨S128x4x128x128, .f32⟩
  | .hbm, ⟨26, _⟩ => ⟨S_, .i32⟩
  | .hbm, ⟨27, _⟩ => ⟨S128x4x64x128, .f32⟩
  | .hbm, ⟨28, _⟩ => ⟨S128x4x64x128, .f32⟩
  | .hbm, ⟨29, _⟩ => ⟨S128x4x64x64, .f32⟩
  | .hbm, ⟨30, _⟩ => ⟨S128x4x64x128, .f32⟩
  | .hbm, ⟨31, _⟩ => ⟨S128x4x64x128, .f32⟩
  | .hbm, ⟨32, _⟩ => ⟨S128x4, .f32⟩
  | .hbm, ⟨33, _⟩ => ⟨S_, .i32⟩
  | .hbm, ⟨34, _⟩ => ⟨S4x128x128, .f32⟩
  | .hbm, ⟨35, _⟩ => ⟨S128x4x64x128, .f32⟩
  | .hbm, ⟨36, _⟩ => ⟨S128x4x128x128, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x4x64x128, .f32⟩
  | .hbm, ⟨43, _⟩ => ⟨S4x64x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x64x128, .f32⟩
  | .hbm, ⟨48, _⟩ => ⟨S4x64x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x64x64, .f32⟩
  | .hbm, ⟨53, _⟩ => ⟨S4x64x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x4x64x128, .f32⟩
  | .hbm, ⟨58, _⟩ => ⟨S4x64x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x64x128, .f32⟩
  | .hbm, ⟨63, _⟩ => ⟨S4x64x128, .f32⟩
  | .hbm, ⟨64, _⟩ => ⟨S_, .i32⟩
  | .hbm, ⟨65, _⟩ => ⟨S1x4, .f32⟩
  | .hbm, ⟨66, _⟩ => ⟨S4, .f32⟩
  | .hbm, ⟨67, _⟩ => ⟨S4x64x128, .f32⟩
  | .hbm, ⟨68, _⟩ => ⟨S4x64x128, .f32⟩
  | .hbm, ⟨69, _⟩ => ⟨S4x64x128, .f32⟩
  | .hbm, ⟨70, _⟩ => ⟨S4x64x128, .f32⟩
  | .hbm, ⟨71, _⟩ => ⟨S4x64x128, .f32⟩
  | .hbm, ⟨72, _⟩ => ⟨S4x1x1, .f32⟩
  | .hbm, ⟨73, _⟩ => ⟨S4x128x128, .f32⟩
  | .hbm, ⟨74, _⟩ => ⟨S4x128x128, .f32⟩
  | .hbm, ⟨75, _⟩ => ⟨S4x128x128, .f32⟩
  | .hbm, ⟨76, _⟩ => ⟨S4x128x128, .f32⟩
  | .hbm, ⟨77, _⟩ => ⟨S1x4x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S128x4x64x128, .f32⟩
  | .hbm, ⟨82, _⟩ => ⟨S1x4x128x128, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S128x4x128x128, .f32⟩
  | .hbm, ⟨87, _⟩ => ⟨S_, .i32⟩
  | .hbm, ⟨88, _⟩ => ⟨S_, .i32⟩
  | .hbm, ⟨89, _⟩ => ⟨S128x64x4x128, .f32⟩
  | .hbm, ⟨90, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_c : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev main_v17_7 : Ref sig .tc := ⟨.hbm, 34, rfl⟩
abbrev main_v17_8 : Ref sig .tc := ⟨.hbm, 35, rfl⟩
abbrev main_v17_9 : Ref sig .tc := ⟨.hbm, 36, rfl⟩
abbrev main_while0c_c_11 : Ref sig .tc := ⟨.hbm, 37, rfl⟩
abbrev main_while0c_v20 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v20 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v21 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v22 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v23 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v24 : Ref sig .tc := ⟨.hbm, 63, rfl⟩
abbrev main_while0b_call5_c : Ref sig .tc := ⟨.hbm, 64, rfl⟩
abbrev main_while0b_call5_v0 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_call6_v0 : Ref sig .tc := ⟨.hbm, 77, rfl⟩
abbrev main_while0b_call6_c : Ref sig .tc := ⟨.hbm, 78, rfl⟩
abbrev main_while0b_call6_c_0 : Ref sig .tc := ⟨.hbm, 79, rfl⟩
abbrev main_while0b_call6_c_1 : Ref sig .tc := ⟨.hbm, 80, rfl⟩
abbrev main_while0b_v36 : Ref sig .tc := ⟨.hbm, 81, rfl⟩
abbrev main_while0b_call7_v0 : Ref sig .tc := ⟨.hbm, 82, rfl⟩
abbrev main_while0b_call7_c : Ref sig .tc := ⟨.hbm, 83, rfl⟩
abbrev main_while0b_call7_c_0 : Ref sig .tc := ⟨.hbm, 84, rfl⟩
abbrev main_while0b_call7_c_1 : Ref sig .tc := ⟨.hbm, 85, rfl⟩
abbrev main_while0b_v37 : Ref sig .tc := ⟨.hbm, 86, rfl⟩
abbrev main_while0b_c_11 : Ref sig .tc := ⟨.hbm, 87, rfl⟩
abbrev main_while0b_v38 : Ref sig .tc := ⟨.hbm, 88, rfl⟩
abbrev main_v18 : Ref sig .tc := ⟨.hbm, 89, rfl⟩
abbrev main_v19 : Ref sig .tc := ⟨.hbm, 90, rfl⟩

abbrev nD : Nat := 1
abbrev τ : Topo := Topo.v7x

variable {F : FTy → Type} [FloatOps F]

abbrev main_while0_count : Scf.Loop 32 := ⟨0#32, 128#32, 1#32⟩
-- ==== Mlp.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S8192x4096 : Shape := ⟨2, ![8192, 4096]⟩
abbrev S256x1024 : Shape := ⟨2, ![256, 1024]⟩
abbrev S256x4096 : Shape := ⟨2, ![256, 4096]⟩
abbrev S512x4096 : Shape := ⟨2, ![512, 4096]⟩
abbrev S512x1024 : Shape := ⟨2, ![512, 1024]⟩
abbrev S8192x256 : Shape := ⟨2, ![8192, 256]⟩
abbrev S1024x256 : Shape := ⟨2, ![1024, 256]⟩
abbrev S512 : Shape := ⟨1, ![512]⟩
abbrev S512x1 : Shape := ⟨2, ![512, 1]⟩

abbrev nBuf : Space → Nat
  | .hbm => 21
  | .vmem => 53
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S8192x1024, .bf16⟩
  | .hbm, ⟨9, _⟩ => ⟨S8192x1024, .bf16⟩
  | .hbm, ⟨10, _⟩ => ⟨S8192x4096, .f32⟩
  | .hbm, ⟨11, _⟩ => ⟨S8192x4096, .bf16⟩
  | .hbm, ⟨12, _⟩ => ⟨S8192x1024, .f32⟩
  | .hbm, ⟨13, _⟩ => ⟨S8192x4096, .bf16⟩
  | .hbm, ⟨14, _⟩ => ⟨S4096x1024, .f32⟩
  | .hbm, ⟨15, _⟩ => ⟨S8192x1024, .f32⟩
  | .hbm, ⟨16, _⟩ => ⟨S1024x4096, .f32⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S1024, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S512x4096, .bf16⟩
  | .local _ .vmem, ⟨13, _⟩ => ⟨S512x4096, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S256x1024, .bf16⟩
  | .local _ .vmem, ⟨20, _⟩ => ⟨S256x1024, .bf16⟩
  | .local _ .vmem, ⟨21, _⟩ => ⟨S4096x1024, .bf16⟩
  | .local _ .vmem, ⟨22, _⟩ => ⟨S256x4096, .f32⟩
  | .local _ .vmem, ⟨23, _⟩ => ⟨S256x4096, .f32⟩
  | .local _ .vmem, ⟨24, _⟩ => ⟨S256x4096, .bf16⟩
  | .local _ .vmem, ⟨25, _⟩ => ⟨S256x4096, .bf16⟩
  | .local _ .vmem, ⟨26, _⟩ => ⟨S8192x256, .bf16⟩
  | .local _ .vmem, ⟨27, _⟩ => ⟨S8192x256, .bf16⟩
  | .local _ .vmem, ⟨28, _⟩ => ⟨S8192x1024, .bf16⟩
  | .local _ .vmem, ⟨29, _⟩ => ⟨S256x1024, .f32⟩
  | .local _ .vmem, ⟨30, _⟩ => ⟨S256x1024, .f32⟩
  | .local _ .vmem, ⟨31, _⟩ => ⟨S1024x4096, .bf16⟩
  | .local _ .vmem, ⟨32, _⟩ => ⟨S1024x4096, .bf16⟩
  | .local _ .vmem, ⟨33, _⟩ => ⟨S1024x4096, .bf16⟩
  | .local _ .vmem, ⟨34, _⟩ => ⟨S1024x1024, .f32⟩
  | .local _ .vmem, ⟨35, _⟩ => ⟨S1024x1024, .f32⟩
  | .local _ .vmem, ⟨36, _⟩ => ⟨S8192x1024, .bf16⟩
  | .local _ .vmem, ⟨37, _⟩ => ⟨S8192x256, .bf16⟩
  | .local _ .vmem, ⟨38, _⟩ => ⟨S8192x256, .bf16⟩
  | .local _ .vmem, ⟨39, _⟩ => ⟨S1024x256, .f32⟩
  | .local _ .vmem, ⟨40, _⟩ => ⟨S1024x256, .f32⟩
  | .local _ .vmem, ⟨41, _⟩ => ⟨S1x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .bf16⟩
  | .local _ .vmem, ⟨52, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc7_stg3_1 : Ref sig .tc := ⟨.vmem, 47, rfl⟩
abbrev cc7_stg4_0 : Ref sig .tc := ⟨.vmem, 48, rfl⟩
abbrev cc7_stg5_0 : Ref sig .tc := ⟨.vmem, 49, rfl⟩
abbrev cc7_stg5_1 : Ref sig .tc := ⟨.vmem, 50, rfl⟩
abbrev cc7_stg6_0 : Ref sig .tc := ⟨.vmem, 51, rfl⟩
abbrev cc7_stg6_1 : Ref sig .tc := ⟨.vmem, 52, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc6_sem0_0 : DmaSem sig := 36
abbrev cc6_sem1_0 : DmaSem sig := 37
abbrev cc6_sem1_1 : DmaSem sig := 38
abbrev cc6_sem2_0 : DmaSem sig := 39
abbrev cc6_sem2_1 : DmaSem sig := 40
abbrev cc7_sem0_0 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46
abbrev cc7_sem3_1 : DmaSem sig := 47
abbrev cc7_sem4_0 : DmaSem sig := 48
abbrev cc7_sem5_0 : DmaSem sig := 49
abbrev cc7_sem5_1 : DmaSem sig := 50
abbrev cc7_sem6_0 : DmaSem sig := 51
abbrev cc7_sem6_1 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![32, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![32, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S256x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![16, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S8192x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S8192x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 16, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S8192x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S8192x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S512x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S512x1024 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]
-- ==== MlpReferenceIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1024x4096, .f32⟩
  | .hbm, ⟨42, _⟩ => ⟨S4096x1024, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S4096x1024, .f32⟩
  | .hbm, ⟨49, _⟩ => ⟨S1024x4096, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Proj.lean ====
abbrev S8192x1024 : Shape := ⟨2, ![8192, 1024]⟩
abbrev S1024 : Shape := ⟨1, ![1024]⟩
abbrev S1024x3840 : Shape := ⟨2, ![1024, 3840]⟩
abbrev S1024x1024 : Shape := ⟨2, ![1024, 1024]⟩
abbrev S8192x3840 : Shape := ⟨2, ![8192, 3840]⟩
abbrev S1x1024 : Shape := ⟨2, ![1, 1024]⟩
abbrev S1024x1 : Shape := ⟨2, ![1024, 1]⟩
abbrev S512x1024 : Shape := ⟨2, ![512, 1024]⟩
abbrev S512x3840 : Shape := ⟨2, ![512, 3840]⟩
abbrev S8192x256 : Shape := ⟨2, ![8192, 256]⟩
abbrev S1024x256 : Shape := ⟨2, ![1024, 256]⟩
abbrev S512 : Shape := ⟨1, ![512]⟩
abbrev S512x1 : Shape := ⟨2, ![512, 1]⟩

abbrev nBuf : Space → Nat
  | .hbm => 24
  | .vmem => 49
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024x3840, .f32⟩
  | .hbm, ⟨4, _⟩ => ⟨S1024x1024, .f32⟩
  | .hbm, ⟨5, _⟩ => ⟨S8192x1024, .f32⟩
  | .hbm, ⟨6, _⟩ => ⟨S8192x3840, .f32⟩
  | .hbm, ⟨7, _⟩ => ⟨S1x1024, .f32⟩
  | .hbm, ⟨8, _⟩ => ⟨S8192x1024, .bf16⟩
  | .hbm, ⟨9, _⟩ => ⟨S1024x3840, .bf16⟩
  | .hbm, ⟨10, _⟩ => ⟨S1024x1024, .bf16⟩
  | .hbm, ⟨11, _⟩ => ⟨S8192x1024, .bf16⟩
  | .hbm, ⟨12, _⟩ => ⟨S8192x3840, .bf16⟩
  | .hbm, ⟨13, _⟩ => ⟨S8192x1024, .bf16⟩
  | .hbm, ⟨14, _⟩ => ⟨S8192x3840, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1024x3840, .f32⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S1024, .f32⟩
  | .local _ .vmem, ⟨0, _⟩ => ⟨S1x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x3840, .bf16⟩
  | .local _ .vmem, ⟨8, _⟩ => ⟨S512x3840, .f32⟩
  | .local _ .vmem, ⟨9, _⟩ => ⟨S512x3840, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S8192x1024, .bf16⟩
  | .local _ .vmem, ⟨23, _⟩ => ⟨S8192x256, .bf16⟩
  | .local _ .vmem, ⟨24, _⟩ => ⟨S8192x256, .bf16⟩
  | .local _ .vmem, ⟨25, _⟩ => ⟨S1024x256, .f32⟩
  | .local _ .vmem, ⟨26, _⟩ => ⟨S1024x256, .f32⟩
  | .local _ .vmem, ⟨27, _⟩ => ⟨S1024x3840, .bf16⟩
  | .local _ .vmem, ⟨28, _⟩ => ⟨S1024x3840, .bf16⟩
  | .local _ .vmem, ⟨29, _⟩ => ⟨S1024x3840, .bf16⟩
  | .local _ .vmem, ⟨30, _⟩ => ⟨S1024x1024, .f32⟩
  | .local _ .vmem, ⟨31, _⟩ => ⟨S1024x1024, .f32⟩
  | .local _ .vmem, ⟨32, _⟩ => ⟨S8192x1024, .bf16⟩
  | .local _ .vmem, ⟨33, _⟩ => ⟨S8192x256, .bf16⟩
  | .local _ .vmem, ⟨34, _⟩ => ⟨S8192x256, .bf16⟩
  | .local _ .vmem, ⟨35, _⟩ => ⟨S1024x256, .f32⟩
  | .local _ .vmem, ⟨36, _⟩ => ⟨S1024x256, .f32⟩
  | .local _ .vmem, ⟨37, _⟩ => ⟨S1x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S1x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .bf16⟩
  | .local _ .vmem, ⟨48, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc7_stg4_0 : Ref sig .tc := ⟨.vmem, 44, rfl⟩
abbrev cc7_stg5_0 : Ref sig .tc := ⟨.vmem, 45, rfl⟩
abbrev cc7_stg5_1 : Ref sig .tc := ⟨.vmem, 46, rfl⟩
abbrev cc7_stg6_0 : Ref sig .tc := ⟨.vmem, 47, rfl⟩
abbrev cc7_stg6_1 : Ref sig .tc := ⟨.vmem, 48, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem1_0 : DmaSem sig := 38
abbrev cc7_sem1_1 : DmaSem sig := 39
abbrev cc7_sem2_0 : DmaSem sig := 40
abbrev cc7_sem2_1 : DmaSem sig := 41
abbrev cc7_sem3_0 : DmaSem sig := 42
abbrev cc7_sem3_1 : DmaSem sig := 43
abbrev cc7_sem4_0 : DmaSem sig := 44
abbrev cc7_sem5_0 : DmaSem sig := 45
abbrev cc7_sem5_1 : DmaSem sig := 46
abbrev cc7_sem6_0 : DmaSem sig := 47
abbrev cc7_sem6_1 : DmaSem sig := 48

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x3840 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x3840 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S8192x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S8192x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x3840 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1024x3840 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 15, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S8192x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S8192x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S512x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S512x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S512x1024 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]
-- ==== ProjReferenceIdeal.lean ====
abbrev S8192x1024 : Shape := ⟨2, ![8192, 1024]⟩
abbrev S1024 : Shape := ⟨1, ![1024]⟩
abbrev S1024x3840 : Shape := ⟨2, ![1024, 3840]⟩
abbrev S1024x1024 : Shape := ⟨2, ![1024, 1024]⟩
abbrev S8192x3840 : Shape := ⟨2, ![8192, 3840]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3840x1024 : Shape := ⟨2, ![3840, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1024x3840, .f32⟩
  | .hbm, ⟨4, _⟩ => ⟨S1024x1024, .f32⟩
  | .hbm, ⟨5, _⟩ => ⟨S8192x1024, .f32⟩
  | .hbm, ⟨6, _⟩ => ⟨S8192x3840, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3840, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S1024x1024, .f32⟩
  | .hbm, ⟨33, _⟩ => ⟨S8192x1024, .f32⟩
  | .hbm, ⟨34, _⟩ => ⟨S3840x1024, .f32⟩
  | .hbm, ⟨35, _⟩ => ⟨S1024x3840, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Gate.lean ====
abbrev S8192x256 : Shape := ⟨2, ![8192, 256]⟩
abbrev S8192x3840 : Shape := ⟨2, ![8192, 3840]⟩
abbrev S8192x1024 : Shape := ⟨2, ![8192, 1024]⟩
abbrev S1024x256 : Shape := ⟨2, ![1024, 256]⟩

abbrev nBuf : Space → Nat
  | .hbm => 12
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x3840, .f32⟩
  | .hbm, ⟨2, _⟩ => ⟨S8192x1024, .f32⟩
  | .hbm, ⟨3, _⟩ => ⟨S8192x1024, .f32⟩
  | .hbm, ⟨4, _⟩ => ⟨S8192x3840, .f32⟩
  | .hbm, ⟨5, _⟩ => ⟨S8192x1024, .bf16⟩
  | .hbm, ⟨6, _⟩ => ⟨S8192x3840, .bf16⟩
  | .hbm, ⟨7, _⟩ => ⟨S8192x1024, .bf16⟩
  | .hbm, ⟨8, _⟩ => ⟨S8192x256, .f32⟩
  | .hbm, ⟨9, _⟩ => ⟨S8192x3840, .bf16⟩
  | .hbm, ⟨10, _⟩ => ⟨S8192x1024, .f32⟩
  | .hbm, ⟨11, _⟩ => ⟨S8192x3840, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c13_i32 : BitVec 32 := 13#32
  let c0_i32 : BitVec 32 := 0#32
  ![arg0.toNat, c13_i32.toNat]

def cc1_transform_2 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c13_i32 : BitVec 32 := 13#32
  let c0_i32 : BitVec 32 := 0#32
  ![arg0.toNat, c13_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== GateReferenceIdeal.lean ====
abbrev S8192x256 : Shape := ⟨2, ![8192, 256]⟩
abbrev S8192x3840 : Shape := ⟨2, ![8192, 3840]⟩
abbrev S8192x1024 : Shape := ⟨2, ![8192, 1024]⟩
abbrev S_ : Shape := ⟨0, ![]⟩
abbrev S8192x768 : Shape := ⟨2, ![8192, 768]⟩
abbrev S8192x3328 : Shape := ⟨2, ![8192, 3328]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x3840, .f32⟩
  | .hbm, ⟨2, _⟩ => ⟨S8192x1024, .f32⟩
  | .hbm, ⟨3, _⟩ => ⟨S8192x1024, .f32⟩
  | .hbm, ⟨4, _⟩ => ⟨S8192x3840, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S_, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S_, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S8192x768, .f32⟩
  | .hbm, ⟨54, _⟩ => ⟨S8192x1024, .f32⟩
  | .hbm, ⟨55, _⟩ => ⟨S8192x3328, .f32⟩
  | .hbm, ⟨56, _⟩ => ⟨S8192x256, .f32⟩
  | .hbm, ⟨57, _⟩ => ⟨S8192x3840, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Loss.lean ====
abbrev S1024 : Shape := ⟨1, ![1024]⟩
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S1x1024, .f32⟩
  | .hbm, ⟨7, _⟩ => ⟨S8192x1024, .bf16⟩
  | .hbm, ⟨8, _⟩ => ⟨S1x1, .f32⟩
  | .hbm, ⟨9, _⟩ => ⟨S_, .f32⟩
  | .hbm, ⟨10, _⟩ => ⟨S1024, .f32⟩
  | .local _ .vmem, ⟨0, _⟩ => ⟨S1x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossReferenceIdeal.lean ====
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.ForwardChunks.lean ====
module

public import proofs.«01_k».proof.Proof.Gen.ForwardIdeal.Frame
public import Idealize.ShloMosaic.Lib.Pipeline.ReadBack
public import Idealize.ShloMosaic.Lib.Pipeline.ValueKit.Acc
public import Idealize.ShloMosaic.Lib.Pipeline.ValueKit.Tiles

/-!
# What a point of the forward recurrence leaves, chunk by chunk

A point of the grid treats eight chunks in order. Every chunk is printed with its own cuts into heads; each is folded here to
one function of the carried state and the chunk's rows.
-/

@[expose] public section

set_option maxRecDepth 16384

noncomputable section

namespace Cert.ForwardIdeal.Value
open Cert.ForwardIdeal Cert.ForwardIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The state a chunk leaves, of the state it meets and the chunk's rows. -/
def nxt (st : Vec F S4x128x128 .f32) (u w kd : Vec F S64x512 .f32) (dec : Vec F S8x512 .f32) : Vec F S4x128x128 .f32 :=
  k0_pay13 st dec (k0_pay4 u) (k0_pay5 w) (k0_pay8 kd) (k0_pay9 kd) (k0_pay10 kd) (k0_pay11 kd)

/-- A chunk's rows of the output. -/
def out (st : Vec F S4x128x128 .f32) (u w qk qd : Vec F S64x512 .f32) : Vec F S64x512 .f32 :=
  k0_pay14 st qk (k0_pay4 u) (k0_pay5 w) (k0_pay6 qd)

theorem inb64 {k : ℕ} (hk : k < 8) : ∀ a, (![64 * k, 0] : Fin 2 → ℕ) a + (![64, 512] : Fin 2 → ℕ) a ≤ S512x512.size a := by
  intro a; fin_cases a <;> simp <;> omega
theorem inb8 {k : ℕ} (hk : k < 8) : ∀ a, (![8 * k, 0] : Fin 2 → ℕ) a + (![8, 512] : Fin 2 → ℕ) a ≤ S64x512.size a := by
  intro a; fin_cases a <;> simp <;> omega

/-- Chunk `k`'s rows of a block. -/
def r64 (x : Vec F S512x512 .f32) (k : ℕ) (hk : k < 8) : Vec F S64x512 .f32 :=
  View.ld x (Rect.unit ![64 * k, 0] ![64, 512] (inb64 hk))
def r8 (x : Vec F S64x512 .f32) (k : ℕ) (hk : k < 8) : Vec F S8x512 .f32 :=
  View.ld x (Rect.unit ![8 * k, 0] ![8, 512] (inb8 hk))

/-- The state before chunk `k` of the block, from the one before chunk 0. -/
def stK (S : Vec F S4x128x128 .f32) (u w kd : Vec F S512x512 .f32) (dec : Vec F S64x512 .f32) :
    (k : ℕ) → k ≤ 8 → Vec F S4x128x128 .f32
  | 0, _ => S
  | k + 1, h => nxt (stK S u w kd dec k (by omega)) (r64 u k h) (r64 w k h) (r64 kd k h) (r8 dec k h)

/-- Chunk `k`'s rows of the output block. -/
def outK (S : Vec F S4x128x128 .f32) (u w qk qd kd : Vec F S512x512 .f32) (dec : Vec F S64x512 .f32) (k : ℕ) (hk : k < 8) :
    Vec F S64x512 .f32 :=
  out (stK S u w kd dec k (by omega)) (r64 u k hk) (r64 w k hk) (r64 qk k hk) (r64 qd k hk)

/-- The output block and the states' block, piece by piece (the last stored first). -/
abbrev oPieces (S : Vec F S4x128x128 .f32) (u w qk qd kd : Vec F S512x512 .f32) (dec : Vec F S64x512 .f32) :
    List (View.Piece (Elt F) S512x512 .f32) :=
  [⟨Rect.unit ![448, 0] ![64, 512] inb_S512x512_S64x512_448_0, outK S u w qk qd kd dec 7 (by omega)⟩,
   ⟨Rect.unit ![384, 0] ![64, 512] (inb64 (k := 6) (by omega)), outK S u w qk qd kd dec 6 (by omega)⟩,
   ⟨Rect.unit ![320, 0] ![64, 512] inb_S512x512_S64x512_320_0, outK S u w qk qd kd dec 5 (by omega)⟩,
   ⟨Rect.unit ![256, 0] ![64, 512] inb_S512x512_S64x512_256_0, outK S u w qk qd kd dec 4 (by omega)⟩,
   ⟨Rect.unit ![192, 0] ![64, 512] inb_S512x512_S64x512_192_0, outK S u w qk qd kd dec 3 (by omega)⟩,
   ⟨Rect.unit ![128, 0] ![64, 512] inb_S512x512_S64x512_128_0, outK S u w qk qd kd dec 2 (by omega)⟩,
   ⟨Rect.unit ![64, 0] ![64, 512] inb_S512x512_S64x512_64_0, outK S u w qk qd kd dec 1 (by omega)⟩,
   ⟨Rect.unit ![0, 0] ![64, 512] inb_S512x512_S64x512_0_0, outK S u w qk qd kd dec 0 (by omega)⟩]
abbrev sPieces (S : Vec F S4x128x128 .f32) (u w kd : Vec F S512x512 .f32) (dec : Vec F S64x512 .f32) :
    List (View.Piece (Elt F) S8x4x128x128 .f32) :=
  [⟨Rect.unit ![7, 0, 0, 0] ![1, 4, 128, 128] (by decide), k0_pay3 (stK S u w kd dec 7 (by omega))⟩,
   ⟨Rect.unit ![6, 0, 0, 0] ![1, 4, 128, 128] inb_S8x4x128x128_S1x4x128x128_6_0_0_0, k0_pay3 (stK S u w kd dec 6 (by omega))⟩,
   ⟨Rect.unit ![5, 0, 0, 0] ![1, 4, 128, 128] inb_S8x4x128x128_S1x4x128x128_5_0_0_0, k0_pay3 (stK S u w kd dec 5 (by omega))⟩,
   ⟨Rect.unit ![4, 0, 0, 0] ![1, 4, 128, 128] inb_S8x4x128x128_S1x4x128x128_4_0_0_0, k0_pay3 (stK S u w kd dec 4 (by omega))⟩,
   ⟨Rect.unit ![3, 0, 0, 0] ![1, 4, 128, 128] inb_S8x4x128x128_S1x4x128x128_3_0_0_0, k0_pay3 (stK S u w kd dec 3 (by omega))⟩,
   ⟨Rect.unit ![2, 0, 0, 0] ![1, 4, 128, 128] inb_S8x4x128x128_S1x4x128x128_2_0_0_0, k0_pay3 (stK S u w kd dec 2 (by omega))⟩,
   ⟨Rect.unit ![1, 0, 0, 0] ![1, 4, 128, 128] inb_S8x4x128x128_S1x4x128x128_1_0_0_0, k0_pay3 (stK S u w kd dec 1 (by omega))⟩,
   ⟨Rect.unit ![0, 0, 0, 0] ![1, 4, 128, 128] inb_S8x4x128x128_S1x4x128x128_0_0_0_0, k0_pay3 (stK S u w kd dec 0 (by omega))⟩]

/-! The chunks of a point are printed each with its own cuts; every one is the first. -/

theorem cat4 (u : FVec F S64x512 .f32) {h1 h2 h3 h4 h5 h6} :
    concatenate S4x64x128 0 [⟨S1x64x128, extractStridedSlice S1x64x128 ![0, 0, 0] (shapeCast S1x64x512 u h1) h2⟩,
      ⟨S1x64x128, extractStridedSlice S1x64x128 ![0, 0, 128] (shapeCast S1x64x512 u h1) h3⟩,
      ⟨S1x64x128, extractStridedSlice S1x64x128 ![0, 0, 256] (shapeCast S1x64x512 u h1) h4⟩,
      ⟨S1x64x128, extractStridedSlice S1x64x128 ![0, 0, 384] (shapeCast S1x64x512 u h1) h5⟩] h6 = k0_pay4 u := rfl
theorem st2 (S : Vec F S4x128x128 .f32) (u w x y k : Vec F S64x512 .f32) (d : Vec F S8x512 .f32) :
    k0_pay24 S (k0_pay16 k) (k0_pay17 S u w) (k0_pay20 d) (k0_pay21 d) (k0_pay22 d) (k0_pay23 d) = nxt S u w k d := rfl
theorem st1 (S : Vec F S4x128x128 .f32) (u w x y k : Vec F S64x512 .f32) (d : Vec F S8x512 .f32) :
    k0_pay13 S d (k0_pay4 u) (k0_pay5 w) (k0_pay8 k) (k0_pay9 k) (k0_pay10 k) (k0_pay11 k) = nxt S u w k d := rfl
theorem st3 (S : Vec F S4x128x128 .f32) (u w x y k : Vec F S64x512 .f32) (d : Vec F S8x512 .f32) :
    k0_pay33 S k d (k0_pay27 u) (k0_pay28 w) = nxt S u w k d := rfl
theorem st4 (S : Vec F S4x128x128 .f32) (u w x y k : Vec F S64x512 .f32) (d : Vec F S8x512 .f32) :
    k0_pay41 S d (k0_pay36 k) (k0_pay37 S u w) = nxt S u w k d := rfl
theorem st5 (S : Vec F S4x128x128 .f32) (u w x y k : Vec F S64x512 .f32) (d : Vec F S8x512 .f32) :
    k0_pay47 S k d (k0_pay44 u) (k0_pay45 w) = nxt S u w k d := rfl
theorem st6 (S : Vec F S4x128x128 .f32) (u w x y k : Vec F S64x512 .f32) (d : Vec F S8x512 .f32) :
    k0_pay57 S d (k0_pay50 u) (k0_pay52 k) (k0_pay54 w) (k0_pay55 S) (constant S4x64x128 .f32 0#32) = nxt S u w k d := rfl
theorem st7 (S : Vec F S4x128x128 .f32) (u w x y k : Vec F S64x512 .f32) (d : Vec F S8x512 .f32) :
    k0_pay62 S u w k d = nxt S u w k d := rfl
theorem st8 (S : Vec F S4x128x128 .f32) (u w x y k : Vec F S64x512 .f32) (d : Vec F S8x512 .f32) :
    k0_pay72 S d (k0_pay4 u) (k0_pay4 w) (k0_pay4 k) = nxt S u w k d := rfl
theorem ss1 (S : Vec F S4x128x128 .f32) (u w x y k : Vec F S64x512 .f32) (d : Vec F S8x512 .f32) :
    k0_pay15 S d (k0_pay4 u) (k0_pay5 w) (k0_pay8 k) (k0_pay9 k) (k0_pay10 k) (k0_pay11 k) = k0_pay3 (nxt S u w k d) := rfl
theorem ss2 (S : Vec F S4x128x128 .f32) (u w x y k : Vec F S64x512 .f32) (d : Vec F S8x512 .f32) :
    k0_pay26 S (k0_pay16 k) (k0_pay17 S u w) (k0_pay20 d) (k0_pay21 d) (k0_pay22 d) (k0_pay23 d) = k0_pay3 (nxt S u w k d) := rfl
theorem ss3 (S : Vec F S4x128x128 .f32) (u w x y k : Vec F S64x512 .f32) (d : Vec F S8x512 .f32) :
    k0_pay35 S k d (k0_pay27 u) (k0_pay28 w) = k0_pay3 (nxt S u w k d) := rfl
theorem ss4 (S : Vec F S4x128x128 .f32) (u w x y k : Vec F S64x512 .f32) (d : Vec F S8x512 .f32) :
    k0_pay43 S d (k0_pay36 k) (k0_pay37 S u w) = k0_pay3 (nxt S u w k d) := rfl
theorem ss6 (S : Vec F S4x128x128 .f32) (u w x y k : Vec F S64x512 .f32) (d : Vec F S8x512 .f32) :
    k0_pay59 S d (k0_pay50 u) (k0_pay52 k) (k0_pay54 w) (k0_pay55 S) (constant S4x64x128 .f32 0#32) = k0_pay3 (nxt S u w k d) := rfl
theorem ss5 (S : Vec F S4x128x128 .f32) : k0_pay49 S = k0_pay3 S := rfl
theorem ss7 (S : Vec F S4x128x128 .f32) {h} : shapeCast S1x4x128x128 S h = k0_pay3 S := rfl
theorem o0 (S : Vec F S4x128x128 .f32) (u w x y k : Vec F S64x512 .f32) (d : Vec F S8x512 .f32) :
    k0_pay14 S x (k0_pay4 u) (k0_pay5 w) (k0_pay6 y) = out S u w x y := rfl
theorem o1 (S : Vec F S4x128x128 .f32) (u w x y k : Vec F S64x512 .f32) (d : Vec F S8x512 .f32) :
    k0_pay25 (k0_pay18 S u w x y) = out S u w x y := rfl
theorem o2 (S : Vec F S4x128x128 .f32) (u w x y k : Vec F S64x512 .f32) (d : Vec F S8x512 .f32) :
    k0_pay34 S x (k0_pay27 u) (k0_pay28 w) (k0_pay29 y) (k0_pay30 y) (k0_pay31 y) = out S u w x y := rfl
theorem o3 (S : Vec F S4x128x128 .f32) (u w x y k : Vec F S64x512 .f32) (d : Vec F S8x512 .f32) :
    k0_pay42 (k0_pay38 S y) (k0_pay39 x) (k0_pay40 S u w) = out S u w x y := rfl
theorem o4 (S : Vec F S4x128x128 .f32) (u w x y k : Vec F S64x512 .f32) (d : Vec F S8x512 .f32) :
    k0_pay48 S x y (k0_pay44 u) (k0_pay45 w) = out S u w x y := rfl
theorem o5 (S : Vec F S4x128x128 .f32) (u w x y k : Vec F S64x512 .f32) (d : Vec F S8x512 .f32) :
    k0_pay58 S (k0_pay50 u) (k0_pay51 y) (k0_pay53 x) (k0_pay54 w) (k0_pay55 S) (constant S4x64x128 .f32 0#32) = out S u w x y := rfl
theorem o6 (S : Vec F S4x128x128 .f32) (u w x y k : FVec F S64x512 .f32) (d : Vec F S8x512 .f32) {h1 h2 h3 h4 h5} :
    shapeCast S64x512 (concatenate S1x64x512 2 [⟨S1x64x128, k0_pay63 S u w x y⟩, ⟨S1x64x128, extractStridedSlice S1x64x128 ![1, 0, 0] (k0_pay61 S u w x y) h1⟩, ⟨S1x64x128, extractStridedSlice S1x64x128 ![2, 0, 0] (k0_pay61 S u w x y) h2⟩, ⟨S1x64x128, extractStridedSlice S1x64x128 ![3, 0, 0] (k0_pay61 S u w x y) h3⟩] h4) h5 = out S u w x y := rfl
theorem o7 (S : Vec F S4x128x128 .f32) (u w x y k : FVec F S64x512 .f32) (d : Vec F S8x512 .f32) {h1} :
    k0_pay73 S (k0_pay4 u) (k0_pay4 w) (k0_pay4 y) (shapeCast S1x64x512 x h1) = out S u w x y := rfl
theorem pay1_eq (S : Vec F S4x128x128 .f32) : k0_pay1 S = S := shapeCast_self _ _

set_option maxHeartbeats 1000000 in
theorem o_B (c : Dev nD) (t : Fin cfg0.N) (h0 : ¬t.val % 16 = 0) :
    (outsAt0 m c t.val t.isLt).1 = View.canon (oPieces (outsAt0 m c (t.val - 1) (Nat.lt_of_le_of_lt (Nat.sub_le _ _) t.isLt)).2.2 (iblk m c 0 t) (iblk m c 1 t) (iblk m c 2 t) (iblk m c 3 t) (iblk m c 4 t) (iblk m c 5 t)) := by
  rw [outsAt0_B m c t h0]
  frame_open
  simp only [st2, st1, st3, st4, st5, st6, st7, st8, ss1, ss2, ss3, ss4, ss6, ss5, ss7, o0, o1, o2, o3, o4, o5, o6, o7, cat4]
  simp (disch := decide) only [View.read_writes_junk_eq_canon, View.canon_cons_unit_lit', View.readAt_eq_ld, View.ld_unit_lit', View.readCov_unit_lit', View.readCov_cons_unit_lit', Memref.IsWhole.read_unread, pay1_eq, read_unread_whole]
  rfl

set_option maxHeartbeats 1000000 in
theorem s_B (c : Dev nD) (t : Fin cfg0.N) (h0 : ¬t.val % 16 = 0) :
    (outsAt0 m c t.val t.isLt).2.1 = View.canon (sPieces (outsAt0 m c (t.val - 1) (Nat.lt_of_le_of_lt (Nat.sub_le _ _) t.isLt)).2.2 (iblk m c 0 t) (iblk m c 1 t) (iblk m c 4 t) (iblk m c 5 t)) := by
  rw [outsAt0_B m c t h0]
  frame_open
  simp only [st2, st1, st3, st4, st5, st6, st7, st8, ss1, ss2, ss3, ss4, ss6, ss5, ss7, o0, o1, o2, o3, o4, o5, o6, o7, cat4]
  simp (disch := decide) only [View.read_writes_junk_eq_canon, View.canon_cons_unit_lit', View.readAt_eq_ld, View.ld_unit_lit', View.readCov_unit_lit', View.readCov_cons_unit_lit', Memref.IsWhole.read_unread, pay1_eq, read_unread_whole]
  rfl

set_option maxHeartbeats 1000000 in
theorem st_B (c : Dev nD) (t : Fin cfg0.N) (h0 : ¬t.val % 16 = 0) :
    (outsAt0 m c t.val t.isLt).2.2 = stK (outsAt0 m c (t.val - 1) (Nat.lt_of_le_of_lt (Nat.sub_le _ _) t.isLt)).2.2 (iblk m c 0 t) (iblk m c 1 t) (iblk m c 4 t) (iblk m c 5 t) 8 (by omega) := by
  rw [outsAt0_B m c t h0]
  frame_open
  simp only [st2, st1, st3, st4, st5, st6, st7, st8, ss1, ss2, ss3, ss4, ss6, ss5, ss7, o0, o1, o2, o3, o4, o5, o6, o7, cat4]
  simp (disch := decide) only [View.read_writes_junk_eq_canon, View.canon_cons_unit_lit', View.readAt_eq_ld, View.ld_unit_lit', View.readCov_unit_lit', View.readCov_cons_unit_lit', Memref.IsWhole.read_unread, pay1_eq, read_unread_whole]
  rfl

set_option maxHeartbeats 1000000 in
theorem o_A (c : Dev nD) (t : Fin cfg0.N) (h0 : t.val % 16 = 0) :
    (outsAt0 m c t.val t.isLt).1 = View.canon (oPieces k0_pay2 (iblk m c 0 t) (iblk m c 1 t) (iblk m c 2 t) (iblk m c 3 t) (iblk m c 4 t) (iblk m c 5 t)) := by
  rw [outsAt0_A m c t h0]
  frame_open
  simp only [st2, st1, st3, st4, st5, st6, st7, st8, ss1, ss2, ss3, ss4, ss6, ss5, ss7, o0, o1, o2, o3, o4, o5, o6, o7, cat4]
  simp (disch := decide) only [View.read_writes_junk_eq_canon, View.canon_cons_unit_lit', View.readAt_eq_ld, View.ld_unit_lit', View.readCov_unit_lit', View.readCov_cons_unit_lit', Memref.IsWhole.read_unread, pay1_eq, read_unread_whole]
  rfl

set_option maxHeartbeats 1000000 in
theorem s_A (c : Dev nD) (t : Fin cfg0.N) (h0 : t.val % 16 = 0) :
    (outsAt0 m c t.val t.isLt).2.1 = View.canon (sPieces k0_pay2 (iblk m c 0 t) (iblk m c 1 t) (iblk m c 4 t) (iblk m c 5 t)) := by
  rw [outsAt0_A m c t h0]
  frame_open
  simp only [st2, st1, st3, st4, st5, st6, st7, st8, ss1, ss2, ss3, ss4, ss6, ss5, ss7, o0, o1, o2, o3, o4, o5, o6, o7, cat4]
  simp (disch := decide) only [View.read_writes_junk_eq_canon, View.canon_cons_unit_lit', View.readAt_eq_ld, View.ld_unit_lit', View.readCov_unit_lit', View.readCov_cons_unit_lit', Memref.IsWhole.read_unread, pay1_eq, read_unread_whole]
  rfl

set_option maxHeartbeats 1000000 in
theorem st_A (c : Dev nD) (t : Fin cfg0.N) (h0 : t.val % 16 = 0) :
    (outsAt0 m c t.val t.isLt).2.2 = stK k0_pay2 (iblk m c 0 t) (iblk m c 1 t) (iblk m c 4 t) (iblk m c 5 t) 8 (by omega) := by
  rw [outsAt0_A m c t h0]
  frame_open
  simp only [st2, st1, st3, st4, st5, st6, st7, st8, ss1, ss2, ss3, ss4, ss6, ss5, ss7, o0, o1, o2, o3, o4, o5, o6, o7, cat4]
  simp (disch := decide) only [View.read_writes_junk_eq_canon, View.canon_cons_unit_lit', View.readAt_eq_ld, View.ld_unit_lit', View.readCov_unit_lit', View.readCov_cons_unit_lit', Memref.IsWhole.read_unread, pay1_eq, read_unread_whole]
  rfl
end Cert.ForwardIdeal.Value
end
-- ==== Proof.Maths.lean ====
module

public import Idealize.ShloMosaic.Lib.Pointwise

/-!
# One chunk of the recurrence, over the extended reals

The functions of one chunk, head by head: the state it leaves, its output, and the cotangents of its operands. Both programs
are read down to these.
-/

@[expose] public section

noncomputable section

namespace Cert.Maths
open Idealize.ShloMosaic

/-- A chunk's rows, a head's state, and a chunk's triangle of products, head by head. -/
abbrev Rows := Fin 4 → Fin 64 → Fin 128 → EReal
abbrev St := Fin 4 → Fin 128 → Fin 128 → EReal
abbrev Tri := Fin 4 → Fin 64 → Fin 64 → EReal
abbrev Dec := Fin 4 → EReal

/-- The values with the state's own prediction taken off. -/
def vnew (S : St) (u w : Rows) : Rows := fun h t e => u h t e - ∑ d : Fin 128, w h t d * S h d e
/-- A chunk's output. -/
def out (S : St) (u w : Rows) (qk : Tri) (qd : Rows) : Rows := fun h t e =>
  ∑ d : Fin 128, qd h t d * S h d e + ∑ s : Fin 64, qk h t s * vnew S u w h s e
/-- The state a chunk leaves. -/
def nxt (S : St) (u w kd : Rows) (c : Dec) : St := fun h d e =>
  S h d e * c h + ∑ t : Fin 64, kd h t d * vnew S u w h t e

/-- The cotangents, of the cotangent `D` of the state a chunk leaves and the cotangent `o` of its output. -/
def du (D : St) (qk : Tri) (kd o : Rows) : Rows := fun h s e =>
  ∑ d : Fin 128, kd h s d * D h d e + ∑ t : Fin 64, qk h t s * o h t e
def dw (D : St) (S : St) (qk : Tri) (kd o : Rows) : Rows := fun h t d =>
  ∑ e : Fin 128, (- du D qk kd o h t e) * S h d e
def dqk (S : St) (u w o : Rows) : Tri := fun h t s => ∑ e : Fin 128, o h t e * vnew S u w h s e
def dqd (S : St) (o : Rows) : Rows := fun h t d => ∑ e : Fin 128, o h t e * S h d e
def dkd (D S : St) (u w : Rows) : Rows := fun h s d => ∑ e : Fin 128, vnew S u w h s e * D h d e
def dc (D S : St) : Dec := fun h => ∑ d : Fin 128, ∑ e : Fin 128, S h d e * D h d e
def dS (D : St) (w : Rows) (qk : Tri) (qd kd : Rows) (c : Dec) (o : Rows) : St := fun h d e =>
  D h d e * c h + ∑ t : Fin 64, qd h t d * o h t e + ∑ t : Fin 64, w h t d * (- du D qk kd o h t e)

/-- Column `d` of head `h`. -/
abbrev col (h : Fin 4) (d : Fin 128) : Fin 512 := ⟨128 * h.val + d.val, by omega⟩
abbrev lo (s : Fin 64) : Fin 128 := ⟨s.val, by omega⟩

/-- Head by head: a chunk's 64 rows, the first 64 columns of each head, the decay in a head's first place. -/
abbrev rows (x : (⟨2, ![64, 512]⟩ : Shape).Idx → EReal) : Rows := fun h t d => x (ix2 t (col h d))
abbrev tri (x : (⟨2, ![64, 512]⟩ : Shape).Idx → EReal) : Tri := fun h t s => x (ix2 t (col h (lo s)))
abbrev dec (x : (⟨2, ![8, 512]⟩ : Shape).Idx → EReal) : Dec := fun h => x (ix2 0 (col h 0))
abbrev st (x : (⟨3, ![4, 128, 128]⟩ : Shape).Idx → EReal) : St := fun h d e => x (ix3 h d e)

/-- The chunk's rows in an array of all the rows. -/
abbrev rowOf (n : ℕ) (t : Fin 64) : Fin 8192 := Fin.ofNat 8192 (64 * n + t.val)
abbrev decOf (n : ℕ) : Fin 1024 := Fin.ofNat 1024 (8 * n)
abbrev rowsAt (x : (⟨2, ![8192, 512]⟩ : Shape).Idx → EReal) (n : ℕ) : Rows := fun h t d => x (ix2 (rowOf n t) (col h d))
abbrev triAt (x : (⟨2, ![8192, 512]⟩ : Shape).Idx → EReal) (n : ℕ) : Tri := fun h t s => x (ix2 (rowOf n t) (col h (lo s)))
abbrev decAt (x : (⟨2, ![1024, 512]⟩ : Shape).Idx → EReal) (n : ℕ) : Dec := fun h => x (ix2 (decOf n) (col h 0))
abbrev stAt (x : (⟨4, ![128, 4, 128, 128]⟩ : Shape).Idx → EReal) (n : ℕ) : St := fun h d e => x (ix4 (Fin.ofNat 128 n) h d e)

/-- The state before chunk `n`. -/
def stateAt (u w kd : (⟨2, ![8192, 512]⟩ : Shape).Idx → EReal) (c : (⟨2, ![1024, 512]⟩ : Shape).Idx → EReal) : ℕ → St
  | 0 => fun _ _ _ => 0
  | n + 1 => nxt (stateAt u w kd c n) (rowsAt u n) (rowsAt w n) (rowsAt kd n) (decAt c n)

/-- The cotangent carried once the last `j` chunks are done: the one of the state chunk `127 - j` leaves. -/
def ctAt (w qk qd kd : (⟨2, ![8192, 512]⟩ : Shape).Idx → EReal) (c : (⟨2, ![1024, 512]⟩ : Shape).Idx → EReal)
    (o : (⟨2, ![8192, 512]⟩ : Shape).Idx → EReal) : ℕ → St
  | 0 => fun _ _ _ => 0
  | j + 1 => dS (ctAt w qk qd kd c o j) (rowsAt w (127 - j)) (triAt qk (127 - j)) (rowsAt qd (127 - j)) (rowsAt kd (127 - j))
      (decAt c (127 - j)) (rowsAt o (127 - j))

/-- The head and the place in the head of a column, and the place in its chunk of a row. -/
abbrev hd (c : Fin 512) : Fin 4 := ⟨c.val / 128, by omega⟩
abbrev ln (c : Fin 512) : Fin 128 := ⟨c.val % 128, by omega⟩
abbrev tk (r : Fin 8192) : Fin 64 := ⟨r.val % 64, by omega⟩

/-- The output and the saved states of the whole recurrence. -/
def oRes (u w qk qd kd : (⟨2, ![8192, 512]⟩ : Shape).Idx → EReal) (c : (⟨2, ![1024, 512]⟩ : Shape).Idx → EReal) :
    (⟨2, ![8192, 512]⟩ : Shape).Idx → EReal := fun i =>
  out (stateAt u w kd c ((i 0).val / 64)) (rowsAt u ((i 0).val / 64)) (rowsAt w ((i 0).val / 64)) (triAt qk ((i 0).val / 64))
    (rowsAt qd ((i 0).val / 64)) (hd (i 1)) (tk (i 0)) (ln (i 1))
def sRes (u w kd : (⟨2, ![8192, 512]⟩ : Shape).Idx → EReal) (c : (⟨2, ![1024, 512]⟩ : Shape).Idx → EReal) :
    (⟨4, ![128, 4, 128, 128]⟩ : Shape).Idx → EReal := fun i =>
  stateAt u w kd c (i 0).val (i 1) (i 2) (i 3)

section Back
variable (u w qk qd kd : (⟨2, ![8192, 512]⟩ : Shape).Idx → EReal) (c : (⟨2, ![1024, 512]⟩ : Shape).Idx → EReal)
variable (s : (⟨4, ![128, 4, 128, 128]⟩ : Shape).Idx → EReal) (o : (⟨2, ![8192, 512]⟩ : Shape).Idx → EReal)

/-- The cotangent of the state that chunk `n` leaves. -/
abbrev ctOf (n : ℕ) : St := ctAt w qk qd kd c o (127 - n)

/-- The cotangents of the operands, of the whole recurrence. -/
def duRes : (⟨2, ![8192, 512]⟩ : Shape).Idx → EReal := fun i =>
  du (ctOf w qk qd kd c o ((i 0).val / 64)) (triAt qk ((i 0).val / 64)) (rowsAt kd ((i 0).val / 64))
    (rowsAt o ((i 0).val / 64)) (hd (i 1)) (tk (i 0)) (ln (i 1))
def dwRes : (⟨2, ![8192, 512]⟩ : Shape).Idx → EReal := fun i =>
  dw (ctOf w qk qd kd c o ((i 0).val / 64)) (stAt s ((i 0).val / 64)) (triAt qk ((i 0).val / 64)) (rowsAt kd ((i 0).val / 64))
    (rowsAt o ((i 0).val / 64)) (hd (i 1)) (tk (i 0)) (ln (i 1))
def dqkRes : (⟨2, ![8192, 512]⟩ : Shape).Idx → EReal := fun i =>
  if h : (i 1).val % 128 < 64 then
    dqk (stAt s ((i 0).val / 64)) (rowsAt u ((i 0).val / 64)) (rowsAt w ((i 0).val / 64)) (rowsAt o ((i 0).val / 64))
      (hd (i 1)) (tk (i 0)) ⟨(i 1).val % 128, h⟩
  else 0
def dqdRes : (⟨2, ![8192, 512]⟩ : Shape).Idx → EReal := fun i =>
  dqd (stAt s ((i 0).val / 64)) (rowsAt o ((i 0).val / 64)) (hd (i 1)) (tk (i 0)) (ln (i 1))
def dkdRes : (⟨2, ![8192, 512]⟩ : Shape).Idx → EReal := fun i =>
  dkd (ctOf w qk qd kd c o ((i 0).val / 64)) (stAt s ((i 0).val / 64)) (rowsAt u ((i 0).val / 64)) (rowsAt w ((i 0).val / 64))
    (hd (i 1)) (tk (i 0)) (ln (i 1))
def ddecRes : (⟨2, ![1024, 512]⟩ : Shape).Idx → EReal := fun i =>
  if (i 0).val % 8 = 0 ∧ (i 1).val % 128 = 0 then
    dc (ctOf w qk qd kd c o ((i 0).val / 8)) (stAt s ((i 0).val / 8)) (hd (i 1))
  else 0
end Back

end Cert.Maths

end
-- ==== Proof.ForwardRead.lean ====
module

public import proofs.«01_k».proof.Proof.ForwardChunks
public import proofs.«01_k».proof.Proof.Maths

/-!
# The forward kernel's functions of one chunk, read at an index over the extended reals
-/

@[expose] public section

set_option maxRecDepth 16384

noncomputable section

namespace Cert.ForwardIdeal.Value
open Cert.ForwardIdeal Cert.ForwardIdeal.Gen Idealize.ShloMosaic
open Cert

variable {F : FTy → Type} [FloatOps F]

/-- The state times its decay. -/
def decayed (v3 : Vec F S4x128x128 .f32) (v12 : Vec F S8x512 .f32) : FVec F S4x128x128 .f32 :=
  have v54 : FVec F S1x8x512 .f32 := shapeCast S1x8x512 v12 shapeCasts_S8x512_S1x8x512
  have v55 : FVec F S1x8x128 .f32 := extractStridedSlice S1x8x128 ![0, 0, 0] v54 slices_S1x8x512_o0_0_0_S1x8x128
  have v56 : FVec F S1x8x128 .f32 := extractStridedSlice S1x8x128 ![0, 0, 128] v54 slices_S1x8x512_o0_0_128_S1x8x128
  have v57 : FVec F S1x8x128 .f32 := extractStridedSlice S1x8x128 ![0, 0, 256] v54 slices_S1x8x512_o0_0_256_S1x8x128
  have v58 : FVec F S1x8x128 .f32 := extractStridedSlice S1x8x128 ![0, 0, 384] v54 slices_S1x8x512_o0_0_384_S1x8x128
  have v59 : FVec F S4x8x128 .f32 := concatenate S4x8x128 0 [⟨S1x8x128, v55⟩, ⟨S1x8x128, v56⟩, ⟨S1x8x128, v57⟩, ⟨S1x8x128, v58⟩] concatenates_S1x8x128_S1x8x128_S1x8x128_S1x8x128_S4x8x128_d0
  have v60 : FVec F S4x1x1 .f32 := extractStridedSlice S4x1x1 ![0, 0, 0] v59 slices_S4x8x128_o0_0_0_S4x1x1
  have v61 : FVec F S4x128x128 .f32 := broadcastTo S4x128x128 v60 broadcasts_S4x1x1_S4x128x128
  have v62 : FVec F S4x128x128 .f32 := mulf v3 v61
  v62
/-- The first 64 columns of each head. -/
def heads64 (v9 : Vec F S64x512 .f32) : FVec F S4x64x64 .f32 :=
  have v37 : FVec F S1x64x512 .f32 := shapeCast S1x64x512 v9 shapeCasts_S64x512_S1x64x512
  have v38 : FVec F S1x64x64 .f32 := extractStridedSlice S1x64x64 ![0, 0, 0] v37 slices_S1x64x512_o0_0_0_S1x64x64
  have v39 : FVec F S1x64x64 .f32 := extractStridedSlice S1x64x64 ![0, 0, 128] v37 slices_S1x64x512_o0_0_128_S1x64x64
  have v40 : FVec F S1x64x64 .f32 := extractStridedSlice S1x64x64 ![0, 0, 256] v37 slices_S1x64x512_o0_0_256_S1x64x64
  have v41 : FVec F S1x64x64 .f32 := extractStridedSlice S1x64x64 ![0, 0, 384] v37 slices_S1x64x512_o0_0_384_S1x64x64
  have v42 : FVec F S4x64x64 .f32 := concatenate S4x64x64 0 [⟨S1x64x64, v38⟩, ⟨S1x64x64, v39⟩, ⟨S1x64x64, v40⟩, ⟨S1x64x64, v41⟩] concatenates_S1x64x64_S1x64x64_S1x64x64_S1x64x64_S4x64x64_d0
  v42
/-- The heads side by side. -/
def sideBySide (v53 : FVec F S4x64x128 .f32) : FVec F S64x512 .f32 :=
  have v67 : FVec F S1x64x128 .f32 := extractStridedSlice S1x64x128 ![0, 0, 0] v53 slices_S4x64x128_o0_0_0_S1x64x128
  have v68 : FVec F S1x64x128 .f32 := extractStridedSlice S1x64x128 ![1, 0, 0] v53 slices_S4x64x128_o1_0_0_S1x64x128
  have v69 : FVec F S1x64x128 .f32 := extractStridedSlice S1x64x128 ![2, 0, 0] v53 slices_S4x64x128_o2_0_0_S1x64x128
  have v70 : FVec F S1x64x128 .f32 := extractStridedSlice S1x64x128 ![3, 0, 0] v53 slices_S4x64x128_o3_0_0_S1x64x128
  have v71 : FVec F S1x64x512 .f32 := concatenate S1x64x512 2 [⟨S1x64x128, v67⟩, ⟨S1x64x128, v68⟩, ⟨S1x64x128, v69⟩, ⟨S1x64x128, v70⟩] concatenates_S1x64x128_S1x64x128_S1x64x128_S1x64x128_S1x64x512_d2
  have v72 : FVec F S64x512 .f32 := shapeCast S64x512 v71 shapeCasts_S1x64x512_S64x512
  v72

theorem nxt_eq (S : FVec F S4x128x128 .f32) (u w kd : FVec F S64x512 .f32) (dec : FVec F S8x512 .f32) :
    nxt S u w kd dec = addf (decayed S dec) (matmul dot_S4x64x128_S4x64x128_S4x128x128_1_1_2_2_0_0 none
      (truncf .bf16 (k0_pay4 kd) bitsLt_bf16_f32) (truncf .bf16 (k0_pay12 S (k0_pay4 u) (k0_pay4 w)) bitsLt_bf16_f32)
      (constant S4x128x128 .f32 0x00000000#32)) := rfl
theorem out_eq (S : FVec F S4x128x128 .f32) (u w qk qd : FVec F S64x512 .f32) :
    out S u w qk qd = sideBySide (addf (matmul dot_S4x64x128_S4x128x128_S4x64x128_2_1_1_2_0_0 none
      (truncf .bf16 (k0_pay4 qd) bitsLt_bf16_f32) (truncf .bf16 S bitsLt_bf16_f32) (constant S4x64x128 .f32 0x00000000#32))
      (matmul dot_S4x64x64_S4x64x128_S4x64x128_2_1_1_2_0_0 none (truncf .bf16 (heads64 qk) bitsLt_bf16_f32)
        (truncf .bf16 (k0_pay12 S (k0_pay4 u) (k0_pay4 w)) bitsLt_bf16_f32) (constant S4x64x128 .f32 0x00000000#32))) := rfl

theorem pay4_apply (x : FVec Ideal S64x512 .f32) (h : Fin 4) (t : Fin 64) (d : Fin 128) :
    k0_pay4 x (ix3 h t d) = x (ix2 t (Maths.col h d)) := by
  fin_cases h <;> pointwise [k0_pay4] <;> exact congrArg (fun j => x (ix2 t j)) (Fin.ext (by simp))
theorem heads64_apply (x : FVec Ideal S64x512 .f32) (h : Fin 4) (t s : Fin 64) :
    heads64 x (ix3 h t s) = x (ix2 t (Maths.col h (Maths.lo s))) := by
  fin_cases h <;> pointwise [heads64] <;> exact congrArg (fun j => x (ix2 t j)) (Fin.ext (by simp))
theorem decayed_apply (D : FVec Ideal S4x128x128 .f32) (x : FVec Ideal S8x512 .f32) (h : Fin 4) (d e : Fin 128) :
    decayed D x (ix3 h d e) = D (ix3 h d e) * x (ix2 0 (Maths.col h 0)) := by
  fin_cases h <;> pointwise [decayed] <;> rfl
theorem sideBySide_apply (x : FVec Ideal S4x64x128 .f32) (h : Fin 4) (t : Fin 64) (d : Fin 128) :
    sideBySide x (ix2 t (Maths.col h d)) = x (ix3 h t d) := by
  have hd := d.isLt
  fin_cases h <;> pointwise [sideBySide] <;> split_ifs <;> first | omega | (congr 2; ext; simp; omega)
theorem pay12_apply (S : FVec Ideal S4x128x128 .f32) (u w : FVec Ideal S64x512 .f32) (h : Fin 4) (t : Fin 64) (e : Fin 128) :
    k0_pay12 (F := Ideal) S (k0_pay4 u) (k0_pay4 w) (ix3 h t e) = Maths.vnew (Maths.st S) (Maths.rows u) (Maths.rows w) h t e := by
  pointwise [k0_pay12, pay4_apply, Maths.vnew]

theorem nxt_apply (S : FVec Ideal S4x128x128 .f32) (u w kd : FVec Ideal S64x512 .f32) (dec : FVec Ideal S8x512 .f32)
    (h : Fin 4) (d e : Fin 128) :
    nxt (F := Ideal) S u w kd dec (ix3 h d e)
      = Maths.nxt (Maths.st S) (Maths.rows u) (Maths.rows w) (Maths.rows kd) (Maths.dec dec) h d e := by
  rw [nxt_eq]
  pointwise [decayed_apply, pay4_apply, pay12_apply, Maths.nxt]

theorem out_apply (S : FVec Ideal S4x128x128 .f32) (u w qk qd : FVec Ideal S64x512 .f32) (h : Fin 4) (t : Fin 64) (e : Fin 128) :
    out (F := Ideal) S u w qk qd (ix2 t (Maths.col h e))
      = Maths.out (Maths.st S) (Maths.rows u) (Maths.rows w) (Maths.tri qk) (Maths.rows qd) h t e := by
  rw [out_eq, sideBySide_apply]
  pointwise [heads64_apply, pay4_apply, pay12_apply, Maths.out]

end Cert.ForwardIdeal.Value
end
-- ==== Proof.ForwardValue.lean ====
module

public import proofs.«01_k».proof.Proof.ForwardRead
public import proofs.«01_k».proof.Proof.Gen.ForwardIdeal.Value
public import Idealize.ShloMosaic.Lib.Pipeline.ValueKit.Point

/-!
# The forward kernel's results over the extended reals

Its two arrays are the output and the saved states of the recurrence.
-/

@[expose] public section

set_option maxRecDepth 16384

noncomputable section

namespace Cert.ForwardIdeal.Value
open Cert.ForwardIdeal Cert.ForwardIdeal.Gen Idealize.ShloMosaic Idealize.ShloMosaic.TcCoe Idealize.SL.Sem
open Cert
open Idealize.ShloMosaic.Pipeline (Dat)

variable (m : (ℓ : Loc nD τ sig) → Buf (Elt Ideal) ℓ) (c : Dev nD)

theorem lt16 (t : Fin cfg0.N) : t.val < 16 := t.isLt.trans_le (by decide)

theorem index_eq (t : Fin cfg0.N) :
    win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0]
      ∧ win0_7.index t = ![t.val, 0, 0, 0] := by
  revert t; decide +kernel

/-! ## A chunk's rows of a block are its rows of the array -/

theorem rows0 (t : Fin cfg0.N) (k : ℕ) (hk : k < 8) :
    Maths.rows (r64 (F := Ideal) (iblk m c 0 t) k hk) = Maths.rowsAt (m ((c : Thread nD τ).loc main_arg0)) (8 * t.val + k) := by
  funext h t' d
  have := lt16 t
  show r64 (F := Ideal) (iblk m c 0 t) k hk (ix2 t' (Maths.col h d)) = _
  rw [r64, View.ld_apply]
  blk_ext [iblk, V, (index_eq t).1]
  · show t.val * 512 + (64 * k + 1 * t'.val) = (64 * (8 * t.val + k) + t'.val) % 8192
    omega
  · show 0 + 1 * (128 * h.val + d.val) = 128 * h.val + d.val
    omega
theorem rows1 (t : Fin cfg0.N) (k : ℕ) (hk : k < 8) :
    Maths.rows (r64 (F := Ideal) (iblk m c 1 t) k hk) = Maths.rowsAt (m ((c : Thread nD τ).loc main_arg1)) (8 * t.val + k) := by
  funext h t' d
  have := lt16 t
  show r64 (F := Ideal) (iblk m c 1 t) k hk (ix2 t' (Maths.col h d)) = _
  rw [r64, View.ld_apply]
  blk_ext [iblk, V, (index_eq t).2.1]
  · show t.val * 512 + (64 * k + 1 * t'.val) = (64 * (8 * t.val + k) + t'.val) % 8192
    omega
  · show 0 + 1 * (128 * h.val + d.val) = 128 * h.val + d.val
    omega
theorem rows3 (t : Fin cfg0.N) (k : ℕ) (hk : k < 8) :
    Maths.rows (r64 (F := Ideal) (iblk m c 3 t) k hk) = Maths.rowsAt (m ((c : Thread nD τ).loc main_arg3)) (8 * t.val + k) := by
  funext h t' d
  have := lt16 t
  show r64 (F := Ideal) (iblk m c 3 t) k hk (ix2 t' (Maths.col h d)) = _
  rw [r64, View.ld_apply]
  blk_ext [iblk, V, (index_eq t).2.2.2.1]
  · show t.val * 512 + (64 * k + 1 * t'.val) = (64 * (8 * t.val + k) + t'.val) % 8192
    omega
  · show 0 + 1 * (128 * h.val + d.val) = 128 * h.val + d.val
    omega
theorem rows4 (t : Fin cfg0.N) (k : ℕ) (hk : k < 8) :
    Maths.rows (r64 (F := Ideal) (iblk m c 4 t) k hk) = Maths.rowsAt (m ((c : Thread nD τ).loc main_arg4)) (8 * t.val + k) := by
  funext h t' d
  have := lt16 t
  show r64 (F := Ideal) (iblk m c 4 t) k hk (ix2 t' (Maths.col h d)) = _
  rw [r64, View.ld_apply]
  blk_ext [iblk, V, (index_eq t).2.2.2.2.1]
  · show t.val * 512 + (64 * k + 1 * t'.val) = (64 * (8 * t.val + k) + t'.val) % 8192
    omega
  · show 0 + 1 * (128 * h.val + d.val) = 128 * h.val + d.val
    omega
theorem tri2 (t : Fin cfg0.N) (k : ℕ) (hk : k < 8) :
    Maths.tri (r64 (F := Ideal) (iblk m c 2 t) k hk) = Maths.triAt (m ((c : Thread nD τ).loc main_arg2)) (8 * t.val + k) := by
  funext h t' d
  have := lt16 t
  show r64 (F := Ideal) (iblk m c 2 t) k hk (ix2 t' (Maths.col h (Maths.lo d))) = _
  rw [r64, View.ld_apply]
  blk_ext [iblk, V, (index_eq t).2.2.1]
  · show t.val * 512 + (64 * k + 1 * t'.val) = (64 * (8 * t.val + k) + t'.val) % 8192
    omega
  · show 0 + 1 * (128 * h.val + d.val) = 128 * h.val + d.val
    omega
theorem dec5 (t : Fin cfg0.N) (k : ℕ) (hk : k < 8) :
    Maths.dec (r8 (F := Ideal) (iblk m c 5 t) k hk) = Maths.decAt (m ((c : Thread nD τ).loc main_arg5)) (8 * t.val + k) := by
  funext h
  have := lt16 t
  show r8 (F := Ideal) (iblk m c 5 t) k hk (ix2 0 (Maths.col h 0)) = _
  rw [r8, View.ld_apply]
  blk_ext [iblk, V, (index_eq t).2.2.2.2.2.1]
  · show t.val * 64 + (8 * k + 1 * 0) = (8 * (8 * t.val + k)) % 1024
    omega
  · show 0 + 1 * (128 * h.val + 0) = 128 * h.val + 0
    omega

/-! ## The carried state -/

/-- The state before chunk `n`, of the operands in memory. -/
abbrev stateM (n : ℕ) : Maths.St := Maths.stateAt (m ((c : Thread nD τ).loc main_arg0)) (m ((c : Thread nD τ).loc main_arg1))
  (m ((c : Thread nD τ).loc main_arg4)) (m ((c : Thread nD τ).loc main_arg5)) n

theorem stK_eq (t : Fin cfg0.N) (S : Vec Ideal S4x128x128 .f32) (hS : Maths.st S = stateM m c (8 * t.val)) :
    ∀ (k : ℕ) (hk : k ≤ 8), Maths.st (stK S (iblk m c 0 t) (iblk m c 1 t) (iblk m c 4 t) (iblk m c 5 t) k hk)
      = stateM m c (8 * t.val + k)
  | 0, _ => hS
  | k + 1, hk => by
    funext h d e
    show nxt (F := Ideal) _ _ _ _ _ (ix3 h d e) = _
    rw [nxt_apply, stK_eq t S hS k (by omega), rows0 m c, rows1 m c, rows4 m c, dec5 m c]
    rfl

theorem zero_eq : Maths.st (k0_pay2 (F := Ideal)) = fun _ _ _ => 0 := by
  funext h d e
  show k0_pay2 (F := Ideal) (ix3 h d e) = _
  pointwise [k0_pay2]

/-- The state a point meets. -/
def met (t : Fin cfg0.N) : Vec Ideal S4x128x128 .f32 :=
  if t.val % 16 = 0 then (k0_pay2 : FVec Ideal S4x128x128 .f32) else (outsAt0 m c (t.val - 1) (Nat.lt_of_le_of_lt (Nat.sub_le _ _) t.isLt)).2.2

theorem st_met (t : Fin cfg0.N) : (outsAt0 m c t.val t.isLt).2.2
    = stK (met m c t) (iblk m c 0 t) (iblk m c 1 t) (iblk m c 4 t) (iblk m c 5 t) 8 (by omega) := by
  by_cases h : t.val % 16 = 0
  · rw [met, if_pos h]; exact st_A m c t h
  · rw [met, if_neg h]; exact st_B m c t h
theorem s_met (t : Fin cfg0.N) : (outsAt0 m c t.val t.isLt).2.1
    = View.canon (sPieces (met m c t) (iblk m c 0 t) (iblk m c 1 t) (iblk m c 4 t) (iblk m c 5 t)) := by
  by_cases h : t.val % 16 = 0
  · rw [met, if_pos h]; exact s_A m c t h
  · rw [met, if_neg h]; exact s_B m c t h
theorem o_met (t : Fin cfg0.N) : (outsAt0 m c t.val t.isLt).1
    = View.canon (oPieces (met m c t) (iblk m c 0 t) (iblk m c 1 t) (iblk m c 2 t) (iblk m c 3 t) (iblk m c 4 t) (iblk m c 5 t)) := by
  by_cases h : t.val % 16 = 0
  · rw [met, if_pos h]; exact o_A m c t h
  · rw [met, if_neg h]; exact o_B m c t h

theorem met_eq : ∀ (n : ℕ) (hn : n < cfg0.N), Maths.st (met m c ⟨n, hn⟩) = stateM m c (8 * n)
  | 0, hn => zero_eq
  | n + 1, hn => by
    have h16 := lt16 ⟨n + 1, hn⟩
    have h : ¬ (n + 1) % 16 = 0 := by simp only at h16; omega
    rw [met, if_neg h]
    have e := st_met m c ⟨n, by omega⟩
    simp only [Nat.add_sub_cancel] at e ⊢
    rw [e, stK_eq m c ⟨n, by omega⟩ _ (met_eq n (by omega)) 8 (by omega)]
    rfl

/-! ## The blocks a point writes back -/

theorem outK_congr (S : Vec Ideal S4x128x128 .f32) (u w qk qd kd : Vec Ideal S512x512 .f32) (dec : Vec Ideal S64x512 .f32)
    {k k' : ℕ} (hk : k < 8) (hk' : k' < 8) (e : k = k') (x y : S64x512.Idx) (ex : x = y) :
    outK S u w qk qd kd dec k hk x = outK S u w qk qd kd dec k' hk' y := by
  subst e ex; rfl

theorem oPieces_apply (S : Vec Ideal S4x128x128 .f32) (u w qk qd kd : Vec Ideal S512x512 .f32) (dec : Vec Ideal S64x512 .f32)
    (k : ℕ) (hk : k < 8) (t : Fin 64) (j : Fin 512) :
    View.canon (oPieces S u w qk qd kd dec) (ix2 ⟨64 * k + t.val, by omega⟩ j) = outK S u w qk qd kd dec k hk (ix2 t j) := by
  have ht := t.isLt
  canon_tiles x h <;>
  · refine outK_congr S u w qk qd kd dec _ hk ?_ x _ ?_
    · simp at h0 x0_lt ⊢; omega
    · funext a; refine Fin.ext ?_
      fin_cases a
      · simp at h0 x0_lt ⊢; omega
      · simpa using h1.symm

theorem stK_congr (S : Vec Ideal S4x128x128 .f32) (u w kd : Vec Ideal S512x512 .f32) (dec : Vec Ideal S64x512 .f32)
    {k k' : ℕ} (hk : k ≤ 8) (hk' : k' ≤ 8) (e : k = k') (x y : S4x128x128.Idx) (ex : x = y) :
    stK S u w kd dec k hk x = stK S u w kd dec k' hk' y := by
  subst e ex; rfl

theorem pay3_apply (x : FVec Ideal S4x128x128 .f32) (z : Fin 1) (h : Fin 4) (d e : Fin 128) :
    k0_pay3 x (ix4 z h d e) = x (ix3 h d e) := by
  pointwise [k0_pay3]

theorem sPieces_apply (S : Vec Ideal S4x128x128 .f32) (u w kd : Vec Ideal S512x512 .f32) (dec : Vec Ideal S64x512 .f32)
    (k : ℕ) (hk : k < 8) (h : Fin 4) (d e : Fin 128) :
    View.canon (sPieces S u w kd dec) (ix4 ⟨k, hk⟩ h d e) = stK S u w kd dec k (by omega) (ix3 h d e) := by
  canon_tiles x h <;>
  · have ex : x = ix4 (x 0) (x 1) (x 2) (x 3) := by funext a; fin_cases a <;> rfl
    rw [ex]
    refine (pay3_apply _ _ _ _ _).trans (stK_congr S u w kd dec _ _ ?_ _ _ ?_)
    · simp at h0 x0_lt ⊢; omega
    · funext a; refine Fin.ext ?_
      fin_cases a
      · simpa using h1.symm
      · simpa using h2.symm
      · simpa using h3.symm

theorem o_block (t : Fin cfg0.N) (r j : Fin 512) : (outsAt0 m c t.val t.isLt).1 (ix2 r j)
    = Maths.oRes (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix2 ⟨512 * t.val + r.val, by have := lt16 t; omega⟩ j) := by
  have h16 := lt16 t
  have er : r = ⟨64 * (r.val / 64) + (⟨r.val % 64, by omega⟩ : Fin 64).val, by simp; omega⟩ := Fin.ext (by simp; omega)
  have ej : j = Maths.col (Maths.hd j) (Maths.ln j) := Fin.ext (by simp; omega)
  have en : (512 * t.val + r.val) / 64 = 8 * t.val + r.val / 64 := by omega
  have et : Maths.tk ⟨512 * t.val + r.val, by omega⟩ = ⟨r.val % 64, by omega⟩ := Fin.ext (by simp; omega)
  rw [o_met]
  conv_lhs => rw [er, ej]
  rw [oPieces_apply _ _ _ _ _ _ _ (r.val / 64) (by omega), outK, out_apply, stK_eq m c t _ (met_eq m c t.val t.isLt), rows0 m c, rows1 m c, tri2 m c, rows3 m c]
  show _ = Maths.out (Maths.stateAt _ _ _ _ ((512 * t.val + r.val) / 64)) (Maths.rowsAt _ ((512 * t.val + r.val) / 64)) (Maths.rowsAt _ ((512 * t.val + r.val) / 64)) (Maths.triAt _ ((512 * t.val + r.val) / 64)) (Maths.rowsAt _ ((512 * t.val + r.val) / 64)) _ _ _
  rw [en]
  exact congrArg (fun q => Maths.out _ _ _ _ _ (Maths.hd j) q (Maths.ln j)) et.symm

theorem s_block (t : Fin cfg0.N) (k : Fin 8) (h : Fin 4) (d e : Fin 128) : (outsAt0 m c t.val t.isLt).2.1 (ix4 k h d e)
    = Maths.sRes (m ((c : Thread nD τ).loc main_arg0)) (m ((c : Thread nD τ).loc main_arg1))
      (m ((c : Thread nD τ).loc main_arg4)) (m ((c : Thread nD τ).loc main_arg5)) (ix4 ⟨8 * t.val + k.val, by have := lt16 t; omega⟩ h d e) := by
  rw [s_met, sPieces_apply _ _ _ _ _ k.val k.isLt]
  exact congrFun (congrFun (congrFun (stK_eq m c t _ (met_eq m c t.val t.isLt) k.val (by omega)) h) d) e

theorem final_o : (dats m 0 c).arrAt 6 cfg0.N = Maths.oRes (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have ey : y = ix2 (y 0) (y 1) := by funext a; fin_cases a <;> rfl
  refine (congrArg _ ey).trans ((o_block m c t (y 0) (y 1)).trans (congrArg _ ?_))
  blk_ext [(index_eq t).2.2.2.2.2.2.1]

theorem final_s : (dats m 0 c).arrAt 7 cfg0.N = Maths.sRes (m ((c : Thread nD τ).loc main_arg0)) (m ((c : Thread nD τ).loc main_arg1))
    (m ((c : Thread nD τ).loc main_arg4)) (m ((c : Thread nD τ).loc main_arg5)) := by
  refine (dats m 0 c).arrAt_eq_of_covers 7 _ (by decide +kernel) fun t hf y => ?_
  blk_simp
  have ey : y = ix4 (y 0) (y 1) (y 2) (y 3) := by funext a; fin_cases a <;> rfl
  refine (congrArg _ ey).trans ((s_block m c t (y 0) (y 1) (y 2) (y 3)).trans (congrArg _ ?_))
  blk_ext [(index_eq t).2.2.2.2.2.2.2]

end Cert.ForwardIdeal.Value
end
-- ==== Proof.KernelChunks.lean ====
module

public import proofs.«01_k».proof.Proof.Gen.KernelIdeal.Frame
public import Idealize.ShloMosaic.Lib.Pipeline.ReadBack
public import Idealize.ShloMosaic.Lib.Pipeline.ValueKit.Acc
public import Idealize.ShloMosaic.Lib.Pipeline.ValueKit.Tiles

/-!
# What a point of the backward recurrence leaves, chunk by chunk

A point of the grid treats eight chunks, the last one first. Every chunk is printed with its own cuts into heads; each is
folded here to one function of the carried cotangent and the chunk's rows.
-/

@[expose] public section

set_option maxRecDepth 16384

noncomputable section

namespace Cert.KernelIdeal.Value
open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The corrected values of a chunk, head by head. -/
def vnew (s : Vec F S1x4x128x128 .f32) (u w : Vec F S64x512 .f32) : FVec F S4x64x128 .f32 :=
  k0_pay147 s u w
/-- Their cotangent. -/
def dvnew (D : FVec F S4x128x128 .f32) (qk kd o : Vec F S64x512 .f32) : FVec F S4x64x128 .f32 :=
  k0_pay159 (k0_pay146 qk) (k0_pay148 o) (k0_pay150 D (k0_pay145 kd))
/-- The cotangent a chunk hands to the chunk before it. -/
def dnxt (D : FVec F S4x128x128 .f32) (w qk qd kd : Vec F S64x512 .f32) (dec : Vec F S8x512 .f32) (o : Vec F S64x512 .f32) :
    FVec F S4x128x128 .f32 :=
  k0_pay163 (k0_pay143 w) (k0_pay144 qd) (k0_pay146 qk) (k0_pay148 o) (k0_pay150 D (k0_pay145 kd)) (k0_pay151 D dec)
def cdu (D : FVec F S4x128x128 .f32) (qk kd o : Vec F S64x512 .f32) : FVec F S64x512 .f32 :=
  k0_pay174 (dvnew D qk kd o)
/-- The head-by-head products of `dw`, `dqd`, `dkd`. -/
def hdw (D : FVec F S4x128x128 .f32) (s : Vec F S1x4x128x128 .f32) (qk kd o : Vec F S64x512 .f32) : FVec F S4x64x128 .f32 :=
  k0_pay162 (k0_pay142 s) (k0_pay146 qk) (k0_pay148 o) (k0_pay150 D (k0_pay145 kd))
def cdw (D : FVec F S4x128x128 .f32) (s : Vec F S1x4x128x128 .f32) (qk kd o : Vec F S64x512 .f32) : FVec F S64x512 .f32 :=
  k0_pay173 (hdw D s qk kd o)
def cdqk (s : Vec F S1x4x128x128 .f32) (u w o : Vec F S64x512 .f32) : FVec F S64x512 .f32 :=
  k0_pay169 (k0_pay164 (vnew s u w) (k0_pay148 o)) (k0_pay165 (vnew s u w) (k0_pay148 o)) (k0_pay166 (vnew s u w) (k0_pay148 o))
    (k0_pay167 (vnew s u w) (k0_pay148 o)) k0_pay168
def hdqd (s : Vec F S1x4x128x128 .f32) (o : Vec F S64x512 .f32) : FVec F S4x64x128 .f32 :=
  k0_pay160 (k0_pay142 s) (k0_pay148 o)
def cdqd (s : Vec F S1x4x128x128 .f32) (o : Vec F S64x512 .f32) : FVec F S64x512 .f32 :=
  k0_pay172 (k0_pay171 (hdqd s o))
def hdkd (D : FVec F S4x128x128 .f32) (s : Vec F S1x4x128x128 .f32) (u w : Vec F S64x512 .f32) : FVec F S4x64x128 .f32 :=
  k0_pay149 D (vnew s u w)
def cdkd (D : FVec F S4x128x128 .f32) (s : Vec F S1x4x128x128 .f32) (u w : Vec F S64x512 .f32) : FVec F S64x512 .f32 :=
  k0_pay170 (hdkd D s u w)
def cddec (D : FVec F S4x128x128 .f32) (s : Vec F S1x4x128x128 .f32) : FVec F S8x512 .f32 :=
  k0_pay157 (k0_pay153 D (k0_pay142 s)) (k0_pay154 D (k0_pay142 s)) (k0_pay155 D (k0_pay142 s)) (k0_pay156 D (k0_pay142 s))

theorem inb64 {k : ℕ} (hk : k < 8) : ∀ a, (![64 * k, 0] : Fin 2 → ℕ) a + (![64, 512] : Fin 2 → ℕ) a ≤ S512x512.size a := by
  intro a; fin_cases a <;> simp <;> omega
theorem inb8 {k : ℕ} (hk : k < 8) : ∀ a, (![8 * k, 0] : Fin 2 → ℕ) a + (![8, 512] : Fin 2 → ℕ) a ≤ S64x512.size a := by
  intro a; fin_cases a <;> simp <;> omega
theorem inb1 {k : ℕ} (hk : k < 8) : ∀ a, (![k, 0, 0, 0] : Fin 4 → ℕ) a + (![1, 4, 128, 128] : Fin 4 → ℕ) a ≤ S8x4x128x128.size a := by
  intro a; fin_cases a <;> simp; omega

/-- Chunk `k`'s rows of a block. -/
def r64 (x : Vec F S512x512 .f32) (k : ℕ) (hk : k < 8) : Vec F S64x512 .f32 :=
  View.ld x (Rect.unit ![64 * k, 0] ![64, 512] (inb64 hk))
def r8 (x : Vec F S64x512 .f32) (k : ℕ) (hk : k < 8) : Vec F S8x512 .f32 :=
  View.ld x (Rect.unit ![8 * k, 0] ![8, 512] (inb8 hk))
def r1 (x : Vec F S8x4x128x128 .f32) (k : ℕ) (hk : k < 8) : Vec F S1x4x128x128 .f32 :=
  View.ld x (Rect.unit ![k, 0, 0, 0] ![1, 4, 128, 128] (inb1 hk))

/-- The carried cotangent once the block's last `j` chunks are done. -/
def dK (D : Vec F S4x128x128 .f32) (w qk qd kd : Vec F S512x512 .f32) (dec : Vec F S64x512 .f32) (o : Vec F S512x512 .f32) :
    (j : ℕ) → j ≤ 8 → Vec F S4x128x128 .f32
  | 0, _ => D
  | j + 1, h => dnxt (dK D w qk qd kd dec o j (by omega)) (r64 w (7 - j) (by omega)) (r64 qk (7 - j) (by omega))
      (r64 qd (7 - j) (by omega)) (r64 kd (7 - j) (by omega)) (r8 dec (7 - j) (by omega)) (r64 o (7 - j) (by omega))

/-- The block of `du`, piece by piece (the last stored first). -/
abbrev duPieces (D : Vec F S4x128x128 .f32) (u w qk qd kd : Vec F S512x512 .f32) (dec : Vec F S64x512 .f32) (s : Vec F S8x4x128x128 .f32) (o : Vec F S512x512 .f32) :
    List (View.Piece (Elt F) S512x512 .f32) :=
  [⟨Rect.unit ![0, 0] ![64, 512] (inb64 (k := 0) (by omega)), cdu (dK D w qk qd kd dec o 7 (by omega)) (r64 qk 0 (by omega)) (r64 kd 0 (by omega)) (r64 o 0 (by omega))⟩,
   ⟨Rect.unit ![64, 0] ![64, 512] (inb64 (k := 1) (by omega)), cdu (dK D w qk qd kd dec o 6 (by omega)) (r64 qk 1 (by omega)) (r64 kd 1 (by omega)) (r64 o 1 (by omega))⟩,
   ⟨Rect.unit ![128, 0] ![64, 512] (inb64 (k := 2) (by omega)), cdu (dK D w qk qd kd dec o 5 (by omega)) (r64 qk 2 (by omega)) (r64 kd 2 (by omega)) (r64 o 2 (by omega))⟩,
   ⟨Rect.unit ![192, 0] ![64, 512] (inb64 (k := 3) (by omega)), cdu (dK D w qk qd kd dec o 4 (by omega)) (r64 qk 3 (by omega)) (r64 kd 3 (by omega)) (r64 o 3 (by omega))⟩,
   ⟨Rect.unit ![256, 0] ![64, 512] (inb64 (k := 4) (by omega)), cdu (dK D w qk qd kd dec o 3 (by omega)) (r64 qk 4 (by omega)) (r64 kd 4 (by omega)) (r64 o 4 (by omega))⟩,
   ⟨Rect.unit ![320, 0] ![64, 512] (inb64 (k := 5) (by omega)), cdu (dK D w qk qd kd dec o 2 (by omega)) (r64 qk 5 (by omega)) (r64 kd 5 (by omega)) (r64 o 5 (by omega))⟩,
   ⟨Rect.unit ![384, 0] ![64, 512] (inb64 (k := 6) (by omega)), cdu (dK D w qk qd kd dec o 1 (by omega)) (r64 qk 6 (by omega)) (r64 kd 6 (by omega)) (r64 o 6 (by omega))⟩,
   ⟨Rect.unit ![448, 0] ![64, 512] (inb64 (k := 7) (by omega)), cdu (dK D w qk qd kd dec o 0 (by omega)) (r64 qk 7 (by omega)) (r64 kd 7 (by omega)) (r64 o 7 (by omega))⟩]

/-- The block of `dw`, piece by piece (the last stored first). -/
abbrev dwPieces (D : Vec F S4x128x128 .f32) (u w qk qd kd : Vec F S512x512 .f32) (dec : Vec F S64x512 .f32) (s : Vec F S8x4x128x128 .f32) (o : Vec F S512x512 .f32) :
    List (View.Piece (Elt F) S512x512 .f32) :=
  [⟨Rect.unit ![0, 0] ![64, 512] (inb64 (k := 0) (by omega)), cdw (dK D w qk qd kd dec o 7 (by omega)) (r1 s 0 (by omega)) (r64 qk 0 (by omega)) (r64 kd 0 (by omega)) (r64 o 0 (by omega))⟩,
   ⟨Rect.unit ![64, 0] ![64, 512] (inb64 (k := 1) (by omega)), cdw (dK D w qk qd kd dec o 6 (by omega)) (r1 s 1 (by omega)) (r64 qk 1 (by omega)) (r64 kd 1 (by omega)) (r64 o 1 (by omega))⟩,
   ⟨Rect.unit ![128, 0] ![64, 512] (inb64 (k := 2) (by omega)), cdw (dK D w qk qd kd dec o 5 (by omega)) (r1 s 2 (by omega)) (r64 qk 2 (by omega)) (r64 kd 2 (by omega)) (r64 o 2 (by omega))⟩,
   ⟨Rect.unit ![192, 0] ![64, 512] (inb64 (k := 3) (by omega)), cdw (dK D w qk qd kd dec o 4 (by omega)) (r1 s 3 (by omega)) (r64 qk 3 (by omega)) (r64 kd 3 (by omega)) (r64 o 3 (by omega))⟩,
   ⟨Rect.unit ![256, 0] ![64, 512] (inb64 (k := 4) (by omega)), cdw (dK D w qk qd kd dec o 3 (by omega)) (r1 s 4 (by omega)) (r64 qk 4 (by omega)) (r64 kd 4 (by omega)) (r64 o 4 (by omega))⟩,
   ⟨Rect.unit ![320, 0] ![64, 512] (inb64 (k := 5) (by omega)), cdw (dK D w qk qd kd dec o 2 (by omega)) (r1 s 5 (by omega)) (r64 qk 5 (by omega)) (r64 kd 5 (by omega)) (r64 o 5 (by omega))⟩,
   ⟨Rect.unit ![384, 0] ![64, 512] (inb64 (k := 6) (by omega)), cdw (dK D w qk qd kd dec o 1 (by omega)) (r1 s 6 (by omega)) (r64 qk 6 (by omega)) (r64 kd 6 (by omega)) (r64 o 6 (by omega))⟩,
   ⟨Rect.unit ![448, 0] ![64, 512] (inb64 (k := 7) (by omega)), cdw (dK D w qk qd kd dec o 0 (by omega)) (r1 s 7 (by omega)) (r64 qk 7 (by omega)) (r64 kd 7 (by omega)) (r64 o 7 (by omega))⟩]

/-- The block of `dqk`, piece by piece (the last stored first). -/
abbrev dqkPieces (D : Vec F S4x128x128 .f32) (u w qk qd kd : Vec F S512x512 .f32) (dec : Vec F S64x512 .f32) (s : Vec F S8x4x128x128 .f32) (o : Vec F S512x512 .f32) :
    List (View.Piece (Elt F) S512x512 .f32) :=
  [⟨Rect.unit ![0, 0] ![64, 512] (inb64 (k := 0) (by omega)), cdqk (r1 s 0 (by omega)) (r64 u 0 (by omega)) (r64 w 0 (by omega)) (r64 o 0 (by omega))⟩,
   ⟨Rect.unit ![64, 0] ![64, 512] (inb64 (k := 1) (by omega)), cdqk (r1 s 1 (by omega)) (r64 u 1 (by omega)) (r64 w 1 (by omega)) (r64 o 1 (by omega))⟩,
   ⟨Rect.unit ![128, 0] ![64, 512] (inb64 (k := 2) (by omega)), cdqk (r1 s 2 (by omega)) (r64 u 2 (by omega)) (r64 w 2 (by omega)) (r64 o 2 (by omega))⟩,
   ⟨Rect.unit ![192, 0] ![64, 512] (inb64 (k := 3) (by omega)), cdqk (r1 s 3 (by omega)) (r64 u 3 (by omega)) (r64 w 3 (by omega)) (r64 o 3 (by omega))⟩,
   ⟨Rect.unit ![256, 0] ![64, 512] (inb64 (k := 4) (by omega)), cdqk (r1 s 4 (by omega)) (r64 u 4 (by omega)) (r64 w 4 (by omega)) (r64 o 4 (by omega))⟩,
   ⟨Rect.unit ![320, 0] ![64, 512] (inb64 (k := 5) (by omega)), cdqk (r1 s 5 (by omega)) (r64 u 5 (by omega)) (r64 w 5 (by omega)) (r64 o 5 (by omega))⟩,
   ⟨Rect.unit ![384, 0] ![64, 512] (inb64 (k := 6) (by omega)), cdqk (r1 s 6 (by omega)) (r64 u 6 (by omega)) (r64 w 6 (by omega)) (r64 o 6 (by omega))⟩,
   ⟨Rect.unit ![448, 0] ![64, 512] (inb64 (k := 7) (by omega)), cdqk (r1 s 7 (by omega)) (r64 u 7 (by omega)) (r64 w 7 (by omega)) (r64 o 7 (by omega))⟩]

/-- The block of `dqd`, piece by piece (the last stored first). -/
abbrev dqdPieces (D : Vec F S4x128x128 .f32) (u w qk qd kd : Vec F S512x512 .f32) (dec : Vec F S64x512 .f32) (s : Vec F S8x4x128x128 .f32) (o : Vec F S512x512 .f32) :
    List (View.Piece (Elt F) S512x512 .f32) :=
  [⟨Rect.unit ![0, 0] ![64, 512] (inb64 (k := 0) (by omega)), cdqd (r1 s 0 (by omega)) (r64 o 0 (by omega))⟩,
   ⟨Rect.unit ![64, 0] ![64, 512] (inb64 (k := 1) (by omega)), cdqd (r1 s 1 (by omega)) (r64 o 1 (by omega))⟩,
   ⟨Rect.unit ![128, 0] ![64, 512] (inb64 (k := 2) (by omega)), cdqd (r1 s 2 (by omega)) (r64 o 2 (by omega))⟩,
   ⟨Rect.unit ![192, 0] ![64, 512] (inb64 (k := 3) (by omega)), cdqd (r1 s 3 (by omega)) (r64 o 3 (by omega))⟩,
   ⟨Rect.unit ![256, 0] ![64, 512] (inb64 (k := 4) (by omega)), cdqd (r1 s 4 (by omega)) (r64 o 4 (by omega))⟩,
   ⟨Rect.unit ![320, 0] ![64, 512] (inb64 (k := 5) (by omega)), cdqd (r1 s 5 (by omega)) (r64 o 5 (by omega))⟩,
   ⟨Rect.unit ![384, 0] ![64, 512] (inb64 (k := 6) (by omega)), cdqd (r1 s 6 (by omega)) (r64 o 6 (by omega))⟩,
   ⟨Rect.unit ![448, 0] ![64, 512] (inb64 (k := 7) (by omega)), cdqd (r1 s 7 (by omega)) (r64 o 7 (by omega))⟩]

/-- The block of `dkd`, piece by piece (the last stored first). -/
abbrev dkdPieces (D : Vec F S4x128x128 .f32) (u w qk qd kd : Vec F S512x512 .f32) (dec : Vec F S64x512 .f32) (s : Vec F S8x4x128x128 .f32) (o : Vec F S512x512 .f32) :
    List (View.Piece (Elt F) S512x512 .f32) :=
  [⟨Rect.unit ![0, 0] ![64, 512] (inb64 (k := 0) (by omega)), cdkd (dK D w qk qd kd dec o 7 (by omega)) (r1 s 0 (by omega)) (r64 u 0 (by omega)) (r64 w 0 (by omega))⟩,
   ⟨Rect.unit ![64, 0] ![64, 512] (inb64 (k := 1) (by omega)), cdkd (dK D w qk qd kd dec o 6 (by omega)) (r1 s 1 (by omega)) (r64 u 1 (by omega)) (r64 w 1 (by omega))⟩,
   ⟨Rect.unit ![128, 0] ![64, 512] (inb64 (k := 2) (by omega)), cdkd (dK D w qk qd kd dec o 5 (by omega)) (r1 s 2 (by omega)) (r64 u 2 (by omega)) (r64 w 2 (by omega))⟩,
   ⟨Rect.unit ![192, 0] ![64, 512] (inb64 (k := 3) (by omega)), cdkd (dK D w qk qd kd dec o 4 (by omega)) (r1 s 3 (by omega)) (r64 u 3 (by omega)) (r64 w 3 (by omega))⟩,
   ⟨Rect.unit ![256, 0] ![64, 512] (inb64 (k := 4) (by omega)), cdkd (dK D w qk qd kd dec o 3 (by omega)) (r1 s 4 (by omega)) (r64 u 4 (by omega)) (r64 w 4 (by omega))⟩,
   ⟨Rect.unit ![320, 0] ![64, 512] (inb64 (k := 5) (by omega)), cdkd (dK D w qk qd kd dec o 2 (by omega)) (r1 s 5 (by omega)) (r64 u 5 (by omega)) (r64 w 5 (by omega))⟩,
   ⟨Rect.unit ![384, 0] ![64, 512] (inb64 (k := 6) (by omega)), cdkd (dK D w qk qd kd dec o 1 (by omega)) (r1 s 6 (by omega)) (r64 u 6 (by omega)) (r64 w 6 (by omega))⟩,
   ⟨Rect.unit ![448, 0] ![64, 512] (inb64 (k := 7) (by omega)), cdkd (dK D w qk qd kd dec o 0 (by omega)) (r1 s 7 (by omega)) (r64 u 7 (by omega)) (r64 w 7 (by omega))⟩]

/-- The block of `ddec`, piece by piece (the last stored first). -/
abbrev ddecPieces (D : Vec F S4x128x128 .f32) (u w qk qd kd : Vec F S512x512 .f32) (dec : Vec F S64x512 .f32) (s : Vec F S8x4x128x128 .f32) (o : Vec F S512x512 .f32) :
    List (View.Piece (Elt F) S64x512 .f32) :=
  [⟨Rect.unit ![0, 0] ![8, 512] (inb8 (k := 0) (by omega)), cddec (dK D w qk qd kd dec o 7 (by omega)) (r1 s 0 (by omega))⟩,
   ⟨Rect.unit ![8, 0] ![8, 512] (inb8 (k := 1) (by omega)), cddec (dK D w qk qd kd dec o 6 (by omega)) (r1 s 1 (by omega))⟩,
   ⟨Rect.unit ![16, 0] ![8, 512] (inb8 (k := 2) (by omega)), cddec (dK D w qk qd kd dec o 5 (by omega)) (r1 s 2 (by omega))⟩,
   ⟨Rect.unit ![24, 0] ![8, 512] (inb8 (k := 3) (by omega)), cddec (dK D w qk qd kd dec o 4 (by omega)) (r1 s 3 (by omega))⟩,
   ⟨Rect.unit ![32, 0] ![8, 512] (inb8 (k := 4) (by omega)), cddec (dK D w qk qd kd dec o 3 (by omega)) (r1 s 4 (by omega))⟩,
   ⟨Rect.unit ![40, 0] ![8, 512] (inb8 (k := 5) (by omega)), cddec (dK D w qk qd kd dec o 2 (by omega)) (r1 s 5 (by omega))⟩,
   ⟨Rect.unit ![48, 0] ![8, 512] (inb8 (k := 6) (by omega)), cddec (dK D w qk qd kd dec o 1 (by omega)) (r1 s 6 (by omega))⟩,
   ⟨Rect.unit ![56, 0] ![8, 512] (inb8 (k := 7) (by omega)), cddec (dK D w qk qd kd dec o 0 (by omega)) (r1 s 7 (by omega))⟩]

/-! The chunks of a point are printed each with its own cuts; every one is the same functions. -/

theorem cat4 (u : FVec F S64x512 .f32) {h1 h2 h3 h4 h5 h6} :
    concatenate S4x64x128 0 [⟨S1x64x128, extractStridedSlice S1x64x128 ![0, 0, 0] (shapeCast S1x64x512 u h1) h2⟩,
      ⟨S1x64x128, extractStridedSlice S1x64x128 ![0, 0, 128] (shapeCast S1x64x512 u h1) h3⟩,
      ⟨S1x64x128, extractStridedSlice S1x64x128 ![0, 0, 256] (shapeCast S1x64x512 u h1) h4⟩,
      ⟨S1x64x128, extractStridedSlice S1x64x128 ![0, 0, 384] (shapeCast S1x64x512 u h1) h5⟩] h6 = k0_pay5 u := rfl
theorem sc4 (s : FVec F S1x4x128x128 .f32) {h} : shapeCast S4x128x128 s h = k0_pay4 s := rfl
theorem f_du7 (D : FVec F S4x128x128 .f32) (x_qk : FVec F S64x512 .f32) (x_kd : FVec F S64x512 .f32) (x_o : FVec F S64x512 .f32)  {h1} :
    shapeCast S64x512 (k0_pay36 (k0_pay21 (k0_pay10 (k0_pay9 x_qk)) (k0_pay12 x_o) (k0_pay16 D (k0_pay8 x_kd)))) h1 = cdu (k0_pay13 D) x_qk x_kd x_o := rfl
theorem f_dw7 (D : FVec F S4x128x128 .f32) (x_s : Vec F S1x4x128x128 .f32) (x_qk : FVec F S64x512 .f32) (x_kd : FVec F S64x512 .f32) (x_o : FVec F S64x512 .f32)  :
    k0_pay35 (k0_pay24 (k0_pay4 x_s) (k0_pay10 (k0_pay9 x_qk)) (k0_pay12 x_o) (k0_pay16 D (k0_pay8 x_kd))) = cdw (k0_pay13 D) x_s x_qk x_kd x_o := rfl
theorem f_dqk7 (x_s : Vec F S1x4x128x128 .f32) (x_u : FVec F S64x512 .f32) (x_w : FVec F S64x512 .f32) (x_o : FVec F S64x512 .f32)  :
    k0_pay27 (k0_pay20 (k0_pay11 (k0_pay4 x_s) (k0_pay5 x_u) (k0_pay6 x_w)) (k0_pay12 x_o)) (k0_pay26 (k0_pay11 (k0_pay4 x_s) (k0_pay5 x_u) (k0_pay6 x_w)) (k0_pay12 x_o)) = cdqk x_s x_u x_w x_o := rfl
theorem f_dqd7 (x_s : Vec F S1x4x128x128 .f32) (x_o : FVec F S64x512 .f32)  :
    k0_pay34 (k0_pay29 (k0_pay22 (k0_pay4 x_s) (k0_pay12 x_o))) (k0_pay30 (k0_pay22 (k0_pay4 x_s) (k0_pay12 x_o))) (k0_pay31 (k0_pay22 (k0_pay4 x_s) (k0_pay12 x_o))) (k0_pay32 (k0_pay22 (k0_pay4 x_s) (k0_pay12 x_o))) k0_pay33 = cdqd x_s x_o := rfl
theorem f_dkd7 (D : FVec F S4x128x128 .f32) (x_s : Vec F S1x4x128x128 .f32) (x_u : FVec F S64x512 .f32) (x_w : FVec F S64x512 .f32)  :
    k0_pay28 (k0_pay15 D (k0_pay4 x_s) (k0_pay5 x_u) (k0_pay6 x_w)) = cdkd (k0_pay13 D) x_s x_u x_w := rfl
theorem f_ddec7 (D : FVec F S4x128x128 .f32) (x_s : Vec F S1x4x128x128 .f32)  :
    k0_pay19 (k0_pay17 D (k0_pay4 x_s)) = cddec (k0_pay13 D) x_s := rfl
theorem f_D7 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  :
    k0_pay25 (k0_pay6 x_w) (k0_pay7 x_qd) (k0_pay10 (k0_pay9 x_qk)) (k0_pay12 x_o) (k0_pay16 D (k0_pay8 x_kd)) (k0_pay18 D x_dec) = dnxt (k0_pay13 D) x_w x_qk x_qd x_kd x_dec x_o := rfl
theorem f_du6 (D : FVec F S4x128x128 .f32) (x_qk : FVec F S64x512 .f32) (x_kd : FVec F S64x512 .f32) (x_o : FVec F S64x512 .f32)  :
    k0_pay73 (k0_pay68 (k0_pay57 D (k0_pay47 x_kd) (k0_pay48 x_qk) (k0_pay51 x_o))) (k0_pay69 (k0_pay57 D (k0_pay47 x_kd) (k0_pay48 x_qk) (k0_pay51 x_o))) (k0_pay70 (k0_pay57 D (k0_pay47 x_kd) (k0_pay48 x_qk) (k0_pay51 x_o))) (k0_pay71 (k0_pay57 D (k0_pay47 x_kd) (k0_pay48 x_qk) (k0_pay51 x_o))) k0_pay72 = cdu D x_qk x_kd x_o := rfl
theorem f_dw6 (D : FVec F S4x128x128 .f32) (x_s : Vec F S1x4x128x128 .f32) (x_qk : FVec F S64x512 .f32) (x_kd : FVec F S64x512 .f32) (x_o : FVec F S64x512 .f32)  :
    k0_pay67 (k0_pay61 (k0_pay4 x_s) (k0_pay57 D (k0_pay47 x_kd) (k0_pay48 x_qk) (k0_pay51 x_o)) (FloatOps.ofBits (F := F) .f32 0#32)) = cdw D x_s x_qk x_kd x_o := rfl
theorem f_dqk6 (x_s : Vec F S1x4x128x128 .f32) (x_u : FVec F S64x512 .f32) (x_w : FVec F S64x512 .f32) (x_o : FVec F S64x512 .f32)  {h1 h2 h3 h4 h5 h6 h7 h8} :
    k0_pay63 (k0_pay56 (k0_pay49 (k0_pay4 x_s) (k0_pay5 x_u) (extractStridedSlice S1x64x128 ![0, 0, 0] (shapeCast S1x64x512 x_w h1) h2) (extractStridedSlice S1x64x128 ![0, 0, 128] (shapeCast S1x64x512 x_w h3) h4) (extractStridedSlice S1x64x128 ![0, 0, 256] (shapeCast S1x64x512 x_w h5) h6) (extractStridedSlice S1x64x128 ![0, 0, 384] (shapeCast S1x64x512 x_w h7) h8)) (k0_pay51 x_o)) = cdqk x_s x_u x_w x_o := rfl
theorem f_dqd6 (x_s : Vec F S1x4x128x128 .f32) (x_o : FVec F S64x512 .f32)  :
    k0_pay66 (k0_pay58 (k0_pay4 x_s) (k0_pay51 x_o)) = cdqd x_s x_o := rfl
theorem f_dkd6 (D : FVec F S4x128x128 .f32) (x_s : Vec F S1x4x128x128 .f32) (x_u : FVec F S64x512 .f32) (x_w : FVec F S64x512 .f32)  {h1 h2 h3 h4 h5 h6 h7 h8} :
    k0_pay65 (k0_pay64 (k0_pay54 (k0_pay52 (k0_pay4 x_s) (k0_pay5 x_u) (extractStridedSlice S1x64x128 ![0, 0, 0] (shapeCast S1x64x512 x_w h1) h2) (extractStridedSlice S1x64x128 ![0, 0, 128] (shapeCast S1x64x512 x_w h3) h4) (extractStridedSlice S1x64x128 ![0, 0, 256] (shapeCast S1x64x512 x_w h5) h6) (extractStridedSlice S1x64x128 ![0, 0, 384] (shapeCast S1x64x512 x_w h7) h8)) (k0_pay53 D))) = cdkd D x_s x_u x_w := rfl
theorem f_ddec6 (D : FVec F S4x128x128 .f32) (x_s : Vec F S1x4x128x128 .f32)  :
    k0_pay55 D (k0_pay4 x_s) = cddec D x_s := rfl
theorem f_D6 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  {h1 h2 h3 h4 h5 h6 h7 h8} :
    k0_pay62 (k0_pay45 (extractStridedSlice S1x64x128 ![0, 0, 0] (shapeCast S1x64x512 x_w h1) h2) (extractStridedSlice S1x64x128 ![0, 0, 128] (shapeCast S1x64x512 x_w h3) h4) (extractStridedSlice S1x64x128 ![0, 0, 256] (shapeCast S1x64x512 x_w h5) h6) (extractStridedSlice S1x64x128 ![0, 0, 384] (shapeCast S1x64x512 x_w h7) h8)) (k0_pay57 D (k0_pay47 x_kd) (k0_pay48 x_qk) (k0_pay51 x_o)) (k0_pay59 D (k0_pay46 x_qd) (k0_pay50 x_dec) (k0_pay51 x_o)) (FloatOps.ofBits (F := F) .f32 0#32) = dnxt D x_w x_qk x_qd x_kd x_dec x_o := rfl
theorem f_du5 (D : FVec F S4x128x128 .f32) (x_qk : FVec F S64x512 .f32) (x_kd : FVec F S64x512 .f32) (x_o : FVec F S64x512 .f32)  :
    k0_pay108 (k0_pay93 (k0_pay87 D (k0_pay77 x_kd)) (k0_pay91 (k0_pay78 x_qk)) (k0_pay92 (k0_pay82 x_o) (k0_pay83 x_o) (k0_pay84 x_o)) (constant S4x64x128 .f32 0#32)) = cdu D x_qk x_kd x_o := rfl
theorem f_dw5 (D : FVec F S4x128x128 .f32) (x_s : Vec F S1x4x128x128 .f32) (x_qk : FVec F S64x512 .f32) (x_kd : FVec F S64x512 .f32) (x_o : FVec F S64x512 .f32)  :
    k0_pay107 (k0_pay106 (k0_pay96 (k0_pay74 x_s) (k0_pay87 D (k0_pay77 x_kd)) (k0_pay91 (k0_pay78 x_qk)) (k0_pay92 (k0_pay82 x_o) (k0_pay83 x_o) (k0_pay84 x_o)) (constant S4x64x128 .f32 0#32))) = cdw D x_s x_qk x_kd x_o := rfl
theorem f_dqk5 (x_s : Vec F S1x4x128x128 .f32) (x_u : FVec F S64x512 .f32) (x_w : FVec F S64x512 .f32) (x_o : FVec F S64x512 .f32)  :
    k0_pay98 (k0_pay90 (k0_pay79 (k0_pay74 x_s) x_u x_w) (k0_pay82 x_o) (k0_pay83 x_o) (k0_pay84 x_o)) = cdqk x_s x_u x_w x_o := rfl
theorem f_dqd5 (x_s : Vec F S1x4x128x128 .f32) (x_o : FVec F S64x512 .f32)  :
    k0_pay105 (k0_pay94 (k0_pay74 x_s) (k0_pay85 (k0_pay82 x_o) (k0_pay83 x_o) (k0_pay84 x_o))) = cdqd x_s x_o := rfl
theorem f_dkd5 (D : FVec F S4x128x128 .f32) (x_s : Vec F S1x4x128x128 .f32) (x_u : FVec F S64x512 .f32) (x_w : FVec F S64x512 .f32)  :
    k0_pay104 (k0_pay99 (k0_pay86 D (k0_pay79 (k0_pay74 x_s) x_u x_w))) (k0_pay100 (k0_pay86 D (k0_pay79 (k0_pay74 x_s) x_u x_w))) (k0_pay101 (k0_pay86 D (k0_pay79 (k0_pay74 x_s) x_u x_w))) (k0_pay102 (k0_pay86 D (k0_pay79 (k0_pay74 x_s) x_u x_w))) k0_pay103 = cdkd D x_s x_u x_w := rfl
theorem f_ddec5 (D : FVec F S4x128x128 .f32) (x_s : Vec F S1x4x128x128 .f32)  :
    k0_pay89 D (k0_pay74 x_s) = cddec D x_s := rfl
theorem f_D5 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  :
    k0_pay97 (k0_pay75 x_w) (k0_pay76 x_qd) (k0_pay85 (k0_pay82 x_o) (k0_pay83 x_o) (k0_pay84 x_o)) (k0_pay87 D (k0_pay77 x_kd)) (k0_pay88 D (k0_pay80 x_dec)) (k0_pay91 (k0_pay78 x_qk)) (k0_pay92 (k0_pay82 x_o) (k0_pay83 x_o) (k0_pay84 x_o)) (constant S4x64x128 .f32 0#32) = dnxt D x_w x_qk x_qd x_kd x_dec x_o := rfl
theorem f_du4 (D : FVec F S4x128x128 .f32) (x_qk : FVec F S64x512 .f32) (x_kd : FVec F S64x512 .f32) (x_o : FVec F S64x512 .f32)  :
    k0_pay141 (k0_pay126 (k0_pay113 x_qk) (k0_pay118 (k0_pay116 x_o) (k0_pay117 x_o)) (k0_pay120 D (k0_pay112 x_kd))) = cdu D x_qk x_kd x_o := rfl
theorem f_dw4 (D : FVec F S4x128x128 .f32) (x_s : Vec F S1x4x128x128 .f32) (x_qk : FVec F S64x512 .f32) (x_kd : FVec F S64x512 .f32) (x_o : FVec F S64x512 .f32)  :
    k0_pay140 (k0_pay135 (k0_pay129 (k0_pay109 x_s) (k0_pay113 x_qk) (k0_pay118 (k0_pay116 x_o) (k0_pay117 x_o)) (k0_pay120 D (k0_pay112 x_kd)))) (k0_pay136 (k0_pay129 (k0_pay109 x_s) (k0_pay113 x_qk) (k0_pay118 (k0_pay116 x_o) (k0_pay117 x_o)) (k0_pay120 D (k0_pay112 x_kd)))) (k0_pay137 (k0_pay129 (k0_pay109 x_s) (k0_pay113 x_qk) (k0_pay118 (k0_pay116 x_o) (k0_pay117 x_o)) (k0_pay120 D (k0_pay112 x_kd)))) (k0_pay138 (k0_pay129 (k0_pay109 x_s) (k0_pay113 x_qk) (k0_pay118 (k0_pay116 x_o) (k0_pay117 x_o)) (k0_pay120 D (k0_pay112 x_kd)))) k0_pay139 = cdw D x_s x_qk x_kd x_o := rfl
theorem f_dqk4 (x_s : Vec F S1x4x128x128 .f32) (x_u : FVec F S64x512 .f32) (x_w : FVec F S64x512 .f32) (x_o : FVec F S64x512 .f32)  :
    k0_pay132 (k0_pay131 (k0_pay114 (k0_pay109 x_s) x_u x_w) (k0_pay118 (k0_pay116 x_o) (k0_pay117 x_o))) = cdqk x_s x_u x_w x_o := rfl
theorem f_dqd4 (x_s : Vec F S1x4x128x128 .f32) (x_o : FVec F S64x512 .f32)  :
    k0_pay134 (k0_pay127 (k0_pay109 x_s) (k0_pay118 (k0_pay116 x_o) (k0_pay117 x_o))) = cdqd x_s x_o := rfl
theorem f_dkd4 (D : FVec F S4x128x128 .f32) (x_s : Vec F S1x4x128x128 .f32) (x_u : FVec F S64x512 .f32) (x_w : FVec F S64x512 .f32)  :
    k0_pay133 (k0_pay119 D (k0_pay114 (k0_pay109 x_s) x_u x_w)) = cdkd D x_s x_u x_w := rfl
theorem f_ddec4 (D : FVec F S4x128x128 .f32) (x_s : Vec F S1x4x128x128 .f32)  :
    k0_pay125 (k0_pay123 D (k0_pay109 x_s)) (k0_pay124 D (k0_pay109 x_s)) = cddec D x_s := rfl
theorem f_D4 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  :
    k0_pay130 (k0_pay110 x_w) (k0_pay111 x_qd) (k0_pay113 x_qk) (k0_pay118 (k0_pay116 x_o) (k0_pay117 x_o)) (k0_pay120 D (k0_pay112 x_kd)) (k0_pay121 D (k0_pay115 x_dec)) = dnxt D x_w x_qk x_qd x_kd x_dec x_o := rfl
theorem f_du3 (D : FVec F S4x128x128 .f32) (x_qk : FVec F S64x512 .f32) (x_kd : FVec F S64x512 .f32) (x_o : FVec F S64x512 .f32)  :
    k0_pay174 (k0_pay159 (k0_pay146 x_qk) (k0_pay148 x_o) (k0_pay150 D (k0_pay145 x_kd))) = cdu D x_qk x_kd x_o := rfl
theorem f_dw3 (D : FVec F S4x128x128 .f32) (x_s : Vec F S1x4x128x128 .f32) (x_qk : FVec F S64x512 .f32) (x_kd : FVec F S64x512 .f32) (x_o : FVec F S64x512 .f32)  :
    k0_pay173 (k0_pay162 (k0_pay142 x_s) (k0_pay146 x_qk) (k0_pay148 x_o) (k0_pay150 D (k0_pay145 x_kd))) = cdw D x_s x_qk x_kd x_o := rfl
theorem f_dqk3 (x_s : Vec F S1x4x128x128 .f32) (x_u : FVec F S64x512 .f32) (x_w : FVec F S64x512 .f32) (x_o : FVec F S64x512 .f32)  :
    k0_pay169 (k0_pay164 (k0_pay147 x_s x_u x_w) (k0_pay148 x_o)) (k0_pay165 (k0_pay147 x_s x_u x_w) (k0_pay148 x_o)) (k0_pay166 (k0_pay147 x_s x_u x_w) (k0_pay148 x_o)) (k0_pay167 (k0_pay147 x_s x_u x_w) (k0_pay148 x_o)) k0_pay168 = cdqk x_s x_u x_w x_o := rfl
theorem f_dqd3 (x_s : Vec F S1x4x128x128 .f32) (x_o : FVec F S64x512 .f32)  :
    k0_pay172 (k0_pay171 (k0_pay160 (k0_pay142 x_s) (k0_pay148 x_o))) = cdqd x_s x_o := rfl
theorem f_dkd3 (D : FVec F S4x128x128 .f32) (x_s : Vec F S1x4x128x128 .f32) (x_u : FVec F S64x512 .f32) (x_w : FVec F S64x512 .f32)  :
    k0_pay170 (k0_pay149 D (k0_pay147 x_s x_u x_w)) = cdkd D x_s x_u x_w := rfl
theorem f_ddec3 (D : FVec F S4x128x128 .f32) (x_s : Vec F S1x4x128x128 .f32)  :
    k0_pay157 (k0_pay153 D (k0_pay142 x_s)) (k0_pay154 D (k0_pay142 x_s)) (k0_pay155 D (k0_pay142 x_s)) (k0_pay156 D (k0_pay142 x_s)) = cddec D x_s := rfl
theorem f_D3 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  :
    k0_pay163 (k0_pay143 x_w) (k0_pay144 x_qd) (k0_pay146 x_qk) (k0_pay148 x_o) (k0_pay150 D (k0_pay145 x_kd)) (k0_pay151 D x_dec) = dnxt D x_w x_qk x_qd x_kd x_dec x_o := rfl
theorem f_du2 (D : FVec F S4x128x128 .f32) (x_qk : FVec F S64x512 .f32) (x_kd : FVec F S64x512 .f32) (x_o : FVec F S64x512 .f32)  {h1 h2 h3 h4 h5 h6 h7 h8 h9} :
    shapeCast S64x512 (k0_pay208 (k0_pay193 (k0_pay184 x_qk) (k0_pay186 x_o) (k0_pay188 D (extractStridedSlice S1x64x128 ![0, 0, 0] (shapeCast S1x64x512 x_kd h1) h2) (extractStridedSlice S1x64x128 ![0, 0, 128] (shapeCast S1x64x512 x_kd h3) h4) (extractStridedSlice S1x64x128 ![0, 0, 256] (shapeCast S1x64x512 x_kd h5) h6) (extractStridedSlice S1x64x128 ![0, 0, 384] (shapeCast S1x64x512 x_kd h7) h8)))) h9 = cdu D x_qk x_kd x_o := rfl
theorem f_dw2 (D : FVec F S4x128x128 .f32) (x_s : Vec F S1x4x128x128 .f32) (x_qk : FVec F S64x512 .f32) (x_kd : FVec F S64x512 .f32) (x_o : FVec F S64x512 .f32)  {h1 h2 h3 h4 h5 h6 h7 h8} :
    k0_pay207 (k0_pay196 (k0_pay4 x_s) (k0_pay184 x_qk) (k0_pay186 x_o) (k0_pay188 D (extractStridedSlice S1x64x128 ![0, 0, 0] (shapeCast S1x64x512 x_kd h1) h2) (extractStridedSlice S1x64x128 ![0, 0, 128] (shapeCast S1x64x512 x_kd h3) h4) (extractStridedSlice S1x64x128 ![0, 0, 256] (shapeCast S1x64x512 x_kd h5) h6) (extractStridedSlice S1x64x128 ![0, 0, 384] (shapeCast S1x64x512 x_kd h7) h8))) = cdw D x_s x_qk x_kd x_o := rfl
theorem f_dqk2 (x_s : Vec F S1x4x128x128 .f32) (x_u : FVec F S64x512 .f32) (x_w : FVec F S64x512 .f32) (x_o : FVec F S64x512 .f32)  :
    k0_pay199 (k0_pay192 (k0_pay185 (k0_pay4 x_s) (k0_pay5 x_u) (k0_pay5 x_w)) (k0_pay186 x_o)) (k0_pay198 (k0_pay185 (k0_pay4 x_s) (k0_pay5 x_u) (k0_pay5 x_w)) (k0_pay186 x_o)) = cdqk x_s x_u x_w x_o := rfl
theorem f_dqd2 (x_s : Vec F S1x4x128x128 .f32) (x_o : FVec F S64x512 .f32)  :
    k0_pay206 (k0_pay201 (k0_pay194 (k0_pay4 x_s) (k0_pay186 x_o))) (k0_pay202 (k0_pay194 (k0_pay4 x_s) (k0_pay186 x_o))) (k0_pay203 (k0_pay194 (k0_pay4 x_s) (k0_pay186 x_o))) (k0_pay204 (k0_pay194 (k0_pay4 x_s) (k0_pay186 x_o))) k0_pay205 = cdqd x_s x_o := rfl
theorem f_dkd2 (D : FVec F S4x128x128 .f32) (x_s : Vec F S1x4x128x128 .f32) (x_u : FVec F S64x512 .f32) (x_w : FVec F S64x512 .f32)  :
    k0_pay200 (k0_pay187 D (k0_pay4 x_s) (k0_pay5 x_u) (k0_pay5 x_w)) = cdkd D x_s x_u x_w := rfl
theorem f_ddec2 (D : FVec F S4x128x128 .f32) (x_s : Vec F S1x4x128x128 .f32)  :
    k0_pay191 (k0_pay189 D (k0_pay4 x_s)) = cddec D x_s := rfl
theorem f_D2 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  {h1 h2 h3 h4 h5 h6 h7 h8} :
    k0_pay197 (k0_pay5 x_w) (k0_pay5 x_qd) (k0_pay184 x_qk) (k0_pay186 x_o) (k0_pay188 D (extractStridedSlice S1x64x128 ![0, 0, 0] (shapeCast S1x64x512 x_kd h1) h2) (extractStridedSlice S1x64x128 ![0, 0, 128] (shapeCast S1x64x512 x_kd h3) h4) (extractStridedSlice S1x64x128 ![0, 0, 256] (shapeCast S1x64x512 x_kd h5) h6) (extractStridedSlice S1x64x128 ![0, 0, 384] (shapeCast S1x64x512 x_kd h7) h8)) (k0_pay190 D x_dec) = dnxt D x_w x_qk x_qd x_kd x_dec x_o := rfl
theorem f_du1 (D : FVec F S4x128x128 .f32) (x_qk : FVec F S64x512 .f32) (x_kd : FVec F S64x512 .f32) (x_o : FVec F S64x512 .f32)  :
    k0_pay245 (k0_pay240 (k0_pay229 D (k0_pay219 x_kd) (k0_pay220 x_qk) (k0_pay223 x_o))) (k0_pay241 (k0_pay229 D (k0_pay219 x_kd) (k0_pay220 x_qk) (k0_pay223 x_o))) (k0_pay242 (k0_pay229 D (k0_pay219 x_kd) (k0_pay220 x_qk) (k0_pay223 x_o))) (k0_pay243 (k0_pay229 D (k0_pay219 x_kd) (k0_pay220 x_qk) (k0_pay223 x_o))) k0_pay244 = cdu D x_qk x_kd x_o := rfl
theorem f_dw1 (D : FVec F S4x128x128 .f32) (x_s : Vec F S1x4x128x128 .f32) (x_qk : FVec F S64x512 .f32) (x_kd : FVec F S64x512 .f32) (x_o : FVec F S64x512 .f32)  :
    k0_pay239 (k0_pay233 (k0_pay4 x_s) (k0_pay229 D (k0_pay219 x_kd) (k0_pay220 x_qk) (k0_pay223 x_o)) (FloatOps.ofBits (F := F) .f32 0#32)) = cdw D x_s x_qk x_kd x_o := rfl
theorem f_dqk1 (x_s : Vec F S1x4x128x128 .f32) (x_u : FVec F S64x512 .f32) (x_w : FVec F S64x512 .f32) (x_o : FVec F S64x512 .f32)  {h1 h2 h3 h4 h5 h6 h7 h8} :
    k0_pay235 (k0_pay228 (k0_pay221 (k0_pay4 x_s) (k0_pay5 x_u) (extractStridedSlice S1x64x128 ![0, 0, 0] (shapeCast S1x64x512 x_w h1) h2) (extractStridedSlice S1x64x128 ![0, 0, 128] (shapeCast S1x64x512 x_w h3) h4) (extractStridedSlice S1x64x128 ![0, 0, 256] (shapeCast S1x64x512 x_w h5) h6) (extractStridedSlice S1x64x128 ![0, 0, 384] (shapeCast S1x64x512 x_w h7) h8)) (k0_pay223 x_o)) = cdqk x_s x_u x_w x_o := rfl
theorem f_dqd1 (x_s : Vec F S1x4x128x128 .f32) (x_o : FVec F S64x512 .f32)  :
    k0_pay238 (k0_pay230 (k0_pay4 x_s) (k0_pay223 x_o)) = cdqd x_s x_o := rfl
theorem f_dkd1 (D : FVec F S4x128x128 .f32) (x_s : Vec F S1x4x128x128 .f32) (x_u : FVec F S64x512 .f32) (x_w : FVec F S64x512 .f32)  {h1 h2 h3 h4 h5 h6 h7 h8} :
    k0_pay237 (k0_pay236 (k0_pay226 (k0_pay224 (k0_pay4 x_s) (k0_pay5 x_u) (extractStridedSlice S1x64x128 ![0, 0, 0] (shapeCast S1x64x512 x_w h1) h2) (extractStridedSlice S1x64x128 ![0, 0, 128] (shapeCast S1x64x512 x_w h3) h4) (extractStridedSlice S1x64x128 ![0, 0, 256] (shapeCast S1x64x512 x_w h5) h6) (extractStridedSlice S1x64x128 ![0, 0, 384] (shapeCast S1x64x512 x_w h7) h8)) (k0_pay225 D))) = cdkd D x_s x_u x_w := rfl
theorem f_ddec1 (D : FVec F S4x128x128 .f32) (x_s : Vec F S1x4x128x128 .f32)  :
    k0_pay227 D (k0_pay4 x_s) = cddec D x_s := rfl
theorem f_D1 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  {h1 h2 h3 h4 h5 h6 h7 h8} :
    k0_pay234 (k0_pay217 (extractStridedSlice S1x64x128 ![0, 0, 0] (shapeCast S1x64x512 x_w h1) h2) (extractStridedSlice S1x64x128 ![0, 0, 128] (shapeCast S1x64x512 x_w h3) h4) (extractStridedSlice S1x64x128 ![0, 0, 256] (shapeCast S1x64x512 x_w h5) h6) (extractStridedSlice S1x64x128 ![0, 0, 384] (shapeCast S1x64x512 x_w h7) h8)) (k0_pay229 D (k0_pay219 x_kd) (k0_pay220 x_qk) (k0_pay223 x_o)) (k0_pay231 D (k0_pay218 x_qd) (k0_pay222 x_dec) (k0_pay223 x_o)) (FloatOps.ofBits (F := F) .f32 0#32) = dnxt D x_w x_qk x_qd x_kd x_dec x_o := rfl
theorem f_du0 (D : FVec F S4x128x128 .f32) (x_qk : FVec F S64x512 .f32) (x_kd : FVec F S64x512 .f32) (x_o : FVec F S64x512 .f32)  :
    k0_pay1 (k0_pay280 (k0_pay265 (k0_pay259 D (k0_pay249 x_kd)) (k0_pay263 (k0_pay250 x_qk)) (k0_pay264 (k0_pay254 x_o) (k0_pay255 x_o) (k0_pay256 x_o)) (constant S4x64x128 .f32 0#32))) (k0_pay281 (k0_pay265 (k0_pay259 D (k0_pay249 x_kd)) (k0_pay263 (k0_pay250 x_qk)) (k0_pay264 (k0_pay254 x_o) (k0_pay255 x_o) (k0_pay256 x_o)) (constant S4x64x128 .f32 0#32))) (k0_pay282 (k0_pay265 (k0_pay259 D (k0_pay249 x_kd)) (k0_pay263 (k0_pay250 x_qk)) (k0_pay264 (k0_pay254 x_o) (k0_pay255 x_o) (k0_pay256 x_o)) (constant S4x64x128 .f32 0#32))) = cdu D x_qk x_kd x_o := rfl
theorem f_dw0 (D : FVec F S4x128x128 .f32) (x_s : Vec F S1x4x128x128 .f32) (x_qk : FVec F S64x512 .f32) (x_kd : FVec F S64x512 .f32) (x_o : FVec F S64x512 .f32)  :
    k0_pay279 (k0_pay278 (k0_pay268 (k0_pay246 x_s) (k0_pay259 D (k0_pay249 x_kd)) (k0_pay263 (k0_pay250 x_qk)) (k0_pay264 (k0_pay254 x_o) (k0_pay255 x_o) (k0_pay256 x_o)) (constant S4x64x128 .f32 0#32))) = cdw D x_s x_qk x_kd x_o := rfl
theorem f_dqk0 (x_s : Vec F S1x4x128x128 .f32) (x_u : FVec F S64x512 .f32) (x_w : FVec F S64x512 .f32) (x_o : FVec F S64x512 .f32)  :
    k0_pay270 (k0_pay262 (k0_pay251 (k0_pay246 x_s) x_u x_w) (k0_pay254 x_o) (k0_pay255 x_o) (k0_pay256 x_o)) = cdqk x_s x_u x_w x_o := rfl
theorem f_dqd0 (x_s : Vec F S1x4x128x128 .f32) (x_o : FVec F S64x512 .f32)  :
    k0_pay277 (k0_pay266 (k0_pay246 x_s) (k0_pay257 (k0_pay254 x_o) (k0_pay255 x_o) (k0_pay256 x_o))) = cdqd x_s x_o := rfl
theorem f_dkd0 (D : FVec F S4x128x128 .f32) (x_s : Vec F S1x4x128x128 .f32) (x_u : FVec F S64x512 .f32) (x_w : FVec F S64x512 .f32)  :
    k0_pay276 (k0_pay271 (k0_pay258 D (k0_pay251 (k0_pay246 x_s) x_u x_w))) (k0_pay272 (k0_pay258 D (k0_pay251 (k0_pay246 x_s) x_u x_w))) (k0_pay273 (k0_pay258 D (k0_pay251 (k0_pay246 x_s) x_u x_w))) (k0_pay274 (k0_pay258 D (k0_pay251 (k0_pay246 x_s) x_u x_w))) k0_pay275 = cdkd D x_s x_u x_w := rfl
theorem f_ddec0 (D : FVec F S4x128x128 .f32) (x_s : Vec F S1x4x128x128 .f32)  :
    k0_pay261 D (k0_pay246 x_s) = cddec D x_s := rfl
theorem f_D0 (D : FVec F S4x128x128 .f32) (x_w : FVec F S64x512 .f32) (x_qk : FVec F S64x512 .f32) (x_qd : FVec F S64x512 .f32) (x_kd : FVec F S64x512 .f32) (x_dec : Vec F S8x512 .f32) (x_o : FVec F S64x512 .f32)  :
    k0_pay269 (k0_pay247 x_w) (k0_pay248 x_qd) (k0_pay257 (k0_pay254 x_o) (k0_pay255 x_o) (k0_pay256 x_o)) (k0_pay259 D (k0_pay249 x_kd)) (k0_pay260 D (k0_pay252 x_dec)) (k0_pay263 (k0_pay250 x_qk)) (k0_pay264 (k0_pay254 x_o) (k0_pay255 x_o) (k0_pay256 x_o)) (constant S4x64x128 .f32 0#32) = dnxt D x_w x_qk x_qd x_kd x_dec x_o := rfl
theorem pay2_eq (S : Vec F S4x128x128 .f32) : k0_pay2 S = S := shapeCast_self _ _
theorem pay13_eq (S : Vec F S4x128x128 .f32) : k0_pay13 S = S := shapeCast_self _ _

set_option maxHeartbeats 1000000 in
theorem du_B (c : Dev nD) (t : Fin cfg0.N) (h0 : ¬t.val % 16 = 0) :
    (outsAt0 m c t.val t.isLt).1 = View.canon (duPieces (outsAt0 m c (t.val - 1) (Nat.lt_of_le_of_lt (Nat.sub_le _ _) t.isLt)).2.2.2.2.2.2 (iblk m c 0 t) (iblk m c 1 t) (iblk m c 2 t) (iblk m c 3 t) (iblk m c 4 t) (iblk m c 5 t) (iblk m c 6 t) (iblk m c 7 t)) := by
  rw [outsAt0_B m c t h0]
  frame_open
  simp only [cat4, sc4, f_D7, f_D6, f_D5, f_D4, f_D3, f_D2, f_D1, f_D0, f_du7, f_du6, f_du5, f_du4, f_du3, f_du2, f_du1, f_du0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dw_B (c : Dev nD) (t : Fin cfg0.N) (h0 : ¬t.val % 16 = 0) :
    (outsAt0 m c t.val t.isLt).2.1 = View.canon (dwPieces (outsAt0 m c (t.val - 1) (Nat.lt_of_le_of_lt (Nat.sub_le _ _) t.isLt)).2.2.2.2.2.2 (iblk m c 0 t) (iblk m c 1 t) (iblk m c 2 t) (iblk m c 3 t) (iblk m c 4 t) (iblk m c 5 t) (iblk m c 6 t) (iblk m c 7 t)) := by
  rw [outsAt0_B m c t h0]
  frame_open
  simp only [cat4, sc4, f_D7, f_D6, f_D5, f_D4, f_D3, f_D2, f_D1, f_D0, f_dw7, f_dw6, f_dw5, f_dw4, f_dw3, f_dw2, f_dw1, f_dw0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dqk_B (c : Dev nD) (t : Fin cfg0.N) (h0 : ¬t.val % 16 = 0) :
    (outsAt0 m c t.val t.isLt).2.2.1 = View.canon (dqkPieces (outsAt0 m c (t.val - 1) (Nat.lt_of_le_of_lt (Nat.sub_le _ _) t.isLt)).2.2.2.2.2.2 (iblk m c 0 t) (iblk m c 1 t) (iblk m c 2 t) (iblk m c 3 t) (iblk m c 4 t) (iblk m c 5 t) (iblk m c 6 t) (iblk m c 7 t)) := by
  rw [outsAt0_B m c t h0]
  frame_open
  simp only [cat4, sc4, f_D7, f_D6, f_D5, f_D4, f_D3, f_D2, f_D1, f_D0, f_dqk7, f_dqk6, f_dqk5, f_dqk4, f_dqk3, f_dqk2, f_dqk1, f_dqk0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dqd_B (c : Dev nD) (t : Fin cfg0.N) (h0 : ¬t.val % 16 = 0) :
    (outsAt0 m c t.val t.isLt).2.2.2.1 = View.canon (dqdPieces (outsAt0 m c (t.val - 1) (Nat.lt_of_le_of_lt (Nat.sub_le _ _) t.isLt)).2.2.2.2.2.2 (iblk m c 0 t) (iblk m c 1 t) (iblk m c 2 t) (iblk m c 3 t) (iblk m c 4 t) (iblk m c 5 t) (iblk m c 6 t) (iblk m c 7 t)) := by
  rw [outsAt0_B m c t h0]
  frame_open
  simp only [cat4, sc4, f_D7, f_D6, f_D5, f_D4, f_D3, f_D2, f_D1, f_D0, f_dqd7, f_dqd6, f_dqd5, f_dqd4, f_dqd3, f_dqd2, f_dqd1, f_dqd0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dkd_B (c : Dev nD) (t : Fin cfg0.N) (h0 : ¬t.val % 16 = 0) :
    (outsAt0 m c t.val t.isLt).2.2.2.2.1 = View.canon (dkdPieces (outsAt0 m c (t.val - 1) (Nat.lt_of_le_of_lt (Nat.sub_le _ _) t.isLt)).2.2.2.2.2.2 (iblk m c 0 t) (iblk m c 1 t) (iblk m c 2 t) (iblk m c 3 t) (iblk m c 4 t) (iblk m c 5 t) (iblk m c 6 t) (iblk m c 7 t)) := by
  rw [outsAt0_B m c t h0]
  frame_open
  simp only [cat4, sc4, f_D7, f_D6, f_D5, f_D4, f_D3, f_D2, f_D1, f_D0, f_dkd7, f_dkd6, f_dkd5, f_dkd4, f_dkd3, f_dkd2, f_dkd1, f_dkd0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem ddec_B (c : Dev nD) (t : Fin cfg0.N) (h0 : ¬t.val % 16 = 0) :
    (outsAt0 m c t.val t.isLt).2.2.2.2.2.1 = View.canon (ddecPieces (outsAt0 m c (t.val - 1) (Nat.lt_of_le_of_lt (Nat.sub_le _ _) t.isLt)).2.2.2.2.2.2 (iblk m c 0 t) (iblk m c 1 t) (iblk m c 2 t) (iblk m c 3 t) (iblk m c 4 t) (iblk m c 5 t) (iblk m c 6 t) (iblk m c 7 t)) := by
  rw [outsAt0_B m c t h0]
  frame_open
  simp only [cat4, sc4, f_D7, f_D6, f_D5, f_D4, f_D3, f_D2, f_D1, f_D0, f_ddec7, f_ddec6, f_ddec5, f_ddec4, f_ddec3, f_ddec2, f_ddec1, f_ddec0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem D_B (c : Dev nD) (t : Fin cfg0.N) (h0 : ¬t.val % 16 = 0) :
    (outsAt0 m c t.val t.isLt).2.2.2.2.2.2 = dK (outsAt0 m c (t.val - 1) (Nat.lt_of_le_of_lt (Nat.sub_le _ _) t.isLt)).2.2.2.2.2.2 (iblk m c 1 t) (iblk m c 2 t) (iblk m c 3 t) (iblk m c 4 t) (iblk m c 5 t) (iblk m c 7 t) 8 (by omega) := by
  rw [outsAt0_B m c t h0]
  frame_open
  simp only [cat4, sc4, f_D7, f_D6, f_D5, f_D4, f_D3, f_D2, f_D1, f_D0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem du_A (c : Dev nD) (t : Fin cfg0.N) (h0 : t.val % 16 = 0) :
    (outsAt0 m c t.val t.isLt).1 = View.canon (duPieces k0_pay3 (iblk m c 0 t) (iblk m c 1 t) (iblk m c 2 t) (iblk m c 3 t) (iblk m c 4 t) (iblk m c 5 t) (iblk m c 6 t) (iblk m c 7 t)) := by
  rw [outsAt0_A m c t h0]
  frame_open
  simp only [cat4, sc4, f_D7, f_D6, f_D5, f_D4, f_D3, f_D2, f_D1, f_D0, f_du7, f_du6, f_du5, f_du4, f_du3, f_du2, f_du1, f_du0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dw_A (c : Dev nD) (t : Fin cfg0.N) (h0 : t.val % 16 = 0) :
    (outsAt0 m c t.val t.isLt).2.1 = View.canon (dwPieces k0_pay3 (iblk m c 0 t) (iblk m c 1 t) (iblk m c 2 t) (iblk m c 3 t) (iblk m c 4 t) (iblk m c 5 t) (iblk m c 6 t) (iblk m c 7 t)) := by
  rw [outsAt0_A m c t h0]
  frame_open
  simp only [cat4, sc4, f_D7, f_D6, f_D5, f_D4, f_D3, f_D2, f_D1, f_D0, f_dw7, f_dw6, f_dw5, f_dw4, f_dw3, f_dw2, f_dw1, f_dw0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dqk_A (c : Dev nD) (t : Fin cfg0.N) (h0 : t.val % 16 = 0) :
    (outsAt0 m c t.val t.isLt).2.2.1 = View.canon (dqkPieces k0_pay3 (iblk m c 0 t) (iblk m c 1 t) (iblk m c 2 t) (iblk m c 3 t) (iblk m c 4 t) (iblk m c 5 t) (iblk m c 6 t) (iblk m c 7 t)) := by
  rw [outsAt0_A m c t h0]
  frame_open
  simp only [cat4, sc4, f_D7, f_D6, f_D5, f_D4, f_D3, f_D2, f_D1, f_D0, f_dqk7, f_dqk6, f_dqk5, f_dqk4, f_dqk3, f_dqk2, f_dqk1, f_dqk0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dqd_A (c : Dev nD) (t : Fin cfg0.N) (h0 : t.val % 16 = 0) :
    (outsAt0 m c t.val t.isLt).2.2.2.1 = View.canon (dqdPieces k0_pay3 (iblk m c 0 t) (iblk m c 1 t) (iblk m c 2 t) (iblk m c 3 t) (iblk m c 4 t) (iblk m c 5 t) (iblk m c 6 t) (iblk m c 7 t)) := by
  rw [outsAt0_A m c t h0]
  frame_open
  simp only [cat4, sc4, f_D7, f_D6, f_D5, f_D4, f_D3, f_D2, f_D1, f_D0, f_dqd7, f_dqd6, f_dqd5, f_dqd4, f_dqd3, f_dqd2, f_dqd1, f_dqd0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem dkd_A (c : Dev nD) (t : Fin cfg0.N) (h0 : t.val % 16 = 0) :
    (outsAt0 m c t.val t.isLt).2.2.2.2.1 = View.canon (dkdPieces k0_pay3 (iblk m c 0 t) (iblk m c 1 t) (iblk m c 2 t) (iblk m c 3 t) (iblk m c 4 t) (iblk m c 5 t) (iblk m c 6 t) (iblk m c 7 t)) := by
  rw [outsAt0_A m c t h0]
  frame_open
  simp only [cat4, sc4, f_D7, f_D6, f_D5, f_D4, f_D3, f_D2, f_D1, f_D0, f_dkd7, f_dkd6, f_dkd5, f_dkd4, f_dkd3, f_dkd2, f_dkd1, f_dkd0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem ddec_A (c : Dev nD) (t : Fin cfg0.N) (h0 : t.val % 16 = 0) :
    (outsAt0 m c t.val t.isLt).2.2.2.2.2.1 = View.canon (ddecPieces k0_pay3 (iblk m c 0 t) (iblk m c 1 t) (iblk m c 2 t) (iblk m c 3 t) (iblk m c 4 t) (iblk m c 5 t) (iblk m c 6 t) (iblk m c 7 t)) := by
  rw [outsAt0_A m c t h0]
  frame_open
  simp only [cat4, sc4, f_D7, f_D6, f_D5, f_D4, f_D3, f_D2, f_D1, f_D0, f_ddec7, f_ddec6, f_ddec5, f_ddec4, f_ddec3, f_ddec2, f_ddec1, f_ddec0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl

set_option maxHeartbeats 1000000 in
theorem D_A (c : Dev nD) (t : Fin cfg0.N) (h0 : t.val % 16 = 0) :
    (outsAt0 m c t.val t.isLt).2.2.2.2.2.2 = dK k0_pay3 (iblk m c 1 t) (iblk m c 2 t) (iblk m c 3 t) (iblk m c 4 t) (iblk m c 5 t) (iblk m c 7 t) 8 (by omega) := by
  rw [outsAt0_A m c t h0]
  frame_open
  simp only [cat4, sc4, f_D7, f_D6, f_D5, f_D4, f_D3, f_D2, f_D1, f_D0]
  simp (disch := decide) only [View.read_writes_junk_eq_canon, View.canon_cons_unit_lit', View.readAt_eq_ld, View.ld_unit_lit', View.readCov_unit_lit', View.readCov_cons_unit_lit', Memref.IsWhole.read_unread, pay2_eq, pay13_eq, read_unread_whole]
  rfl
end Cert.KernelIdeal.Value
end
-- ==== Proof.KernelRead.lean ====
module

public import proofs.«01_k».proof.Proof.KernelChunks
public import proofs.«01_k».proof.Proof.Maths

/-!
# The backward kernel's functions of one chunk, read at an index over the extended reals
-/

@[expose] public section

set_option maxRecDepth 16384

noncomputable section

namespace Cert.KernelIdeal.Value
open Cert.KernelIdeal Cert.KernelIdeal.Gen Idealize.ShloMosaic
open Cert

theorem pay143_apply (x : FVec Ideal S64x512 .f32) (h : Fin 4) (t : Fin 64) (d : Fin 128) :
    k0_pay143 x (ix3 h t d) = x (ix2 t (Maths.col h d)) := by
  fin_cases h <;> pointwise [k0_pay143] <;> exact congrArg (fun j => x (ix2 t j)) (Fin.ext (by simp))

theorem pay148_apply (x : FVec Ideal S64x512 .f32) (h : Fin 4) (t : Fin 64) (d : Fin 128) :
    k0_pay148 x (ix3 h t d) = x (ix2 t (Maths.col h d)) := by
  fin_cases h <;> pointwise [k0_pay148] <;> exact congrArg (fun j => x (ix2 t j)) (Fin.ext (by simp))

theorem pay146_apply (x : FVec Ideal S64x512 .f32) (h : Fin 4) (t s : Fin 64) :
    k0_pay146 x (ix3 h t s) = x (ix2 t (Maths.col h (Maths.lo s))) := by
  fin_cases h <;> pointwise [k0_pay146] <;> exact congrArg (fun j => x (ix2 t j)) (Fin.ext (by simp))

/-- Heads side by side. -/
theorem pay170_apply (x : FVec Ideal S4x64x128 .f32) (h : Fin 4) (t : Fin 64) (d : Fin 128) :
    k0_pay170 x (ix2 t (Maths.col h d)) = x (ix3 h t d) := by
  have hd := d.isLt
  fin_cases h <;> pointwise [k0_pay170] <;> split_ifs <;> first | omega | simp

theorem pay174_apply (x : FVec Ideal S4x64x128 .f32) (h : Fin 4) (t : Fin 64) (d : Fin 128) :
    k0_pay174 x (ix2 t (Maths.col h d)) = x (ix3 h t d) := pay170_apply x h t d
theorem pay173_apply (x : FVec Ideal S4x64x128 .f32) (h : Fin 4) (t : Fin 64) (d : Fin 128) :
    k0_pay173 x (ix2 t (Maths.col h d)) = x (ix3 h t d) := pay170_apply x h t d
theorem pay172_apply (x : FVec Ideal S4x64x128 .f32) (h : Fin 4) (t : Fin 64) (d : Fin 128) :
    k0_pay172 (k0_pay171 x) (ix2 t (Maths.col h d)) = x (ix3 h t d) := pay170_apply x h t d

theorem pay151_apply (D : FVec Ideal S4x128x128 .f32) (x : FVec Ideal S8x512 .f32) (h : Fin 4) (d e : Fin 128) :
    k0_pay151 D x (ix3 h d e) = D (ix3 h d e) * x (ix2 0 (Maths.col h 0)) := by
  fin_cases h <;> pointwise [k0_pay151] <;> rfl

theorem pay142_apply (x : FVec Ideal S1x4x128x128 .f32) (h : Fin 4) (d e : Fin 128) :
    k0_pay142 x (ix3 h d e) = x (ix4 0 h d e) := by
  pointwise [k0_pay142]

/-- The state a chunk met, as saved. -/
abbrev st1 (x : FVec Ideal S1x4x128x128 .f32) : Maths.St := fun h d e => x (ix4 0 h d e)

theorem vnew_apply (s : FVec Ideal S1x4x128x128 .f32) (u w : FVec Ideal S64x512 .f32) (h : Fin 4) (t : Fin 64) (d : Fin 128) :
    vnew (F := Ideal) s u w (ix3 h t d) = Maths.vnew (st1 s) (Maths.rows u) (Maths.rows w) h t d := by
  have e : vnew (F := Ideal) s u w = subf (k0_pay143 u) (matmul dot_S4x64x128_S4x128x128_S4x64x128_2_1_1_2_0_0 none
    (truncf .bf16 (k0_pay143 w) bitsLt_bf16_f32) (truncf .bf16 (k0_pay142 s) bitsLt_bf16_f32)
    (constant S4x64x128 .f32 0x00000000#32)) := rfl
  rw [e]
  pointwise [Maths.vnew, pay143_apply, pay142_apply]

theorem dvnew_apply (D : FVec Ideal S4x128x128 .f32) (qk kd o : FVec Ideal S64x512 .f32) (h : Fin 4) (t : Fin 64) (d : Fin 128) :
    dvnew D qk kd o (ix3 h t d) = Maths.du (Maths.st D) (Maths.tri qk) (Maths.rows kd) (Maths.rows o) h t d := by
  have e : dvnew D qk kd o = k0_pay159 (k0_pay146 qk) (k0_pay148 o) (k0_pay150 D (k0_pay143 kd)) := rfl
  rw [e]
  pointwise [k0_pay159, k0_pay150, Maths.du, pay143_apply, pay148_apply, pay146_apply]

theorem cdu_apply (D : FVec Ideal S4x128x128 .f32) (qk kd o : FVec Ideal S64x512 .f32) (h : Fin 4) (t : Fin 64) (d : Fin 128) :
    cdu D qk kd o (ix2 t (Maths.col h d)) = Maths.du (Maths.st D) (Maths.tri qk) (Maths.rows kd) (Maths.rows o) h t d := by
  unfold cdu; rw [pay174_apply, dvnew_apply]

theorem cdw_apply (D : FVec Ideal S4x128x128 .f32) (s : FVec Ideal S1x4x128x128 .f32) (qk kd o : FVec Ideal S64x512 .f32)
    (h : Fin 4) (t : Fin 64) (d : Fin 128) :
    cdw D s qk kd o (ix2 t (Maths.col h d))
      = Maths.dw (Maths.st D) (st1 s) (Maths.tri qk) (Maths.rows kd) (Maths.rows o) h t d := by
  unfold cdw; rw [pay173_apply]
  have e : hdw D s qk kd o = matmul dot_S4x64x128_S4x128x128_S4x64x128_2_2_1_1_0_0 none
    (truncf .bf16 (subf (broadcast S4x64x128 (Scalar.ofBits .f32 0x00000000#32)) (dvnew D qk kd o)) bitsLt_bf16_f32)
    (truncf .bf16 (k0_pay142 s) bitsLt_bf16_f32) (constant S4x64x128 .f32 0x00000000#32) := rfl
  rw [e]
  pointwise [Maths.dw, dvnew_apply, pay142_apply]
  simp only [sub_eq_add_neg, zero_add]

theorem cdqd_apply (s : FVec Ideal S1x4x128x128 .f32) (o : FVec Ideal S64x512 .f32) (h : Fin 4) (t : Fin 64) (d : Fin 128) :
    cdqd (F := Ideal) s o (ix2 t (Maths.col h d)) = Maths.dqd (st1 s) (Maths.rows o) h t d := by
  unfold cdqd hdqd; rw [pay172_apply]
  pointwise [k0_pay160, Maths.dqd, pay148_apply, pay142_apply]

theorem cdkd_apply (D : FVec Ideal S4x128x128 .f32) (s : FVec Ideal S1x4x128x128 .f32) (u w : FVec Ideal S64x512 .f32)
    (h : Fin 4) (t : Fin 64) (d : Fin 128) :
    cdkd D s u w (ix2 t (Maths.col h d)) = Maths.dkd (Maths.st D) (st1 s) (Maths.rows u) (Maths.rows w) h t d := by
  unfold cdkd hdkd; rw [pay170_apply]
  pointwise [k0_pay149, Maths.dkd, vnew_apply]

theorem pay158_apply (v o : FVec Ideal S4x64x128 .f32) (h : Fin 4) (t s : Fin 64) :
    k0_pay158 v o (ix3 h t s) = ∑ e : Fin 128, o (ix3 h t e) * v (ix3 h s e) := by
  pointwise [k0_pay158]

/-- Heads of 64 columns side by side, each in the front half of its 128 columns. -/
theorem pay169_apply (v o : FVec Ideal S4x64x128 .f32) (h : Fin 4) (t : Fin 64) (d : Fin 128) :
    k0_pay169 (k0_pay164 v o) (k0_pay165 v o) (k0_pay166 v o) (k0_pay167 v o) k0_pay168 (ix2 t (Maths.col h d))
      = if hd : d.val < 64 then k0_pay158 v o (ix3 h t ⟨d.val, hd⟩) else 0 := by
  have hd := d.isLt
  fin_cases h <;>
    pointwise [k0_pay169, k0_pay168, k0_pay167, k0_pay166, k0_pay165, k0_pay164] <;>
    (repeat' split) <;> first | omega | (simp; done)

theorem cdqk_apply (s : FVec Ideal S1x4x128x128 .f32) (u w o : FVec Ideal S64x512 .f32) (h : Fin 4) (t : Fin 64) (d : Fin 128) :
    cdqk (F := Ideal) s u w o (ix2 t (Maths.col h d))
      = if hd : d.val < 64 then Maths.dqk (st1 s) (Maths.rows u) (Maths.rows w) (Maths.rows o) h t ⟨d.val, hd⟩ else 0 := by
  unfold cdqk
  rw [pay169_apply]
  simp only [pay158_apply, vnew_apply, pay148_apply, Maths.dqk]

theorem cddec_apply (D : FVec Ideal S4x128x128 .f32) (s : FVec Ideal S1x4x128x128 .f32) (r : Fin 8) (h : Fin 4) (d : Fin 128) :
    cddec D s (ix2 r (Maths.col h d)) = if r.val = 0 ∧ d.val = 0 then Maths.dc (Maths.st D) (st1 s) h else 0 := by
  have hd := d.isLt
  unfold cddec
  fin_cases h <;>
    pointwise [k0_pay157, k0_pay156, k0_pay155, k0_pay154, k0_pay153, k0_pay152, pay142_apply, Maths.dc] <;>
    split_ifs <;> first | omega | simp

theorem dnxt_apply (D : FVec Ideal S4x128x128 .f32) (w qk qd kd : FVec Ideal S64x512 .f32) (dec : FVec Ideal S8x512 .f32)
    (o : FVec Ideal S64x512 .f32) (h : Fin 4) (d e : Fin 128) :
    dnxt D w qk qd kd dec o (ix3 h d e) = Maths.dS (Maths.st D) (Maths.rows w) (Maths.tri qk) (Maths.rows qd) (Maths.rows kd)
      (Maths.dec dec) (Maths.rows o) h d e := by
  have e' : dnxt D w qk qd kd dec o = addf (addf (k0_pay151 D dec)
      (matmul dot_S4x64x128_S4x64x128_S4x128x128_1_1_2_2_0_0 none (truncf .bf16 (k0_pay143 qd) bitsLt_bf16_f32)
        (truncf .bf16 (k0_pay148 o) bitsLt_bf16_f32) (constant S4x128x128 .f32 0x00000000#32)))
      (matmul dot_S4x64x128_S4x64x128_S4x128x128_1_1_2_2_0_0 none (truncf .bf16 (k0_pay143 w) bitsLt_bf16_f32)
        (truncf .bf16 (subf (broadcast S4x64x128 (Scalar.ofBits .f32 0x00000000#32)) (dvnew D qk kd o)) bitsLt_bf16_f32)
        (constant S4x128x128 .f32 0x00000000#32)) := rfl
  rw [e']
  pointwise [Maths.dS, pay143_apply, pay148_apply, dvnew_apply, pay151_apply]
  simp only [sub_eq_add_neg, zero_add]

end Cert.KernelIdeal.Value
end
-- ==== Proof.KernelValue.lean ====
module

public import proofs.«01_k».proof.Proof.KernelRead
public import proofs.«01_k».proof.Proof.Gen.KernelIdeal.Value
public import Idealize.ShloMosaic.Lib.Pipeline.ValueKit.Point

/-!
# The backward kernel's results over the extended reals

Its six arrays are the cotangents of the recurrence's operands. The grid runs from the last block to the first.
-/

@[expose] public section

set_option maxRecDepth 16384

noncomputable section

namespace Cert.KernelIdeal.Value
open Cert.KernelIdeal Cert.KernelIdeal.Gen Idealize.ShloMosaic Idealize.ShloMosaic.TcCoe Idealize.SL.Sem
open Cert
open Idealize.ShloMosaic.Pipeline (Dat)

variable (m : (ℓ : Loc nD τ sig) → Buf (Elt Ideal) ℓ) (c : Dev nD)

theorem lt16 (t : Fin cfg0.N) : t.val < 16 := t.isLt.trans_le (by decide)

theorem index_eq (t : Fin cfg0.N) :
    win0_0.index t = ![15 - t.val, 0]
      ∧ win0_1.index t = ![15 - t.val, 0]
      ∧ win0_2.index t = ![15 - t.val, 0]
      ∧ win0_3.index t = ![15 - t.val, 0]
      ∧ win0_4.index t = ![15 - t.val, 0]
      ∧ win0_5.index t = ![15 - t.val, 0]
      ∧ win0_6.index t = ![15 - t.val, 0, 0, 0]
      ∧ win0_7.index t = ![15 - t.val, 0]
      ∧ win0_8.index t = ![15 - t.val, 0]
      ∧ win0_9.index t = ![15 - t.val, 0]
      ∧ win0_10.index t = ![15 - t.val, 0]
      ∧ win0_11.index t = ![15 - t.val, 0]
      ∧ win0_12.index t = ![15 - t.val, 0]
      ∧ win0_13.index t = ![15 - t.val, 0] := by
  revert t; decide +kernel

/-! ## A chunk's rows of a block are its rows of the array -/

theorem rows0 (t : Fin cfg0.N) (k : ℕ) (hk : k < 8) :
    Maths.rows (r64 (F := Ideal) (iblk m c 0 t) k hk) = Maths.rowsAt (m ((c : Thread nD τ).loc main_arg0)) (8 * (15 - t.val) + k) := by
  funext h t' d
  have := lt16 t
  show r64 (F := Ideal) (iblk m c 0 t) k hk (ix2 t' (Maths.col h d)) = _
  rw [r64, View.ld_apply]
  blk_ext [iblk, V, (index_eq t).1]
  · show (15 - t.val) * 512 + (64 * k + 1 * t'.val) = (64 * (8 * (15 - t.val) + k) + t'.val) % 8192
    omega
  · show 0 + 1 * (128 * h.val + d.val) = 128 * h.val + d.val
    omega
theorem rows1 (t : Fin cfg0.N) (k : ℕ) (hk : k < 8) :
    Maths.rows (r64 (F := Ideal) (iblk m c 1 t) k hk) = Maths.rowsAt (m ((c : Thread nD τ).loc main_arg1)) (8 * (15 - t.val) + k) := by
  funext h t' d
  have := lt16 t
  show r64 (F := Ideal) (iblk m c 1 t) k hk (ix2 t' (Maths.col h d)) = _
  rw [r64, View.ld_apply]
  blk_ext [iblk, V, (index_eq t).2.1]
  · show (15 - t.val) * 512 + (64 * k + 1 * t'.val) = (64 * (8 * (15 - t.val) + k) + t'.val) % 8192
    omega
  · show 0 + 1 * (128 * h.val + d.val) = 128 * h.val + d.val
    omega
theorem rows3 (t : Fin cfg0.N) (k : ℕ) (hk : k < 8) :
    Maths.rows (r64 (F := Ideal) (iblk m c 3 t) k hk) = Maths.rowsAt (m ((c : Thread nD τ).loc main_arg3)) (8 * (15 - t.val) + k) := by
  funext h t' d
  have := lt16 t
  show r64 (F := Ideal) (iblk m c 3 t) k hk (ix2 t' (Maths.col h d)) = _
  rw [r64, View.ld_apply]
  blk_ext [iblk, V, (index_eq t).2.2.2.1]
  · show (15 - t.val) * 512 + (64 * k + 1 * t'.val) = (64 * (8 * (15 - t.val) + k) + t'.val) % 8192
    omega
  · show 0 + 1 * (128 * h.val + d.val) = 128 * h.val + d.val
    omega
theorem rows4 (t : Fin cfg0.N) (k : ℕ) (hk : k < 8) :
    Maths.rows (r64 (F := Ideal) (iblk m c 4 t) k hk) = Maths.rowsAt (m ((c : Thread nD τ).loc main_arg4)) (8 * (15 - t.val) + k) := by
  funext h t' d
  have := lt16 t
  show r64 (F := Ideal) (iblk m c 4 t) k hk (ix2 t' (Maths.col h d)) = _
  rw [r64, View.ld_apply]
  blk_ext [iblk, V, (index_eq t).2.2.2.2.1]
  · show (15 - t.val) * 512 + (64 * k + 1 * t'.val) = (64 * (8 * (15 - t.val) + k) + t'.val) % 8192
    omega
  · show 0 + 1 * (128 * h.val + d.val) = 128 * h.val + d.val
    omega
theorem rows7 (t : Fin cfg0.N) (k : ℕ) (hk : k < 8) :
    Maths.rows (r64 (F := Ideal) (iblk m c 7 t) k hk) = Maths.rowsAt (m ((c : Thread nD τ).loc main_arg7)) (8 * (15 - t.val) + k) := by
  funext h t' d
  have := lt16 t
  show r64 (F := Ideal) (iblk m c 7 t) k hk (ix2 t' (Maths.col h d)) = _
  rw [r64, View.ld_apply]
  blk_ext [iblk, V, (index_eq t).2.2.2.2.2.2.2.1]
  · show (15 - t.val) * 512 + (64 * k + 1 * t'.val) = (64 * (8 * (15 - t.val) + k) + t'.val) % 8192
    omega
  · show 0 + 1 * (128 * h.val + d.val) = 128 * h.val + d.val
    omega
theorem tri2 (t : Fin cfg0.N) (k : ℕ) (hk : k < 8) :
    Maths.tri (r64 (F := Ideal) (iblk m c 2 t) k hk) = Maths.triAt (m ((c : Thread nD τ).loc main_arg2)) (8 * (15 - t.val) + k) := by
  funext h t' d
  have := lt16 t
  show r64 (F := Ideal) (iblk m c 2 t) k hk (ix2 t' (Maths.col h (Maths.lo d))) = _
  rw [r64, View.ld_apply]
  blk_ext [iblk, V, (index_eq t).2.2.1]
  · show (15 - t.val) * 512 + (64 * k + 1 * t'.val) = (64 * (8 * (15 - t.val) + k) + t'.val) % 8192
    omega
  · show 0 + 1 * (128 * h.val + d.val) = 128 * h.val + d.val
    omega
theorem dec5 (t : Fin cfg0.N) (k : ℕ) (hk : k < 8) :
    Maths.dec (r8 (F := Ideal) (iblk m c 5 t) k hk) = Maths.decAt (m ((c : Thread nD τ).loc main_arg5)) (8 * (15 - t.val) + k) := by
  funext h
  have := lt16 t
  show r8 (F := Ideal) (iblk m c 5 t) k hk (ix2 0 (Maths.col h 0)) = _
  rw [r8, View.ld_apply]
  blk_ext [iblk, V, (index_eq t).2.2.2.2.2.1]
  · show (15 - t.val) * 64 + (8 * k + 1 * 0) = (8 * (8 * (15 - t.val) + k)) % 1024
    omega
  · show 0 + 1 * (128 * h.val + 0) = 128 * h.val + 0
    omega
theorem st6 (t : Fin cfg0.N) (k : ℕ) (hk : k < 8) :
    st1 (r1 (F := Ideal) (iblk m c 6 t) k hk) = Maths.stAt (m ((c : Thread nD τ).loc main_arg6)) (8 * (15 - t.val) + k) := by
  funext h d e
  have := lt16 t
  show r1 (F := Ideal) (iblk m c 6 t) k hk (ix4 0 h d e) = _
  rw [r1, View.ld_apply]
  blk_ext [iblk, V, (index_eq t).2.2.2.2.2.2.1]
  · show (15 - t.val) * 8 + (k + 1 * 0) = (8 * (15 - t.val) + k) % 128
    omega
  · show 0 + 1 * h.val = h.val
    omega
  · show 0 + 1 * d.val = d.val
    omega
  · show 0 + 1 * e.val = e.val
    omega

/-! ## The carried cotangent -/

/-- The cotangent carried once the last `j` chunks are done, of the operands in memory. -/
abbrev ctM (j : ℕ) : Maths.St := Maths.ctAt (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg7)) j

theorem dK_eq (t : Fin cfg0.N) (D : Vec Ideal S4x128x128 .f32) (hD : Maths.st D = ctM m c (8 * t.val)) :
    ∀ (j : ℕ) (hj : j ≤ 8), Maths.st (dK D (iblk m c 1 t) (iblk m c 2 t) (iblk m c 3 t) (iblk m c 4 t) (iblk m c 5 t) (iblk m c 7 t) j hj)
      = ctM m c (8 * t.val + j)
  | 0, _ => hD
  | j + 1, hj => by
    have h16 := lt16 t
    funext h d e
    show dnxt (F := Ideal) _ _ _ _ _ _ _ (ix3 h d e) = _
    rw [dnxt_apply, dK_eq t D hD j (by omega), rows1 m c, tri2 m c, rows3 m c, rows4 m c, dec5 m c, rows7 m c,
      show 8 * (15 - t.val) + (7 - j) = 127 - (8 * t.val + j) by omega]
    rfl

theorem zero_eq : Maths.st (k0_pay3 (F := Ideal)) = fun _ _ _ => 0 := by
  funext h d e
  show k0_pay3 (F := Ideal) (ix3 h d e) = _
  pointwise [k0_pay3]

/-- The cotangent a point meets. -/
def met (t : Fin cfg0.N) : Vec Ideal S4x128x128 .f32 :=
  if t.val % 16 = 0 then (k0_pay3 : FVec Ideal S4x128x128 .f32) else (outsAt0 m c (t.val - 1) (Nat.lt_of_le_of_lt (Nat.sub_le _ _) t.isLt)).2.2.2.2.2.2

theorem D_met (t : Fin cfg0.N) : (outsAt0 m c t.val t.isLt).2.2.2.2.2.2
    = dK (met m c t) (iblk m c 1 t) (iblk m c 2 t) (iblk m c 3 t) (iblk m c 4 t) (iblk m c 5 t) (iblk m c 7 t) 8 (by omega) := by
  by_cases h : t.val % 16 = 0
  · rw [met, if_pos h]; exact D_A m c t h
  · rw [met, if_neg h]; exact D_B m c t h

theorem met_eq : ∀ (n : ℕ) (hn : n < cfg0.N), Maths.st (met m c ⟨n, hn⟩) = ctM m c (8 * n)
  | 0, hn => zero_eq
  | n + 1, hn => by
    have h16 := lt16 ⟨n + 1, hn⟩
    have h : ¬ (n + 1) % 16 = 0 := by simp only at h16; omega
    rw [met, if_neg h]
    have e := D_met m c ⟨n, by omega⟩
    simp only [Nat.add_sub_cancel] at e ⊢
    rw [e, dK_eq m c ⟨n, by omega⟩ _ (met_eq n (by omega)) 8 (by omega)]
    rfl

/-! ## The blocks a point writes back -/

theorem du_met (t : Fin cfg0.N) : (outsAt0 m c t.val t.isLt).1
    = View.canon (duPieces (met m c t) (iblk m c 0 t) (iblk m c 1 t) (iblk m c 2 t) (iblk m c 3 t) (iblk m c 4 t) (iblk m c 5 t) (iblk m c 6 t) (iblk m c 7 t)) := by
  by_cases h : t.val % 16 = 0
  · rw [met, if_pos h]; exact du_A m c t h
  · rw [met, if_neg h]; exact du_B m c t h
/-- Chunk `k`'s rows of the block. -/
def duK (D : Vec Ideal S4x128x128 .f32) (u w qk qd kd : Vec Ideal S512x512 .f32) (dec : Vec Ideal S64x512 .f32) (s : Vec Ideal S8x4x128x128 .f32) (o : Vec Ideal S512x512 .f32) (k : ℕ) (hk : k < 8) :
    Vec Ideal S64x512 .f32 := cdu (dK D w qk qd kd dec o (7 - k) (by omega)) (r64 qk k hk) (r64 kd k hk) (r64 o k hk)
theorem duK_congr (D : Vec Ideal S4x128x128 .f32) (u w qk qd kd : Vec Ideal S512x512 .f32) (dec : Vec Ideal S64x512 .f32) (s : Vec Ideal S8x4x128x128 .f32) (o : Vec Ideal S512x512 .f32)
    {k k' : ℕ} (hk : k < 8) (hk' : k' < 8) (e : k = k') (x y : S64x512.Idx) (ex : x = y) :
    duK D u w qk qd kd dec s o k hk x = duK D u w qk qd kd dec s o k' hk' y := by
  subst e ex; rfl
theorem duPieces_apply (D : Vec Ideal S4x128x128 .f32) (u w qk qd kd : Vec Ideal S512x512 .f32) (dec : Vec Ideal S64x512 .f32) (s : Vec Ideal S8x4x128x128 .f32) (o : Vec Ideal S512x512 .f32)
    (k : ℕ) (hk : k < 8) (t : Fin 64) (j : Fin 512) :
    View.canon (duPieces D u w qk qd kd dec s o) (ix2 ⟨64 * k + t.val, by omega⟩ j) = duK D u w qk qd kd dec s o k hk (ix2 t j) := by
  have ht := t.isLt
  canon_tiles x h
  · refine duK_congr D u w qk qd kd dec s o (k := 0) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 1) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 2) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 3) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 4) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 5) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 6) (by omega) hk ?_ x _ ?_
    · simp at h0 x0_lt ⊢; omega
    · funext a; refine Fin.ext ?_
      fin_cases a
      · simp at h0 x0_lt ⊢; omega
      · simpa using h1.symm
  · refine duK_congr D u w qk qd kd dec s o (k := 7) (by omega) hk ?_ x _ ?_
    · simp at h0 x0_lt ⊢; omega
    · funext a; refine Fin.ext ?_
      fin_cases a
      · simp at h0 x0_lt ⊢; omega
      · simpa using h1.symm
theorem du_block (t : Fin cfg0.N) (r j : Fin 512) : (outsAt0 m c t.val t.isLt).1 (ix2 r j)
    = Maths.duRes (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (ix2 ⟨512 * (15 - t.val) + r.val, by have := lt16 t; omega⟩ j) := by
  have h16 := lt16 t
  have er : r = ⟨64 * (r.val / 64) + (⟨r.val % 64, by omega⟩ : Fin 64).val, by simp; omega⟩ := Fin.ext (by simp; omega)
  have ej : j = Maths.col (Maths.hd j) (Maths.ln j) := Fin.ext (by simp; omega)
  have en : 8 * (15 - t.val) + r.val / 64 = (512 * (15 - t.val) + r.val) / 64 := by omega
  have et : (⟨r.val % 64, by omega⟩ : Fin 64) = Maths.tk ⟨512 * (15 - t.val) + r.val, by omega⟩ := Fin.ext (by simp; omega)
  have ec : 8 * t.val + (7 - r.val / 64) = 127 - (512 * (15 - t.val) + r.val) / 64 := by omega
  rw [du_met]
  conv_lhs => rw [er, ej]
  rw [duPieces_apply _ _ _ _ _ _ _ _ _ (r.val / 64) (by omega), duK, cdu_apply, dK_eq m c t _ (met_eq m c t.val t.isLt), tri2 m c, rows4 m c, rows7 m c, en, ec, et]
  rfl
theorem final_du : (dats m 0 c).arrAt 8 cfg0.N = Maths.duRes (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 8 _ (by decide +kernel) fun t hf y => ?_
  blk_simp
  have ey : y = ix2 (y 0) (y 1) := by funext a; fin_cases a <;> rfl
  refine (congrArg _ ey).trans ((du_block m c t (y 0) (y 1)).trans (congrArg _ ?_))
  blk_ext [(index_eq t).2.2.2.2.2.2.2.2.1]

theorem dw_met (t : Fin cfg0.N) : (outsAt0 m c t.val t.isLt).2.1
    = View.canon (dwPieces (met m c t) (iblk m c 0 t) (iblk m c 1 t) (iblk m c 2 t) (iblk m c 3 t) (iblk m c 4 t) (iblk m c 5 t) (iblk m c 6 t) (iblk m c 7 t)) := by
  by_cases h : t.val % 16 = 0
  · rw [met, if_pos h]; exact dw_A m c t h
  · rw [met, if_neg h]; exact dw_B m c t h
/-- Chunk `k`'s rows of the block. -/
def dwK (D : Vec Ideal S4x128x128 .f32) (u w qk qd kd : Vec Ideal S512x512 .f32) (dec : Vec Ideal S64x512 .f32) (s : Vec Ideal S8x4x128x128 .f32) (o : Vec Ideal S512x512 .f32) (k : ℕ) (hk : k < 8) :
    Vec Ideal S64x512 .f32 := cdw (dK D w qk qd kd dec o (7 - k) (by omega)) (r1 s k hk) (r64 qk k hk) (r64 kd k hk) (r64 o k hk)
theorem dwK_congr (D : Vec Ideal S4x128x128 .f32) (u w qk qd kd : Vec Ideal S512x512 .f32) (dec : Vec Ideal S64x512 .f32) (s : Vec Ideal S8x4x128x128 .f32) (o : Vec Ideal S512x512 .f32)
    {k k' : ℕ} (hk : k < 8) (hk' : k' < 8) (e : k = k') (x y : S64x512.Idx) (ex : x = y) :
    dwK D u w qk qd kd dec s o k hk x = dwK D u w qk qd kd dec s o k' hk' y := by
  subst e ex; rfl
theorem dwPieces_apply (D : Vec Ideal S4x128x128 .f32) (u w qk qd kd : Vec Ideal S512x512 .f32) (dec : Vec Ideal S64x512 .f32) (s : Vec Ideal S8x4x128x128 .f32) (o : Vec Ideal S512x512 .f32)
    (k : ℕ) (hk : k < 8) (t : Fin 64) (j : Fin 512) :
    View.canon (dwPieces D u w qk qd kd dec s o) (ix2 ⟨64 * k + t.val, by omega⟩ j) = dwK D u w qk qd kd dec s o k hk (ix2 t j) := by
  have ht := t.isLt
  canon_tiles x h
  · refine dwK_congr D u w qk qd kd dec s o (k := 0) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 1) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 2) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 3) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 4) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 5) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 6) (by omega) hk ?_ x _ ?_
    · simp at h0 x0_lt ⊢; omega
    · funext a; refine Fin.ext ?_
      fin_cases a
      · simp at h0 x0_lt ⊢; omega
      · simpa using h1.symm
  · refine dwK_congr D u w qk qd kd dec s o (k := 7) (by omega) hk ?_ x _ ?_
    · simp at h0 x0_lt ⊢; omega
    · funext a; refine Fin.ext ?_
      fin_cases a
      · simp at h0 x0_lt ⊢; omega
      · simpa using h1.symm
theorem dw_block (t : Fin cfg0.N) (r j : Fin 512) : (outsAt0 m c t.val t.isLt).2.1 (ix2 r j)
    = Maths.dwRes (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * (15 - t.val) + r.val, by have := lt16 t; omega⟩ j) := by
  have h16 := lt16 t
  have er : r = ⟨64 * (r.val / 64) + (⟨r.val % 64, by omega⟩ : Fin 64).val, by simp; omega⟩ := Fin.ext (by simp; omega)
  have ej : j = Maths.col (Maths.hd j) (Maths.ln j) := Fin.ext (by simp; omega)
  have en : 8 * (15 - t.val) + r.val / 64 = (512 * (15 - t.val) + r.val) / 64 := by omega
  have et : (⟨r.val % 64, by omega⟩ : Fin 64) = Maths.tk ⟨512 * (15 - t.val) + r.val, by omega⟩ := Fin.ext (by simp; omega)
  have ec : 8 * t.val + (7 - r.val / 64) = 127 - (512 * (15 - t.val) + r.val) / 64 := by omega
  rw [dw_met]
  conv_lhs => rw [er, ej]
  rw [dwPieces_apply _ _ _ _ _ _ _ _ _ (r.val / 64) (by omega), dwK, cdw_apply, dK_eq m c t _ (met_eq m c t.val t.isLt), tri2 m c, rows4 m c, st6 m c, rows7 m c, en, ec, et]
  rfl
theorem final_dw : (dats m 0 c).arrAt 9 cfg0.N = Maths.dwRes (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  have ey : y = ix2 (y 0) (y 1) := by funext a; fin_cases a <;> rfl
  refine (congrArg _ ey).trans ((dw_block m c t (y 0) (y 1)).trans (congrArg _ ?_))
  blk_ext [(index_eq t).2.2.2.2.2.2.2.2.2.1]

theorem dqk_met (t : Fin cfg0.N) : (outsAt0 m c t.val t.isLt).2.2.1
    = View.canon (dqkPieces (met m c t) (iblk m c 0 t) (iblk m c 1 t) (iblk m c 2 t) (iblk m c 3 t) (iblk m c 4 t) (iblk m c 5 t) (iblk m c 6 t) (iblk m c 7 t)) := by
  by_cases h : t.val % 16 = 0
  · rw [met, if_pos h]; exact dqk_A m c t h
  · rw [met, if_neg h]; exact dqk_B m c t h
/-- Chunk `k`'s rows of the block. -/
def dqkK (D : Vec Ideal S4x128x128 .f32) (u w qk qd kd : Vec Ideal S512x512 .f32) (dec : Vec Ideal S64x512 .f32) (s : Vec Ideal S8x4x128x128 .f32) (o : Vec Ideal S512x512 .f32) (k : ℕ) (hk : k < 8) :
    Vec Ideal S64x512 .f32 := cdqk (r1 s k hk) (r64 u k hk) (r64 w k hk) (r64 o k hk)
theorem dqkK_congr (D : Vec Ideal S4x128x128 .f32) (u w qk qd kd : Vec Ideal S512x512 .f32) (dec : Vec Ideal S64x512 .f32) (s : Vec Ideal S8x4x128x128 .f32) (o : Vec Ideal S512x512 .f32)
    {k k' : ℕ} (hk : k < 8) (hk' : k' < 8) (e : k = k') (x y : S64x512.Idx) (ex : x = y) :
    dqkK D u w qk qd kd dec s o k hk x = dqkK D u w qk qd kd dec s o k' hk' y := by
  subst e ex; rfl
theorem dqkPieces_apply (D : Vec Ideal S4x128x128 .f32) (u w qk qd kd : Vec Ideal S512x512 .f32) (dec : Vec Ideal S64x512 .f32) (s : Vec Ideal S8x4x128x128 .f32) (o : Vec Ideal S512x512 .f32)
    (k : ℕ) (hk : k < 8) (t : Fin 64) (j : Fin 512) :
    View.canon (dqkPieces D u w qk qd kd dec s o) (ix2 ⟨64 * k + t.val, by omega⟩ j) = dqkK D u w qk qd kd dec s o k hk (ix2 t j) := by
  have ht := t.isLt
  canon_tiles x h
  · refine dqkK_congr D u w qk qd kd dec s o (k := 0) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 1) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 2) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 3) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 4) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 5) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 6) (by omega) hk ?_ x _ ?_
    · simp at h0 x0_lt ⊢; omega
    · funext a; refine Fin.ext ?_
      fin_cases a
      · simp at h0 x0_lt ⊢; omega
      · simpa using h1.symm
  · refine dqkK_congr D u w qk qd kd dec s o (k := 7) (by omega) hk ?_ x _ ?_
    · simp at h0 x0_lt ⊢; omega
    · funext a; refine Fin.ext ?_
      fin_cases a
      · simp at h0 x0_lt ⊢; omega
      · simpa using h1.symm
theorem dqk_block (t : Fin cfg0.N) (r j : Fin 512) : (outsAt0 m c t.val t.isLt).2.2.1 (ix2 r j)
    = Maths.dqkRes (m ((c : Thread nD τ).loc main_arg0)) (m ((c : Thread nD τ).loc main_arg1)) (m ((c : Thread nD τ).loc main_arg6)) (m ((c : Thread nD τ).loc main_arg7)) (ix2 ⟨512 * (15 - t.val) + r.val, by have := lt16 t; omega⟩ j) := by
  have h16 := lt16 t
  have er : r = ⟨64 * (r.val / 64) + (⟨r.val % 64, by omega⟩ : Fin 64).val, by simp; omega⟩ := Fin.ext (by simp; omega)
  have ej : j = Maths.col (Maths.hd j) (Maths.ln j) := Fin.ext (by simp; omega)
  have en : 8 * (15 - t.val) + r.val / 64 = (512 * (15 - t.val) + r.val) / 64 := by omega
  have et : (⟨r.val % 64, by omega⟩ : Fin 64) = Maths.tk ⟨512 * (15 - t.val) + r.val, by omega⟩ := Fin.ext (by simp; omega)
  rw [dqk_met]
  conv_lhs => rw [er, ej]
  rw [dqkPieces_apply _ _ _ _ _ _ _ _ _ (r.val / 64) (by omega), dqkK, cdqk_apply, rows0 m c, rows1 m c, st6 m c, rows7 m c, en, et]
  rfl
theorem final_dqk : (dats m 0 c).arrAt 10 cfg0.N = Maths.dqkRes (m ((c : Thread nD τ).loc main_arg0)) (m ((c : Thread nD τ).loc main_arg1)) (m ((c : Thread nD τ).loc main_arg6)) (m ((c : Thread nD τ).loc main_arg7)) := by
  refine (dats m 0 c).arrAt_eq_of_covers 10 _ (by decide +kernel) fun t hf y => ?_
  blk_simp
  have ey : y = ix2 (y 0) (y 1) := by funext a; fin_cases a <;> rfl
  refine (congrArg _ ey).trans ((dqk_block m c t (y 0) (y 1)).trans (congrArg _ ?_))
  blk_ext [(index_eq t).2.2.2.2.2.2.2.2.2.2.1]

theorem dqd_met (t : Fin cfg0.N) : (outsAt0 m c t.val t.isLt).2.2.2.1
    = View.canon (dqdPieces (met m c t) (iblk m c 0 t) (iblk m c 1 t) (iblk m c 2 t) (iblk m c 3 t) (iblk m c 4 t) (iblk m c 5 t) (iblk m c 6 t) (iblk m c 7 t)) := by
  by_cases h : t.val % 16 = 0
  · rw [met, if_pos h]; exact dqd_A m c t h
  · rw [met, if_neg h]; exact dqd_B m c t h
/-- Chunk `k`'s rows of the block. -/
def dqdK (D : Vec Ideal S4x128x128 .f32) (u w qk qd kd : Vec Ideal S512x512 .f32) (dec : Vec Ideal S64x512 .f32) (s : Vec Ideal S8x4x128x128 .f32) (o : Vec Ideal S512x512 .f32) (k : ℕ) (hk : k < 8) :
    Vec Ideal S64x512 .f32 := cdqd (r1 s k hk) (r64 o k hk)
theorem dqdK_congr (D : Vec Ideal S4x128x128 .f32) (u w qk qd kd : Vec Ideal S512x512 .f32) (dec : Vec Ideal S64x512 .f32) (s : Vec Ideal S8x4x128x128 .f32) (o : Vec Ideal S512x512 .f32)
    {k k' : ℕ} (hk : k < 8) (hk' : k' < 8) (e : k = k') (x y : S64x512.Idx) (ex : x = y) :
    dqdK D u w qk qd kd dec s o k hk x = dqdK D u w qk qd kd dec s o k' hk' y := by
  subst e ex; rfl
theorem dqdPieces_apply (D : Vec Ideal S4x128x128 .f32) (u w qk qd kd : Vec Ideal S512x512 .f32) (dec : Vec Ideal S64x512 .f32) (s : Vec Ideal S8x4x128x128 .f32) (o : Vec Ideal S512x512 .f32)
    (k : ℕ) (hk : k < 8) (t : Fin 64) (j : Fin 512) :
    View.canon (dqdPieces D u w qk qd kd dec s o) (ix2 ⟨64 * k + t.val, by omega⟩ j) = dqdK D u w qk qd kd dec s o k hk (ix2 t j) := by
  have ht := t.isLt
  canon_tiles x h
  · refine dqdK_congr D u w qk qd kd dec s o (k := 0) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 1) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 2) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 3) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 4) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 5) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 6) (by omega) hk ?_ x _ ?_
    · simp at h0 x0_lt ⊢; omega
    · funext a; refine Fin.ext ?_
      fin_cases a
      · simp at h0 x0_lt ⊢; omega
      · simpa using h1.symm
  · refine dqdK_congr D u w qk qd kd dec s o (k := 7) (by omega) hk ?_ x _ ?_
    · simp at h0 x0_lt ⊢; omega
    · funext a; refine Fin.ext ?_
      fin_cases a
      · simp at h0 x0_lt ⊢; omega
      · simpa using h1.symm
theorem dqd_block (t : Fin cfg0.N) (r j : Fin 512) : (outsAt0 m c t.val t.isLt).2.2.2.1 (ix2 r j)
    = Maths.dqdRes (m ((c : Thread nD τ).loc main_arg6)) (m ((c : Thread nD τ).loc main_arg7)) (ix2 ⟨512 * (15 - t.val) + r.val, by have := lt16 t; omega⟩ j) := by
  have h16 := lt16 t
  have er : r = ⟨64 * (r.val / 64) + (⟨r.val % 64, by omega⟩ : Fin 64).val, by simp; omega⟩ := Fin.ext (by simp; omega)
  have ej : j = Maths.col (Maths.hd j) (Maths.ln j) := Fin.ext (by simp; omega)
  have en : 8 * (15 - t.val) + r.val / 64 = (512 * (15 - t.val) + r.val) / 64 := by omega
  have et : (⟨r.val % 64, by omega⟩ : Fin 64) = Maths.tk ⟨512 * (15 - t.val) + r.val, by omega⟩ := Fin.ext (by simp; omega)
  rw [dqd_met]
  conv_lhs => rw [er, ej]
  rw [dqdPieces_apply _ _ _ _ _ _ _ _ _ (r.val / 64) (by omega), dqdK, cdqd_apply, st6 m c, rows7 m c, en, et]
  rfl
theorem final_dqd : (dats m 0 c).arrAt 11 cfg0.N = Maths.dqdRes (m ((c : Thread nD τ).loc main_arg6)) (m ((c : Thread nD τ).loc main_arg7)) := by
  refine (dats m 0 c).arrAt_eq_of_covers 11 _ (by decide +kernel) fun t hf y => ?_
  blk_simp
  have ey : y = ix2 (y 0) (y 1) := by funext a; fin_cases a <;> rfl
  refine (congrArg _ ey).trans ((dqd_block m c t (y 0) (y 1)).trans (congrArg _ ?_))
  blk_ext [(index_eq t).2.2.2.2.2.2.2.2.2.2.2.1]

theorem dkd_met (t : Fin cfg0.N) : (outsAt0 m c t.val t.isLt).2.2.2.2.1
    = View.canon (dkdPieces (met m c t) (iblk m c 0 t) (iblk m c 1 t) (iblk m c 2 t) (iblk m c 3 t) (iblk m c 4 t) (iblk m c 5 t) (iblk m c 6 t) (iblk m c 7 t)) := by
  by_cases h : t.val % 16 = 0
  · rw [met, if_pos h]; exact dkd_A m c t h
  · rw [met, if_neg h]; exact dkd_B m c t h
/-- Chunk `k`'s rows of the block. -/
def dkdK (D : Vec Ideal S4x128x128 .f32) (u w qk qd kd : Vec Ideal S512x512 .f32) (dec : Vec Ideal S64x512 .f32) (s : Vec Ideal S8x4x128x128 .f32) (o : Vec Ideal S512x512 .f32) (k : ℕ) (hk : k < 8) :
    Vec Ideal S64x512 .f32 := cdkd (dK D w qk qd kd dec o (7 - k) (by omega)) (r1 s k hk) (r64 u k hk) (r64 w k hk)
theorem dkdK_congr (D : Vec Ideal S4x128x128 .f32) (u w qk qd kd : Vec Ideal S512x512 .f32) (dec : Vec Ideal S64x512 .f32) (s : Vec Ideal S8x4x128x128 .f32) (o : Vec Ideal S512x512 .f32)
    {k k' : ℕ} (hk : k < 8) (hk' : k' < 8) (e : k = k') (x y : S64x512.Idx) (ex : x = y) :
    dkdK D u w qk qd kd dec s o k hk x = dkdK D u w qk qd kd dec s o k' hk' y := by
  subst e ex; rfl
theorem dkdPieces_apply (D : Vec Ideal S4x128x128 .f32) (u w qk qd kd : Vec Ideal S512x512 .f32) (dec : Vec Ideal S64x512 .f32) (s : Vec Ideal S8x4x128x128 .f32) (o : Vec Ideal S512x512 .f32)
    (k : ℕ) (hk : k < 8) (t : Fin 64) (j : Fin 512) :
    View.canon (dkdPieces D u w qk qd kd dec s o) (ix2 ⟨64 * k + t.val, by omega⟩ j) = dkdK D u w qk qd kd dec s o k hk (ix2 t j) := by
  have ht := t.isLt
  canon_tiles x h
  · refine dkdK_congr D u w qk qd kd dec s o (k := 0) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 1) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 2) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 3) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 4) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 5) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 6) (by omega) hk ?_ x _ ?_
    · simp at h0 x0_lt ⊢; omega
    · funext a; refine Fin.ext ?_
      fin_cases a
      · simp at h0 x0_lt ⊢; omega
      · simpa using h1.symm
  · refine dkdK_congr D u w qk qd kd dec s o (k := 7) (by omega) hk ?_ x _ ?_
    · simp at h0 x0_lt ⊢; omega
    · funext a; refine Fin.ext ?_
      fin_cases a
      · simp at h0 x0_lt ⊢; omega
      · simpa using h1.symm
theorem dkd_block (t : Fin cfg0.N) (r j : Fin 512) : (outsAt0 m c t.val t.isLt).2.2.2.2.1 (ix2 r j)
    = Maths.dkdRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨512 * (15 - t.val) + r.val, by have := lt16 t; omega⟩ j) := by
  have h16 := lt16 t
  have er : r = ⟨64 * (r.val / 64) + (⟨r.val % 64, by omega⟩ : Fin 64).val, by simp; omega⟩ := Fin.ext (by simp; omega)
  have ej : j = Maths.col (Maths.hd j) (Maths.ln j) := Fin.ext (by simp; omega)
  have en : 8 * (15 - t.val) + r.val / 64 = (512 * (15 - t.val) + r.val) / 64 := by omega
  have et : (⟨r.val % 64, by omega⟩ : Fin 64) = Maths.tk ⟨512 * (15 - t.val) + r.val, by omega⟩ := Fin.ext (by simp; omega)
  have ec : 8 * t.val + (7 - r.val / 64) = 127 - (512 * (15 - t.val) + r.val) / 64 := by omega
  rw [dkd_met]
  conv_lhs => rw [er, ej]
  rw [dkdPieces_apply _ _ _ _ _ _ _ _ _ (r.val / 64) (by omega), dkdK, cdkd_apply, dK_eq m c t _ (met_eq m c t.val t.isLt), rows0 m c, rows1 m c, st6 m c, en, ec, et]
  rfl
theorem final_dkd : (dats m 0 c).arrAt 12 cfg0.N = Maths.dkdRes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  have ey : y = ix2 (y 0) (y 1) := by funext a; fin_cases a <;> rfl
  refine (congrArg _ ey).trans ((dkd_block m c t (y 0) (y 1)).trans (congrArg _ ?_))
  blk_ext [(index_eq t).2.2.2.2.2.2.2.2.2.2.2.2.1]

theorem ddec_met (t : Fin cfg0.N) : (outsAt0 m c t.val t.isLt).2.2.2.2.2.1
    = View.canon (ddecPieces (met m c t) (iblk m c 0 t) (iblk m c 1 t) (iblk m c 2 t) (iblk m c 3 t) (iblk m c 4 t) (iblk m c 5 t) (iblk m c 6 t) (iblk m c 7 t)) := by
  by_cases h : t.val % 16 = 0
  · rw [met, if_pos h]; exact ddec_A m c t h
  · rw [met, if_neg h]; exact ddec_B m c t h
/-- Chunk `k`'s rows of the block. -/
def ddecK (D : Vec Ideal S4x128x128 .f32) (u w qk qd kd : Vec Ideal S512x512 .f32) (dec : Vec Ideal S64x512 .f32) (s : Vec Ideal S8x4x128x128 .f32) (o : Vec Ideal S512x512 .f32) (k : ℕ) (hk : k < 8) :
    Vec Ideal S8x512 .f32 := cddec (dK D w qk qd kd dec o (7 - k) (by omega)) (r1 s k hk)
theorem ddecK_congr (D : Vec Ideal S4x128x128 .f32) (u w qk qd kd : Vec Ideal S512x512 .f32) (dec : Vec Ideal S64x512 .f32) (s : Vec Ideal S8x4x128x128 .f32) (o : Vec Ideal S512x512 .f32)
    {k k' : ℕ} (hk : k < 8) (hk' : k' < 8) (e : k = k') (x y : S8x512.Idx) (ex : x = y) :
    ddecK D u w qk qd kd dec s o k hk x = ddecK D u w qk qd kd dec s o k' hk' y := by
  subst e ex; rfl
theorem ddecPieces_apply (D : Vec Ideal S4x128x128 .f32) (u w qk qd kd : Vec Ideal S512x512 .f32) (dec : Vec Ideal S64x512 .f32) (s : Vec Ideal S8x4x128x128 .f32) (o : Vec Ideal S512x512 .f32)
    (k : ℕ) (hk : k < 8) (t : Fin 8) (j : Fin 512) :
    View.canon (ddecPieces D u w qk qd kd dec s o) (ix2 ⟨8 * k + t.val, by omega⟩ j) = ddecK D u w qk qd kd dec s o k hk (ix2 t j) := by
  have ht := t.isLt
  canon_tiles x h
  · refine ddecK_congr D u w qk qd kd dec s o (k := 0) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 1) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 2) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 3) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 4) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 5) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 6) (by omega) hk ?_ x _ ?_
    · simp at h0 x0_lt ⊢; omega
    · funext a; refine Fin.ext ?_
      fin_cases a
      · simp at h0 x0_lt ⊢; omega
      · simpa using h1.symm
  · refine ddecK_congr D u w qk qd kd dec s o (k := 7) (by omega) hk ?_ x _ ?_
    · simp at h0 x0_lt ⊢; omega
    · funext a; refine Fin.ext ?_
      fin_cases a
      · simp at h0 x0_lt ⊢; omega
      · simpa using h1.symm
theorem ddec_block (t : Fin cfg0.N) (r : Fin 64) (j : Fin 512) : (outsAt0 m c t.val t.isLt).2.2.2.2.2.1 (ix2 r j)
    = Maths.ddecRes (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨64 * (15 - t.val) + r.val, by have := lt16 t; omega⟩ j) := by
  have h16 := lt16 t
  have er : r = ⟨8 * (r.val / 8) + (⟨r.val % 8, by omega⟩ : Fin 8).val, by simp; omega⟩ := Fin.ext (by simp; omega)
  have ej : j = Maths.col (Maths.hd j) (Maths.ln j) := Fin.ext (by simp; omega)
  have en : 8 * (15 - t.val) + r.val / 8 = (64 * (15 - t.val) + r.val) / 8 := by omega
  have et : r.val % 8 = (64 * (15 - t.val) + r.val) % 8 := by omega
  have ec : 8 * t.val + (7 - r.val / 8) = 127 - (64 * (15 - t.val) + r.val) / 8 := by omega
  rw [ddec_met]
  conv_lhs => rw [er, ej]
  rw [ddecPieces_apply _ _ _ _ _ _ _ _ _ (r.val / 8) (by omega), ddecK, cddec_apply, dK_eq m c t _ (met_eq m c t.val t.isLt), st6 m c, en, ec]
  exact if_congr (and_congr (show r.val % 8 = 0 ↔ (64 * (15 - t.val) + r.val) % 8 = 0 by omega) Iff.rfl) rfl rfl
theorem final_ddec : (dats m 0 c).arrAt 13 cfg0.N = Maths.ddecRes (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  have ey : y = ix2 (y 0) (y 1) := by funext a; fin_cases a <;> rfl
  refine (congrArg _ ey).trans ((ddec_block m c t (y 0) (y 1)).trans (congrArg _ ?_))
  blk_ext [(index_eq t).2.2.2.2.2.2.2.2.2.2.2.2.2]

end Cert.KernelIdeal.Value
end
-- ==== Proof.ForwardReferenceIter.lean ====
/-
  The run of `ForwardReferenceIdeal` restated over the standalone trip of `Gen/ForwardReferenceIdeal/Step.lean`: at a valuation that holds a
  state (the carried buffers, the loop's constants, the trip's number) every value of one trip is that module's, one
  lemma each; so the run's results are read off the last of the states that start at `init` and go on by `step`.
  The text is that of the module made for this purpose, with each carried field closed by the lemma itself in place of
  a rewriting by it.
-/
module

public import proofs.«01_k».proof.Proof.Gen.ForwardReferenceIdeal.Run
public import proofs.«01_k».proof.Proof.Gen.ForwardReferenceIdeal.Step

@[expose] public section

noncomputable section

namespace Cert.ForwardReferenceIdeal.StepIter

open Idealize.ShloMosaic Idealize.ShloMosaic.TcCoe Idealize.SL.Sem Idealize.ShloMosaic.StableHlo
open Cert.ForwardReferenceIdeal Cert.ForwardReferenceIdeal.Gen Cert.ForwardReferenceIdeal.Value
open Cert.ForwardReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v17_7) = s.main_v17_7
  f_8 : V0 (Proc.devRef .tc main_v17_8) = s.main_v17_8
  f_9 : V0 (Proc.devRef .tc main_v17_9) = s.main_v17_9
  f_0 : V0 (Proc.devRef .tc main_v17_0) = s.main_v17_0
  f_1 : V0 (Proc.devRef .tc main_v17_1) = s.main_v17_1
  f_2 : V0 (Proc.devRef .tc main_v17_2) = s.main_v17_2
  f_3 : V0 (Proc.devRef .tc main_v17_3) = s.main_v17_3
  f_4 : V0 (Proc.devRef .tc main_v17_4) = s.main_v17_4
  f_5 : V0 (Proc.devRef .tc main_v17_5) = s.main_v17_5
  n_6 : V0 (Proc.devRef .tc main_v17_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ForwardReferenceIdeal.Step.b0 j s := by
  unfold Cert.ForwardReferenceIdeal.Step.b0
  rfl
set_option maxRecDepth 8192 in
theorem al_1 (h : Holds V0 s j) : (constantI S_ 32 0#32 : (Proc.devRef .tc main_while0b_call0_c_0 : DevRef τ sig).ty.Contents (Elt F)) = Cert.ForwardReferenceIdeal.Step.b1 j s := by
  unfold Cert.ForwardReferenceIdeal.Step.b1
  rfl
set_option maxRecDepth 8192 in
theorem al_2 (h : Holds V0 s j) : (constantI S_ 32 0#32 : (Proc.devRef .tc main_while0b_call0_c_1 : DevRef τ sig).ty.Contents (Elt F)) = Cert.ForwardReferenceIdeal.Step.b2 j s := by
  unfold Cert.ForwardReferenceIdeal.Step.b2
  rfl
set_option maxRecDepth 8192 in
theorem al_3 (h : Holds V0 s j) : (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call0_v0 : DevRef τ sig).ty.Contents (Elt F)) = Cert.ForwardReferenceIdeal.Step.b3 j s := by
  unfold Cert.ForwardReferenceIdeal.Step.b3
  rw [← al_0 h, ← al_1 h, ← al_2 h, h.f_0, h.n_6]
  try rfl
set_option maxRecDepth 8192 in
theorem al_4 (h : Holds V0 s j) : (shapeCast S4x64x128 (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128 : (Proc.devRef .tc main_while0b_v20 : DevRef τ sig).ty.Contents (Elt F)) = Cert.ForwardReferenceIdeal.Step.b4 j s := by
  unfold Cert.ForwardReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ForwardReferenceIdeal.Step.b5 j s := by
  unfold Cert.ForwardReferenceIdeal.Step.b5
  rfl
set_option maxRecDepth 8192 in
theorem al_6 (h : Holds V0 s j) : (constantI S_ 32 0#32 : (Proc.devRef .tc main_while0b_call1_c_0 : DevRef τ sig).ty.Contents (Elt F)) = Cert.ForwardReferenceIdeal.Step.b6 j s := by
  unfold Cert.ForwardReferenceIdeal.Step.b6
  rfl
set_option maxRecDepth 8192 in
theorem al_7 (h : Holds V0 s j) : (constantI S_ 32 0#32 : (Proc.devRef .tc main_while0b_call1_c_1 : DevRef τ sig).ty.Contents (Elt F)) = Cert.ForwardReferenceIdeal.Step.b7 j s := by
  unfold Cert.ForwardReferenceIdeal.Step.b7
  rfl
set_option maxRecDepth 8192 in
theorem al_8 (h : Holds V0 s j) : (Host.dynamicSlice S1x4x64x128 (V0 (Proc.devRef .tc main_v17_1)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call1_v0 : DevRef τ sig).ty.Contents (Elt F)) = Cert.ForwardReferenceIdeal.Step.b8 j s := by
  unfold Cert.ForwardReferenceIdeal.Step.b8
  rw [← al_5 h, ← al_6 h, ← al_7 h, h.f_1, h.n_6]
  try rfl
set_option maxRecDepth 8192 in
theorem al_9 (h : Holds V0 s j) : (shapeCast S4x64x128 (Host.dynamicSlice S1x4x64x128 (V0 (Proc.devRef .tc main_v17_1)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128 : (Proc.devRef .tc main_while0b_v21 : DevRef τ sig).ty.Contents (Elt F)) = Cert.ForwardReferenceIdeal.Step.b9 j s := by
  unfold Cert.ForwardReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ForwardReferenceIdeal.Step.b10 j s := by
  unfold Cert.ForwardReferenceIdeal.Step.b10
  rfl
set_option maxRecDepth 8192 in
theorem al_11 (h : Holds V0 s j) : (constantI S_ 32 0#32 : (Proc.devRef .tc main_while0b_call2_c_0 : DevRef τ sig).ty.Contents (Elt F)) = Cert.ForwardReferenceIdeal.Step.b11 j s := by
  unfold Cert.ForwardReferenceIdeal.Step.b11
  rfl
set_option maxRecDepth 8192 in
theorem al_12 (h : Holds V0 s j) : (constantI S_ 32 0#32 : (Proc.devRef .tc main_while0b_call2_c_1 : DevRef τ sig).ty.Contents (Elt F)) = Cert.ForwardReferenceIdeal.Step.b12 j s := by
  unfold Cert.ForwardReferenceIdeal.Step.b12
  rfl
set_option maxRecDepth 8192 in
theorem al_13 (h : Holds V0 s j) : (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64 : (Proc.devRef .tc main_while0b_call2_v0 : DevRef τ sig).ty.Contents (Elt F)) = Cert.ForwardReferenceIdeal.Step.b13 j s := by
  unfold Cert.ForwardReferenceIdeal.Step.b13
  rw [← al_10 h, ← al_11 h, ← al_12 h, h.f_2, h.n_6]
  try rfl
set_option maxRecDepth 8192 in
theorem al_14 (h : Holds V0 s j) : (shapeCast S4x64x64 (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64) shapeCasts_S1x4x64x64_S4x64x64 : (Proc.devRef .tc main_while0b_v22 : DevRef τ sig).ty.Contents (Elt F)) = Cert.ForwardReferenceIdeal.Step.b14 j s := by
  unfold Cert.ForwardReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ForwardReferenceIdeal.Step.b15 j s := by
  unfold Cert.ForwardReferenceIdeal.Step.b15
  rfl
set_option maxRecDepth 8192 in
theorem al_16 (h : Holds V0 s j) : (constantI S_ 32 0#32 : (Proc.devRef .tc main_while0b_call3_c_0 : DevRef τ sig).ty.Contents (Elt F)) = Cert.ForwardReferenceIdeal.Step.b16 j s := by
  unfold Cert.ForwardReferenceIdeal.Step.b16
  rfl
set_option maxRecDepth 8192 in
theorem al_17 (h : Holds V0 s j) : (constantI S_ 32 0#32 : (Proc.devRef .tc main_while0b_call3_c_1 : DevRef τ sig).ty.Contents (Elt F)) = Cert.ForwardReferenceIdeal.Step.b17 j s := by
  unfold Cert.ForwardReferenceIdeal.Step.b17
  rfl
set_option maxRecDepth 8192 in
theorem al_18 (h : Holds V0 s j) : (Host.dynamicSlice S1x4x64x128 (V0 (Proc.devRef .tc main_v17_3)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call3_v0 : DevRef τ sig).ty.Contents (Elt F)) = Cert.ForwardReferenceIdeal.Step.b18 j s := by
  unfold Cert.ForwardReferenceIdeal.Step.b18
  rw [← al_15 h, ← al_16 h, ← al_17 h, h.f_3, h.n_6]
  try rfl
set_option maxRecDepth 8192 in
theorem al_19 (h : Holds V0 s j) : (shapeCast S4x64x128 (Host.dynamicSlice S1x4x64x128 (V0 (Proc.devRef .tc main_v17_3)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128 : (Proc.devRef .tc main_while0b_v23 : DevRef τ sig).ty.Contents (Elt F)) = Cert.ForwardReferenceIdeal.Step.b19 j s := by
  unfold Cert.ForwardReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ForwardReferenceIdeal.Step.b20 j s := by
  unfold Cert.ForwardReferenceIdeal.Step.b20
  rfl
set_option maxRecDepth 8192 in
theorem al_21 (h : Holds V0 s j) : (constantI S_ 32 0#32 : (Proc.devRef .tc main_while0b_call4_c_0 : DevRef τ sig).ty.Contents (Elt F)) = Cert.ForwardReferenceIdeal.Step.b21 j s := by
  unfold Cert.ForwardReferenceIdeal.Step.b21
  rfl
set_option maxRecDepth 8192 in
theorem al_22 (h : Holds V0 s j) : (constantI S_ 32 0#32 : (Proc.devRef .tc main_while0b_call4_c_1 : DevRef τ sig).ty.Contents (Elt F)) = Cert.ForwardReferenceIdeal.Step.b22 j s := by
  unfold Cert.ForwardReferenceIdeal.Step.b22
  rfl
set_option maxRecDepth 8192 in
theorem al_23 (h : Holds V0 s j) : (Host.dynamicSlice S1x4x64x128 (V0 (Proc.devRef .tc main_v17_4)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call4_v0 : DevRef τ sig).ty.Contents (Elt F)) = Cert.ForwardReferenceIdeal.Step.b23 j s := by
  unfold Cert.ForwardReferenceIdeal.Step.b23
  rw [← al_20 h, ← al_21 h, ← al_22 h, h.f_4, h.n_6]
  try rfl
set_option maxRecDepth 8192 in
theorem al_24 (h : Holds V0 s j) : (shapeCast S4x64x128 (Host.dynamicSlice S1x4x64x128 (V0 (Proc.devRef .tc main_v17_4)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128 : (Proc.devRef .tc main_while0b_v24 : DevRef τ sig).ty.Contents (Elt F)) = Cert.ForwardReferenceIdeal.Step.b24 j s := by
  unfold Cert.ForwardReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ForwardReferenceIdeal.Step.b25 j s := by
  unfold Cert.ForwardReferenceIdeal.Step.b25
  rfl
set_option maxRecDepth 8192 in
theorem al_26 (h : Holds V0 s j) : (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4 : (Proc.devRef .tc main_while0b_call5_v0 : DevRef τ sig).ty.Contents (Elt F)) = Cert.ForwardReferenceIdeal.Step.b26 j s := by
  unfold Cert.ForwardReferenceIdeal.Step.b26
  rw [← al_25 h, h.f_5, h.n_6]
  try rfl
set_option maxRecDepth 8192 in
theorem al_27 (h : Holds V0 s j) : (shapeCast S4 (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4) shapeCasts_S1x4_S4 : (Proc.devRef .tc main_while0b_v25 : DevRef τ sig).ty.Contents (Elt F)) = Cert.ForwardReferenceIdeal.Step.b27 j s := by
  unfold Cert.ForwardReferenceIdeal.Step.b27
  rw [← al_26 h]
  try rfl
set_option maxRecDepth 8192 in
theorem al_28 (h : Holds V0 s j) : (Host.dotGeneral dot_S4x64x128_S4x128x128_S4x64x128_2_1_1_2_0_0 none (shapeCast S4x64x128 (Host.dynamicSlice S1x4x64x128 (V0 (Proc.devRef .tc main_v17_4)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (V0 (Proc.devRef .tc main_v17_7)) : (Proc.devRef .tc main_while0b_v26 : DevRef τ sig).ty.Contents (Elt F)) = Cert.ForwardReferenceIdeal.Step.b28 j s := by
  unfold Cert.ForwardReferenceIdeal.Step.b28
  rw [← al_24 h, h.f_7]
  try rfl
set_option maxRecDepth 8192 in
theorem al_29 (h : Holds V0 s j) : (res_main_while0b_v27 V0 : (Proc.devRef .tc main_while0b_v27 : DevRef τ sig).ty.Contents (Elt F)) = Cert.ForwardReferenceIdeal.Step.b29 j s := by
  unfold res_main_while0b_v27 Cert.ForwardReferenceIdeal.Step.b29
  rw [← al_19 h, ← al_28 h]
  try rfl
set_option maxRecDepth 8192 in
theorem al_30 (h : Holds V0 s j) : (Host.dotGeneral dot_S4x64x128_S4x128x128_S4x64x128_2_1_1_2_0_0 none (shapeCast S4x64x128 (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (V0 (Proc.devRef .tc main_v17_7)) : (Proc.devRef .tc main_while0b_v28 : DevRef τ sig).ty.Contents (Elt F)) = Cert.ForwardReferenceIdeal.Step.b30 j s := by
  unfold Cert.ForwardReferenceIdeal.Step.b30
  rw [← al_4 h, h.f_7]
  try rfl
set_option maxRecDepth 8192 in
theorem al_31 (h : Holds V0 s j) : (Host.dotGeneral dot_S4x64x64_S4x64x128_S4x64x128_2_1_1_2_0_0 none (shapeCast S4x64x64 (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64) shapeCasts_S1x4x64x64_S4x64x64) (res_main_while0b_v27 V0) : (Proc.devRef .tc main_while0b_v29 : DevRef τ sig).ty.Contents (Elt F)) = Cert.ForwardReferenceIdeal.Step.b31 j s := by
  unfold Cert.ForwardReferenceIdeal.Step.b31
  rw [← al_14 h, ← al_29 h]
  try rfl
set_option maxRecDepth 8192 in
theorem al_32 (h : Holds V0 s j) : (addf (Host.dotGeneral dot_S4x64x128_S4x128x128_S4x64x128_2_1_1_2_0_0 none (shapeCast S4x64x128 (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (V0 (Proc.devRef .tc main_v17_7))) (Host.dotGeneral dot_S4x64x64_S4x64x128_S4x64x128_2_1_1_2_0_0 none (shapeCast S4x64x64 (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64) shapeCasts_S1x4x64x64_S4x64x64) (res_main_while0b_v27 V0)) : (Proc.devRef .tc main_while0b_v30 : DevRef τ sig).ty.Contents (Elt F)) = Cert.ForwardReferenceIdeal.Step.b32 j s := by
  unfold Cert.ForwardReferenceIdeal.Step.b32
  rw [← al_30 h, ← al_31 h]
  try rfl
set_option maxRecDepth 8192 in
theorem al_33 (h : Holds V0 s j) : (broadcastInDim S4x1x1 ![0] bcast_S4_S4x1x1_0 (shapeCast S4 (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4) shapeCasts_S1x4_S4) : (Proc.devRef .tc main_while0b_v31 : DevRef τ sig).ty.Contents (Elt F)) = Cert.ForwardReferenceIdeal.Step.b33 j s := by
  unfold Cert.ForwardReferenceIdeal.Step.b33
  rw [← al_27 h]
  try rfl
set_option maxRecDepth 8192 in
theorem al_34 (h : Holds V0 s j) : (broadcastInDim S4x128x128 ![0, 1, 2] bcast_S4x1x1_S4x128x128_0_1_2 (broadcastInDim S4x1x1 ![0] bcast_S4_S4x1x1_0 (shapeCast S4 (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4) shapeCasts_S1x4_S4)) : (Proc.devRef .tc main_while0b_v32 : DevRef τ sig).ty.Contents (Elt F)) = Cert.ForwardReferenceIdeal.Step.b34 j s := by
  unfold Cert.ForwardReferenceIdeal.Step.b34
  rw [← al_33 h]
  try rfl
set_option maxRecDepth 8192 in
theorem al_35 (h : Holds V0 s j) : (mulf (V0 (Proc.devRef .tc main_v17_7)) (broadcastInDim S4x128x128 ![0, 1, 2] bcast_S4x1x1_S4x128x128_0_1_2 (broadcastInDim S4x1x1 ![0] bcast_S4_S4x1x1_0 (shapeCast S4 (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4) shapeCasts_S1x4_S4))) : (Proc.devRef .tc main_while0b_v33 : DevRef τ sig).ty.Contents (Elt F)) = Cert.ForwardReferenceIdeal.Step.b35 j s := by
  unfold Cert.ForwardReferenceIdeal.Step.b35
  rw [← al_34 h, h.f_7]
  try rfl
set_option maxRecDepth 8192 in
theorem al_36 (h : Holds V0 s j) : (Host.dotGeneral dot_S4x64x128_S4x64x128_S4x128x128_1_1_2_2_0_0 none (shapeCast S4x64x128 (Host.dynamicSlice S1x4x64x128 (V0 (Proc.devRef .tc main_v17_1)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (res_main_while0b_v27 V0) : (Proc.devRef .tc main_while0b_v34 : DevRef τ sig).ty.Contents (Elt F)) = Cert.ForwardReferenceIdeal.Step.b36 j s := by
  unfold Cert.ForwardReferenceIdeal.Step.b36
  rw [← al_9 h, ← al_29 h]
  try rfl
set_option maxRecDepth 8192 in
theorem al_37 (h : Holds V0 s j) : (addf (mulf (V0 (Proc.devRef .tc main_v17_7)) (broadcastInDim S4x128x128 ![0, 1, 2] bcast_S4x1x1_S4x128x128_0_1_2 (broadcastInDim S4x1x1 ![0] bcast_S4_S4x1x1_0 (shapeCast S4 (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4) shapeCasts_S1x4_S4)))) (Host.dotGeneral dot_S4x64x128_S4x64x128_S4x128x128_1_1_2_2_0_0 none (shapeCast S4x64x128 (Host.dynamicSlice S1x4x64x128 (V0 (Proc.devRef .tc main_v17_1)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (res_main_while0b_v27 V0)) : (Proc.devRef .tc main_while0b_v35 : DevRef τ sig).ty.Contents (Elt F)) = Cert.ForwardReferenceIdeal.Step.b37 j s := by
  unfold Cert.ForwardReferenceIdeal.Step.b37
  rw [← al_35 h, ← al_36 h]
  try rfl
set_option maxRecDepth 8192 in
theorem al_38 (h : Holds V0 s j) : (broadcastInDim S1x4x64x128 ![1, 2, 3] bcast_S4x64x128_S1x4x64x128_1_2_3 (addf (Host.dotGeneral dot_S4x64x128_S4x128x128_S4x64x128_2_1_1_2_0_0 none (shapeCast S4x64x128 (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (V0 (Proc.devRef .tc main_v17_7))) (Host.dotGeneral dot_S4x64x64_S4x64x128_S4x64x128_2_1_1_2_0_0 none (shapeCast S4x64x64 (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64) shapeCasts_S1x4x64x64_S4x64x64) (res_main_while0b_v27 V0))) : (Proc.devRef .tc main_while0b_call6_v0 : DevRef τ sig).ty.Contents (Elt F)) = Cert.ForwardReferenceIdeal.Step.b38 j s := by
  unfold Cert.ForwardReferenceIdeal.Step.b38
  rw [← al_32 h]
  try rfl
set_option maxRecDepth 8192 in
theorem al_39 (h : Holds V0 s j) : (constantI S_ 32 0#32 : (Proc.devRef .tc main_while0b_call6_c : DevRef τ sig).ty.Contents (Elt F)) = Cert.ForwardReferenceIdeal.Step.b39 j s := by
  unfold Cert.ForwardReferenceIdeal.Step.b39
  rfl
set_option maxRecDepth 8192 in
theorem al_40 (h : Holds V0 s j) : (constantI S_ 32 0#32 : (Proc.devRef .tc main_while0b_call6_c_0 : DevRef τ sig).ty.Contents (Elt F)) = Cert.ForwardReferenceIdeal.Step.b40 j s := by
  unfold Cert.ForwardReferenceIdeal.Step.b40
  rfl
set_option maxRecDepth 8192 in
theorem al_41 (h : Holds V0 s j) : (constantI S_ 32 0#32 : (Proc.devRef .tc main_while0b_call6_c_1 : DevRef τ sig).ty.Contents (Elt F)) = Cert.ForwardReferenceIdeal.Step.b41 j s := by
  unfold Cert.ForwardReferenceIdeal.Step.b41
  rfl
set_option maxRecDepth 8192 in
theorem al_42 (h : Holds V0 s j) : (Host.dynamicUpdateSlice (V0 (Proc.devRef .tc main_v17_8)) (broadcastInDim S1x4x64x128 ![1, 2, 3] bcast_S4x64x128_S1x4x64x128_1_2_3 (addf (Host.dotGeneral dot_S4x64x128_S4x128x128_S4x64x128_2_1_1_2_0_0 none (shapeCast S4x64x128 (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (V0 (Proc.devRef .tc main_v17_7))) (Host.dotGeneral dot_S4x64x64_S4x64x128_S4x64x128_2_1_1_2_0_0 none (shapeCast S4x64x64 (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64) shapeCasts_S1x4x64x64_S4x64x64) (res_main_while0b_v27 V0)))) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v36 : DevRef τ sig).ty.Contents (Elt F)) = Cert.ForwardReferenceIdeal.Step.b42 j s := by
  unfold Cert.ForwardReferenceIdeal.Step.b42
  rw [← al_38 h, ← al_39 h, ← al_40 h, ← al_41 h, h.f_8, h.n_6]
  try rfl
set_option maxRecDepth 8192 in
theorem al_43 (h : Holds V0 s j) : (broadcastInDim S1x4x128x128 ![1, 2, 3] bcast_S4x128x128_S1x4x128x128_1_2_3 (V0 (Proc.devRef .tc main_v17_7)) : (Proc.devRef .tc main_while0b_call7_v0 : DevRef τ sig).ty.Contents (Elt F)) = Cert.ForwardReferenceIdeal.Step.b43 j s := by
  unfold Cert.ForwardReferenceIdeal.Step.b43
  rw [h.f_7]
  try rfl
set_option maxRecDepth 8192 in
theorem al_44 (h : Holds V0 s j) : (constantI S_ 32 0#32 : (Proc.devRef .tc main_while0b_call7_c : DevRef τ sig).ty.Contents (Elt F)) = Cert.ForwardReferenceIdeal.Step.b44 j s := by
  unfold Cert.ForwardReferenceIdeal.Step.b44
  rfl
set_option maxRecDepth 8192 in
theorem al_45 (h : Holds V0 s j) : (constantI S_ 32 0#32 : (Proc.devRef .tc main_while0b_call7_c_0 : DevRef τ sig).ty.Contents (Elt F)) = Cert.ForwardReferenceIdeal.Step.b45 j s := by
  unfold Cert.ForwardReferenceIdeal.Step.b45
  rfl
set_option maxRecDepth 8192 in
theorem al_46 (h : Holds V0 s j) : (constantI S_ 32 0#32 : (Proc.devRef .tc main_while0b_call7_c_1 : DevRef τ sig).ty.Contents (Elt F)) = Cert.ForwardReferenceIdeal.Step.b46 j s := by
  unfold Cert.ForwardReferenceIdeal.Step.b46
  rfl
set_option maxRecDepth 8192 in
theorem al_47 (h : Holds V0 s j) : (Host.dynamicUpdateSlice (V0 (Proc.devRef .tc main_v17_9)) (broadcastInDim S1x4x128x128 ![1, 2, 3] bcast_S4x128x128_S1x4x128x128_1_2_3 (V0 (Proc.devRef .tc main_v17_7))) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) updateFits_S128x4x128x128_S1x4x128x128 : (Proc.devRef .tc main_while0b_v37 : DevRef τ sig).ty.Contents (Elt F)) = Cert.ForwardReferenceIdeal.Step.b47 j s := by
  unfold Cert.ForwardReferenceIdeal.Step.b47
  rw [← al_43 h, ← al_44 h, ← al_45 h, ← al_46 h, h.f_9, h.n_6]
  try rfl

/-! One trip's step of the carried values is `step`, field by field; a counter steps to the next number. -/

theorem step_7 (h : Holds V0 s j) : step_main_v17_7 V0 = (step j s).main_v17_7 := by
  unfold step_main_v17_7 Cert.ForwardReferenceIdeal.Step.step
  show id (addf (mulf (V0 (Proc.devRef .tc main_v17_7)) (broadcastInDim S4x128x128 ![0, 1, 2] bcast_S4x1x1_S4x128x128_0_1_2 (broadcastInDim S4x1x1 ![0] bcast_S4_S4x1x1_0 (shapeCast S4 (Host.dynamicSlice S1x4 (V0 (Proc.devRef .tc main_v17_5)) (fun k => (((![V0 (Proc.devRef .tc main_v17_6), constantI S_ 32 0#32] : Fin 2 → (⟨S_, .i32⟩ : BufTy).Contents (Elt F))) k (Shape.Idx.first h_S_)).toInt) sliceFits_S128x4_S1x4) shapeCasts_S1x4_S4)))) (Host.dotGeneral dot_S4x64x128_S4x64x128_S4x128x128_1_1_2_2_0_0 none (shapeCast S4x64x128 (Host.dynamicSlice S1x4x64x128 (V0 (Proc.devRef .tc main_v17_1)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (res_main_while0b_v27 V0))) = _
  exact al_37 h
theorem step_8 (h : Holds V0 s j) : step_main_v17_8 V0 = (step j s).main_v17_8 := by
  unfold step_main_v17_8 Cert.ForwardReferenceIdeal.Step.step
  show id (Host.dynamicUpdateSlice (V0 (Proc.devRef .tc main_v17_8)) (broadcastInDim S1x4x64x128 ![1, 2, 3] bcast_S4x64x128_S1x4x64x128_1_2_3 (addf (Host.dotGeneral dot_S4x64x128_S4x128x128_S4x64x128_2_1_1_2_0_0 none (shapeCast S4x64x128 (Host.dynamicSlice S1x4x64x128 (V0 (Proc.devRef .tc main_v17_0)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128) (V0 (Proc.devRef .tc main_v17_7))) (Host.dotGeneral dot_S4x64x64_S4x64x128_S4x64x128_2_1_1_2_0_0 none (shapeCast S4x64x64 (Host.dynamicSlice S1x4x64x64 (V0 (Proc.devRef .tc main_v17_2)) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) sliceFits_S128x4x64x64_S1x4x64x64) shapeCasts_S1x4x64x64_S4x64x64) (res_main_while0b_v27 V0)))) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) updateFits_S128x4x64x128_S1x4x64x128) = _
  exact al_42 h
theorem step_9 (h : Holds V0 s j) : step_main_v17_9 V0 = (step j s).main_v17_9 := by
  unfold step_main_v17_9 Cert.ForwardReferenceIdeal.Step.step
  show id (Host.dynamicUpdateSlice (V0 (Proc.devRef .tc main_v17_9)) (broadcastInDim S1x4x128x128 ![1, 2, 3] bcast_S4x128x128_S1x4x128x128_1_2_3 (V0 (Proc.devRef .tc main_v17_7))) (fun k => (((![V0 (Proc.devRef .tc main_v17_6), constantI S_ 32 0#32, constantI S_ 32 0#32, constantI S_ 32 0#32] : Fin 4 → (⟨S_, .i32⟩ : BufTy).Contents (Elt F))) k (Shape.Idx.first h_S_)).toInt) updateFits_S128x4x128x128_S1x4x128x128) = _
  exact al_47 h
theorem step_6 (h : Holds V0 s j) : step_main_v17_6 V0 = constantI S_ 32 (BitVec.ofNat 32 (j + 1)) := by
  unfold step_main_v17_6
  rw [h.n_6]
  funext i
  show BitVec.ofNat 32 j + 1#32 = BitVec.ofNat 32 (j + 1)
  simp only [BitVec.ofNat_add]

set_option maxRecDepth 8192 in
theorem out_main_v19_holds (h : Holds V0 s j) : out_main_v19 V0 = Cert.ForwardReferenceIdeal.Step.R_main_v19 s := by
  unfold out_main_v19 Cert.ForwardReferenceIdeal.Step.R_main_v19
  rw [h.f_8]
  try rfl

/-- One trip keeps the valuation holding: `step` of the state, the same set-up values, the next number. -/
theorem holds_step (h : Holds V0 s j) : Holds (STEP V0) (step j s) (j + 1) where
  f_7 := (STEP_main_v17_7 V0).trans (step_7 h)
  f_8 := (STEP_main_v17_8 V0).trans (step_8 h)
  f_9 := (STEP_main_v17_9 V0).trans (step_9 h)
  n_6 := (STEP_main_v17_6 V0).trans (step_6 h)
  f_0 := (STEP_main_v17_0 V0).trans h.f_0
  f_1 := (STEP_main_v17_1 V0).trans h.f_1
  f_2 := (STEP_main_v17_2 V0).trans h.f_2
  f_3 := (STEP_main_v17_3 V0).trans h.f_3
  f_4 := (STEP_main_v17_4 V0).trans h.f_4
  f_5 := (STEP_main_v17_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ForwardReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v19) = Cert.ForwardReferenceIdeal.Step.R_main_v19 (it c 128)
      ∧ r.2.mem ((c.tc : Thread nD τ).loc main_v17_9) = (it c 128).main_v17_9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 128
    ⟨(h c).1.trans (out_main_v19_holds hk), (h c).2.1.trans hk.f_9, (h c).2.2.1, (h c).2.2.2.1, (h c).2.2.2.2.1, (h c).2.2.2.2.2.1, (h c).2.2.2.2.2.2.1, (h c).2.2.2.2.2.2.2⟩) (Value.run m ρ)

end Cert.ForwardReferenceIdeal.StepIter

end
-- ==== Proof.Stack.lean ====
module

public import Idealize.ShloMosaic.Lib.WordCmp
public import Idealize.ShloMosaic.Lib.DynamicIndex
public import Idealize.ShloMosaic.Lib.Pointwise

/-!
# Entries of a stack of 128

A slice of a stack at an entry, and a stack with an entry replaced, read at an index.
-/

@[expose] public section

noncomputable section

namespace Cert.Stack
open Idealize.ShloMosaic

variable {α : Type}

theorem read4 {a b c : ℕ} (x : (⟨4, ![128, a, b, c]⟩ : Shape).Idx → α) (start : Fin 4 → ℤ) (h) (n : ℕ) (hn : n < 128)
    (e0 : start 0 = n) (e1 : start 1 = 0) (e2 : start 2 = 0) (e3 : start 3 = 0) (z : Fin 1) (p : Fin a) (q : Fin b) (r : Fin c) :
    Host.dynamicSlice ⟨4, ![1, a, b, c]⟩ x start h (ix4 z p q r) = x (ix4 (Fin.ofNat 128 n) p q r) := by
  have hk : (⟨4, ![128, a, b, c]⟩ : Shape).Slices ![n, 0, 0, 0] ⟨4, ![1, a, b, c]⟩ :=
    ⟨rfl, fun i => by fin_cases i <;> simp <;> omega⟩
  rw [WordCmp.dynamicSlice_eq_extract _ _ _ _ ![n, 0, 0, 0] hk (fun i => by fin_cases i <;> simpa)]
  refine congrArg x (funext fun i => Fin.ext ?_)
  have hz := z.isLt
  fin_cases i
  · show n + z.val = n % 128; omega
  · show 0 + p.val = p.val; omega
  · show 0 + q.val = q.val; omega
  · show 0 + r.val = r.val; omega

theorem write4 {a b c : ℕ} (x : (⟨4, ![128, a, b, c]⟩ : Shape).Idx → α) (y : (⟨4, ![1, a, b, c]⟩ : Shape).Idx → α)
    (start : Fin 4 → ℤ) (h) (n : ℕ) (hn : n < 128)
    (e0 : start 0 = n) (e1 : start 1 = 0) (e2 : start 2 = 0) (e3 : start 3 = 0) (i : Fin 128) (p : Fin a) (q : Fin b) (r : Fin c) :
    Host.dynamicUpdateSlice x y start h (ix4 i p q r) = if i.val = n then y (ix4 0 p q r) else x (ix4 i p q r) := by
  have hk : (⟨4, ![128, a, b, c]⟩ : Shape).Slices ![n, 0, 0, 0] ⟨4, ![1, a, b, c]⟩ :=
    ⟨rfl, fun i => by fin_cases i <;> simp <;> omega⟩
  rw [WordCmp.dynamicUpdateSlice_eq_update _ _ _ _ ![n, 0, 0, 0] hk (fun i => by fin_cases i <;> simpa)]
  unfold updateSlice
  by_cases hi : i.val = n
  · rw [if_pos hi, dif_pos (by
      intro k; fin_cases k
      · show n ≤ i.val ∧ i.val < n + 1; omega
      · show 0 ≤ p.val ∧ p.val < 0 + a; have := p.isLt; omega
      · show 0 ≤ q.val ∧ q.val < 0 + b; have := q.isLt; omega
      · show 0 ≤ r.val ∧ r.val < 0 + c; have := r.isLt; omega)]
    refine congrArg y (funext fun k => Fin.ext ?_)
    fin_cases k
    · show i.val - n = 0; omega
    · show p.val - 0 = p.val; omega
    · show q.val - 0 = q.val; omega
    · show r.val - 0 = r.val; omega
  · rw [if_neg hi, dif_neg (by
      intro hh; have h0 := hh 0
      replace h0 : n ≤ i.val ∧ i.val < n + 1 := h0
      omega)]

theorem read2 {a : ℕ} (x : (⟨2, ![128, a]⟩ : Shape).Idx → α) (start : Fin 2 → ℤ) (h) (n : ℕ) (hn : n < 128)
    (e0 : start 0 = n) (e1 : start 1 = 0) (z : Fin 1) (p : Fin a) :
    Host.dynamicSlice ⟨2, ![1, a]⟩ x start h (ix2 z p) = x (ix2 (Fin.ofNat 128 n) p) := by
  have hk : (⟨2, ![128, a]⟩ : Shape).Slices ![n, 0] ⟨2, ![1, a]⟩ :=
    ⟨rfl, fun i => by fin_cases i <;> simp <;> omega⟩
  rw [WordCmp.dynamicSlice_eq_extract _ _ _ _ ![n, 0] hk (fun i => by fin_cases i <;> simpa)]
  refine congrArg x (funext fun i => Fin.ext ?_)
  have hz := z.isLt
  fin_cases i
  · show n + z.val = n % 128; omega
  · show 0 + p.val = p.val; omega

theorem write2 {a : ℕ} (x : (⟨2, ![128, a]⟩ : Shape).Idx → α) (y : (⟨2, ![1, a]⟩ : Shape).Idx → α)
    (start : Fin 2 → ℤ) (h) (n : ℕ) (hn : n < 128) (e0 : start 0 = n) (e1 : start 1 = 0) (i : Fin 128) (p : Fin a) :
    Host.dynamicUpdateSlice x y start h (ix2 i p) = if i.val = n then y (ix2 0 p) else x (ix2 i p) := by
  have hk : (⟨2, ![128, a]⟩ : Shape).Slices ![n, 0] ⟨2, ![1, a]⟩ :=
    ⟨rfl, fun i => by fin_cases i <;> simp <;> omega⟩
  rw [WordCmp.dynamicUpdateSlice_eq_update _ _ _ _ ![n, 0] hk (fun i => by fin_cases i <;> simpa)]
  unfold updateSlice
  by_cases hi : i.val = n
  · rw [if_pos hi, dif_pos (by
      intro k; fin_cases k
      · show n ≤ i.val ∧ i.val < n + 1; omega
      · show 0 ≤ p.val ∧ p.val < 0 + a; have := p.isLt; omega)]
    refine congrArg y (funext fun k => Fin.ext ?_)
    fin_cases k
    · show i.val - n = 0; omega
    · show p.val - 0 = p.val; omega
  · rw [if_neg hi, dif_neg (by
      intro hh; have h0 := hh 0
      replace h0 : n ≤ i.val ∧ i.val < n + 1 := h0
      omega)]

/-- A small number's word, read signed. -/
theorem word (n : ℕ) (hn : n < 128) : (BitVec.ofNat 32 n).toInt = n := toInt_ofNat_of_lt (by omega)

/-- The word of a chunk counted from the last. -/
theorem word_back (n : ℕ) (hn : n < 128) : (128#32 - BitVec.ofNat 32 n - 1#32).toInt = (127 - n : ℕ) := by
  have : ∀ k : Fin 128, (128#32 - BitVec.ofNat 32 k.val - 1#32).toInt = (127 - k.val : ℕ) := by decide +kernel
  exact this ⟨n, hn⟩

end Cert.Stack

end
-- ==== Proof.ForwardReferenceValue.lean ====
module

public import proofs.«01_k».proof.Proof.ForwardReferenceIter
public import proofs.«01_k».proof.Proof.Maths
public import proofs.«01_k».proof.Proof.Stack

/-!
# The forward reference's results over the extended reals

Its scan's two stacks are the output and the saved states of the recurrence.
-/

@[expose] public section

set_option maxRecDepth 16384

noncomputable section

namespace Cert.ForwardReferenceIdeal.Value
open Cert Cert.ForwardReferenceIdeal Cert.ForwardReferenceIdeal.Gen Cert.ForwardReferenceIdeal.Step Cert.ForwardReferenceIdeal.StepIter
open Idealize.ShloMosaic Idealize.ShloMosaic.TcCoe Idealize.SL.Sem

/-! ## The operands, chunk by chunk -/

section Operands
variable (u w qk qd kd : (⟨S8192x512, .f32⟩ : BufTy).Contents (Elt Ideal)) (dec : (⟨S1024x512, .f32⟩ : BufTy).Contents (Elt Ideal))

theorem qd_apply (n : Fin 128) (h : Fin 4) (t : Fin 64) (d : Fin 128) :
    A_main_v2 (F := Ideal) u w qk qd kd dec (ix4 n h t d) = Maths.rowsAt qd n.val h t d := by
  pointwise [A_main_v2, A_main_v1]
  exact congrArg₂ (fun i j => qd (ix2 i j)) (Fin.ext (by show n.val * 64 + t.val = (64 * n.val + t.val) % 8192; omega))
    (Fin.ext (by show h.val * 128 + d.val = 128 * h.val + d.val; omega))
theorem kd_apply (n : Fin 128) (h : Fin 4) (t : Fin 64) (d : Fin 128) :
    A_main_v4 (F := Ideal) u w qk qd kd dec (ix4 n h t d) = Maths.rowsAt kd n.val h t d := by
  pointwise [A_main_v4, A_main_v3]
  exact congrArg₂ (fun i j => kd (ix2 i j)) (Fin.ext (by show n.val * 64 + t.val = (64 * n.val + t.val) % 8192; omega))
    (Fin.ext (by show h.val * 128 + d.val = 128 * h.val + d.val; omega))
theorem u_apply (n : Fin 128) (h : Fin 4) (t : Fin 64) (d : Fin 128) :
    A_main_v9 (F := Ideal) u w qk qd kd dec (ix4 n h t d) = Maths.rowsAt u n.val h t d := by
  pointwise [A_main_v9, A_main_v8]
  exact congrArg₂ (fun i j => u (ix2 i j)) (Fin.ext (by show n.val * 64 + t.val = (64 * n.val + t.val) % 8192; omega))
    (Fin.ext (by show h.val * 128 + d.val = 128 * h.val + d.val; omega))
theorem w_apply (n : Fin 128) (h : Fin 4) (t : Fin 64) (d : Fin 128) :
    A_main_v11 (F := Ideal) u w qk qd kd dec (ix4 n h t d) = Maths.rowsAt w n.val h t d := by
  pointwise [A_main_v11, A_main_v10]
  exact congrArg₂ (fun i j => w (ix2 i j)) (Fin.ext (by show n.val * 64 + t.val = (64 * n.val + t.val) % 8192; omega))
    (Fin.ext (by show h.val * 128 + d.val = 128 * h.val + d.val; omega))
theorem qk_apply (n : Fin 128) (h : Fin 4) (t s : Fin 64) :
    A_main_v7 (F := Ideal) u w qk qd kd dec (ix4 n h t s) = Maths.triAt qk n.val h t s := by
  pointwise [A_main_v7, A_main_v6, A_main_v5]
  exact congrArg₂ (fun i j => qk (ix2 i j)) (Fin.ext (by show n.val * 64 + t.val = (64 * n.val + t.val) % 8192; omega))
    (Fin.ext (by show h.val * 128 + s.val = 128 * h.val + s.val; omega))
theorem dec_apply (n : Fin 128) (h : Fin 4) :
    A_main_v14 (F := Ideal) u w qk qd kd dec (ix2 n h) = Maths.decAt dec n.val h := by
  pointwise [A_main_v14, A_main_v13, A_main_v12]
  exact congrArg₂ (fun i j => dec (ix2 i j)) (Fin.ext (by show n.val * 8 = (8 * n.val) % 1024; omega))
    (Fin.ext (by show h.val * 128 = 128 * h.val + 0; omega))
end Operands

/-! ## One trip -/

section Trip
variable (n : ℕ) (hn : n < 128) (s : State Ideal)

/-- Heads first. -/
abbrev rows3 (x : S4x64x128.Idx → EReal) : Maths.Rows := fun h t d => x (ix3 h t d)
abbrev tri3 (x : S4x64x64.Idx → EReal) : Maths.Tri := fun h t d => x (ix3 h t d)
abbrev dec1 (x : S4.Idx → EReal) : Maths.Dec := fun h => x (ix1 h)

section Read
include hn
theorem b4_apply (h : Fin 4) (t : Fin 64) (d : Fin 128) : b4 n s (ix3 h t d) = s.main_v17_0 (ix4 (Fin.ofNat 128 n) h t d) := by
  have e : b4 n s (ix3 h t d) = b3 n s (ix4 0 h t d) := by pointwise [b4]
  rw [e]; unfold b3
  exact Stack.read4 _ _ _ n hn (Stack.word n hn) rfl rfl rfl 0 h t d
theorem b9_apply (h : Fin 4) (t : Fin 64) (d : Fin 128) : b9 n s (ix3 h t d) = s.main_v17_1 (ix4 (Fin.ofNat 128 n) h t d) := by
  have e : b9 n s (ix3 h t d) = b8 n s (ix4 0 h t d) := by pointwise [b9]
  rw [e]; unfold b8
  exact Stack.read4 _ _ _ n hn (Stack.word n hn) rfl rfl rfl 0 h t d
theorem b19_apply (h : Fin 4) (t : Fin 64) (d : Fin 128) : b19 n s (ix3 h t d) = s.main_v17_3 (ix4 (Fin.ofNat 128 n) h t d) := by
  have e : b19 n s (ix3 h t d) = b18 n s (ix4 0 h t d) := by pointwise [b19]
  rw [e]; unfold b18
  exact Stack.read4 _ _ _ n hn (Stack.word n hn) rfl rfl rfl 0 h t d
theorem b24_apply (h : Fin 4) (t : Fin 64) (d : Fin 128) : b24 n s (ix3 h t d) = s.main_v17_4 (ix4 (Fin.ofNat 128 n) h t d) := by
  have e : b24 n s (ix3 h t d) = b23 n s (ix4 0 h t d) := by pointwise [b24]
  rw [e]; unfold b23
  exact Stack.read4 _ _ _ n hn (Stack.word n hn) rfl rfl rfl 0 h t d
theorem b14_apply (h : Fin 4) (t : Fin 64) (d : Fin 64) : b14 n s (ix3 h t d) = s.main_v17_2 (ix4 (Fin.ofNat 128 n) h t d) := by
  have e : b14 n s (ix3 h t d) = b13 n s (ix4 0 h t d) := by pointwise [b14]
  rw [e]; unfold b13
  exact Stack.read4 _ _ _ n hn (Stack.word n hn) rfl rfl rfl 0 h t d
theorem b27_apply (h : Fin 4) : b27 n s (ix1 h) = s.main_v17_5 (ix2 (Fin.ofNat 128 n) h) := by
  have e : b27 n s (ix1 h) = b26 n s (ix2 0 h) := by pointwise [b27]
  rw [e]; unfold b26
  exact Stack.read2 _ _ _ n hn (Stack.word n hn) rfl 0 h

/-- The output's stack with chunk `n` written, and the states' stack with the state met. -/
theorem b42_apply (i : Fin 128) (h : Fin 4) (t : Fin 64) (d : Fin 128) :
    b42 n s (ix4 i h t d) = if i.val = n then b32 n s (ix3 h t d) else s.main_v17_8 (ix4 i h t d) := by
  have e : b38 n s (ix4 0 h t d) = b32 n s (ix3 h t d) := by pointwise [b38]
  rw [← e]; unfold b42
  exact Stack.write4 _ _ _ _ n hn (Stack.word n hn) rfl rfl rfl i h t d
theorem b47_apply (i : Fin 128) (h : Fin 4) (d e : Fin 128) :
    b47 n s (ix4 i h d e) = if i.val = n then s.main_v17_7 (ix3 h d e) else s.main_v17_9 (ix4 i h d e) := by
  have e' : b43 n s (ix4 0 h d e) = s.main_v17_7 (ix3 h d e) := by pointwise [b43]
  rw [← e']; unfold b47
  exact Stack.write4 _ _ _ _ n hn (Stack.word n hn) rfl rfl rfl i h d e
end Read

theorem b29_apply (h : Fin 4) (t : Fin 64) (e : Fin 128) :
    b29 n s (ix3 h t e) = Maths.vnew (Maths.st s.main_v17_7) (rows3 (b19 n s)) (rows3 (b24 n s)) h t e := by
  pointwise [b29, b28, Maths.vnew]
theorem b32_apply (h : Fin 4) (t : Fin 64) (e : Fin 128) :
    b32 n s (ix3 h t e) = Maths.out (Maths.st s.main_v17_7) (rows3 (b19 n s)) (rows3 (b24 n s)) (tri3 (b14 n s)) (rows3 (b4 n s)) h t e := by
  pointwise [b32, b31, b30, b29_apply, Maths.out]
theorem b37_apply (h : Fin 4) (d e : Fin 128) :
    b37 n s (ix3 h d e) = Maths.nxt (Maths.st s.main_v17_7) (rows3 (b19 n s)) (rows3 (b24 n s)) (rows3 (b9 n s)) (dec1 (b27 n s)) h d e := by
  pointwise [b37, b36, b35, b34, b33, b29_apply, Maths.nxt]
end Trip

/-! ## The scan -/

section Scan
variable (u w qk qd kd : (⟨S8192x512, .f32⟩ : BufTy).Contents (Elt Ideal)) (dec : (⟨S1024x512, .f32⟩ : BufTy).Contents (Elt Ideal))

/-- The states of the scan. -/
def it : ℕ → State Ideal
  | 0 => init u w qk qd kd dec
  | n + 1 => step n (it n)

theorem it_0 : ∀ n, (it u w qk qd kd dec n).main_v17_0 = A_main_v2 u w qk qd kd dec
  | 0 => rfl
  | n + 1 => it_0 n
theorem it_1 : ∀ n, (it u w qk qd kd dec n).main_v17_1 = A_main_v4 u w qk qd kd dec
  | 0 => rfl
  | n + 1 => it_1 n
theorem it_2 : ∀ n, (it u w qk qd kd dec n).main_v17_2 = A_main_v7 u w qk qd kd dec
  | 0 => rfl
  | n + 1 => it_2 n
theorem it_3 : ∀ n, (it u w qk qd kd dec n).main_v17_3 = A_main_v9 u w qk qd kd dec
  | 0 => rfl
  | n + 1 => it_3 n
theorem it_4 : ∀ n, (it u w qk qd kd dec n).main_v17_4 = A_main_v11 u w qk qd kd dec
  | 0 => rfl
  | n + 1 => it_4 n
theorem it_5 : ∀ n, (it u w qk qd kd dec n).main_v17_5 = A_main_v14 u w qk qd kd dec
  | 0 => rfl
  | n + 1 => it_5 n
theorem qd_it (n : ℕ) (hn : n < 128) : rows3 (b4 n (it u w qk qd kd dec n)) = Maths.rowsAt qd n := by
  funext h t d
  show b4 n _ (ix3 h t d) = _
  rw [b4_apply n hn, it_0, qd_apply, show (Fin.ofNat 128 n).val = n from Nat.mod_eq_of_lt hn]
theorem kd_it (n : ℕ) (hn : n < 128) : rows3 (b9 n (it u w qk qd kd dec n)) = Maths.rowsAt kd n := by
  funext h t d
  show b9 n _ (ix3 h t d) = _
  rw [b9_apply n hn, it_1, kd_apply, show (Fin.ofNat 128 n).val = n from Nat.mod_eq_of_lt hn]
theorem u_it (n : ℕ) (hn : n < 128) : rows3 (b19 n (it u w qk qd kd dec n)) = Maths.rowsAt u n := by
  funext h t d
  show b19 n _ (ix3 h t d) = _
  rw [b19_apply n hn, it_3, u_apply, show (Fin.ofNat 128 n).val = n from Nat.mod_eq_of_lt hn]
theorem w_it (n : ℕ) (hn : n < 128) : rows3 (b24 n (it u w qk qd kd dec n)) = Maths.rowsAt w n := by
  funext h t d
  show b24 n _ (ix3 h t d) = _
  rw [b24_apply n hn, it_4, w_apply, show (Fin.ofNat 128 n).val = n from Nat.mod_eq_of_lt hn]
theorem qk_it (n : ℕ) (hn : n < 128) : tri3 (b14 n (it u w qk qd kd dec n)) = Maths.triAt qk n := by
  funext h t d
  show b14 n _ (ix3 h t d) = _
  rw [b14_apply n hn, it_2, qk_apply, show (Fin.ofNat 128 n).val = n from Nat.mod_eq_of_lt hn]
theorem dec_it (n : ℕ) (hn : n < 128) : dec1 (b27 n (it u w qk qd kd dec n)) = Maths.decAt dec n := by
  funext h
  show b27 n _ (ix1 h) = _
  rw [b27_apply n hn, it_5, dec_apply, show (Fin.ofNat 128 n).val = n from Nat.mod_eq_of_lt hn]

/-- The carried state. -/
theorem carried : ∀ n, n ≤ 128 → Maths.st (it u w qk qd kd dec n).main_v17_7 = Maths.stateAt u w kd dec n
  | 0, _ => by
    funext h d e
    show K_main_v0 (F := Ideal) (ix3 h d e) = 0
    pointwise [K_main_v0, K_main_cst]
  | n + 1, hn => by
    funext h d e
    show b37 n (it u w qk qd kd dec n) (ix3 h d e) = _
    rw [b37_apply, carried n (by omega), u_it u w qk qd kd dec n hn, w_it u w qk qd kd dec n hn, kd_it u w qk qd kd dec n hn, dec_it u w qk qd kd dec n hn]
    rfl

/-- The stacks' entries already written. -/
theorem stack_o (h : Fin 4) (t : Fin 64) (e : Fin 128) : ∀ (n : ℕ) (_ : n ≤ 128) (i : Fin 128) (_ : i.val < n),
    (it u w qk qd kd dec n).main_v17_8 (ix4 i h t e) = Maths.out (Maths.stateAt u w kd dec i.val) (Maths.rowsAt u i.val)
      (Maths.rowsAt w i.val) (Maths.triAt qk i.val) (Maths.rowsAt qd i.val) h t e
  | 0, _, i, hi => absurd hi (Nat.not_lt_zero _)
  | n + 1, hn, i, hi => by
    show b42 n (it u w qk qd kd dec n) (ix4 i h t e) = _
    rw [b42_apply n hn]
    by_cases e : i.val = n
    · rw [if_pos e, b32_apply, carried u w qk qd kd dec n (by omega), u_it u w qk qd kd dec n hn, w_it u w qk qd kd dec n hn, qk_it u w qk qd kd dec n hn,
        qd_it u w qk qd kd dec n hn, e]
    · rw [if_neg e]; exact stack_o h t _ n (by omega) i (by omega)
theorem stack_s (h : Fin 4) (d e : Fin 128) : ∀ (n : ℕ) (_ : n ≤ 128) (i : Fin 128) (_ : i.val < n),
    (it u w qk qd kd dec n).main_v17_9 (ix4 i h d e) = Maths.stateAt u w kd dec i.val h d e
  | 0, _, i, hi => absurd hi (Nat.not_lt_zero _)
  | n + 1, hn, i, hi => by
    show b47 n (it u w qk qd kd dec n) (ix4 i h d e) = _
    rw [b47_apply n hn]
    by_cases e' : i.val = n
    · rw [if_pos e', e']; exact congrFun (congrFun (congrFun (carried u w qk qd kd dec n (by omega)) h) d) e
    · rw [if_neg e']; exact stack_s h d e n (by omega) i (by omega)

theorem res_o : R_main_v19 (it u w qk qd kd dec 128) = Maths.oRes u w qk qd kd dec := by
  funext i
  have ei : i = ix2 (i 0) (i 1) := by funext a; fin_cases a <;> rfl
  have e : R_main_v19 (it u w qk qd kd dec 128) (ix2 (i 0) (i 1))
      = (it u w qk qd kd dec 128).main_v17_8 (ix4 ⟨(i 0).val / 64, by have : (i 0).val < 8192 := (i 0).isLt; omega⟩ (Maths.hd (i 1)) (Maths.tk (i 0)) (Maths.ln (i 1))) := by
    have h0 : (i 0).val < 8192 := (i 0).isLt
    have h1 : (i 1).val < 512 := (i 1).isLt
    pointwise [R_main_v19]
  refine (congrArg _ ei).trans (e.trans ?_)
  exact stack_o u w qk qd kd dec _ _ _ 128 (le_refl _) _ (Fin.isLt _)
theorem res_s : (it u w qk qd kd dec 128).main_v17_9 = Maths.sRes u w kd dec := by
  funext i
  have ei : i = ix4 (i 0) (i 1) (i 2) (i 3) := by funext a; fin_cases a <;> rfl
  exact (congrArg _ ei).trans (stack_s u w qk qd kd dec (i 1) (i 2) (i 3) 128 (le_refl _) (i 0) (Fin.isLt _))
end Scan

end Cert.ForwardReferenceIdeal.Value
end
-- ==== Proof.ReferenceIter.lean ====
/-
  The run of `ReferenceIdeal` restated over the standalone trip of `Gen/ReferenceIdeal/Step.lean`: at a valuation that holds a
  state (the carried buffers, the loop's constants, the trip's number) every value of one trip is that module's, one
  lemma each; so the run's results are read off the last of the states that start at `init` and go on by `step`.
  The text is that of the module made for this purpose, with each carried field closed by the lemma itself in place of
  a rewriting by it.
-/
module

public import proofs.«01_k».proof.Proof.Gen.ReferenceIdeal.Run
public import proofs.«01_k».proof.Proof.Gen.ReferenceIdeal.Step

@[expose] public section

noncomputable section

namespace Cert.ReferenceIdeal.StepIter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v23_9) = s.main_v23_9
  f_10 : V0 (Proc.devRef .tc main_v23_10) = s.main_v23_10
  f_11 : V0 (Proc.devRef .tc main_v23_11) = s.main_v23_11
  f_12 : V0 (Proc.devRef .tc main_v23_12) = s.main_v23_12
  f_13 : V0 (Proc.devRef .tc main_v23_13) = s.main_v23_13
  f_14 : V0 (Proc.devRef .tc main_v23_14) = s.main_v23_14
  f_15 : V0 (Proc.devRef .tc main_v23_15) = s.main_v23_15
  f_0 : V0 (Proc.devRef .tc main_v23_0) = s.main_v23_0
  f_1 : V0 (Proc.devRef .tc main_v23_1) = s.main_v23_1
  f_2 : V0 (Proc.devRef .tc main_v23_2) = s.main_v23_2
  f_3 : V0 (Proc.devRef .tc main_v23_3) = s.main_v23_3
  f_4 : V0 (Proc.devRef .tc main_v23_4) = s.main_v23_4
  f_5 : V0 (Proc.devRef .tc main_v23_5) = s.main_v23_5
  f_6 : V0 (Proc.devRef .tc main_v23_6) = s.main_v23_6
  f_7 : V0 (Proc.devRef .tc main_v23_7) = s.main_v23_7
  n_8 : V0 (Proc.devRef .tc main_v23_8) = constantI S_ 32 (BitVec.ofNat 32 j)

variable {V0 s j}

set_option maxRecDepth 8192 in
theorem al_0 (h : Holds V0 s j) : (constantI S_ 32 128#32 : (Proc.devRef .tc main_while0b_c_23 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 128#32) (V0 (Proc.devRef .tc main_v23_8)) : (Proc.devRef .tc main_while0b_v38 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_24 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v39 V0 : (Proc.devRef .tc main_while0b_v39 : DevRef τ sig).ty.Contents (Elt F)) = Cert.ReferenceIdeal.Step.b3 j s := by
  unfold res_main_while0b_v39 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x4x128x128 (V0 (Proc.devRef .tc main_v23_0)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x128x128_S1x4x128x128 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v40 V0 : (Proc.devRef .tc main_while0b_v40 : DevRef τ sig).ty.Contents (Elt F)) = Cert.ReferenceIdeal.Step.b8 j s := by
  unfold res_main_while0b_v40 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x4x64x128 (V0 (Proc.devRef .tc main_v23_1)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v41 V0 : (Proc.devRef .tc main_while0b_v41 : DevRef τ sig).ty.Contents (Elt F)) = Cert.ReferenceIdeal.Step.b13 j s := by
  unfold res_main_while0b_v41 Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x64x128 (V0 (Proc.devRef .tc main_v23_2)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (res_main_while0b_v42 V0 : (Proc.devRef .tc main_while0b_v42 : DevRef τ sig).ty.Contents (Elt F)) = Cert.ReferenceIdeal.Step.b18 j s := by
  unfold res_main_while0b_v42 Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x64x64 (V0 (Proc.devRef .tc main_v23_3)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x64_S1x4x64x64 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v43 V0 : (Proc.devRef .tc main_while0b_v43 : DevRef τ sig).ty.Contents (Elt F)) = Cert.ReferenceIdeal.Step.b23 j s := by
  unfold res_main_while0b_v43 Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x4x64x128 (V0 (Proc.devRef .tc main_v23_4)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (shapeCast S4x64x128 (Host.dynamicSlice S1x4x64x128 (V0 (Proc.devRef .tc main_v23_4)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128) shapeCasts_S1x4x64x128_S4x64x128 : (Proc.devRef .tc main_while0b_v44 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x4x64x128 (V0 (Proc.devRef .tc main_v23_5)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v45 V0 : (Proc.devRef .tc main_while0b_v45 : DevRef τ sig).ty.Contents (Elt F)) = Cert.ReferenceIdeal.Step.b33 j s := by
  unfold res_main_while0b_v45 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (Host.dynamicSlice S1x4 (V0 (Proc.devRef .tc main_v23_6)) (fun k => (((![res_main_while0b_v39 V0, constantI S_ 32 0#32] : Fin 2 → (⟨S_, .i32⟩ : BufTy).Contents (Elt F))) k (Shape.Idx.first h_S_)).toInt) sliceFits_S128x4_S1x4 : (Proc.devRef .tc main_while0b_call6_v0 : DevRef τ sig).ty.Contents (Elt F)) = Cert.ReferenceIdeal.Step.b35 j s := by
  unfold Cert.ReferenceIdeal.Step.b35
  rw [← al_3 h, ← al_34 h, h.f_6]
  try rfl
set_option maxRecDepth 8192 in
theorem al_36 (h : Holds V0 s j) : (shapeCast S4 (Host.dynamicSlice S1x4 (V0 (Proc.devRef .tc main_v23_6)) (fun k => (((![res_main_while0b_v39 V0, constantI S_ 32 0#32] : Fin 2 → (⟨S_, .i32⟩ : BufTy).Contents (Elt F))) k (Shape.Idx.first h_S_)).toInt) sliceFits_S128x4_S1x4) shapeCasts_S1x4_S4 : (Proc.devRef .tc main_while0b_v46 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (constantI S_ 32 0#32 : (Proc.devRef .tc main_while0b_call7_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call7_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call7_c_1 : DevRef τ sig).ty.Contents (Elt F)) = Cert.ReferenceIdeal.Step.b39 j s := by
  unfold Cert.ReferenceIdeal.Step.b39
  rfl
set_option maxRecDepth 8192 in
theorem al_40 (h : Holds V0 s j) : (Host.dynamicSlice S1x4x64x128 (V0 (Proc.devRef .tc main_v23_7)) (fun k => (((![res_main_while0b_v39 V0, constantI S_ 32 0#32, constantI S_ 32 0#32, constantI S_ 32 0#32] : Fin 4 → (⟨S_, .i32⟩ : BufTy).Contents (Elt F))) k (Shape.Idx.first h_S_)).toInt) sliceFits_S128x4x64x128_S1x4x64x128 : (Proc.devRef .tc main_while0b_call7_v0 : DevRef τ sig).ty.Contents (Elt F)) = Cert.ReferenceIdeal.Step.b40 j s := by
  unfold Cert.ReferenceIdeal.Step.b40
  rw [← al_3 h, ← al_37 h, ← al_38 h, ← al_39 h, h.f_7]
  try rfl
set_option maxRecDepth 8192 in
theorem al_41 (h : Holds V0 s j) : (res_main_while0b_v47 V0 : (Proc.devRef .tc main_while0b_v47 : DevRef τ sig).ty.Contents (Elt F)) = Cert.ReferenceIdeal.Step.b41 j s := by
  unfold res_main_while0b_v47 Cert.ReferenceIdeal.Step.b41
  rw [← al_40 h]
  try rfl
set_option maxRecDepth 8192 in
theorem al_42 (h : Holds V0 s j) : (Host.dotGeneral dot_S4x64x128_S4x128x128_S4x64x128_2_1_1_2_0_0 none (res_main_while0b_v45 V0) (res_main_while0b_v40 V0) : (Proc.devRef .tc main_while0b_v48 : DevRef τ sig).ty.Contents (Elt F)) = Cert.ReferenceIdeal.Step.b42 j s := by
  unfold Cert.ReferenceIdeal.Step.b42
  rw [← al_33 h, ← al_8 h]
  try rfl
set_option maxRecDepth 8192 in
theorem al_43 (h : Holds V0 s j) : (res_main_while0b_v49 V0 : (Proc.devRef .tc main_while0b_v49 : DevRef τ sig).ty.Contents (Elt F)) = Cert.ReferenceIdeal.Step.b43 j s := by
  unfold res_main_while0b_v49 Cert.ReferenceIdeal.Step.b43
  rw [← al_28 h, ← al_42 h]
  try rfl
set_option maxRecDepth 8192 in
theorem al_44 (h : Holds V0 s j) : (Host.dotGeneral dot_S4x64x128_S4x128x128_S4x64x128_2_1_1_2_0_0 none (res_main_while0b_v41 V0) (res_main_while0b_v40 V0) : (Proc.devRef .tc main_while0b_v50 : DevRef τ sig).ty.Contents (Elt F)) = Cert.ReferenceIdeal.Step.b44 j s := by
  unfold Cert.ReferenceIdeal.Step.b44
  rw [← al_13 h, ← al_8 h]
  try rfl
set_option maxRecDepth 8192 in
theorem al_45 (h : Holds V0 s j) : (Host.dotGeneral dot_S4x64x64_S4x64x128_S4x64x128_2_1_1_2_0_0 none (res_main_while0b_v43 V0) (res_main_while0b_v49 V0) : (Proc.devRef .tc main_while0b_v51 : DevRef τ sig).ty.Contents (Elt F)) = Cert.ReferenceIdeal.Step.b45 j s := by
  unfold Cert.ReferenceIdeal.Step.b45
  rw [← al_23 h, ← al_43 h]
  try rfl
set_option maxRecDepth 8192 in
theorem al_46 (h : Holds V0 s j) : (addf (Host.dotGeneral dot_S4x64x128_S4x128x128_S4x64x128_2_1_1_2_0_0 none (res_main_while0b_v41 V0) (res_main_while0b_v40 V0)) (Host.dotGeneral dot_S4x64x64_S4x64x128_S4x64x128_2_1_1_2_0_0 none (res_main_while0b_v43 V0) (res_main_while0b_v49 V0)) : (Proc.devRef .tc main_while0b_v52 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (res_main_while0b_v53 V0 : (Proc.devRef .tc main_while0b_v53 : DevRef τ sig).ty.Contents (Elt F)) = Cert.ReferenceIdeal.Step.b47 j s := by
  unfold res_main_while0b_v53 Cert.ReferenceIdeal.Step.b47
  rw [← al_36 h]
  try rfl
set_option maxRecDepth 8192 in
theorem al_48 (h : Holds V0 s j) : (broadcastInDim S4x128x128 ![0, 1, 2] bcast_S4x1x1_S4x128x128_0_1_2 (res_main_while0b_v53 V0) : (Proc.devRef .tc main_while0b_v54 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (res_main_while0b_v40 V0) (broadcastInDim S4x128x128 ![0, 1, 2] bcast_S4x1x1_S4x128x128_0_1_2 (res_main_while0b_v53 V0)) : (Proc.devRef .tc main_while0b_v55 : DevRef τ sig).ty.Contents (Elt F)) = Cert.ReferenceIdeal.Step.b49 j s := by
  unfold Cert.ReferenceIdeal.Step.b49
  rw [← al_8 h, ← al_48 h]
  try rfl
set_option maxRecDepth 8192 in
theorem al_50 (h : Holds V0 s j) : (Host.dotGeneral dot_S4x64x128_S4x64x128_S4x128x128_1_1_2_2_0_0 none (res_main_while0b_v42 V0) (res_main_while0b_v49 V0) : (Proc.devRef .tc main_while0b_v56 : DevRef τ sig).ty.Contents (Elt F)) = Cert.ReferenceIdeal.Step.b50 j s := by
  unfold Cert.ReferenceIdeal.Step.b50
  rw [← al_18 h, ← al_43 h]
  try rfl
set_option maxRecDepth 8192 in
theorem al_51 (h : Holds V0 s j) : (addf (mulf (res_main_while0b_v40 V0) (broadcastInDim S4x128x128 ![0, 1, 2] bcast_S4x1x1_S4x128x128_0_1_2 (res_main_while0b_v53 V0))) (Host.dotGeneral dot_S4x64x128_S4x64x128_S4x128x128_1_1_2_2_0_0 none (res_main_while0b_v42 V0) (res_main_while0b_v49 V0)) : (Proc.devRef .tc main_while0b_v57 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (Host.dotGeneral dot_S4x128x128_S4x64x128_S4x128x64_1_2_2_1_0_0 none (V0 (Proc.devRef .tc main_v23_9)) (res_main_while0b_v42 V0) : (Proc.devRef .tc main_while0b_v58 : DevRef τ sig).ty.Contents (Elt F)) = Cert.ReferenceIdeal.Step.b52 j s := by
  unfold Cert.ReferenceIdeal.Step.b52
  rw [← al_18 h, h.f_9]
  try rfl
set_option maxRecDepth 8192 in
theorem al_53 (h : Holds V0 s j) : (transpose S4x64x128 [0, 2, 1] (Host.dotGeneral dot_S4x128x128_S4x64x128_S4x128x64_1_2_2_1_0_0 none (V0 (Proc.devRef .tc main_v23_9)) (res_main_while0b_v42 V0)) transposes_S4x128x64_S4x64x128_0_2_1 : (Proc.devRef .tc main_while0b_v59 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (Host.dotGeneral dot_S4x128x128_S4x64x128_S4x128x64_2_2_1_1_0_0 none (V0 (Proc.devRef .tc main_v23_9)) (res_main_while0b_v49 V0) : (Proc.devRef .tc main_while0b_v60 : DevRef τ sig).ty.Contents (Elt F)) = Cert.ReferenceIdeal.Step.b54 j s := by
  unfold Cert.ReferenceIdeal.Step.b54
  rw [← al_43 h, h.f_9]
  try rfl
set_option maxRecDepth 8192 in
theorem al_55 (h : Holds V0 s j) : (transpose S4x64x128 [0, 2, 1] (Host.dotGeneral dot_S4x128x128_S4x64x128_S4x128x64_2_2_1_1_0_0 none (V0 (Proc.devRef .tc main_v23_9)) (res_main_while0b_v49 V0)) transposes_S4x128x64_S4x64x128_0_2_1 : (Proc.devRef .tc main_while0b_v61 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (mulf (res_main_while0b_v40 V0) (V0 (Proc.devRef .tc main_v23_9)) : (Proc.devRef .tc main_while0b_v62 : DevRef τ sig).ty.Contents (Elt F)) = Cert.ReferenceIdeal.Step.b56 j s := by
  unfold Cert.ReferenceIdeal.Step.b56
  rw [← al_8 h, h.f_9]
  try rfl
set_option maxRecDepth 8192 in
theorem al_57 (h : Holds V0 s j) : (constant S_ .f32 0x00000000#32 : (Proc.devRef .tc main_while0b_cst_25 : DevRef τ sig).ty.Contents (Elt F)) = Cert.ReferenceIdeal.Step.b57 j s := by
  unfold Cert.ReferenceIdeal.Step.b57
  rfl
set_option maxRecDepth 8192 in
theorem al_58 (h : Holds V0 s j) : (Host.reduceAdd (mulf (res_main_while0b_v40 V0) (V0 (Proc.devRef .tc main_v23_9))) (constant S_ .f32 0x00000000#32) reducesTo_S4x128x128_S4_d1_2 h_S_ : (Proc.devRef .tc main_while0b_v63 : DevRef τ sig).ty.Contents (Elt F)) = Cert.ReferenceIdeal.Step.b58 j s := by
  unfold Cert.ReferenceIdeal.Step.b58
  rw [← al_56 h, ← al_57 h]
  try rfl
set_option maxRecDepth 8192 in
theorem al_59 (h : Holds V0 s j) : (shapeCast S4x1x1 (Host.reduceAdd (mulf (res_main_while0b_v40 V0) (V0 (Proc.devRef .tc main_v23_9))) (constant S_ .f32 0x00000000#32) reducesTo_S4x128x128_S4_d1_2 h_S_) shapeCasts_S4_S4x1x1 : (Proc.devRef .tc main_while0b_v64 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S4x128x128 ![0, 1, 2] bcast_S4x1x1_S4x128x128_0_1_2 (res_main_while0b_v53 V0) : (Proc.devRef .tc main_while0b_v65 : DevRef τ sig).ty.Contents (Elt F)) = Cert.ReferenceIdeal.Step.b60 j s := by
  unfold Cert.ReferenceIdeal.Step.b60
  rw [← al_47 h]
  try rfl
set_option maxRecDepth 8192 in
theorem al_61 (h : Holds V0 s j) : (mulf (V0 (Proc.devRef .tc main_v23_9)) (broadcastInDim S4x128x128 ![0, 1, 2] bcast_S4x1x1_S4x128x128_0_1_2 (res_main_while0b_v53 V0)) : (Proc.devRef .tc main_while0b_v66 : DevRef τ sig).ty.Contents (Elt F)) = Cert.ReferenceIdeal.Step.b61 j s := by
  unfold Cert.ReferenceIdeal.Step.b61
  rw [← al_60 h, h.f_9]
  try rfl
set_option maxRecDepth 8192 in
theorem al_62 (h : Holds V0 s j) : (constant S_ .f32 0x00000000#32 : (Proc.devRef .tc main_while0b_cst_26 : DevRef τ sig).ty.Contents (Elt F)) = Cert.ReferenceIdeal.Step.b62 j s := by
  unfold Cert.ReferenceIdeal.Step.b62
  rfl
set_option maxRecDepth 8192 in
theorem al_63 (h : Holds V0 s j) : (Host.reduceAdd (shapeCast S4x1x1 (Host.reduceAdd (mulf (res_main_while0b_v40 V0) (V0 (Proc.devRef .tc main_v23_9))) (constant S_ .f32 0x00000000#32) reducesTo_S4x128x128_S4_d1_2 h_S_) shapeCasts_S4_S4x1x1) (constant S_ .f32 0x00000000#32) reducesTo_S4x1x1_S4_d1_2 h_S_ : (Proc.devRef .tc main_while0b_v67 : DevRef τ sig).ty.Contents (Elt F)) = Cert.ReferenceIdeal.Step.b63 j s := by
  unfold Cert.ReferenceIdeal.Step.b63
  rw [← al_59 h, ← al_62 h]
  try rfl
set_option maxRecDepth 8192 in
theorem al_64 (h : Holds V0 s j) : (Host.dotGeneral dot_S4x64x128_S4x64x64_S4x128x64_1_1_2_2_0_0 none (res_main_while0b_v47 V0) (res_main_while0b_v43 V0) : (Proc.devRef .tc main_while0b_v68 : DevRef τ sig).ty.Contents (Elt F)) = Cert.ReferenceIdeal.Step.b64 j s := by
  unfold Cert.ReferenceIdeal.Step.b64
  rw [← al_41 h, ← al_23 h]
  try rfl
set_option maxRecDepth 8192 in
theorem al_65 (h : Holds V0 s j) : (transpose S4x64x128 [0, 2, 1] (Host.dotGeneral dot_S4x64x128_S4x64x64_S4x128x64_1_1_2_2_0_0 none (res_main_while0b_v47 V0) (res_main_while0b_v43 V0)) transposes_S4x128x64_S4x64x128_0_2_1 : (Proc.devRef .tc main_while0b_v69 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (res_main_while0b_v70 V0 : (Proc.devRef .tc main_while0b_v70 : DevRef τ sig).ty.Contents (Elt F)) = Cert.ReferenceIdeal.Step.b66 j s := by
  unfold res_main_while0b_v70 Cert.ReferenceIdeal.Step.b66
  rw [← al_53 h, ← al_65 h]
  try rfl
set_option maxRecDepth 8192 in
theorem al_67 (h : Holds V0 s j) : (Host.dotGeneral dot_S4x64x128_S4x64x128_S4x64x64_2_2_1_1_0_0 none (res_main_while0b_v47 V0) (res_main_while0b_v49 V0) : (Proc.devRef .tc main_while0b_v71 : DevRef τ sig).ty.Contents (Elt F)) = Cert.ReferenceIdeal.Step.b67 j s := by
  unfold Cert.ReferenceIdeal.Step.b67
  rw [← al_41 h, ← al_43 h]
  try rfl
set_option maxRecDepth 8192 in
theorem al_68 (h : Holds V0 s j) : (Host.dotGeneral dot_S4x64x128_S4x64x128_S4x128x128_1_1_2_2_0_0 none (res_main_while0b_v47 V0) (res_main_while0b_v41 V0) : (Proc.devRef .tc main_while0b_v72 : DevRef τ sig).ty.Contents (Elt F)) = Cert.ReferenceIdeal.Step.b68 j s := by
  unfold Cert.ReferenceIdeal.Step.b68
  rw [← al_41 h, ← al_13 h]
  try rfl
set_option maxRecDepth 8192 in
theorem al_69 (h : Holds V0 s j) : (transpose S4x128x128 [0, 2, 1] (Host.dotGeneral dot_S4x64x128_S4x64x128_S4x128x128_1_1_2_2_0_0 none (res_main_while0b_v47 V0) (res_main_while0b_v41 V0)) transposes_S4x128x128_S4x128x128_0_2_1 : (Proc.devRef .tc main_while0b_v73 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (addf (mulf (V0 (Proc.devRef .tc main_v23_9)) (broadcastInDim S4x128x128 ![0, 1, 2] bcast_S4x1x1_S4x128x128_0_1_2 (res_main_while0b_v53 V0))) (transpose S4x128x128 [0, 2, 1] (Host.dotGeneral dot_S4x64x128_S4x64x128_S4x128x128_1_1_2_2_0_0 none (res_main_while0b_v47 V0) (res_main_while0b_v41 V0)) transposes_S4x128x128_S4x128x128_0_2_1) : (Proc.devRef .tc main_while0b_v74 : DevRef τ sig).ty.Contents (Elt F)) = Cert.ReferenceIdeal.Step.b70 j s := by
  unfold Cert.ReferenceIdeal.Step.b70
  rw [← al_61 h, ← al_69 h]
  try rfl
set_option maxRecDepth 8192 in
theorem al_71 (h : Holds V0 s j) : (Host.dotGeneral dot_S4x64x128_S4x128x128_S4x64x128_2_2_1_1_0_0 none (res_main_while0b_v47 V0) (res_main_while0b_v40 V0) : (Proc.devRef .tc main_while0b_v75 : DevRef τ sig).ty.Contents (Elt F)) = Cert.ReferenceIdeal.Step.b71 j s := by
  unfold Cert.ReferenceIdeal.Step.b71
  rw [← al_41 h, ← al_8 h]
  try rfl
set_option maxRecDepth 8192 in
theorem al_72 (h : Holds V0 s j) : (res_main_while0b_v76 V0 : (Proc.devRef .tc main_while0b_v76 : DevRef τ sig).ty.Contents (Elt F)) = Cert.ReferenceIdeal.Step.b72 j s := by
  unfold res_main_while0b_v76 Cert.ReferenceIdeal.Step.b72
  rw [← al_66 h]
  try rfl
set_option maxRecDepth 8192 in
theorem al_73 (h : Holds V0 s j) : (Host.dotGeneral dot_S4x64x128_S4x64x128_S4x128x128_1_1_2_2_0_0 none (res_main_while0b_v76 V0) (res_main_while0b_v45 V0) : (Proc.devRef .tc main_while0b_v77 : DevRef τ sig).ty.Contents (Elt F)) = Cert.ReferenceIdeal.Step.b73 j s := by
  unfold Cert.ReferenceIdeal.Step.b73
  rw [← al_72 h, ← al_33 h]
  try rfl
set_option maxRecDepth 8192 in
theorem al_74 (h : Holds V0 s j) : (transpose S4x128x128 [0, 2, 1] (Host.dotGeneral dot_S4x64x128_S4x64x128_S4x128x128_1_1_2_2_0_0 none (res_main_while0b_v76 V0) (res_main_while0b_v45 V0)) transposes_S4x128x128_S4x128x128_0_2_1 : (Proc.devRef .tc main_while0b_v78 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (addf (addf (mulf (V0 (Proc.devRef .tc main_v23_9)) (broadcastInDim S4x128x128 ![0, 1, 2] bcast_S4x1x1_S4x128x128_0_1_2 (res_main_while0b_v53 V0))) (transpose S4x128x128 [0, 2, 1] (Host.dotGeneral dot_S4x64x128_S4x64x128_S4x128x128_1_1_2_2_0_0 none (res_main_while0b_v47 V0) (res_main_while0b_v41 V0)) transposes_S4x128x128_S4x128x128_0_2_1)) (transpose S4x128x128 [0, 2, 1] (Host.dotGeneral dot_S4x64x128_S4x64x128_S4x128x128_1_1_2_2_0_0 none (res_main_while0b_v76 V0) (res_main_while0b_v45 V0)) transposes_S4x128x128_S4x128x128_0_2_1) : (Proc.devRef .tc main_while0b_v79 : DevRef τ sig).ty.Contents (Elt F)) = Cert.ReferenceIdeal.Step.b75 j s := by
  unfold Cert.ReferenceIdeal.Step.b75
  rw [← al_70 h, ← al_74 h]
  try rfl
set_option maxRecDepth 8192 in
theorem al_76 (h : Holds V0 s j) : (Host.dotGeneral dot_S4x64x128_S4x128x128_S4x64x128_2_2_1_1_0_0 none (res_main_while0b_v76 V0) (res_main_while0b_v40 V0) : (Proc.devRef .tc main_while0b_v80 : DevRef τ sig).ty.Contents (Elt F)) = Cert.ReferenceIdeal.Step.b76 j s := by
  unfold Cert.ReferenceIdeal.Step.b76
  rw [← al_72 h, ← al_8 h]
  try rfl
set_option maxRecDepth 8192 in
theorem al_77 (h : Holds V0 s j) : (broadcastInDim S1x4x64x128 ![1, 2, 3] bcast_S4x64x128_S1x4x64x128_1_2_3 (Host.dotGeneral dot_S4x64x128_S4x128x128_S4x64x128_2_2_1_1_0_0 none (res_main_while0b_v47 V0) (res_main_while0b_v40 V0)) : (Proc.devRef .tc main_while0b_call8_v0 : DevRef τ sig).ty.Contents (Elt F)) = Cert.ReferenceIdeal.Step.b77 j s := by
  unfold Cert.ReferenceIdeal.Step.b77
  rw [← al_71 h]
  try rfl
set_option maxRecDepth 8192 in
theorem al_78 (h : Holds V0 s j) : (constantI S_ 32 0#32 : (Proc.devRef .tc main_while0b_call8_c : DevRef τ sig).ty.Contents (Elt F)) = Cert.ReferenceIdeal.Step.b78 j s := by
  unfold Cert.ReferenceIdeal.Step.b78
  rfl
set_option maxRecDepth 8192 in
theorem al_79 (h : Holds V0 s j) : (constantI S_ 32 0#32 : (Proc.devRef .tc main_while0b_call8_c_0 : DevRef τ sig).ty.Contents (Elt F)) = Cert.ReferenceIdeal.Step.b79 j s := by
  unfold Cert.ReferenceIdeal.Step.b79
  rfl
set_option maxRecDepth 8192 in
theorem al_80 (h : Holds V0 s j) : (constantI S_ 32 0#32 : (Proc.devRef .tc main_while0b_call8_c_1 : DevRef τ sig).ty.Contents (Elt F)) = Cert.ReferenceIdeal.Step.b80 j s := by
  unfold Cert.ReferenceIdeal.Step.b80
  rfl
set_option maxRecDepth 8192 in
theorem al_81 (h : Holds V0 s j) : (Host.dynamicUpdateSlice (V0 (Proc.devRef .tc main_v23_10)) (broadcastInDim S1x4x64x128 ![1, 2, 3] bcast_S4x64x128_S1x4x64x128_1_2_3 (Host.dotGeneral dot_S4x64x128_S4x128x128_S4x64x128_2_2_1_1_0_0 none (res_main_while0b_v47 V0) (res_main_while0b_v40 V0))) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v81 : DevRef τ sig).ty.Contents (Elt F)) = Cert.ReferenceIdeal.Step.b81 j s := by
  unfold Cert.ReferenceIdeal.Step.b81
  rw [← al_77 h, ← al_3 h, ← al_78 h, ← al_79 h, ← al_80 h, h.f_10]
  try rfl
set_option maxRecDepth 8192 in
theorem al_82 (h : Holds V0 s j) : (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v23_9)) (res_main_while0b_v49 V0)) transposes_S4x128x64_S4x64x128_0_2_1) : (Proc.devRef .tc main_while0b_call9_v0 : DevRef τ sig).ty.Contents (Elt F)) = Cert.ReferenceIdeal.Step.b82 j s := by
  unfold Cert.ReferenceIdeal.Step.b82
  rw [← al_55 h]
  try rfl
set_option maxRecDepth 8192 in
theorem al_83 (h : Holds V0 s j) : (constantI S_ 32 0#32 : (Proc.devRef .tc main_while0b_call9_c : DevRef τ sig).ty.Contents (Elt F)) = Cert.ReferenceIdeal.Step.b83 j s := by
  unfold Cert.ReferenceIdeal.Step.b83
  rfl
set_option maxRecDepth 8192 in
theorem al_84 (h : Holds V0 s j) : (constantI S_ 32 0#32 : (Proc.devRef .tc main_while0b_call9_c_0 : DevRef τ sig).ty.Contents (Elt F)) = Cert.ReferenceIdeal.Step.b84 j s := by
  unfold Cert.ReferenceIdeal.Step.b84
  rfl
set_option maxRecDepth 8192 in
theorem al_85 (h : Holds V0 s j) : (constantI S_ 32 0#32 : (Proc.devRef .tc main_while0b_call9_c_1 : DevRef τ sig).ty.Contents (Elt F)) = Cert.ReferenceIdeal.Step.b85 j s := by
  unfold Cert.ReferenceIdeal.Step.b85
  rfl
set_option maxRecDepth 8192 in
theorem al_86 (h : Holds V0 s j) : (Host.dynamicUpdateSlice (V0 (Proc.devRef .tc main_v23_11)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v23_9)) (res_main_while0b_v49 V0)) transposes_S4x128x64_S4x64x128_0_2_1)) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v82 : DevRef τ sig).ty.Contents (Elt F)) = Cert.ReferenceIdeal.Step.b86 j s := by
  unfold Cert.ReferenceIdeal.Step.b86
  rw [← al_82 h, ← al_3 h, ← al_83 h, ← al_84 h, ← al_85 h, h.f_11]
  try rfl
set_option maxRecDepth 8192 in
theorem al_87 (h : Holds V0 s j) : (broadcastInDim S1x4x64x64 ![1, 2, 3] bcast_S4x64x64_S1x4x64x64_1_2_3 (Host.dotGeneral dot_S4x64x128_S4x64x128_S4x64x64_2_2_1_1_0_0 none (res_main_while0b_v47 V0) (res_main_while0b_v49 V0)) : (Proc.devRef .tc main_while0b_call10_v0 : DevRef τ sig).ty.Contents (Elt F)) = Cert.ReferenceIdeal.Step.b87 j s := by
  unfold Cert.ReferenceIdeal.Step.b87
  rw [← al_67 h]
  try rfl
set_option maxRecDepth 8192 in
theorem al_88 (h : Holds V0 s j) : (constantI S_ 32 0#32 : (Proc.devRef .tc main_while0b_call10_c : DevRef τ sig).ty.Contents (Elt F)) = Cert.ReferenceIdeal.Step.b88 j s := by
  unfold Cert.ReferenceIdeal.Step.b88
  rfl
set_option maxRecDepth 8192 in
theorem al_89 (h : Holds V0 s j) : (constantI S_ 32 0#32 : (Proc.devRef .tc main_while0b_call10_c_0 : DevRef τ sig).ty.Contents (Elt F)) = Cert.ReferenceIdeal.Step.b89 j s := by
  unfold Cert.ReferenceIdeal.Step.b89
  rfl
set_option maxRecDepth 8192 in
theorem al_90 (h : Holds V0 s j) : (constantI S_ 32 0#32 : (Proc.devRef .tc main_while0b_call10_c_1 : DevRef τ sig).ty.Contents (Elt F)) = Cert.ReferenceIdeal.Step.b90 j s := by
  unfold Cert.ReferenceIdeal.Step.b90
  rfl
set_option maxRecDepth 8192 in
theorem al_91 (h : Holds V0 s j) : (Host.dynamicUpdateSlice (V0 (Proc.devRef .tc main_v23_12)) (broadcastInDim S1x4x64x64 ![1, 2, 3] bcast_S4x64x64_S1x4x64x64_1_2_3 (Host.dotGeneral dot_S4x64x128_S4x64x128_S4x64x64_2_2_1_1_0_0 none (res_main_while0b_v47 V0) (res_main_while0b_v49 V0))) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x64_S1x4x64x64 : (Proc.devRef .tc main_while0b_v83 : DevRef τ sig).ty.Contents (Elt F)) = Cert.ReferenceIdeal.Step.b91 j s := by
  unfold Cert.ReferenceIdeal.Step.b91
  rw [← al_87 h, ← al_3 h, ← al_88 h, ← al_89 h, ← al_90 h, h.f_12]
  try rfl
set_option maxRecDepth 8192 in
theorem al_92 (h : Holds V0 s j) : (broadcastInDim S1x4x64x128 ![1, 2, 3] bcast_S4x64x128_S1x4x64x128_1_2_3 (res_main_while0b_v70 V0) : (Proc.devRef .tc main_while0b_call11_v0 : DevRef τ sig).ty.Contents (Elt F)) = Cert.ReferenceIdeal.Step.b92 j s := by
  unfold Cert.ReferenceIdeal.Step.b92
  rw [← al_66 h]
  try rfl
set_option maxRecDepth 8192 in
theorem al_93 (h : Holds V0 s j) : (constantI S_ 32 0#32 : (Proc.devRef .tc main_while0b_call11_c : DevRef τ sig).ty.Contents (Elt F)) = Cert.ReferenceIdeal.Step.b93 j s := by
  unfold Cert.ReferenceIdeal.Step.b93
  rfl
set_option maxRecDepth 8192 in
theorem al_94 (h : Holds V0 s j) : (constantI S_ 32 0#32 : (Proc.devRef .tc main_while0b_call11_c_0 : DevRef τ sig).ty.Contents (Elt F)) = Cert.ReferenceIdeal.Step.b94 j s := by
  unfold Cert.ReferenceIdeal.Step.b94
  rfl
set_option maxRecDepth 8192 in
theorem al_95 (h : Holds V0 s j) : (constantI S_ 32 0#32 : (Proc.devRef .tc main_while0b_call11_c_1 : DevRef τ sig).ty.Contents (Elt F)) = Cert.ReferenceIdeal.Step.b95 j s := by
  unfold Cert.ReferenceIdeal.Step.b95
  rfl
set_option maxRecDepth 8192 in
theorem al_96 (h : Holds V0 s j) : (Host.dynamicUpdateSlice (V0 (Proc.devRef .tc main_v23_13)) (broadcastInDim S1x4x64x128 ![1, 2, 3] bcast_S4x64x128_S1x4x64x128_1_2_3 (res_main_while0b_v70 V0)) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v84 : DevRef τ sig).ty.Contents (Elt F)) = Cert.ReferenceIdeal.Step.b96 j s := by
  unfold Cert.ReferenceIdeal.Step.b96
  rw [← al_92 h, ← al_3 h, ← al_93 h, ← al_94 h, ← al_95 h, h.f_13]
  try rfl
set_option maxRecDepth 8192 in
theorem al_97 (h : Holds V0 s j) : (broadcastInDim S1x4x64x128 ![1, 2, 3] bcast_S4x64x128_S1x4x64x128_1_2_3 (Host.dotGeneral dot_S4x64x128_S4x128x128_S4x64x128_2_2_1_1_0_0 none (res_main_while0b_v76 V0) (res_main_while0b_v40 V0)) : (Proc.devRef .tc main_while0b_call12_v0 : DevRef τ sig).ty.Contents (Elt F)) = Cert.ReferenceIdeal.Step.b97 j s := by
  unfold Cert.ReferenceIdeal.Step.b97
  rw [← al_76 h]
  try rfl
set_option maxRecDepth 8192 in
theorem al_98 (h : Holds V0 s j) : (constantI S_ 32 0#32 : (Proc.devRef .tc main_while0b_call12_c : DevRef τ sig).ty.Contents (Elt F)) = Cert.ReferenceIdeal.Step.b98 j s := by
  unfold Cert.ReferenceIdeal.Step.b98
  rfl
set_option maxRecDepth 8192 in
theorem al_99 (h : Holds V0 s j) : (constantI S_ 32 0#32 : (Proc.devRef .tc main_while0b_call12_c_0 : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call12_c_1 : DevRef τ sig).ty.Contents (Elt F)) = Cert.ReferenceIdeal.Step.b100 j s := by
  unfold Cert.ReferenceIdeal.Step.b100
  rfl
set_option maxRecDepth 8192 in
theorem al_101 (h : Holds V0 s j) : (Host.dynamicUpdateSlice (V0 (Proc.devRef .tc main_v23_14)) (broadcastInDim S1x4x64x128 ![1, 2, 3] bcast_S4x64x128_S1x4x64x128_1_2_3 (Host.dotGeneral dot_S4x64x128_S4x128x128_S4x64x128_2_2_1_1_0_0 none (res_main_while0b_v76 V0) (res_main_while0b_v40 V0))) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128 : (Proc.devRef .tc main_while0b_v85 : DevRef τ sig).ty.Contents (Elt F)) = Cert.ReferenceIdeal.Step.b101 j s := by
  unfold Cert.ReferenceIdeal.Step.b101
  rw [← al_97 h, ← al_3 h, ← al_98 h, ← al_99 h, ← al_100 h, h.f_14]
  try rfl
set_option maxRecDepth 8192 in
theorem al_102 (h : Holds V0 s j) : (broadcastInDim S1x4 ![1] bcast_S4_S1x4_1 (Host.reduceAdd (shapeCast S4x1x1 (Host.reduceAdd (mulf (res_main_while0b_v40 V0) (V0 (Proc.devRef .tc main_v23_9))) (constant S_ .f32 0x00000000#32) reducesTo_S4x128x128_S4_d1_2 h_S_) shapeCasts_S4_S4x1x1) (constant S_ .f32 0x00000000#32) reducesTo_S4x1x1_S4_d1_2 h_S_) : (Proc.devRef .tc main_while0b_call13_v0 : DevRef τ sig).ty.Contents (Elt F)) = Cert.ReferenceIdeal.Step.b102 j s := by
  unfold Cert.ReferenceIdeal.Step.b102
  rw [← al_63 h]
  try rfl
set_option maxRecDepth 8192 in
theorem al_103 (h : Holds V0 s j) : (constantI S_ 32 0#32 : (Proc.devRef .tc main_while0b_call13_c : DevRef τ sig).ty.Contents (Elt F)) = Cert.ReferenceIdeal.Step.b103 j s := by
  unfold Cert.ReferenceIdeal.Step.b103
  rfl
set_option maxRecDepth 8192 in
theorem al_104 (h : Holds V0 s j) : (Host.dynamicUpdateSlice (V0 (Proc.devRef .tc main_v23_15)) (broadcastInDim S1x4 ![1] bcast_S4_S1x4_1 (Host.reduceAdd (shapeCast S4x1x1 (Host.reduceAdd (mulf (res_main_while0b_v40 V0) (V0 (Proc.devRef .tc main_v23_9))) (constant S_ .f32 0x00000000#32) reducesTo_S4x128x128_S4_d1_2 h_S_) shapeCasts_S4_S4x1x1) (constant S_ .f32 0x00000000#32) reducesTo_S4x1x1_S4_d1_2 h_S_)) (fun k => (((![res_main_while0b_v39 V0, constantI S_ 32 0#32] : Fin 2 → (⟨S_, .i32⟩ : BufTy).Contents (Elt F))) k (Shape.Idx.first h_S_)).toInt) updateFits_S128x4_S1x4 : (Proc.devRef .tc main_while0b_v86 : DevRef τ sig).ty.Contents (Elt F)) = Cert.ReferenceIdeal.Step.b104 j s := by
  unfold Cert.ReferenceIdeal.Step.b104
  rw [← al_102 h, ← al_3 h, ← al_103 h, h.f_15]
  try rfl

/-! One trip's step of the carried values is `step`, field by field; a counter steps to the next number. -/

theorem step_9 (h : Holds V0 s j) : step_main_v23_9 V0 = (step j s).main_v23_9 := by
  unfold step_main_v23_9 Cert.ReferenceIdeal.Step.step
  show id (addf (addf (mulf (V0 (Proc.devRef .tc main_v23_9)) (broadcastInDim S4x128x128 ![0, 1, 2] bcast_S4x1x1_S4x128x128_0_1_2 (res_main_while0b_v53 V0))) (transpose S4x128x128 [0, 2, 1] (Host.dotGeneral dot_S4x64x128_S4x64x128_S4x128x128_1_1_2_2_0_0 none (res_main_while0b_v47 V0) (res_main_while0b_v41 V0)) transposes_S4x128x128_S4x128x128_0_2_1)) (transpose S4x128x128 [0, 2, 1] (Host.dotGeneral dot_S4x64x128_S4x64x128_S4x128x128_1_1_2_2_0_0 none (res_main_while0b_v76 V0) (res_main_while0b_v45 V0)) transposes_S4x128x128_S4x128x128_0_2_1)) = _
  exact al_75 h
theorem step_10 (h : Holds V0 s j) : step_main_v23_10 V0 = (step j s).main_v23_10 := by
  unfold step_main_v23_10 Cert.ReferenceIdeal.Step.step
  show id (Host.dynamicUpdateSlice (V0 (Proc.devRef .tc main_v23_10)) (broadcastInDim S1x4x64x128 ![1, 2, 3] bcast_S4x64x128_S1x4x64x128_1_2_3 (Host.dotGeneral dot_S4x64x128_S4x128x128_S4x64x128_2_2_1_1_0_0 none (res_main_while0b_v47 V0) (res_main_while0b_v40 V0))) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128) = _
  exact al_81 h
theorem step_11 (h : Holds V0 s j) : step_main_v23_11 V0 = (step j s).main_v23_11 := by
  unfold step_main_v23_11 Cert.ReferenceIdeal.Step.step
  show id (Host.dynamicUpdateSlice (V0 (Proc.devRef .tc main_v23_11)) (broadcastInDim S1x4x64x128 ![1, 2, 3] bcast_S4x64x128_S1x4x64x128_1_2_3 (transpose S4x64x128 [0, 2, 1] (Host.dotGeneral dot_S4x128x128_S4x64x128_S4x128x64_2_2_1_1_0_0 none (V0 (Proc.devRef .tc main_v23_9)) (res_main_while0b_v49 V0)) transposes_S4x128x64_S4x64x128_0_2_1)) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128) = _
  exact al_86 h
theorem step_12 (h : Holds V0 s j) : step_main_v23_12 V0 = (step j s).main_v23_12 := by
  unfold step_main_v23_12 Cert.ReferenceIdeal.Step.step
  show id (Host.dynamicUpdateSlice (V0 (Proc.devRef .tc main_v23_12)) (broadcastInDim S1x4x64x64 ![1, 2, 3] bcast_S4x64x64_S1x4x64x64_1_2_3 (Host.dotGeneral dot_S4x64x128_S4x64x128_S4x64x64_2_2_1_1_0_0 none (res_main_while0b_v47 V0) (res_main_while0b_v49 V0))) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x64_S1x4x64x64) = _
  exact al_91 h
theorem step_13 (h : Holds V0 s j) : step_main_v23_13 V0 = (step j s).main_v23_13 := by
  unfold step_main_v23_13 Cert.ReferenceIdeal.Step.step
  show id (Host.dynamicUpdateSlice (V0 (Proc.devRef .tc main_v23_13)) (broadcastInDim S1x4x64x128 ![1, 2, 3] bcast_S4x64x128_S1x4x64x128_1_2_3 (res_main_while0b_v70 V0)) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128) = _
  exact al_96 h
theorem step_14 (h : Holds V0 s j) : step_main_v23_14 V0 = (step j s).main_v23_14 := by
  unfold step_main_v23_14 Cert.ReferenceIdeal.Step.step
  show id (Host.dynamicUpdateSlice (V0 (Proc.devRef .tc main_v23_14)) (broadcastInDim S1x4x64x128 ![1, 2, 3] bcast_S4x64x128_S1x4x64x128_1_2_3 (Host.dotGeneral dot_S4x64x128_S4x128x128_S4x64x128_2_2_1_1_0_0 none (res_main_while0b_v76 V0) (res_main_while0b_v40 V0))) (fun k => (((![res_main_while0b_v39 V0, constantI S_ 32 0#32, constantI S_ 32 0#32, constantI S_ 32 0#32] : Fin 4 → (⟨S_, .i32⟩ : BufTy).Contents (Elt F))) k (Shape.Idx.first h_S_)).toInt) updateFits_S128x4x64x128_S1x4x64x128) = _
  exact al_101 h
theorem step_15 (h : Holds V0 s j) : step_main_v23_15 V0 = (step j s).main_v23_15 := by
  unfold step_main_v23_15 Cert.ReferenceIdeal.Step.step
  show id (Host.dynamicUpdateSlice (V0 (Proc.devRef .tc main_v23_15)) (broadcastInDim S1x4 ![1] bcast_S4_S1x4_1 (Host.reduceAdd (shapeCast S4x1x1 (Host.reduceAdd (mulf (res_main_while0b_v40 V0) (V0 (Proc.devRef .tc main_v23_9))) (constant S_ .f32 0x00000000#32) reducesTo_S4x128x128_S4_d1_2 h_S_) shapeCasts_S4_S4x1x1) (constant S_ .f32 0x00000000#32) reducesTo_S4x1x1_S4_d1_2 h_S_)) (fun k => (((![res_main_while0b_v39 V0, constantI S_ 32 0#32] : Fin 2 → (⟨S_, .i32⟩ : BufTy).Contents (Elt F))) k (Shape.Idx.first h_S_)).toInt) updateFits_S128x4_S1x4) = _
  exact al_104 h
theorem step_8 (h : Holds V0 s j) : step_main_v23_8 V0 = constantI S_ 32 (BitVec.ofNat 32 (j + 1)) := by
  unfold step_main_v23_8
  rw [h.n_8]
  funext i
  show BitVec.ofNat 32 j + 1#32 = BitVec.ofNat 32 (j + 1)
  simp only [BitVec.ofNat_add]

set_option maxRecDepth 8192 in
theorem out_main_v30_holds (h : Holds V0 s j) : out_main_v30 V0 = Cert.ReferenceIdeal.Step.R_main_v30 s := by
  unfold out_main_v30 Cert.ReferenceIdeal.Step.R_main_v30
  rw [h.f_13]
  try rfl

set_option maxRecDepth 8192 in
theorem out_main_v28_holds (h : Holds V0 s j) : out_main_v28 V0 = Cert.ReferenceIdeal.Step.R_main_v28 s := by
  unfold out_main_v28 Cert.ReferenceIdeal.Step.R_main_v28
  rw [h.f_14]
  try rfl

set_option maxRecDepth 8192 in
theorem out_main_v33_holds (h : Holds V0 s j) : out_main_v33 V0 = Cert.ReferenceIdeal.Step.R_main_v33 s := by
  unfold out_main_v33 Cert.ReferenceIdeal.Step.R_main_v33
  rw [h.f_12]
  try rfl

set_option maxRecDepth 8192 in
theorem out_main_v37_holds (h : Holds V0 s j) : out_main_v37 V0 = Cert.ReferenceIdeal.Step.R_main_v37 s := by
  unfold out_main_v37 Cert.ReferenceIdeal.Step.R_main_v37
  rw [h.f_10]
  try rfl

set_option maxRecDepth 8192 in
theorem out_main_v35_holds (h : Holds V0 s j) : out_main_v35 V0 = Cert.ReferenceIdeal.Step.R_main_v35 s := by
  unfold out_main_v35 Cert.ReferenceIdeal.Step.R_main_v35
  rw [h.f_11]
  try rfl

set_option maxRecDepth 8192 in
theorem out_main_v26_holds (h : Holds V0 s j) : out_main_v26 V0 = Cert.ReferenceIdeal.Step.R_main_v26 s := by
  unfold out_main_v26 Cert.ReferenceIdeal.Step.R_main_v26
  rw [h.f_15]
  try rfl

/-- One trip keeps the valuation holding: `step` of the state, the same set-up values, the next number. -/
theorem holds_step (h : Holds V0 s j) : Holds (STEP V0) (step j s) (j + 1) where
  f_9 := (STEP_main_v23_9 V0).trans (step_9 h)
  f_10 := (STEP_main_v23_10 V0).trans (step_10 h)
  f_11 := (STEP_main_v23_11 V0).trans (step_11 h)
  f_12 := (STEP_main_v23_12 V0).trans (step_12 h)
  f_13 := (STEP_main_v23_13 V0).trans (step_13 h)
  f_14 := (STEP_main_v23_14 V0).trans (step_14 h)
  f_15 := (STEP_main_v23_15 V0).trans (step_15 h)
  n_8 := (STEP_main_v23_8 V0).trans (step_8 h)
  f_0 := (STEP_main_v23_0 V0).trans h.f_0
  f_1 := (STEP_main_v23_1 V0).trans h.f_1
  f_2 := (STEP_main_v23_2 V0).trans h.f_2
  f_3 := (STEP_main_v23_3 V0).trans h.f_3
  f_4 := (STEP_main_v23_4 V0).trans h.f_4
  f_5 := (STEP_main_v23_5 V0).trans h.f_5
  f_6 := (STEP_main_v23_6 V0).trans h.f_6
  f_7 := (STEP_main_v23_7 V0).trans h.f_7

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v30) = Cert.ReferenceIdeal.Step.R_main_v30 (it c 128)
      ∧ r.2.mem ((c.tc : Thread nD τ).loc main_v28) = Cert.ReferenceIdeal.Step.R_main_v28 (it c 128)
      ∧ r.2.mem ((c.tc : Thread nD τ).loc main_v33) = Cert.ReferenceIdeal.Step.R_main_v33 (it c 128)
      ∧ r.2.mem ((c.tc : Thread nD τ).loc main_v37) = Cert.ReferenceIdeal.Step.R_main_v37 (it c 128)
      ∧ r.2.mem ((c.tc : Thread nD τ).loc main_v35) = Cert.ReferenceIdeal.Step.R_main_v35 (it c 128)
      ∧ r.2.mem ((c.tc : Thread nD τ).loc main_v26) = Cert.ReferenceIdeal.Step.R_main_v26 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 128
    ⟨(h c).1.trans (out_main_v30_holds hk), (h c).2.1.trans (out_main_v28_holds hk), (h c).2.2.1.trans (out_main_v33_holds hk), (h c).2.2.2.1.trans (out_main_v37_holds hk), (h c).2.2.2.2.1.trans (out_main_v35_holds hk), (h c).2.2.2.2.2.1.trans (out_main_v26_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.StepIter

end
-- ==== Proof.ReferenceValue.lean ====
module

public import proofs.«01_k».proof.Proof.ReferenceIter
public import proofs.«01_k».proof.Proof.Maths
public import proofs.«01_k».proof.Proof.Stack

/-!
# The backward reference's results over the extended reals

Its reversed scan's stacks are the cotangents of the recurrence's operands.
-/

@[expose] public section

set_option maxRecDepth 16384

noncomputable section

namespace Cert.ReferenceIdeal.Value
open Cert Cert.ReferenceIdeal Cert.ReferenceIdeal.Gen Cert.ReferenceIdeal.Step Cert.ReferenceIdeal.StepIter
open Idealize.ShloMosaic Idealize.ShloMosaic.TcCoe Idealize.SL.Sem

/-! ## The operands, chunk by chunk -/

section Operands
variable (u w qk qd kd : (⟨S8192x512, .f32⟩ : BufTy).Contents (Elt Ideal)) (dec : (⟨S1024x512, .f32⟩ : BufTy).Contents (Elt Ideal))
variable (o : (⟨S8192x512, .f32⟩ : BufTy).Contents (Elt Ideal))

theorem qd_apply (n : Fin 128) (h : Fin 4) (t : Fin 64) (d : Fin 128) :
    A_main_v1 (F := Ideal) u w qk qd kd dec o (ix4 n h t d) = Maths.rowsAt qd n.val h t d := by
  pointwise [A_main_v1, A_main_v0]
  exact congrArg₂ (fun i j => qd (ix2 i j)) (Fin.ext (by show n.val * 64 + t.val = (64 * n.val + t.val) % 8192; omega))
    (Fin.ext (by show h.val * 128 + d.val = 128 * h.val + d.val; omega))
theorem kd_apply (n : Fin 128) (h : Fin 4) (t : Fin 64) (d : Fin 128) :
    A_main_v3 (F := Ideal) u w qk qd kd dec o (ix4 n h t d) = Maths.rowsAt kd n.val h t d := by
  pointwise [A_main_v3, A_main_v2]
  exact congrArg₂ (fun i j => kd (ix2 i j)) (Fin.ext (by show n.val * 64 + t.val = (64 * n.val + t.val) % 8192; omega))
    (Fin.ext (by show h.val * 128 + d.val = 128 * h.val + d.val; omega))
theorem u_apply (n : Fin 128) (h : Fin 4) (t : Fin 64) (d : Fin 128) :
    A_main_v8 (F := Ideal) u w qk qd kd dec o (ix4 n h t d) = Maths.rowsAt u n.val h t d := by
  pointwise [A_main_v8, A_main_v7]
  exact congrArg₂ (fun i j => u (ix2 i j)) (Fin.ext (by show n.val * 64 + t.val = (64 * n.val + t.val) % 8192; omega))
    (Fin.ext (by show h.val * 128 + d.val = 128 * h.val + d.val; omega))
theorem w_apply (n : Fin 128) (h : Fin 4) (t : Fin 64) (d : Fin 128) :
    A_main_v10 (F := Ideal) u w qk qd kd dec o (ix4 n h t d) = Maths.rowsAt w n.val h t d := by
  pointwise [A_main_v10, A_main_v9]
  exact congrArg₂ (fun i j => w (ix2 i j)) (Fin.ext (by show n.val * 64 + t.val = (64 * n.val + t.val) % 8192; omega))
    (Fin.ext (by show h.val * 128 + d.val = 128 * h.val + d.val; omega))
theorem o_apply (n : Fin 128) (h : Fin 4) (t : Fin 64) (d : Fin 128) :
    A_main_v16 (F := Ideal) u w qk qd kd dec o (ix4 n h t d) = Maths.rowsAt o n.val h t d := by
  pointwise [A_main_v16, A_main_v15]
  exact congrArg₂ (fun i j => o (ix2 i j)) (Fin.ext (by show n.val * 64 + t.val = (64 * n.val + t.val) % 8192; omega))
    (Fin.ext (by show h.val * 128 + d.val = 128 * h.val + d.val; omega))
theorem qk_apply (n : Fin 128) (h : Fin 4) (t s : Fin 64) :
    A_main_v6 (F := Ideal) u w qk qd kd dec o (ix4 n h t s) = Maths.triAt qk n.val h t s := by
  pointwise [A_main_v6, A_main_v5, A_main_v4]
  exact congrArg₂ (fun i j => qk (ix2 i j)) (Fin.ext (by show n.val * 64 + t.val = (64 * n.val + t.val) % 8192; omega))
    (Fin.ext (by show h.val * 128 + s.val = 128 * h.val + s.val; omega))
theorem dec_apply (n : Fin 128) (h : Fin 4) :
    A_main_v13 (F := Ideal) u w qk qd kd dec o (ix2 n h) = Maths.decAt dec n.val h := by
  pointwise [A_main_v13, A_main_v12, A_main_v11]
  exact congrArg₂ (fun i j => dec (ix2 i j)) (Fin.ext (by show n.val * 8 = (8 * n.val) % 1024; omega))
    (Fin.ext (by show h.val * 128 = 128 * h.val + 0; omega))
end Operands

/-! ## One trip -/

section Trip
variable (n : ℕ) (hn : n < 128) (s : State Ideal)

/-- Heads first. -/
abbrev rows3 (x : S4x64x128.Idx → EReal) : Maths.Rows := fun h t d => x (ix3 h t d)
abbrev tri3 (x : S4x64x64.Idx → EReal) : Maths.Tri := fun h t d => x (ix3 h t d)
abbrev dec1 (x : S4.Idx → EReal) : Maths.Dec := fun h => x (ix1 h)

section Read
include hn

/-- A trip's chunk, counted from the last. -/
theorem b3_eq : ((b3 n s) (Shape.Idx.first h_S_)).toInt = (127 - n : ℕ) := Stack.word_back n hn

theorem b13_apply (h : Fin 4) (t : Fin 64) (d : Fin 128) : b13 n s (ix3 h t d) = s.main_v23_1 (ix4 (Fin.ofNat 128 (127 - n)) h t d) := by
  have e : b13 n s (ix3 h t d) = b12 n s (ix4 0 h t d) := by pointwise [b13]
  rw [e]; unfold b12
  exact Stack.read4 _ _ _ (127 - n) (by omega) (b3_eq n hn s) rfl rfl rfl 0 h t d
theorem b18_apply (h : Fin 4) (t : Fin 64) (d : Fin 128) : b18 n s (ix3 h t d) = s.main_v23_2 (ix4 (Fin.ofNat 128 (127 - n)) h t d) := by
  have e : b18 n s (ix3 h t d) = b17 n s (ix4 0 h t d) := by pointwise [b18]
  rw [e]; unfold b17
  exact Stack.read4 _ _ _ (127 - n) (by omega) (b3_eq n hn s) rfl rfl rfl 0 h t d
theorem b28_apply (h : Fin 4) (t : Fin 64) (d : Fin 128) : b28 n s (ix3 h t d) = s.main_v23_4 (ix4 (Fin.ofNat 128 (127 - n)) h t d) := by
  have e : b28 n s (ix3 h t d) = b27 n s (ix4 0 h t d) := by pointwise [b28]
  rw [e]; unfold b27
  exact Stack.read4 _ _ _ (127 - n) (by omega) (b3_eq n hn s) rfl rfl rfl 0 h t d
theorem b33_apply (h : Fin 4) (t : Fin 64) (d : Fin 128) : b33 n s (ix3 h t d) = s.main_v23_5 (ix4 (Fin.ofNat 128 (127 - n)) h t d) := by
  have e : b33 n s (ix3 h t d) = b32 n s (ix4 0 h t d) := by pointwise [b33]
  rw [e]; unfold b32
  exact Stack.read4 _ _ _ (127 - n) (by omega) (b3_eq n hn s) rfl rfl rfl 0 h t d
theorem b23_apply (h : Fin 4) (t : Fin 64) (d : Fin 64) : b23 n s (ix3 h t d) = s.main_v23_3 (ix4 (Fin.ofNat 128 (127 - n)) h t d) := by
  have e : b23 n s (ix3 h t d) = b22 n s (ix4 0 h t d) := by pointwise [b23]
  rw [e]; unfold b22
  exact Stack.read4 _ _ _ (127 - n) (by omega) (b3_eq n hn s) rfl rfl rfl 0 h t d
theorem b41_apply (h : Fin 4) (t : Fin 64) (d : Fin 128) : b41 n s (ix3 h t d) = s.main_v23_7 (ix4 (Fin.ofNat 128 (127 - n)) h t d) := by
  have e : b41 n s (ix3 h t d) = b40 n s (ix4 0 h t d) := by pointwise [b41]
  rw [e]; unfold b40
  exact Stack.read4 _ _ _ (127 - n) (by omega) (b3_eq n hn s) rfl rfl rfl 0 h t d
theorem b8_apply (h : Fin 4) (t : Fin 128) (d : Fin 128) : b8 n s (ix3 h t d) = s.main_v23_0 (ix4 (Fin.ofNat 128 (127 - n)) h t d) := by
  have e : b8 n s (ix3 h t d) = b7 n s (ix4 0 h t d) := by pointwise [b8]
  rw [e]; unfold b7
  exact Stack.read4 _ _ _ (127 - n) (by omega) (b3_eq n hn s) rfl rfl rfl 0 h t d
theorem b36_apply (h : Fin 4) : b36 n s (ix1 h) = s.main_v23_6 (ix2 (Fin.ofNat 128 (127 - n)) h) := by
  have e : b36 n s (ix1 h) = b35 n s (ix2 0 h) := by pointwise [b36]
  rw [e]; unfold b35
  exact Stack.read2 _ _ _ (127 - n) (by omega) (b3_eq n hn s) rfl 0 h

/-! The stacks with the chunk written. -/

theorem b81_apply (i : Fin 128) (h : Fin 4) (t : Fin 64) (d : Fin 128) :
    b81 n s (ix4 i h t d) = if i.val = 127 - n then b71 n s (ix3 h t d) else s.main_v23_10 (ix4 i h t d) := by
  have e : b77 n s (ix4 0 h t d) = b71 n s (ix3 h t d) := by pointwise [b77]
  rw [← e]; unfold b81
  exact Stack.write4 _ _ _ _ (127 - n) (by omega) (b3_eq n hn s) rfl rfl rfl i h t d
theorem b86_apply (i : Fin 128) (h : Fin 4) (t : Fin 64) (d : Fin 128) :
    b86 n s (ix4 i h t d) = if i.val = 127 - n then b55 n s (ix3 h t d) else s.main_v23_11 (ix4 i h t d) := by
  have e : b82 n s (ix4 0 h t d) = b55 n s (ix3 h t d) := by pointwise [b82]
  rw [← e]; unfold b86
  exact Stack.write4 _ _ _ _ (127 - n) (by omega) (b3_eq n hn s) rfl rfl rfl i h t d
theorem b91_apply (i : Fin 128) (h : Fin 4) (t : Fin 64) (d : Fin 64) :
    b91 n s (ix4 i h t d) = if i.val = 127 - n then b67 n s (ix3 h t d) else s.main_v23_12 (ix4 i h t d) := by
  have e : b87 n s (ix4 0 h t d) = b67 n s (ix3 h t d) := by pointwise [b87]
  rw [← e]; unfold b91
  exact Stack.write4 _ _ _ _ (127 - n) (by omega) (b3_eq n hn s) rfl rfl rfl i h t d
theorem b96_apply (i : Fin 128) (h : Fin 4) (t : Fin 64) (d : Fin 128) :
    b96 n s (ix4 i h t d) = if i.val = 127 - n then b66 n s (ix3 h t d) else s.main_v23_13 (ix4 i h t d) := by
  have e : b92 n s (ix4 0 h t d) = b66 n s (ix3 h t d) := by pointwise [b92]
  rw [← e]; unfold b96
  exact Stack.write4 _ _ _ _ (127 - n) (by omega) (b3_eq n hn s) rfl rfl rfl i h t d
theorem b101_apply (i : Fin 128) (h : Fin 4) (t : Fin 64) (d : Fin 128) :
    b101 n s (ix4 i h t d) = if i.val = 127 - n then b76 n s (ix3 h t d) else s.main_v23_14 (ix4 i h t d) := by
  have e : b97 n s (ix4 0 h t d) = b76 n s (ix3 h t d) := by pointwise [b97]
  rw [← e]; unfold b101
  exact Stack.write4 _ _ _ _ (127 - n) (by omega) (b3_eq n hn s) rfl rfl rfl i h t d
theorem b104_apply (i : Fin 128) (h : Fin 4) :
    b104 n s (ix2 i h) = if i.val = 127 - n then b63 n s (ix1 h) else s.main_v23_15 (ix2 i h) := by
  have e : b102 n s (ix2 0 h) = b63 n s (ix1 h) := by pointwise [b102]
  rw [← e]; unfold b104
  exact Stack.write2 _ _ _ _ (127 - n) (by omega) (b3_eq n hn s) rfl i h
end Read

theorem b43_apply (h : Fin 4) (t : Fin 64) (e : Fin 128) :
    b43 n s (ix3 h t e) = Maths.vnew (Maths.st (b8 n s)) (rows3 (b28 n s)) (rows3 (b33 n s)) h t e := by
  pointwise [b43, b42, Maths.vnew]
theorem b66_apply (h : Fin 4) (t : Fin 64) (e : Fin 128) :
    b66 n s (ix3 h t e) = Maths.du (Maths.st s.main_v23_9) (tri3 (b23 n s)) (rows3 (b18 n s)) (rows3 (b41 n s)) h t e := by
  pointwise [b66, b65, b64, b53, b52, Maths.du]
  exact congrArg₂ (· + ·) (Finset.sum_congr rfl fun _ _ => mul_comm _ _) (Finset.sum_congr rfl fun _ _ => mul_comm _ _)
theorem b72_apply (h : Fin 4) (t : Fin 64) (e : Fin 128) :
    b72 n s (ix3 h t e) = - Maths.du (Maths.st s.main_v23_9) (tri3 (b23 n s)) (rows3 (b18 n s)) (rows3 (b41 n s)) h t e := by
  pointwise [b72, b66_apply]
theorem b76_apply (h : Fin 4) (t : Fin 64) (d : Fin 128) :
    b76 n s (ix3 h t d) = Maths.dw (Maths.st s.main_v23_9) (Maths.st (b8 n s)) (tri3 (b23 n s)) (rows3 (b18 n s)) (rows3 (b41 n s)) h t d := by
  pointwise [b76, b72_apply, Maths.dw]
theorem b71_apply (h : Fin 4) (t : Fin 64) (d : Fin 128) :
    b71 n s (ix3 h t d) = Maths.dqd (Maths.st (b8 n s)) (rows3 (b41 n s)) h t d := by
  pointwise [b71, Maths.dqd]
theorem b67_apply (h : Fin 4) (t s' : Fin 64) :
    b67 n s (ix3 h t s') = Maths.dqk (Maths.st (b8 n s)) (rows3 (b28 n s)) (rows3 (b33 n s)) (rows3 (b41 n s)) h t s' := by
  pointwise [b67, b43_apply, Maths.dqk]
theorem b55_apply (h : Fin 4) (t : Fin 64) (d : Fin 128) :
    b55 n s (ix3 h t d) = Maths.dkd (Maths.st s.main_v23_9) (Maths.st (b8 n s)) (rows3 (b28 n s)) (rows3 (b33 n s)) h t d := by
  pointwise [b55, b54, b43_apply, Maths.dkd]
  exact Finset.sum_congr rfl fun _ _ => mul_comm _ _
theorem b63_apply (h : Fin 4) :
    b63 n s (ix1 h) = Maths.dc (Maths.st s.main_v23_9) (Maths.st (b8 n s)) h := by
  pointwise [b63, b62, b59, b58, b57, b56, Maths.dc]
  simp
theorem b75_apply (h : Fin 4) (d e : Fin 128) :
    b75 n s (ix3 h d e) = Maths.dS (Maths.st s.main_v23_9) (rows3 (b33 n s)) (tri3 (b23 n s)) (rows3 (b13 n s)) (rows3 (b18 n s))
      (dec1 (b36 n s)) (rows3 (b41 n s)) h d e := by
  pointwise [b75, b74, b73, b70, b69, b68, b61, b60, b47, b72_apply, Maths.dS]
  exact congrArg₂ (· + ·) (congrArg₂ (· + ·) rfl (Finset.sum_congr rfl fun _ _ => mul_comm _ _)) (Finset.sum_congr rfl fun _ _ => mul_comm _ _)
end Trip

/-! ## The scan -/

section Scan
variable (u w qk qd kd : (⟨S8192x512, .f32⟩ : BufTy).Contents (Elt Ideal)) (dec : (⟨S1024x512, .f32⟩ : BufTy).Contents (Elt Ideal))
variable (sts : (⟨S128x4x128x128, .f32⟩ : BufTy).Contents (Elt Ideal)) (o : (⟨S8192x512, .f32⟩ : BufTy).Contents (Elt Ideal))

/-- The states of the scan. -/
def it : ℕ → State Ideal
  | 0 => init sts u w qk qd kd dec o
  | n + 1 => step n (it n)

theorem it_0 : ∀ n, (it u w qk qd kd dec sts o n).main_v23_0 = sts
  | 0 => rfl
  | n + 1 => it_0 n
theorem it_1 : ∀ n, (it u w qk qd kd dec sts o n).main_v23_1 = A_main_v1 u w qk qd kd dec o
  | 0 => rfl
  | n + 1 => it_1 n
theorem it_2 : ∀ n, (it u w qk qd kd dec sts o n).main_v23_2 = A_main_v3 u w qk qd kd dec o
  | 0 => rfl
  | n + 1 => it_2 n
theorem it_3 : ∀ n, (it u w qk qd kd dec sts o n).main_v23_3 = A_main_v6 u w qk qd kd dec o
  | 0 => rfl
  | n + 1 => it_3 n
theorem it_4 : ∀ n, (it u w qk qd kd dec sts o n).main_v23_4 = A_main_v8 u w qk qd kd dec o
  | 0 => rfl
  | n + 1 => it_4 n
theorem it_5 : ∀ n, (it u w qk qd kd dec sts o n).main_v23_5 = A_main_v10 u w qk qd kd dec o
  | 0 => rfl
  | n + 1 => it_5 n
theorem it_6 : ∀ n, (it u w qk qd kd dec sts o n).main_v23_6 = A_main_v13 u w qk qd kd dec o
  | 0 => rfl
  | n + 1 => it_6 n
theorem it_7 : ∀ n, (it u w qk qd kd dec sts o n).main_v23_7 = A_main_v16 u w qk qd kd dec o
  | 0 => rfl
  | n + 1 => it_7 n
theorem qd_it (n : ℕ) (hn : n < 128) : rows3 (b13 n (it u w qk qd kd dec sts o n)) = Maths.rowsAt qd (127 - n) := by
  funext h t d
  show b13 n _ (ix3 h t d) = _
  rw [b13_apply n hn, it_1, qd_apply, show (Fin.ofNat 128 (127 - n)).val = 127 - n from Nat.mod_eq_of_lt (by omega)]
theorem kd_it (n : ℕ) (hn : n < 128) : rows3 (b18 n (it u w qk qd kd dec sts o n)) = Maths.rowsAt kd (127 - n) := by
  funext h t d
  show b18 n _ (ix3 h t d) = _
  rw [b18_apply n hn, it_2, kd_apply, show (Fin.ofNat 128 (127 - n)).val = 127 - n from Nat.mod_eq_of_lt (by omega)]
theorem u_it (n : ℕ) (hn : n < 128) : rows3 (b28 n (it u w qk qd kd dec sts o n)) = Maths.rowsAt u (127 - n) := by
  funext h t d
  show b28 n _ (ix3 h t d) = _
  rw [b28_apply n hn, it_4, u_apply, show (Fin.ofNat 128 (127 - n)).val = 127 - n from Nat.mod_eq_of_lt (by omega)]
theorem w_it (n : ℕ) (hn : n < 128) : rows3 (b33 n (it u w qk qd kd dec sts o n)) = Maths.rowsAt w (127 - n) := by
  funext h t d
  show b33 n _ (ix3 h t d) = _
  rw [b33_apply n hn, it_5, w_apply, show (Fin.ofNat 128 (127 - n)).val = 127 - n from Nat.mod_eq_of_lt (by omega)]
theorem qk_it (n : ℕ) (hn : n < 128) : tri3 (b23 n (it u w qk qd kd dec sts o n)) = Maths.triAt qk (127 - n) := by
  funext h t d
  show b23 n _ (ix3 h t d) = _
  rw [b23_apply n hn, it_3, qk_apply, show (Fin.ofNat 128 (127 - n)).val = 127 - n from Nat.mod_eq_of_lt (by omega)]
theorem o_it (n : ℕ) (hn : n < 128) : rows3 (b41 n (it u w qk qd kd dec sts o n)) = Maths.rowsAt o (127 - n) := by
  funext h t d
  show b41 n _ (ix3 h t d) = _
  rw [b41_apply n hn, it_7, o_apply, show (Fin.ofNat 128 (127 - n)).val = 127 - n from Nat.mod_eq_of_lt (by omega)]
theorem dec_it (n : ℕ) (hn : n < 128) : dec1 (b36 n (it u w qk qd kd dec sts o n)) = Maths.decAt dec (127 - n) := by
  funext h
  show b36 n _ (ix1 h) = _
  rw [b36_apply n hn, it_6, dec_apply, show (Fin.ofNat 128 (127 - n)).val = 127 - n from Nat.mod_eq_of_lt (by omega)]
theorem sts_it (n : ℕ) (hn : n < 128) : Maths.st (b8 n (it u w qk qd kd dec sts o n)) = Maths.stAt sts (127 - n) := by
  funext h d e
  show b8 n _ (ix3 h d e) = _
  rw [b8_apply n hn, it_0]

/-- The carried cotangent. -/
theorem carried : ∀ n, n ≤ 128 → Maths.st (it u w qk qd kd dec sts o n).main_v23_9 = Maths.ctAt w qk qd kd dec o n
  | 0, _ => by
    funext h d e
    show K_main_v14 (F := Ideal) (ix3 h d e) = 0
    pointwise [K_main_v14, K_main_cst]
  | n + 1, hn => by
    funext h d e
    show b75 n (it u w qk qd kd dec sts o n) (ix3 h d e) = _
    rw [b75_apply, carried n (by omega), w_it u w qk qd kd dec sts o n hn, qk_it u w qk qd kd dec sts o n hn, qd_it u w qk qd kd dec sts o n hn, kd_it u w qk qd kd dec sts o n hn, dec_it u w qk qd kd dec sts o n hn, o_it u w qk qd kd dec sts o n hn]
    rfl

/-! The stacks' entries already written: those of the last chunks. -/

theorem stack_du (h : Fin 4) (t : Fin 64) (e : Fin 128) : ∀ (n : ℕ) (_ : n ≤ 128) (i : Fin 128) (_ : 128 - n ≤ i.val),
    (it u w qk qd kd dec sts o n).main_v23_13 (ix4 i h t e) = Maths.du (Maths.ctAt w qk qd kd dec o (127 - i.val)) (Maths.triAt qk i.val) (Maths.rowsAt kd i.val) (Maths.rowsAt o i.val) h t e
  | 0, _, i, hi => absurd i.isLt (by omega)
  | n + 1, hn, i, hi => by
    show b96 n (it u w qk qd kd dec sts o n) (ix4 i h t e) = _
    rw [b96_apply n hn]
    by_cases e' : i.val = 127 - n
    · rw [if_pos e', b66_apply, carried u w qk qd kd dec sts o n (by omega), qk_it u w qk qd kd dec sts o n hn, kd_it u w qk qd kd dec sts o n hn, o_it u w qk qd kd dec sts o n hn, e', show 127 - (127 - n) = n by omega]
    · rw [if_neg e']; exact stack_du h t e n (by omega) i (by omega)
theorem stack_dw (h : Fin 4) (t : Fin 64) (e : Fin 128) : ∀ (n : ℕ) (_ : n ≤ 128) (i : Fin 128) (_ : 128 - n ≤ i.val),
    (it u w qk qd kd dec sts o n).main_v23_14 (ix4 i h t e) = Maths.dw (Maths.ctAt w qk qd kd dec o (127 - i.val)) (Maths.stAt sts i.val) (Maths.triAt qk i.val) (Maths.rowsAt kd i.val) (Maths.rowsAt o i.val) h t e
  | 0, _, i, hi => absurd i.isLt (by omega)
  | n + 1, hn, i, hi => by
    show b101 n (it u w qk qd kd dec sts o n) (ix4 i h t e) = _
    rw [b101_apply n hn]
    by_cases e' : i.val = 127 - n
    · rw [if_pos e', b76_apply, carried u w qk qd kd dec sts o n (by omega), sts_it u w qk qd kd dec sts o n hn, qk_it u w qk qd kd dec sts o n hn, kd_it u w qk qd kd dec sts o n hn, o_it u w qk qd kd dec sts o n hn, e', show 127 - (127 - n) = n by omega]
    · rw [if_neg e']; exact stack_dw h t e n (by omega) i (by omega)
theorem stack_dqk (h : Fin 4) (t : Fin 64) (e : Fin 64) : ∀ (n : ℕ) (_ : n ≤ 128) (i : Fin 128) (_ : 128 - n ≤ i.val),
    (it u w qk qd kd dec sts o n).main_v23_12 (ix4 i h t e) = Maths.dqk (Maths.stAt sts i.val) (Maths.rowsAt u i.val) (Maths.rowsAt w i.val) (Maths.rowsAt o i.val) h t e
  | 0, _, i, hi => absurd i.isLt (by omega)
  | n + 1, hn, i, hi => by
    show b91 n (it u w qk qd kd dec sts o n) (ix4 i h t e) = _
    rw [b91_apply n hn]
    by_cases e' : i.val = 127 - n
    · rw [if_pos e', b67_apply, sts_it u w qk qd kd dec sts o n hn, u_it u w qk qd kd dec sts o n hn, w_it u w qk qd kd dec sts o n hn, o_it u w qk qd kd dec sts o n hn, e']
    · rw [if_neg e']; exact stack_dqk h t e n (by omega) i (by omega)
theorem stack_dqd (h : Fin 4) (t : Fin 64) (e : Fin 128) : ∀ (n : ℕ) (_ : n ≤ 128) (i : Fin 128) (_ : 128 - n ≤ i.val),
    (it u w qk qd kd dec sts o n).main_v23_10 (ix4 i h t e) = Maths.dqd (Maths.stAt sts i.val) (Maths.rowsAt o i.val) h t e
  | 0, _, i, hi => absurd i.isLt (by omega)
  | n + 1, hn, i, hi => by
    show b81 n (it u w qk qd kd dec sts o n) (ix4 i h t e) = _
    rw [b81_apply n hn]
    by_cases e' : i.val = 127 - n
    · rw [if_pos e', b71_apply, sts_it u w qk qd kd dec sts o n hn, o_it u w qk qd kd dec sts o n hn, e']
    · rw [if_neg e']; exact stack_dqd h t e n (by omega) i (by omega)
theorem stack_dkd (h : Fin 4) (t : Fin 64) (e : Fin 128) : ∀ (n : ℕ) (_ : n ≤ 128) (i : Fin 128) (_ : 128 - n ≤ i.val),
    (it u w qk qd kd dec sts o n).main_v23_11 (ix4 i h t e) = Maths.dkd (Maths.ctAt w qk qd kd dec o (127 - i.val)) (Maths.stAt sts i.val) (Maths.rowsAt u i.val) (Maths.rowsAt w i.val) h t e
  | 0, _, i, hi => absurd i.isLt (by omega)
  | n + 1, hn, i, hi => by
    show b86 n (it u w qk qd kd dec sts o n) (ix4 i h t e) = _
    rw [b86_apply n hn]
    by_cases e' : i.val = 127 - n
    · rw [if_pos e', b55_apply, carried u w qk qd kd dec sts o n (by omega), sts_it u w qk qd kd dec sts o n hn, u_it u w qk qd kd dec sts o n hn, w_it u w qk qd kd dec sts o n hn, e', show 127 - (127 - n) = n by omega]
    · rw [if_neg e']; exact stack_dkd h t e n (by omega) i (by omega)
theorem stack_ddec (h : Fin 4) : ∀ (n : ℕ) (_ : n ≤ 128) (i : Fin 128) (_ : 128 - n ≤ i.val),
    (it u w qk qd kd dec sts o n).main_v23_15 (ix2 i h) = Maths.dc (Maths.ctAt w qk qd kd dec o (127 - i.val)) (Maths.stAt sts i.val) h
  | 0, _, i, hi => absurd i.isLt (by omega)
  | n + 1, hn, i, hi => by
    show b104 n (it u w qk qd kd dec sts o n) (ix2 i h) = _
    rw [b104_apply n hn]
    by_cases e' : i.val = 127 - n
    · rw [if_pos e', b63_apply, carried u w qk qd kd dec sts o n (by omega), sts_it u w qk qd kd dec sts o n hn, e', show 127 - (127 - n) = n by omega]
    · rw [if_neg e']; exact stack_ddec h n (by omega) i (by omega)

/-! ## The results -/

/-- The place of a row and a column in a stack of chunks. -/
abbrev ch (i : S8192x512.Idx) : Fin 128 := ⟨(i 0).val / 64, by have : (i 0).val < 8192 := (i 0).isLt; omega⟩

theorem res_du : R_main_v30 (it u w qk qd kd dec sts o 128) = Maths.duRes w qk qd kd dec o := by
  funext i
  have ei : i = ix2 (i 0) (i 1) := by funext a; fin_cases a <;> rfl
  have e : R_main_v30 (it u w qk qd kd dec sts o 128) (ix2 (i 0) (i 1))
      = (it u w qk qd kd dec sts o 128).main_v23_13 (ix4 (ch i) (Maths.hd (i 1)) (Maths.tk (i 0)) (Maths.ln (i 1))) := by
    have h0 : (i 0).val < 8192 := (i 0).isLt
    have h1 : (i 1).val < 512 := (i 1).isLt
    pointwise [R_main_v30]
  refine (congrArg _ ei).trans (e.trans ?_)
  exact stack_du u w qk qd kd dec sts o _ _ _ 128 (le_refl _) _ (by omega)
theorem res_dw : R_main_v28 (it u w qk qd kd dec sts o 128) = Maths.dwRes w qk qd kd dec sts o := by
  funext i
  have ei : i = ix2 (i 0) (i 1) := by funext a; fin_cases a <;> rfl
  have e : R_main_v28 (it u w qk qd kd dec sts o 128) (ix2 (i 0) (i 1))
      = (it u w qk qd kd dec sts o 128).main_v23_14 (ix4 (ch i) (Maths.hd (i 1)) (Maths.tk (i 0)) (Maths.ln (i 1))) := by
    have h0 : (i 0).val < 8192 := (i 0).isLt
    have h1 : (i 1).val < 512 := (i 1).isLt
    pointwise [R_main_v28]
  refine (congrArg _ ei).trans (e.trans ?_)
  exact stack_dw u w qk qd kd dec sts o _ _ _ 128 (le_refl _) _ (by omega)
theorem res_dqd : R_main_v37 (it u w qk qd kd dec sts o 128) = Maths.dqdRes sts o := by
  funext i
  have ei : i = ix2 (i 0) (i 1) := by funext a; fin_cases a <;> rfl
  have e : R_main_v37 (it u w qk qd kd dec sts o 128) (ix2 (i 0) (i 1))
      = (it u w qk qd kd dec sts o 128).main_v23_10 (ix4 (ch i) (Maths.hd (i 1)) (Maths.tk (i 0)) (Maths.ln (i 1))) := by
    have h0 : (i 0).val < 8192 := (i 0).isLt
    have h1 : (i 1).val < 512 := (i 1).isLt
    pointwise [R_main_v37]
  refine (congrArg _ ei).trans (e.trans ?_)
  exact stack_dqd u w qk qd kd dec sts o _ _ _ 128 (le_refl _) _ (by omega)
theorem res_dkd : R_main_v35 (it u w qk qd kd dec sts o 128) = Maths.dkdRes u w qk qd kd dec sts o := by
  funext i
  have ei : i = ix2 (i 0) (i 1) := by funext a; fin_cases a <;> rfl
  have e : R_main_v35 (it u w qk qd kd dec sts o 128) (ix2 (i 0) (i 1))
      = (it u w qk qd kd dec sts o 128).main_v23_11 (ix4 (ch i) (Maths.hd (i 1)) (Maths.tk (i 0)) (Maths.ln (i 1))) := by
    have h0 : (i 0).val < 8192 := (i 0).isLt
    have h1 : (i 1).val < 512 := (i 1).isLt
    pointwise [R_main_v35]
  refine (congrArg _ ei).trans (e.trans ?_)
  exact stack_dkd u w qk qd kd dec sts o _ _ _ 128 (le_refl _) _ (by omega)
theorem dite_iff {P Q : Prop} [Decidable P] [Decidable Q] {α : Type} {a : P → α} {b : Q → α} {z : α} (h : P ↔ Q)
    (hab : ∀ p q, a p = b q) : (if h : P then a h else z) = if h : Q then b h else z := by
  by_cases q : Q
  · exact (dif_pos (h.2 q)).trans ((hab _ _).trans (dif_pos q).symm)
  · rw [dif_neg (fun p => q (h.1 p)), dif_neg q]
theorem dite_ite {P Q : Prop} [Decidable P] [Decidable Q] {α : Type} {a : P → α} {b z : α} (h : P ↔ Q)
    (hab : ∀ p, a p = b) : (if h : P then a h else z) = if Q then b else z := by
  by_cases q : Q
  · exact (dif_pos (h.2 q)).trans ((hab _).trans (if_pos q).symm)
  · rw [dif_neg (fun p => q (h.1 p)), if_neg q]
theorem res_dqk : R_main_v33 (it u w qk qd kd dec sts o 128) = Maths.dqkRes u w sts o := by
  funext i
  have ei : i = ix2 (i 0) (i 1) := by funext a; fin_cases a <;> rfl
  have e : ∀ s : State Ideal, R_main_v33 s (ix2 (i 0) (i 1))
      = if h : (i 1).val % 128 < 64 then s.main_v23_12 (ix4 (ch i) (Maths.hd (i 1)) (Maths.tk (i 0)) ⟨(i 1).val % 128, h⟩) else 0 := by
    have h0 : (i 0).val < 8192 := (i 0).isLt
    have h1 : (i 1).val < 512 := (i 1).isLt
    intro s
    pointwise [R_main_v33]
    exact dite_iff ⟨fun h => h.2.2.2, fun h => ⟨by omega, by omega, by omega, h⟩⟩ (fun _ _ => rfl)
  refine (congrArg _ ei).trans ((e _).trans ?_)
  unfold Maths.dqkRes
  split
  · exact stack_dqk u w qk qd kd dec sts o _ _ _ 128 (le_refl _) _ (by omega)
  · rfl
theorem res_ddec : R_main_v26 (it u w qk qd kd dec sts o 128) = Maths.ddecRes w qk qd kd dec sts o := by
  funext i
  have ei : i = ix2 (i 0) (i 1) := by funext a; fin_cases a <;> rfl
  have e : ∀ s : State Ideal, R_main_v26 s (ix2 (i 0) (i 1))
      = if (i 0).val % 8 = 0 ∧ (i 1).val % 128 = 0 then s.main_v23_15 (ix2 ⟨(i 0).val / 8, by have : (i 0).val < 1024 := (i 0).isLt; omega⟩ (Maths.hd (i 1))) else 0 := by
    have h0 : (i 0).val < 1024 := (i 0).isLt
    have h1 : (i 1).val < 512 := (i 1).isLt
    intro s
    pointwise [R_main_v26]
    exact dite_ite ⟨fun h => ⟨by omega, by omega⟩, fun h => ⟨by omega, by omega, by omega, by omega⟩⟩ (fun _ => rfl)
  refine (congrArg _ ei).trans ((e _).trans ?_)
  unfold Maths.ddecRes
  split
  · exact stack_ddec u w qk qd kd dec sts o _ 128 (le_refl _) _ (by omega)
  · rfl
end Scan

end Cert.ReferenceIdeal.Value
end
-- ==== Proof.Products.lean ====
module

public import Idealize.ShloMosaic.Lib.Pointwise

/-!
# Matrix products over the extended reals

The products of two matrices a layer needs, `a b`, `a bᵀ` and `aᵀ b`, with the squared rectifier and its gradient. Both
programs are read down to these.
-/

@[expose] public section

noncomputable section

namespace Cert.Products
open Idealize.ShloMosaic

abbrev Mat (m n : ℕ) := (⟨2, ![m, n]⟩ : Shape).Idx → EReal

/-- `a b`, `a bᵀ` and `aᵀ b`. -/
def nn {m k n : ℕ} (a : Mat m k) (b : Mat k n) : Mat m n := fun i => ∑ x : Fin k, a (ix2 (i 0) x) * b (ix2 x (i 1))
def nt {m k n : ℕ} (a : Mat m k) (b : Mat n k) : Mat m n := fun i => ∑ x : Fin k, a (ix2 (i 0) x) * b (ix2 (i 1) x)
def tn {m k n : ℕ} (a : Mat k m) (b : Mat k n) : Mat m n := fun i => ∑ x : Fin k, a (ix2 x (i 0)) * b (ix2 x (i 1))

/-- The constant 2, as both programs spell it. -/
abbrev two : EReal := Ideal.ofBits .f32 0x40000000#32

/-- The square of the positive part, and its gradient at `u` applied to the cotangent `d`. -/
def relu2 {m n : ℕ} (u : Mat m n) : Mat m n := fun i => max (u i) 0 * max (u i) 0
def drelu2 {m n : ℕ} (d u : Mat m n) : Mat m n := fun i => d i * (two * max (u i) 0)
def plus {m n : ℕ} (a b : Mat m n) : Mat m n := fun i => a i + b i

/-- The layer's output and its cotangents, from its input `x`, the normalised input `h`, the weights `u` and `d`, and the
cotangent `ct` of the output. -/
def Mlp.out {s e f : ℕ} (x h : Mat s e) (u : Mat e f) (d : Mat f e) : Mat s e := plus (nn (relu2 (nn h u)) d) x
def Mlp.dup {s e f : ℕ} (h : Mat s e) (u : Mat e f) (d : Mat f e) (ct : Mat s e) : Mat s f := drelu2 (nt ct d) (nn h u)
def Mlp.dwDown {s e f : ℕ} (h : Mat s e) (u : Mat e f) (ct : Mat s e) : Mat f e := tn (relu2 (nn h u)) ct
def Mlp.dh {s e f : ℕ} (h : Mat s e) (u : Mat e f) (d : Mat f e) (ct : Mat s e) : Mat s e := nt (Mlp.dup h u d ct) u
def Mlp.dwUp {s e f : ℕ} (h : Mat s e) (u : Mat e f) (d : Mat f e) (ct : Mat s e) : Mat e f := tn h (Mlp.dup h u d ct)

/-- Where `u` is not positive the gradient is a product with 0, so cutting it off there changes nothing. -/
theorem cut_eq (d u : EReal) : (if 0 < u then d * (two * max u 0) else 0) = d * (two * max u 0) := by
  by_cases h : 0 < u
  · rw [if_pos h]
  · rw [if_neg h, max_eq_right (not_lt.mp h), mul_zero, mul_zero]

theorem tn_comm {m k n : ℕ} (a : Mat k m) (b : Mat k n) (i : Fin m) (j : Fin n) :
    tn a b (ix2 i j) = tn b a (ix2 j i) :=
  Finset.sum_congr rfl fun _ _ => mul_comm _ _

end Cert.Products
end
-- ==== Proof.MlpBlocks.lean ====
module

public import proofs.«01_k».proof.Proof.Products
public import proofs.«01_k».proof.Proof.Gen.MlpIdeal.Frame
public import Idealize.ShloMosaic.Lib.Pipeline.ValueKit.Point

/-!
# The layer's six products over the extended reals, one at a time

What each call leaves in its array, from the arrays it finds.
-/

@[expose] public section

set_option maxRecDepth 16384

noncomputable section

namespace Cert.MlpIdeal.Value
open Cert.MlpIdeal Cert.MlpIdeal.Gen Idealize.ShloMosaic Idealize.ShloMosaic.TcCoe Idealize.SL.Sem
open Cert.Products
open Idealize.ShloMosaic.Pipeline (Dat)

variable (V : (c : Dev nD) → (b : Ref sig .tc) → Buf (Elt Ideal) ((c : Thread nD τ).loc b)) (c : Dev nD)

/-! ## The product into the hidden layer, and its activation -/

theorem up_pay (a : Vec Ideal S256x1024 .bf16) (b : Vec Ideal S1024x4096 .bf16) (i : Fin 256) (j : Fin 4096) :
    k1_pay1 (F := Ideal) a b (ix2 i j) = ∑ x : Fin 1024, a (ix2 i x) * b (ix2 x j) := by
  pointwise [k1_pay1]

theorem act_pay (a : Vec Ideal S256x1024 .bf16) (b : Vec Ideal S1024x4096 .bf16) (i : Fin 256) (j : Fin 4096) :
    k1_pay2 (F := Ideal) a b (ix2 i j) = max (k1_pay1 (F := Ideal) a b (ix2 i j)) 0 * max (k1_pay1 (F := Ideal) a b (ix2 i j)) 0 := by
  pointwise [k1_pay2]

theorem index1 (t : Fin cfg1.N) :
    win1_0.index t = ![t.val, 0] ∧ win1_1.index t = ![0, 0] ∧ win1_2.index t = ![t.val, 0] ∧ win1_3.index t = ![t.val, 0] := by
  revert t; decide +kernel
theorem lt1 (t : Fin cfg1.N) : t.val < 32 := t.isLt.trans_le (by decide)

theorem up_a (t : Fin cfg1.N) (i : Fin 256) (x : Fin 1024) :
    iblk1 V c 0 t (ix2 i x) = V c main_v4 (ix2 ⟨256 * t.val + i.val, by have := lt1 t; omega⟩ x) := by
  blk_ext [iblk1, (index1 t).1]
theorem up_b (t : Fin cfg1.N) (x : Fin 1024) (j : Fin 4096) :
    iblk1 V c 1 t (ix2 x j) = V c main_v1 (ix2 x j) := by
  blk_ext [iblk1, (index1 t).2.1]

theorem up_block (t : Fin cfg1.N) (i : Fin 256) (j : Fin 4096) :
    out1_2 (F := Ideal) (iblk1 V c 0 t) (iblk1 V c 1 t) (ix2 i j) = (nn (V c main_v4) (V c main_v1)) (ix2 ⟨256 * t.val + i.val, by have := lt1 t; omega⟩ j) := by
  unfold out1_2
  rw [View.canon_cons_unit_lit (S := S256x4096) (off := ![0, 0]) _ _ _ (by decide), View.ld_unit_lit (S := S256x1024) (off := ![0, 0]) _ _ (by decide), View.ld_unit_lit (S := S1024x4096) (off := ![0, 0]) _ _ (by decide), up_pay]
  exact Finset.sum_congr rfl fun x _ => congrArg₂ (· * ·) (up_a V c t i x) (up_b V c t x j)
theorem up_final : (dat1 V c).arrAt 2 cfg1.N = nn (V c main_v4) (V c main_v1) := by
  refine (dat1 V c).arrAt_eq_of_covers 2 _ (by decide +kernel) fun t hf y => ?_
  blk_simp
  have ey : y = ix2 (y 0) (y 1) := by funext a; fin_cases a <;> rfl
  rw [after1_2]
  refine (congrArg _ ey).trans ((up_block V c t (y 0) (y 1)).trans (congrArg _ ?_))
  blk_ext [(index1 t).2.2.1]

theorem act_block (t : Fin cfg1.N) (i : Fin 256) (j : Fin 4096) :
    out1_3 (F := Ideal) (iblk1 V c 0 t) (iblk1 V c 1 t) (ix2 i j) = relu2 (nn (V c main_v4) (V c main_v1)) (ix2 ⟨256 * t.val + i.val, by have := lt1 t; omega⟩ j) := by
  have h := up_block V c t i j
  unfold out1_2 at h
  unfold out1_3
  rw [View.canon_cons_unit_lit (S := S256x4096) (off := ![0, 0]) _ _ _ (by decide), View.ld_unit_lit (S := S256x1024) (off := ![0, 0]) _ _ (by decide), View.ld_unit_lit (S := S1024x4096) (off := ![0, 0]) _ _ (by decide)] at h ⊢
  rw [act_pay, h]
  rfl
theorem act_final : (dat1 V c).arrAt 3 cfg1.N = relu2 (nn (V c main_v4) (V c main_v1)) := by
  refine (dat1 V c).arrAt_eq_of_covers 3 _ (by decide +kernel) fun t hf y => ?_
  blk_simp
  have ey : y = ix2 (y 0) (y 1) := by funext a; fin_cases a <;> rfl
  rw [after1_3]
  refine (congrArg _ ey).trans ((act_block V c t (y 0) (y 1)).trans (congrArg _ ?_))
  blk_ext [(index1 t).2.2.2]

/-! ## The product out of the hidden layer, added to the layer's input -/

theorem down_pay (a : Vec Ideal S512x4096 .bf16) (b : Vec Ideal S4096x1024 .bf16) (e : Vec Ideal S512x1024 .f32) (i : Fin 512) (j : Fin 1024) :
    k2_pay1 (F := Ideal) a b e (ix2 i j) = (∑ x : Fin 4096, a (ix2 i x) * b (ix2 x j)) + e (ix2 i j) := by
  pointwise [k2_pay1]

theorem index2 (t : Fin cfg2.N) :
    win2_0.index t = ![t.val, 0] ∧ win2_1.index t = ![0, 0] ∧ win2_2.index t = ![t.val, 0] ∧ win2_3.index t = ![t.val, 0] := by
  revert t; decide +kernel
theorem lt2 (t : Fin cfg2.N) : t.val < 16 := t.isLt.trans_le (by decide)

theorem down_a (t : Fin cfg2.N) (i : Fin 512) (x : Fin 4096) :
    iblk2 V c 0 t (ix2 i x) = V c main_v5_1 (ix2 ⟨512 * t.val + i.val, by have := lt2 t; omega⟩ x) := by
  blk_ext [iblk2, (index2 t).1]
theorem down_b (t : Fin cfg2.N) (x : Fin 4096) (j : Fin 1024) :
    iblk2 V c 1 t (ix2 x j) = V c main_v2 (ix2 x j) := by
  blk_ext [iblk2, (index2 t).2.1]
theorem down_e (t : Fin cfg2.N) (i : Fin 512) (j : Fin 1024) :
    iblk2 V c 2 t (ix2 i j) = V c main_arg0 (ix2 ⟨512 * t.val + i.val, by have := lt2 t; omega⟩ j) := by
  blk_ext [iblk2, (index2 t).2.2.1]

theorem down_block (t : Fin cfg2.N) (i : Fin 512) (j : Fin 1024) :
    out2_3 (F := Ideal) (iblk2 V c 0 t) (iblk2 V c 1 t) (iblk2 V c 2 t) (ix2 i j) = (plus (nn (V c main_v5_1) (V c main_v2)) (V c main_arg0)) (ix2 ⟨512 * t.val + i.val, by have := lt2 t; omega⟩ j) := by
  unfold out2_3
  rw [View.canon_cons_unit_lit (S := S512x1024) (off := ![0, 0]) _ _ _ (by decide), View.ld_unit_lit (S := S512x4096) (off := ![0, 0]) _ _ (by decide), View.ld_unit_lit (S := S4096x1024) (off := ![0, 0]) _ _ (by decide), View.ld_unit_lit (S := S512x1024) (off := ![0, 0]) _ _ (by decide), down_pay, down_e V c t i j]
  exact congrArg (· + _) (Finset.sum_congr rfl fun x _ => congrArg₂ (· * ·) (down_a V c t i x) (down_b V c t x j))
theorem down_final : (dat2 V c).arrAt 3 cfg2.N = plus (nn (V c main_v5_1) (V c main_v2)) (V c main_arg0) := by
  refine (dat2 V c).arrAt_eq_of_covers 3 _ (by decide +kernel) fun t hf y => ?_
  blk_simp
  have ey : y = ix2 (y 0) (y 1) := by funext a; fin_cases a <;> rfl
  rw [after2_3]
  refine (congrArg _ ey).trans ((down_block V c t (y 0) (y 1)).trans (congrArg _ ?_))
  blk_ext [(index2 t).2.2.2]

/-! ## The cotangent before the activation -/

theorem dup_pay (a : Vec Ideal S256x1024 .bf16) (b : Vec Ideal S4096x1024 .bf16) (e : Vec Ideal S256x4096 .f32) (i : Fin 256) (j : Fin 4096) :
    k3_pay1 (F := Ideal) a b e (ix2 i j) = (∑ x : Fin 1024, a (ix2 i x) * b (ix2 j x)) * (two * max (e (ix2 i j)) 0) := by
  pointwise [k3_pay1]

theorem index3 (t : Fin cfg3.N) :
    win3_0.index t = ![t.val, 0] ∧ win3_1.index t = ![0, 0] ∧ win3_2.index t = ![t.val, 0] ∧ win3_3.index t = ![t.val, 0] := by
  revert t; decide +kernel
theorem lt3 (t : Fin cfg3.N) : t.val < 32 := t.isLt.trans_le (by decide)

theorem dup_a (t : Fin cfg3.N) (i : Fin 256) (x : Fin 1024) :
    iblk3 V c 0 t (ix2 i x) = V c main_v3 (ix2 ⟨256 * t.val + i.val, by have := lt3 t; omega⟩ x) := by
  blk_ext [iblk3, (index3 t).1]
theorem dup_b (t : Fin cfg3.N) (j : Fin 4096) (x : Fin 1024) :
    iblk3 V c 1 t (ix2 j x) = V c main_v2 (ix2 j x) := by
  blk_ext [iblk3, (index3 t).2.1]
theorem dup_e (t : Fin cfg3.N) (i : Fin 256) (j : Fin 4096) :
    iblk3 V c 2 t (ix2 i j) = V c main_v5_0 (ix2 ⟨256 * t.val + i.val, by have := lt3 t; omega⟩ j) := by
  blk_ext [iblk3, (index3 t).2.2.1]

theorem dup_block (t : Fin cfg3.N) (i : Fin 256) (j : Fin 4096) :
    out3_3 (F := Ideal) (iblk3 V c 0 t) (iblk3 V c 1 t) (iblk3 V c 2 t) (ix2 i j) = (drelu2 (nt (V c main_v3) (V c main_v2)) (V c main_v5_0)) (ix2 ⟨256 * t.val + i.val, by have := lt3 t; omega⟩ j) := by
  unfold out3_3
  rw [View.canon_cons_unit_lit (S := S256x4096) (off := ![0, 0]) _ _ _ (by decide), View.ld_unit_lit (S := S256x1024) (off := ![0, 0]) _ _ (by decide), View.ld_unit_lit (S := S4096x1024) (off := ![0, 0]) _ _ (by decide), View.ld_unit_lit (S := S256x4096) (off := ![0, 0]) _ _ (by decide), dup_pay, dup_e V c t i j]
  exact congrArg (· * _) (Finset.sum_congr rfl fun x _ => congrArg₂ (· * ·) (dup_a V c t i x) (dup_b V c t j x))
theorem dup_final : (dat3 V c).arrAt 3 cfg3.N = drelu2 (nt (V c main_v3) (V c main_v2)) (V c main_v5_0) := by
  refine (dat3 V c).arrAt_eq_of_covers 3 _ (by decide +kernel) fun t hf y => ?_
  blk_simp
  have ey : y = ix2 (y 0) (y 1) := by funext a; fin_cases a <;> rfl
  rw [after3_3]
  refine (congrArg _ ey).trans ((dup_block V c t (y 0) (y 1)).trans (congrArg _ ?_))
  blk_ext [(index3 t).2.2.2]

/-! ## The gradient of the second weight -/

theorem dwDown_pay (a : Vec Ideal S8192x256 .bf16) (b : Vec Ideal S8192x1024 .bf16) (i : Fin 256) (j : Fin 1024) :
    k4_pay1 (F := Ideal) a b (ix2 i j) = ∑ x : Fin 8192, a (ix2 x i) * b (ix2 x j) := by
  pointwise [k4_pay1]

theorem index4 (t : Fin cfg4.N) :
    win4_0.index t = ![0, t.val] ∧ win4_1.index t = ![0, 0] ∧ win4_2.index t = ![t.val, 0] := by
  revert t; decide +kernel
theorem lt4 (t : Fin cfg4.N) : t.val < 16 := t.isLt.trans_le (by decide)

theorem dwDown_a (t : Fin cfg4.N) (x : Fin 8192) (i : Fin 256) :
    iblk4 V c 0 t (ix2 x i) = V c main_v5_1 (ix2 x ⟨256 * t.val + i.val, by have := lt4 t; omega⟩) := by
  blk_ext [iblk4, (index4 t).1]
theorem dwDown_b (t : Fin cfg4.N) (x : Fin 8192) (j : Fin 1024) :
    iblk4 V c 1 t (ix2 x j) = V c main_v3 (ix2 x j) := by
  blk_ext [iblk4, (index4 t).2.1]

theorem dwDown_block (t : Fin cfg4.N) (i : Fin 256) (j : Fin 1024) :
    out4_2 (F := Ideal) (iblk4 V c 0 t) (iblk4 V c 1 t) (ix2 i j) = (tn (V c main_v5_1) (V c main_v3)) (ix2 ⟨256 * t.val + i.val, by have := lt4 t; omega⟩ j) := by
  unfold out4_2
  rw [View.canon_cons_unit_lit (S := S256x1024) (off := ![0, 0]) _ _ _ (by decide), View.ld_unit_lit (S := S8192x256) (off := ![0, 0]) _ _ (by decide), View.ld_unit_lit (S := S8192x1024) (off := ![0, 0]) _ _ (by decide), dwDown_pay]
  exact Finset.sum_congr rfl fun x _ => congrArg₂ (· * ·) (dwDown_a V c t x i) (dwDown_b V c t x j)
theorem dwDown_final : (dat4 V c).arrAt 2 cfg4.N = tn (V c main_v5_1) (V c main_v3) := by
  refine (dat4 V c).arrAt_eq_of_covers 2 _ (by decide +kernel) fun t hf y => ?_
  blk_simp
  have ey : y = ix2 (y 0) (y 1) := by funext a; fin_cases a <;> rfl
  rw [after4_2]
  refine (congrArg _ ey).trans ((dwDown_block V c t (y 0) (y 1)).trans (congrArg _ ?_))
  blk_ext [(index4 t).2.2]

/-! ## The cotangent of the layer's input -/

theorem dh_pay (a : Vec Ideal S1024x4096 .bf16) (b : Vec Ideal S1024x4096 .bf16) (i : Fin 1024) (j : Fin 1024) :
    k5_pay1 (F := Ideal) a b (ix2 i j) = ∑ x : Fin 4096, a (ix2 i x) * b (ix2 j x) := by
  pointwise [k5_pay1]

theorem index5 (t : Fin cfg5.N) :
    win5_0.index t = ![t.val, 0] ∧ win5_1.index t = ![0, 0] ∧ win5_2.index t = ![t.val, 0] := by
  revert t; decide +kernel
theorem lt5 (t : Fin cfg5.N) : t.val < 8 := t.isLt.trans_le (by decide)

theorem dh_a (t : Fin cfg5.N) (i : Fin 1024) (x : Fin 4096) :
    iblk5 V c 0 t (ix2 i x) = V c main_v7 (ix2 ⟨1024 * t.val + i.val, by have := lt5 t; omega⟩ x) := by
  blk_ext [iblk5, (index5 t).1]
theorem dh_b (t : Fin cfg5.N) (j : Fin 1024) (x : Fin 4096) :
    iblk5 V c 1 t (ix2 j x) = V c main_v1 (ix2 j x) := by
  blk_ext [iblk5, (index5 t).2.1]

theorem dh_block (t : Fin cfg5.N) (i : Fin 1024) (j : Fin 1024) :
    out5_2 (F := Ideal) (iblk5 V c 0 t) (iblk5 V c 1 t) (ix2 i j) = (nt (V c main_v7) (V c main_v1)) (ix2 ⟨1024 * t.val + i.val, by have := lt5 t; omega⟩ j) := by
  unfold out5_2
  rw [View.canon_cons_unit_lit (S := S1024x1024) (off := ![0, 0]) _ _ _ (by decide), View.ld_unit_lit (S := S1024x4096) (off := ![0, 0]) _ _ (by decide), View.ld_unit_lit (S := S1024x4096) (off := ![0, 0]) _ _ (by decide), dh_pay]
  exact Finset.sum_congr rfl fun x _ => congrArg₂ (· * ·) (dh_a V c t i x) (dh_b V c t j x)
theorem dh_final : (dat5 V c).arrAt 2 cfg5.N = nt (V c main_v7) (V c main_v1) := by
  refine (dat5 V c).arrAt_eq_of_covers 2 _ (by decide +kernel) fun t hf y => ?_
  blk_simp
  have ey : y = ix2 (y 0) (y 1) := by funext a; fin_cases a <;> rfl
  rw [after5_2]
  refine (congrArg _ ey).trans ((dh_block V c t (y 0) (y 1)).trans (congrArg _ ?_))
  blk_ext [(index5 t).2.2]

/-! ## The gradient of the first weight -/

theorem dwUp_pay (a : Vec Ideal S8192x1024 .bf16) (b : Vec Ideal S8192x256 .bf16) (i : Fin 1024) (j : Fin 256) :
    k6_pay1 (F := Ideal) a b (ix2 i j) = ∑ x : Fin 8192, a (ix2 x i) * b (ix2 x j) := by
  pointwise [k6_pay1]

theorem index6 (t : Fin cfg6.N) :
    win6_0.index t = ![0, 0] ∧ win6_1.index t = ![0, t.val] ∧ win6_2.index t = ![0, t.val] := by
  revert t; decide +kernel
theorem lt6 (t : Fin cfg6.N) : t.val < 16 := t.isLt.trans_le (by decide)

theorem dwUp_a (t : Fin cfg6.N) (x : Fin 8192) (i : Fin 1024) :
    iblk6 V c 0 t (ix2 x i) = V c main_v4 (ix2 x i) := by
  blk_ext [iblk6, (index6 t).1]
theorem dwUp_b (t : Fin cfg6.N) (x : Fin 8192) (j : Fin 256) :
    iblk6 V c 1 t (ix2 x j) = V c main_v7 (ix2 x ⟨256 * t.val + j.val, by have := lt6 t; omega⟩) := by
  blk_ext [iblk6, (index6 t).2.1]

theorem dwUp_block (t : Fin cfg6.N) (i : Fin 1024) (j : Fin 256) :
    out6_2 (F := Ideal) (iblk6 V c 0 t) (iblk6 V c 1 t) (ix2 i j) = (tn (V c main_v4) (V c main_v7)) (ix2 i ⟨256 * t.val + j.val, by have := lt6 t; omega⟩) := by
  unfold out6_2
  rw [View.canon_cons_unit_lit (S := S1024x256) (off := ![0, 0]) _ _ _ (by decide), View.ld_unit_lit (S := S8192x1024) (off := ![0, 0]) _ _ (by decide), View.ld_unit_lit (S := S8192x256) (off := ![0, 0]) _ _ (by decide), dwUp_pay]
  exact Finset.sum_congr rfl fun x _ => congrArg₂ (· * ·) (dwUp_a V c t x i) (dwUp_b V c t x j)
theorem dwUp_final : (dat6 V c).arrAt 2 cfg6.N = tn (V c main_v4) (V c main_v7) := by
  refine (dat6 V c).arrAt_eq_of_covers 2 _ (by decide +kernel) fun t hf y => ?_
  blk_simp
  have ey : y = ix2 (y 0) (y 1) := by funext a; fin_cases a <;> rfl
  rw [after6_2]
  refine (congrArg _ ey).trans ((dwUp_block V c t (y 0) (y 1)).trans (congrArg _ ?_))
  blk_ext [(index6 t).2.2]

end Cert.MlpIdeal.Value
end
-- ==== Proof.Norm.lean ====
module

public import proofs.«01_k».proof.Proof.Products

/-!
# The normalisation over the extended reals

The root-mean-square normalisation of the rows of a matrix 1024 wide, scaled by a gain, and its gradients. Both programs are
read down to these.
-/

@[expose] public section

noncomputable section

namespace Cert.Products
open Idealize.ShloMosaic

abbrev Row (n : ℕ) := (⟨1, ![n]⟩ : Shape).Idx → EReal

/-- The only row of a matrix of one row. -/
def row {n : ℕ} (b : Mat 1 n) : Row n := fun j => b (ix2 0 (j 0))

namespace Norm

/-- The constants 1024, the small addend and -1/2, as both programs spell them. -/
abbrev width : EReal := Ideal.ofBits .f32 0x44800000#32
abbrev eps : EReal := Ideal.ofBits .f32 0x358637BD#32
abbrev negHalf : EReal := Ideal.ofBits .f32 0xBF000000#32

variable {s : ℕ}

/-- A row's mean square, its inverse root, and the row times that. -/
def sq (x : Mat s 1024) (i : Fin s) : EReal := Ideal.div (∑ y : Fin 1024, x (ix2 i y) * x (ix2 i y)) width + eps
def inv (x : Mat s 1024) (i : Fin s) : EReal := Ideal.rsqrt (sq x i)
def hat (x : Mat s 1024) : Mat s 1024 := fun i => x i * inv x (i 0)

/-- The normalised rows scaled by the gain `g`. -/
def out (x : Mat s 1024) (g : Row 1024) : Mat s 1024 := fun i => hat x i * g (ix1 (i 1))

/-- The cotangent of a row's sum of squares, from the cotangent `dy` of the normalised rows. -/
def q (x : Mat s 1024) (g : Row 1024) (dy : Mat s 1024) (i : Fin s) : EReal :=
  Ideal.div ((∑ y : Fin 1024, x (ix2 i y) * (dy (ix2 i y) * g (ix1 y))) * (negHalf * Ideal.div (inv x i) (sq x i))) width

/-- The cotangent of `x`, to which `res` is added, and that of the gain. -/
def dx (x : Mat s 1024) (g : Row 1024) (dy res : Mat s 1024) : Mat s 1024 := fun i =>
  dy i * g (ix1 (i 1)) * inv x (i 0) + x i * q x g dy (i 0) + q x g dy (i 0) * x i + res i
def dg (x dy : Mat s 1024) : Row 1024 := fun j => ∑ i : Fin s, hat x (ix2 i (j 0)) * dy (ix2 i (j 0))

end Norm

end Cert.Products
end
-- ==== Proof.MlpNorm.lean ====
module

public import proofs.«01_k».proof.Proof.Norm
public import proofs.«01_k».proof.Proof.Gen.MlpIdeal.Frame
public import Idealize.ShloMosaic.Lib.Pipeline.ReadBack
public import Idealize.ShloMosaic.Lib.Pipeline.ValueKit.Point

/-!
# The layer's normalisation and its gradients over the extended reals

What the first and the last call leave in their arrays, from the arrays they find. The last adds the gain's gradient up over
the points of its grid.
-/

@[expose] public section

set_option maxRecDepth 16384

noncomputable section

namespace Cert.MlpIdeal.Value
open Cert.MlpIdeal Cert.MlpIdeal.Gen Idealize.ShloMosaic Idealize.ShloMosaic.TcCoe Idealize.SL.Sem
open Cert.Products
open Idealize.ShloMosaic.Pipeline (Dat)

variable (V : (c : Dev nD) → (b : Ref sig .tc) → Buf (Elt Ideal) ((c : Thread nD τ).loc b)) (c : Dev nD)

/-! ## The normalised rows -/

theorem norm_pay (g : Vec Ideal S1x1024 .f32) (x : Vec Ideal S1024x1024 .f32) (i : Fin 1024) (j : Fin 1024) :
    k0_pay1 (F := Ideal) g x (ix2 i j) = Norm.out x (row g) (ix2 i j) := by
  pointwise [k0_pay1, Norm.out, Norm.hat, Norm.inv, Norm.sq, row]

theorem index0 (t : Fin cfg0.N) :
    win0_0.index t = ![0, 0] ∧ win0_1.index t = ![t.val, 0] ∧ win0_2.index t = ![t.val, 0] := by
  revert t; decide +kernel
theorem lt0 (t : Fin cfg0.N) : t.val < 8 := t.isLt.trans_le (by decide)

theorem norm_g (t : Fin cfg0.N) (i : Fin 1) (j : Fin 1024) :
    iblk0 V c 0 t (ix2 i j) = V c main_v0 (ix2 i j) := by
  blk_ext [iblk0, (index0 t).1]
theorem norm_x (t : Fin cfg0.N) (i : Fin 1024) (j : Fin 1024) :
    iblk0 V c 1 t (ix2 i j) = V c main_arg0 (ix2 ⟨1024 * t.val + i.val, by have := lt0 t; omega⟩ j) := by
  blk_ext [iblk0, (index0 t).2.1]
theorem norm_block (t : Fin cfg0.N) (i : Fin 1024) (j : Fin 1024) :
    out0_2 (F := Ideal) (iblk0 V c 0 t) (iblk0 V c 1 t) (ix2 i j)
      = Norm.out (V c main_arg0 : Mat 8192 1024) (row (V c main_v0)) (ix2 ⟨1024 * t.val + i.val, by have := lt0 t; omega⟩ j) := by
  unfold out0_2
  rw [View.canon_cons_unit_lit (S := S1024x1024) (off := ![0, 0]) _ _ _ (by decide), View.ld_unit_lit (S := S1x1024) (off := ![0, 0]) _ _ (by decide), View.ld_unit_lit (S := S1024x1024) (off := ![0, 0]) _ _ (by decide), norm_pay]
  pointwise [Norm.out, Norm.hat, Norm.inv, Norm.sq, row, norm_g, norm_x]
theorem norm_final : (dat0 V c).arrAt 2 cfg0.N = Norm.out (V c main_arg0) (row (V c main_v0)) := by
  refine (dat0 V c).arrAt_eq_of_covers 2 _ (by decide +kernel) fun t hf y => ?_
  blk_simp
  have ey : y = ix2 (y 0) (y 1) := by funext a; fin_cases a <;> rfl
  rw [after0_2]
  refine (congrArg _ ey).trans ((norm_block V c t (y 0) (y 1)).trans (congrArg _ ?_))
  blk_ext [(index0 t).2.2]

/-! ## Its gradients -/

theorem sq_pay (x : Vec Ideal S512x1024 .f32) (i : Fin 512) (j : Fin 1) :
    k7_pay5 (F := Ideal) x (ix2 i j) = Norm.sq x i := by
  pointwise [k7_pay5, Norm.sq]
theorem inv_pay (x : Vec Ideal S512x1024 .f32) (i : Fin 512) (j : Fin 1) :
    k7_pay6 (F := Ideal) x (ix2 i j) = Norm.inv x i := by
  pointwise [k7_pay6, sq_pay, Norm.inv]
theorem dg_pay (x dy : Vec Ideal S512x1024 .f32) (i : Fin 1) (j : Fin 1024) :
    k7_pay7 (F := Ideal) x dy (ix2 i j) = Norm.dg x dy (ix1 j) := by
  pointwise [k7_pay7, k7_pay4, inv_pay, Norm.dg, Norm.hat]
theorem dx_pay (g : Vec Ideal S1x1024 .f32) (x dy res : Vec Ideal S512x1024 .f32) (i : Fin 512) (j : Fin 1024) :
    k7_pay2 (k7_pay8 (F := Ideal) g x dy) res (ix2 i j) = Norm.dx x (row g) dy res (ix2 i j) := by
  pointwise [k7_pay2, k7_pay8, k7_pay4, inv_pay, sq_pay, Norm.dx, Norm.q, row]
  simp only [Fin.sum_univ_one]
theorem acc_pay (a b : FVec Ideal S1x1024 .f32) (i : Fin 1) (j : Fin 1024) :
    k7_pay1 (F := Ideal) a b (ix2 i j) = b (ix2 i j) + a (ix2 i j) := by
  pointwise [k7_pay1]
theorem zero_pay (i : Fin 1) (j : Fin 1024) : k7_pay9 (F := Ideal) (ix2 i j) = 0 := by
  pointwise [k7_pay9]

theorem index7 (t : Fin cfg7.N) :
    win7_0.index t = ![0, 0] ∧ win7_1.index t = ![t.val, 0] ∧ win7_2.index t = ![t.val, 0] ∧ win7_3.index t = ![t.val, 0]
      ∧ win7_4.index t = ![0, 0] ∧ win7_5.index t = ![t.val, 0] := by
  revert t; decide +kernel
theorem lt7 (t : Fin cfg7.N) : t.val < 16 := t.isLt.trans_le (by decide)

theorem bwd_g (t : Fin cfg7.N) (i : Fin 1) (j : Fin 1024) :
    iblk7 V c 0 t (ix2 i j) = V c main_v0 (ix2 i j) := by
  blk_ext [iblk7, (index7 t).1]
theorem bwd_x (t : Fin cfg7.N) (i : Fin 512) (j : Fin 1024) :
    iblk7 V c 1 t (ix2 i j) = V c main_arg0 (ix2 ⟨512 * t.val + i.val, by have := lt7 t; omega⟩ j) := by
  blk_ext [iblk7, (index7 t).2.1]
theorem bwd_dy (t : Fin cfg7.N) (i : Fin 512) (j : Fin 1024) :
    iblk7 V c 2 t (ix2 i j) = V c main_v9 (ix2 ⟨512 * t.val + i.val, by have := lt7 t; omega⟩ j) := by
  blk_ext [iblk7, (index7 t).2.2.1]
theorem bwd_res (t : Fin cfg7.N) (i : Fin 512) (j : Fin 1024) :
    iblk7 V c 3 t (ix2 i j) = V c main_arg4 (ix2 ⟨512 * t.val + i.val, by have := lt7 t; omega⟩ j) := by
  blk_ext [iblk7, (index7 t).2.2.2.1]

/-- What a point leaves in the two arrays, at the first point and at the others. -/
theorem dg_A (t : Fin cfg7.N) (h0 : t.val % 16 = 0) :
    (outsAt7 V c t.val t.isLt).1 = k7_pay1 (k7_pay7 (iblk7 V c 1 t) (iblk7 V c 2 t)) (k7_pay9 (F := Ideal)) := by
  rw [outsAt7_A V c t h0]
  frame_open
  simp (disch := decide) only [View.read_writes_junk_eq_canon, View.canon_cons_unit_lit', View.readAt_eq_ld, View.ld_unit_lit', View.readCov_unit_lit', View.readCov_cons_unit_lit', Memref.IsWhole.read_unread]
theorem dg_B (t : Fin cfg7.N) (h0 : ¬t.val % 16 = 0) :
    (outsAt7 V c t.val t.isLt).1 = k7_pay1 (k7_pay7 (iblk7 V c 1 t) (iblk7 V c 2 t)) (outsAt7 V c (t.val - 1) (Nat.lt_of_le_of_lt (Nat.sub_le _ _) t.isLt)).1 := by
  rw [outsAt7_B V c t h0]
  frame_open
  simp (disch := decide) only [View.read_writes_junk_eq_canon, View.canon_cons_unit_lit', View.readAt_eq_ld, View.ld_unit_lit', View.readCov_unit_lit', View.readCov_cons_unit_lit', Memref.IsWhole.read_unread]
theorem dx_A (t : Fin cfg7.N) (h0 : t.val % 16 = 0) :
    (outsAt7 V c t.val t.isLt).2.1 = k7_pay2 (k7_pay8 (iblk7 V c 0 t) (iblk7 V c 1 t) (iblk7 V c 2 t)) (iblk7 V c 3 t) := by
  rw [outsAt7_A V c t h0]
  frame_open
  simp (disch := decide) only [View.read_writes_junk_eq_canon, View.canon_cons_unit_lit', View.readAt_eq_ld, View.ld_unit_lit', View.readCov_unit_lit', View.readCov_cons_unit_lit', Memref.IsWhole.read_unread]
theorem dx_B (t : Fin cfg7.N) (h0 : ¬t.val % 16 = 0) :
    (outsAt7 V c t.val t.isLt).2.1 = k7_pay2 (k7_pay8 (iblk7 V c 0 t) (iblk7 V c 1 t) (iblk7 V c 2 t)) (iblk7 V c 3 t) := by
  rw [outsAt7_B V c t h0]
  frame_open
  simp (disch := decide) only [View.read_writes_junk_eq_canon, View.canon_cons_unit_lit', View.readAt_eq_ld, View.ld_unit_lit', View.readCov_unit_lit', View.readCov_cons_unit_lit', Memref.IsWhole.read_unread]

theorem dx_block (t : Fin cfg7.N) (i : Fin 512) (j : Fin 1024) :
    (outsAt7 V c t.val t.isLt).2.1 (ix2 i j)
      = Norm.dx (V c main_arg0 : Mat 8192 1024) (row (V c main_v0)) (V c main_v9) (V c main_arg4) (ix2 ⟨512 * t.val + i.val, by have := lt7 t; omega⟩ j) := by
  have h : (outsAt7 V c t.val t.isLt).2.1 = k7_pay2 (k7_pay8 (iblk7 V c 0 t) (iblk7 V c 1 t) (iblk7 V c 2 t)) (iblk7 V c 3 t) := by
    by_cases h0 : t.val % 16 = 0
    · exact dx_A V c t h0
    · exact dx_B V c t h0
  rw [h, dx_pay]
  pointwise [Norm.dx, Norm.q, Norm.inv, Norm.sq, row, bwd_g, bwd_x, bwd_dy, bwd_res]
theorem dx_final : (dat7 V c).arrAt 5 cfg7.N = Norm.dx (V c main_arg0) (row (V c main_v0)) (V c main_v9) (V c main_arg4) := by
  refine (dat7 V c).arrAt_eq_of_covers 5 _ (by decide +kernel) fun t hf y => ?_
  blk_simp
  have ey : y = ix2 (y 0) (y 1) := by funext a; fin_cases a <;> rfl
  rw [after7_5]
  refine (congrArg _ ey).trans ((dx_block V c t (y 0) (y 1)).trans (congrArg _ ?_))
  blk_ext [(index7 t).2.2.2.2.2]

/-- The part of the gain's gradient that point `n` adds at column `j`. -/
def part (n : ℕ) (j : Fin 1024) : EReal :=
  if h : n < 16 then ∑ r : Fin 512, (fun i : Fin 8192 => Norm.hat (V c main_arg0 : Mat 8192 1024) (ix2 i j) * V c main_v9 (ix2 i j)) ⟨n * 512 + r.val, by omega⟩
  else 0
theorem part_eq (t : Fin cfg7.N) (j : Fin 1024) : Norm.dg (iblk7 V c 1 t : Mat 512 1024) (iblk7 V c 2 t) (ix1 j) = part V c t.val j := by
  have e (r : Fin 512) : (⟨512 * t.val + r.val, by have := lt7 t; omega⟩ : Fin 8192) = ⟨t.val * 512 + r.val, by have := lt7 t; omega⟩ :=
    Fin.ext (by show 512 * t.val + r.val = t.val * 512 + r.val; omega)
  rw [part, dif_pos (lt7 t)]
  refine Finset.sum_congr rfl fun r _ => ?_
  pointwise [Norm.hat, Norm.inv, Norm.sq, bwd_x, bwd_dy, e]
theorem dg_met (n : ℕ) (hn : n < cfg7.N) (j : Fin 1024) :
    (outsAt7 V c n hn).1 (ix2 0 j) = ∑ k ∈ Finset.range (n + 1), part V c k j := by
  induction n with
  | zero =>
    rw [dg_A V c ⟨0, hn⟩ rfl, acc_pay, zero_pay, zero_add, dg_pay, part_eq V c ⟨0, hn⟩ j, Finset.sum_range_one]
  | succ n ih =>
    have h16 := lt7 ⟨n + 1, hn⟩
    have h0 : ¬(n + 1) % 16 = 0 := by change n + 1 < 16 at h16; omega
    rw [dg_B V c ⟨n + 1, hn⟩ h0, acc_pay, dg_pay, part_eq V c ⟨n + 1, hn⟩ j, Finset.sum_range_succ]
    exact congrArg (· + _) (ih _)
theorem dg_sum (j : Fin 1024) : ∑ k ∈ Finset.range 16, part V c k j = Norm.dg (V c main_arg0 : Mat 8192 1024) (V c main_v9) (ix1 j) := by
  rw [Finset.sum_range]
  refine Eq.trans ?_ (Fin.sum_univ_tiles 16 512 rfl _).symm
  exact Finset.sum_congr rfl fun k _ => dif_pos k.isLt
theorem dg_last (t : Fin cfg7.N) (h : t.val = 15) (j : Fin 1024) :
    (outsAt7 V c t.val t.isLt).1 (ix2 0 j) = Norm.dg (V c main_arg0 : Mat 8192 1024) (V c main_v9) (ix1 j) := by
  rw [dg_met, h, dg_sum]
theorem dg_final : (dat7 V c).arrAt 4 cfg7.N = fun i : S1x1024.Idx => Norm.dg (V c main_arg0 : Mat 8192 1024) (V c main_v9) (ix1 (i 1)) := by
  refine (dat7 V c).arrAt_eq_of_covers 4 _ (by decide +kernel) fun t hf y => ?_
  have h15 : t.val = 15 := by have := (flush7_4 t).mp hf; have := lt7 t; omega
  blk_simp
  have ey : y = ix2 0 (y 1) := by
    funext a; fin_cases a
    · exact Subsingleton.elim (α := Fin 1) _ _
    · rfl
  rw [after7_4]
  refine (congrArg _ ey).trans ((dg_last V c t h15 (y 1)).trans (congrArg _ ?_))
  blk_ext [(index7 t).2.2.2.2.1]

end Cert.MlpIdeal.Value
end
-- ==== Proof.MlpValue.lean ====
module

public import proofs.«01_k».proof.Proof.MlpBlocks
public import proofs.«01_k».proof.Proof.MlpNorm

/-!
# The feed-forward sublayer's results over the extended reals

The contents of each array when its call returns, followed through the calls in their order, from the arguments.
-/

@[expose] public section

set_option maxRecDepth 16384

noncomputable section

namespace Cert.MlpIdeal.Value
open Cert.MlpIdeal Cert.MlpIdeal.Gen Idealize.ShloMosaic Idealize.ShloMosaic.TcCoe Idealize.SL.Sem
open Cert.Products
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg)

local notation "𝕄" => MT nD τ sig Unit (Elt Ideal) ℕ (UR sig nD τ) ℕ

/-! ## The run: every array ends at the last contents of the chain of calls -/

set_option backward.isDefEq.respectTransparency.types false in
theorem run : θ_run defs (onTc (τ := τ) (main (F := Ideal))) ⟨m, fun _ => 0, ρ⟩ (fun r => ∀ c : Dev nD,
    ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-! ## The arrays, call by call -/

section Arrays
variable (c : Dev nD)

theorem cast_v1 : W1 m ρ c (Proc.devRef .tc main_v1) = m ((c : Thread nD τ).loc main_arg2) := by
  unfold W1
  after_results
  rfl

theorem cast_v2 : W1 m ρ c (Proc.devRef .tc main_v2) = m ((c : Thread nD τ).loc main_arg3) := by
  unfold W1
  after_results
  rfl

theorem cast_v3 : W1 m ρ c (Proc.devRef .tc main_v3) = m ((c : Thread nD τ).loc main_arg4) := by
  unfold W1
  after_results
  rfl

theorem gain_row : row (W1 m ρ c (Proc.devRef .tc main_v0)) = (m ((c : Thread nD τ).loc main_arg1)) := by
  unfold W1
  after_results
  funext j
  have ej : j = ix1 (j 0) := by funext a; fin_cases a; rfl
  refine Eq.trans ?_ (congrArg _ ej.symm)
  pointwise [row]

theorem norm_at : W2 m ρ c (Proc.devRef .tc main_v4) = Norm.out (m ((c : Thread nD τ).loc main_arg0)) (m ((c : Thread nD τ).loc main_arg1)) :=
  (W2_arr m ρ c 2).trans ((norm_final (V1 m ρ) c).trans
    (congrArg₂ Norm.out (W1_args m ρ c main_arg0 (by decide)) (gain_row m ρ c)))

theorem up_at : W3 m ρ c (Proc.devRef .tc main_v5_0) = nn (Norm.out (m ((c : Thread nD τ).loc main_arg0)) (m ((c : Thread nD τ).loc main_arg1))) (m ((c : Thread nD τ).loc main_arg2)) :=
  (W3_arr m ρ c 2).trans ((up_final (V2 m ρ) c).trans
    (congrArg₂ nn (norm_at m ρ c) ((W2_of m ρ c main_v1 (by decide +kernel)).trans (cast_v1 m ρ c))))

theorem act_at : W3 m ρ c (Proc.devRef .tc main_v5_1) = relu2 (nn (Norm.out (m ((c : Thread nD τ).loc main_arg0)) (m ((c : Thread nD τ).loc main_arg1))) (m ((c : Thread nD τ).loc main_arg2))) :=
  (W3_arr m ρ c 3).trans ((act_final (V2 m ρ) c).trans
    (congrArg relu2 (congrArg₂ nn (norm_at m ρ c) ((W2_of m ρ c main_v1 (by decide +kernel)).trans (cast_v1 m ρ c)))))

theorem down_at : W4 m ρ c (Proc.devRef .tc main_v6) = Mlp.out (m ((c : Thread nD τ).loc main_arg0)) (Norm.out (m ((c : Thread nD τ).loc main_arg0)) (m ((c : Thread nD τ).loc main_arg1))) (m ((c : Thread nD τ).loc main_arg2)) (m ((c : Thread nD τ).loc main_arg3)) :=
  (W4_arr m ρ c 3).trans ((down_final (V3 m ρ) c).trans
    (congrArg₂ plus (congrArg₂ nn (act_at m ρ c) (((W3_of m ρ c main_v2 (by decide +kernel)).trans (W2_of m ρ c main_v2 (by decide +kernel))).trans (cast_v2 m ρ c))) (W3_args m ρ c main_arg0 (by decide))))

theorem dup_at : W5 m ρ c (Proc.devRef .tc main_v7) = Mlp.dup (Norm.out (m ((c : Thread nD τ).loc main_arg0)) (m ((c : Thread nD τ).loc main_arg1))) (m ((c : Thread nD τ).loc main_arg2)) (m ((c : Thread nD τ).loc main_arg3)) (m ((c : Thread nD τ).loc main_arg4)) :=
  (W5_arr m ρ c 3).trans ((dup_final (V4 m ρ) c).trans
    (congrArg₂ drelu2 (congrArg₂ nt ((((W4_of m ρ c main_v3 (by decide +kernel)).trans (W3_of m ρ c main_v3 (by decide +kernel))).trans (W2_of m ρ c main_v3 (by decide +kernel))).trans (cast_v3 m ρ c)) ((((W4_of m ρ c main_v2 (by decide +kernel)).trans (W3_of m ρ c main_v2 (by decide +kernel))).trans (W2_of m ρ c main_v2 (by decide +kernel))).trans (cast_v2 m ρ c))) ((W4_of m ρ c main_v5_0 (by decide +kernel)).trans (up_at m ρ c))))

theorem dwDown_at : W6 m ρ c (Proc.devRef .tc main_v8) = Mlp.dwDown (Norm.out (m ((c : Thread nD τ).loc main_arg0)) (m ((c : Thread nD τ).loc main_arg1))) (m ((c : Thread nD τ).loc main_arg2)) (m ((c : Thread nD τ).loc main_arg4)) :=
  (W6_arr m ρ c 2).trans ((dwDown_final (V5 m ρ) c).trans
    (congrArg₂ tn (((W5_of m ρ c main_v5_1 (by decide +kernel)).trans (W4_of m ρ c main_v5_1 (by decide +kernel))).trans (act_at m ρ c)) (((((W5_of m ρ c main_v3 (by decide +kernel)).trans (W4_of m ρ c main_v3 (by decide +kernel))).trans (W3_of m ρ c main_v3 (by decide +kernel))).trans (W2_of m ρ c main_v3 (by decide +kernel))).trans (cast_v3 m ρ c))))

theorem dh_at : W7 m ρ c (Proc.devRef .tc main_v9) = Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4)) :=
  (W7_arr m ρ c 2).trans ((dh_final (V6 m ρ) c).trans
    (congrArg₂ nt ((W6_of m ρ c main_v7 (by decide +kernel)).trans (dup_at m ρ c)) ((((((W6_of m ρ c main_v1 (by decide +kernel)).trans (W5_of m ρ c main_v1 (by decide +kernel))).trans (W4_of m ρ c main_v1 (by decide +kernel))).trans (W3_of m ρ c main_v1 (by decide +kernel))).trans (W2_of m ρ c main_v1 (by decide +kernel))).trans (cast_v1 m ρ c))))

theorem dwUp_at : W8 m ρ c (Proc.devRef .tc main_v10) = Mlp.dwUp (Norm.out (m ((c : Thread nD τ).loc main_arg0)) (m ((c : Thread nD τ).loc main_arg1))) (m ((c : Thread nD τ).loc main_arg2)) (m ((c : Thread nD τ).loc main_arg3)) (m ((c : Thread nD τ).loc main_arg4)) :=
  (W8_arr m ρ c 2).trans ((dwUp_final (V7 m ρ) c).trans
    (congrArg₂ tn ((((((W7_of m ρ c main_v4 (by decide +kernel)).trans (W6_of m ρ c main_v4 (by decide +kernel))).trans (W5_of m ρ c main_v4 (by decide +kernel))).trans (W4_of m ρ c main_v4 (by decide +kernel))).trans (W3_of m ρ c main_v4 (by decide +kernel))).trans (norm_at m ρ c)) (((W7_of m ρ c main_v7 (by decide +kernel)).trans (W6_of m ρ c main_v7 (by decide +kernel))).trans (dup_at m ρ c))))

theorem gain_row_end : row (W8 m ρ c (Proc.devRef .tc main_v0)) = (m ((c : Thread nD τ).loc main_arg1)) :=
  (congrArg row (((((((W8_of m ρ c main_v0 (by decide +kernel)).trans (W7_of m ρ c main_v0 (by decide +kernel))).trans (W6_of m ρ c main_v0 (by decide +kernel))).trans (W5_of m ρ c main_v0 (by decide +kernel))).trans (W4_of m ρ c main_v0 (by decide +kernel))).trans (W3_of m ρ c main_v0 (by decide +kernel))).trans (W2_of m ρ c main_v0 (by decide +kernel)))).trans (gain_row m ρ c)
theorem dx_at : W9 m ρ c (Proc.devRef .tc main_v11_1) = Norm.dx (m ((c : Thread nD τ).loc main_arg0)) (m ((c : Thread nD τ).loc main_arg1)) (Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg4)) :=
  (W9_arr m ρ c 5).trans ((dx_final (V8 m ρ) c).trans
    (congr (congr (congrArg₂ Norm.dx (W8_args m ρ c main_arg0 (by decide)) (gain_row_end m ρ c)) ((W8_of m ρ c main_v9 (by decide +kernel)).trans (dh_at m ρ c))) (W8_args m ρ c main_arg4 (by decide))))
theorem dg_at : W9 m ρ c (Proc.devRef .tc main_v11_0) = fun i : S1x1024.Idx => Norm.dg (m ((c : Thread nD τ).loc main_arg0)) (Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4))) (ix1 (i 1)) :=
  (W9_arr m ρ c 4).trans ((dg_final (V8 m ρ) c).trans
    (congrArg₂ (fun (a b : Mat 8192 1024) (i : S1x1024.Idx) => Norm.dg a b (ix1 (i 1))) (W8_args m ρ c main_arg0 (by decide)) ((W8_of m ρ c main_v9 (by decide +kernel)).trans (dh_at m ρ c))))
theorem gain_end : W10 m ρ c (Proc.devRef .tc main_v12) = Norm.dg (m ((c : Thread nD τ).loc main_arg0)) (Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4))) := by
  have e : W10 m ρ c (Proc.devRef .tc main_v12) = shapeCast S1024 (W9 m ρ c (Proc.devRef .tc main_v11_0)) shapeCasts_S1x1024_S1024 := by
    unfold W10
    after_results
    rfl
  rw [e, dg_at]
  funext j
  have ej : j = ix1 (j 0) := by funext a; fin_cases a; rfl
  refine (congrArg _ ej).trans (Eq.trans ?_ (congrArg _ ej.symm))
  pointwise

theorem down_end : W10 m ρ c (Proc.devRef .tc main_v6) = Mlp.out (m ((c : Thread nD τ).loc main_arg0)) (Norm.out (m ((c : Thread nD τ).loc main_arg0)) (m ((c : Thread nD τ).loc main_arg1))) (m ((c : Thread nD τ).loc main_arg2)) (m ((c : Thread nD τ).loc main_arg3)) :=
  ((((((W10_of m ρ c main_v6 (by decide +kernel)).trans (W9_of m ρ c main_v6 (by decide +kernel))).trans (W8_of m ρ c main_v6 (by decide +kernel))).trans (W7_of m ρ c main_v6 (by decide +kernel))).trans (W6_of m ρ c main_v6 (by decide +kernel))).trans (W5_of m ρ c main_v6 (by decide +kernel))).trans (down_at m ρ c)

theorem dwDown_end : W10 m ρ c (Proc.devRef .tc main_v8) = Mlp.dwDown (Norm.out (m ((c : Thread nD τ).loc main_arg0)) (m ((c : Thread nD τ).loc main_arg1))) (m ((c : Thread nD τ).loc main_arg2)) (m ((c : Thread nD τ).loc main_arg4)) :=
  ((((W10_of m ρ c main_v8 (by decide +kernel)).trans (W9_of m ρ c main_v8 (by decide +kernel))).trans (W8_of m ρ c main_v8 (by decide +kernel))).trans (W7_of m ρ c main_v8 (by decide +kernel))).trans (dwDown_at m ρ c)

theorem dwUp_end : W10 m ρ c (Proc.devRef .tc main_v10) = Mlp.dwUp (Norm.out (m ((c : Thread nD τ).loc main_arg0)) (m ((c : Thread nD τ).loc main_arg1))) (m ((c : Thread nD τ).loc main_arg2)) (m ((c : Thread nD τ).loc main_arg3)) (m ((c : Thread nD τ).loc main_arg4)) :=
  ((W10_of m ρ c main_v10 (by decide +kernel)).trans (W9_of m ρ c main_v10 (by decide +kernel))).trans (dwUp_at m ρ c)

theorem dx_end : W10 m ρ c (Proc.devRef .tc main_v11_1) = Norm.dx (m ((c : Thread nD τ).loc main_arg0)) (m ((c : Thread nD τ).loc main_arg1)) (Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg4)) :=
  (W10_of m ρ c main_v11_1 (by decide +kernel)).trans (dx_at m ρ c)

end Arrays

/-- The results and the arguments at the end, from the arguments. -/
theorem run_values : θ_run defs (onTc (τ := τ) (main (F := Ideal))) ⟨m, fun _ => 0, ρ⟩ (fun r => ∀ c : Dev nD,
      r.2.mem ((c : Thread nD τ).loc main_v6) = Mlp.out (m ((c : Thread nD τ).loc main_arg0)) (Norm.out (m ((c : Thread nD τ).loc main_arg0)) (m ((c : Thread nD τ).loc main_arg1))) (m ((c : Thread nD τ).loc main_arg2)) (m ((c : Thread nD τ).loc main_arg3))
      ∧ r.2.mem ((c : Thread nD τ).loc main_v11_1) = Norm.dx (m ((c : Thread nD τ).loc main_arg0)) (m ((c : Thread nD τ).loc main_arg1)) (Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg4))
      ∧ r.2.mem ((c : Thread nD τ).loc main_v12) = Norm.dg (m ((c : Thread nD τ).loc main_arg0)) (Mlp.dh (Norm.out (m ((c : Thread nD τ).loc main_arg0)) (m ((c : Thread nD τ).loc main_arg1))) (m ((c : Thread nD τ).loc main_arg2)) (m ((c : Thread nD τ).loc main_arg3)) (m ((c : Thread nD τ).loc main_arg4)))
      ∧ r.2.mem ((c : Thread nD τ).loc main_v10) = Mlp.dwUp (Norm.out (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v8) = Mlp.dwDown (Norm.out (m ((c : Thread nD τ).loc main_arg0)) (m ((c : Thread nD τ).loc main_arg1))) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c _ (mem_uc main_v6 (by decide))).trans (down_end m ρ c),
    (h c _ (mem_uc main_v11_1 (by decide))).trans (dx_end m ρ c),
    (h c _ (mem_uc main_v12 (by decide))).trans (gain_end m ρ c),
    (h c _ (mem_uc main_v10 (by decide))).trans (dwUp_end m ρ c),
    (h c _ (mem_uc main_v8 (by decide))).trans (dwDown_end m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c)⟩) (run m ρ)

end Cert.MlpIdeal.Value
end
-- ==== Proof.MlpReferenceValue.lean ====
module

public import proofs.«01_k».proof.Proof.Norm
public import proofs.«01_k».proof.Proof.Gen.MlpReferenceIdeal.Run

/-!
# The layer's reference over the extended reals

The reference's results, read down to the same products.
-/

@[expose] public section

noncomputable section

namespace Cert.MlpReferenceIdeal.Value
open Cert.MlpReferenceIdeal Cert.MlpReferenceIdeal.Gen Idealize.ShloMosaic Idealize.ShloMosaic.TcCoe Idealize.SL.Sem
open Cert.Products

variable (a0 : FVec Ideal S8192x1024 .f32) (a1 : FVec Ideal S1024 .f32) (a2 : FVec Ideal S1024x4096 .f32) (a3 : FVec Ideal S4096x1024 .f32) (a4 : FVec Ideal S8192x1024 .f32)

/-- An array is known by its entries. -/
theorem mat_ext {p q : ℕ} {x y : Mat p q} (h : ∀ (i : Fin p) (j : Fin q), x (ix2 i j) = y (ix2 i j)) : x = y := by
  funext i
  have e : i = ix2 (i 0) (i 1) := by funext a; fin_cases a <;> rfl
  rw [e]
  exact h _ _

/-! ## The normalisation and its gradients -/

theorem add_first (a b c d : EReal) : d + a + b + c = a + b + c + d := by
  rw [add_assoc, add_assoc, add_comm, ← add_assoc]
theorem norm_eq (x : FVec Ideal S8192x1024 .f32) (g : FVec Ideal S1024 .f32) :
    mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))
      = Norm.out x g := by
  refine mat_ext fun i j => ?_
  pointwise [Norm.out, Norm.hat, Norm.inv, Norm.sq]
theorem dg_eq (x dy : FVec Ideal S8192x1024 .f32) :
    Host.reduceAdd (shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) dy) (constant S_ .f32 0x00000000#32) reducesTo_S8192x1024_S1024_d0 h_S_) shapeCasts_S1024_S1x1024) (constant S_ .f32 0x00000000#32) reducesTo_S1x1024_S1024_d0 h_S_
      = Norm.dg x dy := by
  funext j
  have ej : j = ix1 (j 0) := by funext a; fin_cases a; rfl
  refine (congrArg _ ej).trans (Eq.trans ?_ (congrArg _ ej.symm))
  pointwise [Norm.dg, Norm.hat, Norm.inv, Norm.sq]
  exact Fin.sum_univ_one _
theorem dx_eq (x dy ct : FVec Ideal S8192x1024 .f32) (g : FVec Ideal S1024 .f32) :
    addf (addf (addf ct (mulf (mulf dy (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x (broadcastInDim S8192x1024 ![0] bcast_S8192_S8192x1024_0 (Host.reduceAdd (Host.divf (mulf (shapeCast _ (Host.reduceAdd (mulf x (mulf dy (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf dy (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)
      = Norm.dx x g dy ct := by
  refine mat_ext fun i j => ?_
  pointwise [Norm.dx, Norm.q, Norm.inv, Norm.sq]
  simp only [Fin.sum_univ_one]
  exact add_first _ _ _ _

/-! ## The products, the activation and its gradient -/

theorem dot_up (a : FVec Ideal S8192x1024 .f32) (b : FVec Ideal S1024x4096 .f32) :
    Host.dotGeneral dot_S8192x1024_S1024x4096_S8192x4096_1_0_0_1_n_n none a b = nn a b := by
  refine mat_ext fun i j => ?_
  pointwise [nn]
theorem dot_down (a : FVec Ideal S8192x4096 .f32) (b : FVec Ideal S4096x1024 .f32) :
    Host.dotGeneral dot_S8192x4096_S4096x1024_S8192x1024_1_0_0_1_n_n none a b = nn a b := by
  refine mat_ext fun i j => ?_
  pointwise [nn]
theorem dot_dact (a : FVec Ideal S8192x1024 .f32) (b : FVec Ideal S4096x1024 .f32) :
    Host.dotGeneral dot_S8192x1024_S4096x1024_S8192x4096_1_1_0_0_n_n none a b = nt a b := by
  refine mat_ext fun i j => ?_
  pointwise [nt]
theorem dot_dh (a : FVec Ideal S8192x4096 .f32) (b : FVec Ideal S1024x4096 .f32) :
    Host.dotGeneral dot_S8192x4096_S1024x4096_S8192x1024_1_1_0_0_n_n none a b = nt a b := by
  refine mat_ext fun i j => ?_
  pointwise [nt]
theorem dot_dwUp (a : FVec Ideal S8192x4096 .f32) (b : FVec Ideal S8192x1024 .f32) :
    transpose S1024x4096 [1, 0] (Host.dotGeneral dot_S8192x4096_S8192x1024_S4096x1024_0_0_1_1_n_n none a b)
      transposes_S4096x1024_S1024x4096_1_0 = tn b a := by
  refine mat_ext fun i j => ?_
  rw [tn_comm]
  pointwise [tn]
theorem dot_dwDown (a : FVec Ideal S8192x1024 .f32) (b : FVec Ideal S8192x4096 .f32) :
    transpose S4096x1024 [1, 0] (Host.dotGeneral dot_S8192x1024_S8192x4096_S1024x4096_0_0_1_1_n_n none a b)
      transposes_S1024x4096_S4096x1024_1_0 = tn b a := by
  refine mat_ext fun i j => ?_
  rw [tn_comm]
  pointwise [tn]
theorem act_eq (u : FVec Ideal S8192x4096 .f32) :
    mulf (maximumf u (broadcastInDim S8192x4096 ![] bcast_S_S8192x4096 (constant (F := Ideal) S_ .f32 0x00000000#32))) (maximumf u (broadcastInDim S8192x4096 ![] bcast_S_S8192x4096 (constant (F := Ideal) S_ .f32 0x00000000#32))) = relu2 u := by
  refine mat_ext fun i j => ?_
  pointwise [relu2]
theorem dup_eq (d u : FVec Ideal S8192x4096 .f32) :
    select (cmpf .ogt u (broadcastInDim S8192x4096 ![] bcast_S_S8192x4096 (constant (F := Ideal) S_ .f32 0x00000000#32))) (mulf d (mulf (broadcastInDim S8192x4096 ![] bcast_S_S8192x4096 (constant (F := Ideal) S_ .f32 0x40000000#32)) (maximumf u (broadcastInDim S8192x4096 ![] bcast_S_S8192x4096 (constant (F := Ideal) S_ .f32 0x00000000#32))))) (broadcastInDim S8192x4096 ![] bcast_S_S8192x4096 (constant (F := Ideal) S_ .f32 0x00000000#32)) = drelu2 d u := by
  refine mat_ext fun i j => ?_
  refine Eq.trans ?_ (cut_eq (d (ix2 i j)) (u (ix2 i j)))
  pointwise

theorem res_out : addf a0 (Host.dotGeneral dot_S8192x4096_S4096x1024_S8192x1024_1_0_0_1_n_n none (mulf (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))) (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32)))) a3) = Mlp.out a0 (Norm.out a0 a1) a2 a3 := by
  rw [norm_eq, dot_up, act_eq, dot_down]
  exact mat_ext fun i j => add_comm _ _

theorem res_dx (m : (ℓ : Loc nD τ sig) → Buf (Elt Ideal) ℓ) (c : Dev nD) : res_main_v56 m c = Norm.dx (m ((c.tc : Thread nD τ).loc main_arg0)) (m ((c.tc : Thread nD τ).loc main_arg1)) (Mlp.dh (Norm.out (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))) (m ((c.tc : Thread nD τ).loc main_arg4)) := by
  unfold res_main_v56
  rw [shapeCast_self (s := S8192x1024), norm_eq, dx_eq, dot_up, dot_dact, dup_eq, dot_dh]
  rfl

theorem res_dg : Host.reduceAdd (shapeCast _ (Host.reduceAdd (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x4096_S1024x4096_S8192x1024_1_1_0_0_n_n none (select (cmpf .ogt (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))) (mulf (Host.dotGeneral dot_S8192x1024_S4096x1024_S8192x4096_1_1_0_0_n_n none (shapeCast _ a4 shapeCasts_S8192x1024_S8192x1024) a3) (mulf (broadcastInDim S8192x4096 ![] bcast_S_S8192x4096 (constant S_ .f32 0x40000000#32)) (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))))) (broadcastInDim S8192x4096 ![] bcast_S_S8192x4096 (constant S_ .f32 0x00000000#32))) a2)) (constant S_ .f32 0x00000000#32) reducesTo_S8192x1024_S1024_d0 h_S_) shapeCasts_S1024_S1x1024) (constant S_ .f32 0x00000000#32) reducesTo_S1x1024_S1024_d0 h_S_ = Norm.dg a0 (Mlp.dh (Norm.out a0 a1) a2 a3 a4) := by
  rw [shapeCast_self (s := S8192x1024), norm_eq, dg_eq, dot_up, dot_dact, dup_eq, dot_dh]
  rfl

theorem res_dwUp : transpose S1024x4096 [1, 0] (Host.dotGeneral dot_S8192x4096_S8192x1024_S4096x1024_0_0_1_1_n_n none (select (cmpf .ogt (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))) (mulf (Host.dotGeneral dot_S8192x1024_S4096x1024_S8192x4096_1_1_0_0_n_n none (shapeCast _ a4 shapeCasts_S8192x1024_S8192x1024) a3) (mulf (broadcastInDim S8192x4096 ![] bcast_S_S8192x4096 (constant S_ .f32 0x40000000#32)) (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))))) (broadcastInDim S8192x4096 ![] bcast_S_S8192x4096 (constant S_ .f32 0x00000000#32))) (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1)))) transposes_S4096x1024_S1024x4096_1_0 = Mlp.dwUp (Norm.out a0 a1) a2 a3 a4 := by
  rw [shapeCast_self, norm_eq, dot_up, dot_dact, dup_eq, dot_dwUp]
  rfl

theorem res_dwDown : transpose S4096x1024 [1, 0] (Host.dotGeneral dot_S8192x1024_S8192x4096_S1024x4096_0_0_1_1_n_n none (shapeCast _ a4 shapeCasts_S8192x1024_S8192x1024) (mulf (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))) (maximumf (Host.dotGeneral dot_S8192x1024_S1024x4096_S8192x4096_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a2) (broadcastInDim S8192x4096 ![] bcast_S_S8192x4096 (constant S_ .f32 0x00000000#32))))) transposes_S1024x4096_S4096x1024_1_0 = Mlp.dwDown (Norm.out a0 a1) a2 a4 := by
  rw [shapeCast_self, norm_eq, dot_up, act_eq, dot_dwDown]
  rfl

end Cert.MlpReferenceIdeal.Value
end
-- ==== Proof.ProjBlocks.lean ====
module

public import proofs.«01_k».proof.Proof.Products
public import proofs.«01_k».proof.Proof.Gen.ProjIdeal.Frame
public import Idealize.ShloMosaic.Lib.Pipeline.ValueKit.Point

/-!
# The projections' six products over the extended reals, one at a time

What each call leaves in its array, from the arrays it finds.
-/

@[expose] public section

set_option maxRecDepth 16384

noncomputable section

namespace Cert.ProjIdeal.Value
open Cert.ProjIdeal Cert.ProjIdeal.Gen Idealize.ShloMosaic Idealize.ShloMosaic.TcCoe Idealize.SL.Sem
open Cert.Products
open Idealize.ShloMosaic.Pipeline (Dat)

variable (V : (c : Dev nD) → (b : Ref sig .tc) → Buf (Elt Ideal) ((c : Thread nD τ).loc b)) (c : Dev nD)

/-! ## The product into the mixers -/

theorem projIn_pay (a : Vec Ideal S512x1024 .bf16) (b : Vec Ideal S1024x3840 .bf16) (i : Fin 512) (j : Fin 3840) :
    k1_pay1 (F := Ideal) a b (ix2 i j) = ∑ x : Fin 1024, a (ix2 i x) * b (ix2 x j) := by
  pointwise [k1_pay1]

theorem index1 (t : Fin cfg1.N) :
    win1_0.index t = ![t.val, 0] ∧ win1_1.index t = ![0, 0] ∧ win1_2.index t = ![t.val, 0] := by
  revert t; decide +kernel
theorem lt1 (t : Fin cfg1.N) : t.val < 16 := t.isLt.trans_le (by decide)

theorem projIn_a (t : Fin cfg1.N) (i : Fin 512) (x : Fin 1024) :
    iblk1 V c 0 t (ix2 i x) = V c main_v6 (ix2 ⟨512 * t.val + i.val, by have := lt1 t; omega⟩ x) := by
  blk_ext [iblk1, (index1 t).1]
theorem projIn_b (t : Fin cfg1.N) (x : Fin 1024) (j : Fin 3840) :
    iblk1 V c 1 t (ix2 x j) = V c main_v2 (ix2 x j) := by
  blk_ext [iblk1, (index1 t).2.1]

theorem projIn_block (t : Fin cfg1.N) (i : Fin 512) (j : Fin 3840) :
    out1_2 (F := Ideal) (iblk1 V c 0 t) (iblk1 V c 1 t) (ix2 i j) = (nn (V c main_v6) (V c main_v2)) (ix2 ⟨512 * t.val + i.val, by have := lt1 t; omega⟩ j) := by
  unfold out1_2
  rw [View.canon_cons_unit_lit (S := S512x3840) (off := ![0, 0]) _ _ _ (by decide), View.ld_unit_lit (S := S512x1024) (off := ![0, 0]) _ _ (by decide), View.ld_unit_lit (S := S1024x3840) (off := ![0, 0]) _ _ (by decide), projIn_pay]
  exact Finset.sum_congr rfl fun x _ => congrArg₂ (· * ·) (projIn_a V c t i x) (projIn_b V c t x j)
theorem projIn_final : (dat1 V c).arrAt 2 cfg1.N = nn (V c main_v6) (V c main_v2) := by
  refine (dat1 V c).arrAt_eq_of_covers 2 _ (by decide +kernel) fun t hf y => ?_
  blk_simp
  have ey : y = ix2 (y 0) (y 1) := by funext a; fin_cases a <;> rfl
  rw [after1_2]
  refine (congrArg _ ey).trans ((projIn_block V c t (y 0) (y 1)).trans (congrArg _ ?_))
  blk_ext [(index1 t).2.2]

/-! ## The product out of the mixers, added to the layer's input -/

theorem projOut_pay (a : Vec Ideal S1024x1024 .bf16) (b : Vec Ideal S1024x1024 .bf16) (e : Vec Ideal S1024x1024 .f32) (i : Fin 1024) (j : Fin 1024) :
    k2_pay1 (F := Ideal) a b e (ix2 i j) = (∑ x : Fin 1024, a (ix2 i x) * b (ix2 x j)) + e (ix2 i j) := by
  pointwise [k2_pay1]

theorem index2 (t : Fin cfg2.N) :
    win2_0.index t = ![t.val, 0] ∧ win2_1.index t = ![0, 0] ∧ win2_2.index t = ![t.val, 0] ∧ win2_3.index t = ![t.val, 0] := by
  revert t; decide +kernel
theorem lt2 (t : Fin cfg2.N) : t.val < 8 := t.isLt.trans_le (by decide)

theorem projOut_a (t : Fin cfg2.N) (i : Fin 1024) (x : Fin 1024) :
    iblk2 V c 0 t (ix2 i x) = V c main_v1 (ix2 ⟨1024 * t.val + i.val, by have := lt2 t; omega⟩ x) := by
  blk_ext [iblk2, (index2 t).1]
theorem projOut_b (t : Fin cfg2.N) (x : Fin 1024) (j : Fin 1024) :
    iblk2 V c 1 t (ix2 x j) = V c main_v3 (ix2 x j) := by
  blk_ext [iblk2, (index2 t).2.1]
theorem projOut_e (t : Fin cfg2.N) (i : Fin 1024) (j : Fin 1024) :
    iblk2 V c 2 t (ix2 i j) = V c main_arg0 (ix2 ⟨1024 * t.val + i.val, by have := lt2 t; omega⟩ j) := by
  blk_ext [iblk2, (index2 t).2.2.1]

theorem projOut_block (t : Fin cfg2.N) (i : Fin 1024) (j : Fin 1024) :
    out2_3 (F := Ideal) (iblk2 V c 0 t) (iblk2 V c 1 t) (iblk2 V c 2 t) (ix2 i j) = (plus (nn (V c main_v1) (V c main_v3)) (V c main_arg0)) (ix2 ⟨1024 * t.val + i.val, by have := lt2 t; omega⟩ j) := by
  unfold out2_3
  rw [View.canon_cons_unit_lit (S := S1024x1024) (off := ![0, 0]) _ _ _ (by decide), View.ld_unit_lit (S := S1024x1024) (off := ![0, 0]) _ _ (by decide), View.ld_unit_lit (S := S1024x1024) (off := ![0, 0]) _ _ (by decide), View.ld_unit_lit (S := S1024x1024) (off := ![0, 0]) _ _ (by decide), projOut_pay, projOut_e V c t i j]
  exact congrArg (· + _) (Finset.sum_congr rfl fun x _ => congrArg₂ (· * ·) (projOut_a V c t i x) (projOut_b V c t x j))
theorem projOut_final : (dat2 V c).arrAt 3 cfg2.N = plus (nn (V c main_v1) (V c main_v3)) (V c main_arg0) := by
  refine (dat2 V c).arrAt_eq_of_covers 3 _ (by decide +kernel) fun t hf y => ?_
  blk_simp
  have ey : y = ix2 (y 0) (y 1) := by funext a; fin_cases a <;> rfl
  rw [after2_3]
  refine (congrArg _ ey).trans ((projOut_block V c t (y 0) (y 1)).trans (congrArg _ ?_))
  blk_ext [(index2 t).2.2.2]

/-! ## The cotangent of the mixers' output -/

theorem dmixed_pay (a : Vec Ideal S1024x1024 .bf16) (b : Vec Ideal S1024x1024 .bf16) (i : Fin 1024) (j : Fin 1024) :
    k3_pay1 (F := Ideal) a b (ix2 i j) = ∑ x : Fin 1024, a (ix2 i x) * b (ix2 j x) := by
  pointwise [k3_pay1]

theorem index3 (t : Fin cfg3.N) :
    win3_0.index t = ![t.val, 0] ∧ win3_1.index t = ![0, 0] ∧ win3_2.index t = ![t.val, 0] := by
  revert t; decide +kernel
theorem lt3 (t : Fin cfg3.N) : t.val < 8 := t.isLt.trans_le (by decide)

theorem dmixed_a (t : Fin cfg3.N) (i : Fin 1024) (x : Fin 1024) :
    iblk3 V c 0 t (ix2 i x) = V c main_v4 (ix2 ⟨1024 * t.val + i.val, by have := lt3 t; omega⟩ x) := by
  blk_ext [iblk3, (index3 t).1]
theorem dmixed_b (t : Fin cfg3.N) (j : Fin 1024) (x : Fin 1024) :
    iblk3 V c 1 t (ix2 j x) = V c main_v3 (ix2 j x) := by
  blk_ext [iblk3, (index3 t).2.1]

theorem dmixed_block (t : Fin cfg3.N) (i : Fin 1024) (j : Fin 1024) :
    out3_2 (F := Ideal) (iblk3 V c 0 t) (iblk3 V c 1 t) (ix2 i j) = (nt (V c main_v4) (V c main_v3)) (ix2 ⟨1024 * t.val + i.val, by have := lt3 t; omega⟩ j) := by
  unfold out3_2
  rw [View.canon_cons_unit_lit (S := S1024x1024) (off := ![0, 0]) _ _ _ (by decide), View.ld_unit_lit (S := S1024x1024) (off := ![0, 0]) _ _ (by decide), View.ld_unit_lit (S := S1024x1024) (off := ![0, 0]) _ _ (by decide), dmixed_pay]
  exact Finset.sum_congr rfl fun x _ => congrArg₂ (· * ·) (dmixed_a V c t i x) (dmixed_b V c t j x)
theorem dmixed_final : (dat3 V c).arrAt 2 cfg3.N = nt (V c main_v4) (V c main_v3) := by
  refine (dat3 V c).arrAt_eq_of_covers 2 _ (by decide +kernel) fun t hf y => ?_
  blk_simp
  have ey : y = ix2 (y 0) (y 1) := by funext a; fin_cases a <;> rfl
  rw [after3_2]
  refine (congrArg _ ey).trans ((dmixed_block V c t (y 0) (y 1)).trans (congrArg _ ?_))
  blk_ext [(index3 t).2.2]

/-! ## The gradient of the second weight -/

theorem dwOut_pay (a : Vec Ideal S8192x1024 .bf16) (b : Vec Ideal S8192x256 .bf16) (i : Fin 1024) (j : Fin 256) :
    k4_pay1 (F := Ideal) a b (ix2 i j) = ∑ x : Fin 8192, a (ix2 x i) * b (ix2 x j) := by
  pointwise [k4_pay1]

theorem index4 (t : Fin cfg4.N) :
    win4_0.index t = ![0, 0] ∧ win4_1.index t = ![0, t.val] ∧ win4_2.index t = ![0, t.val] := by
  revert t; decide +kernel
theorem lt4 (t : Fin cfg4.N) : t.val < 4 := t.isLt.trans_le (by decide)

theorem dwOut_a (t : Fin cfg4.N) (x : Fin 8192) (i : Fin 1024) :
    iblk4 V c 0 t (ix2 x i) = V c main_v1 (ix2 x i) := by
  blk_ext [iblk4, (index4 t).1]
theorem dwOut_b (t : Fin cfg4.N) (x : Fin 8192) (j : Fin 256) :
    iblk4 V c 1 t (ix2 x j) = V c main_v4 (ix2 x ⟨256 * t.val + j.val, by have := lt4 t; omega⟩) := by
  blk_ext [iblk4, (index4 t).2.1]

theorem dwOut_block (t : Fin cfg4.N) (i : Fin 1024) (j : Fin 256) :
    out4_2 (F := Ideal) (iblk4 V c 0 t) (iblk4 V c 1 t) (ix2 i j) = (tn (V c main_v1) (V c main_v4)) (ix2 i ⟨256 * t.val + j.val, by have := lt4 t; omega⟩) := by
  unfold out4_2
  rw [View.canon_cons_unit_lit (S := S1024x256) (off := ![0, 0]) _ _ _ (by decide), View.ld_unit_lit (S := S8192x1024) (off := ![0, 0]) _ _ (by decide), View.ld_unit_lit (S := S8192x256) (off := ![0, 0]) _ _ (by decide), dwOut_pay]
  exact Finset.sum_congr rfl fun x _ => congrArg₂ (· * ·) (dwOut_a V c t x i) (dwOut_b V c t x j)
theorem dwOut_final : (dat4 V c).arrAt 2 cfg4.N = tn (V c main_v1) (V c main_v4) := by
  refine (dat4 V c).arrAt_eq_of_covers 2 _ (by decide +kernel) fun t hf y => ?_
  blk_simp
  have ey : y = ix2 (y 0) (y 1) := by funext a; fin_cases a <;> rfl
  rw [after4_2]
  refine (congrArg _ ey).trans ((dwOut_block V c t (y 0) (y 1)).trans (congrArg _ ?_))
  blk_ext [(index4 t).2.2]

/-! ## The cotangent of the mixers' input -/

theorem dh_pay (a : Vec Ideal S1024x3840 .bf16) (b : Vec Ideal S1024x3840 .bf16) (i : Fin 1024) (j : Fin 1024) :
    k5_pay1 (F := Ideal) a b (ix2 i j) = ∑ x : Fin 3840, a (ix2 i x) * b (ix2 j x) := by
  pointwise [k5_pay1]

theorem index5 (t : Fin cfg5.N) :
    win5_0.index t = ![t.val, 0] ∧ win5_1.index t = ![0, 0] ∧ win5_2.index t = ![t.val, 0] := by
  revert t; decide +kernel
theorem lt5 (t : Fin cfg5.N) : t.val < 8 := t.isLt.trans_le (by decide)

theorem dh_a (t : Fin cfg5.N) (i : Fin 1024) (x : Fin 3840) :
    iblk5 V c 0 t (ix2 i x) = V c main_v5 (ix2 ⟨1024 * t.val + i.val, by have := lt5 t; omega⟩ x) := by
  blk_ext [iblk5, (index5 t).1]
theorem dh_b (t : Fin cfg5.N) (j : Fin 1024) (x : Fin 3840) :
    iblk5 V c 1 t (ix2 j x) = V c main_v2 (ix2 j x) := by
  blk_ext [iblk5, (index5 t).2.1]

theorem dh_block (t : Fin cfg5.N) (i : Fin 1024) (j : Fin 1024) :
    out5_2 (F := Ideal) (iblk5 V c 0 t) (iblk5 V c 1 t) (ix2 i j) = (nt (V c main_v5) (V c main_v2)) (ix2 ⟨1024 * t.val + i.val, by have := lt5 t; omega⟩ j) := by
  unfold out5_2
  rw [View.canon_cons_unit_lit (S := S1024x1024) (off := ![0, 0]) _ _ _ (by decide), View.ld_unit_lit (S := S1024x3840) (off := ![0, 0]) _ _ (by decide), View.ld_unit_lit (S := S1024x3840) (off := ![0, 0]) _ _ (by decide), dh_pay]
  exact Finset.sum_congr rfl fun x _ => congrArg₂ (· * ·) (dh_a V c t i x) (dh_b V c t j x)
theorem dh_final : (dat5 V c).arrAt 2 cfg5.N = nt (V c main_v5) (V c main_v2) := by
  refine (dat5 V c).arrAt_eq_of_covers 2 _ (by decide +kernel) fun t hf y => ?_
  blk_simp
  have ey : y = ix2 (y 0) (y 1) := by funext a; fin_cases a <;> rfl
  rw [after5_2]
  refine (congrArg _ ey).trans ((dh_block V c t (y 0) (y 1)).trans (congrArg _ ?_))
  blk_ext [(index5 t).2.2]

/-! ## The gradient of the first weight -/

theorem dwIn_pay (a : Vec Ideal S8192x1024 .bf16) (b : Vec Ideal S8192x256 .bf16) (i : Fin 1024) (j : Fin 256) :
    k6_pay1 (F := Ideal) a b (ix2 i j) = ∑ x : Fin 8192, a (ix2 x i) * b (ix2 x j) := by
  pointwise [k6_pay1]

theorem index6 (t : Fin cfg6.N) :
    win6_0.index t = ![0, 0] ∧ win6_1.index t = ![0, t.val] ∧ win6_2.index t = ![0, t.val] := by
  revert t; decide +kernel
theorem lt6 (t : Fin cfg6.N) : t.val < 15 := t.isLt.trans_le (by decide)

theorem dwIn_a (t : Fin cfg6.N) (x : Fin 8192) (i : Fin 1024) :
    iblk6 V c 0 t (ix2 x i) = V c main_v6 (ix2 x i) := by
  blk_ext [iblk6, (index6 t).1]
theorem dwIn_b (t : Fin cfg6.N) (x : Fin 8192) (j : Fin 256) :
    iblk6 V c 1 t (ix2 x j) = V c main_v5 (ix2 x ⟨256 * t.val + j.val, by have := lt6 t; omega⟩) := by
  blk_ext [iblk6, (index6 t).2.1]

theorem dwIn_block (t : Fin cfg6.N) (i : Fin 1024) (j : Fin 256) :
    out6_2 (F := Ideal) (iblk6 V c 0 t) (iblk6 V c 1 t) (ix2 i j) = (tn (V c main_v6) (V c main_v5)) (ix2 i ⟨256 * t.val + j.val, by have := lt6 t; omega⟩) := by
  unfold out6_2
  rw [View.canon_cons_unit_lit (S := S1024x256) (off := ![0, 0]) _ _ _ (by decide), View.ld_unit_lit (S := S8192x1024) (off := ![0, 0]) _ _ (by decide), View.ld_unit_lit (S := S8192x256) (off := ![0, 0]) _ _ (by decide), dwIn_pay]
  exact Finset.sum_congr rfl fun x _ => congrArg₂ (· * ·) (dwIn_a V c t x i) (dwIn_b V c t x j)
theorem dwIn_final : (dat6 V c).arrAt 2 cfg6.N = tn (V c main_v6) (V c main_v5) := by
  refine (dat6 V c).arrAt_eq_of_covers 2 _ (by decide +kernel) fun t hf y => ?_
  blk_simp
  have ey : y = ix2 (y 0) (y 1) := by funext a; fin_cases a <;> rfl
  rw [after6_2]
  refine (congrArg _ ey).trans ((dwIn_block V c t (y 0) (y 1)).trans (congrArg _ ?_))
  blk_ext [(index6 t).2.2]

end Cert.ProjIdeal.Value
end
-- ==== Proof.ProjNorm.lean ====
module

public import proofs.«01_k».proof.Proof.Norm
public import proofs.«01_k».proof.Proof.Gen.ProjIdeal.Frame
public import Idealize.ShloMosaic.Lib.Pipeline.ReadBack
public import Idealize.ShloMosaic.Lib.Pipeline.ValueKit.Point

/-!
# The layer's normalisation and its gradients over the extended reals

What the first and the last call leave in their arrays, from the arrays they find. The last adds the gain's gradient up over
the points of its grid.
-/

@[expose] public section

set_option maxRecDepth 16384

noncomputable section

namespace Cert.ProjIdeal.Value
open Cert.ProjIdeal Cert.ProjIdeal.Gen Idealize.ShloMosaic Idealize.ShloMosaic.TcCoe Idealize.SL.Sem
open Cert.Products
open Idealize.ShloMosaic.Pipeline (Dat)

variable (V : (c : Dev nD) → (b : Ref sig .tc) → Buf (Elt Ideal) ((c : Thread nD τ).loc b)) (c : Dev nD)

/-! ## The normalised rows -/

theorem norm_pay (g : Vec Ideal S1x1024 .f32) (x : Vec Ideal S1024x1024 .f32) (i : Fin 1024) (j : Fin 1024) :
    k0_pay1 (F := Ideal) g x (ix2 i j) = Norm.out x (row g) (ix2 i j) := by
  pointwise [k0_pay1, Norm.out, Norm.hat, Norm.inv, Norm.sq, row]

theorem index0 (t : Fin cfg0.N) :
    win0_0.index t = ![0, 0] ∧ win0_1.index t = ![t.val, 0] ∧ win0_2.index t = ![t.val, 0] := by
  revert t; decide +kernel
theorem lt0 (t : Fin cfg0.N) : t.val < 8 := t.isLt.trans_le (by decide)

theorem norm_g (t : Fin cfg0.N) (i : Fin 1) (j : Fin 1024) :
    iblk0 V c 0 t (ix2 i j) = V c main_v0 (ix2 i j) := by
  blk_ext [iblk0, (index0 t).1]
theorem norm_x (t : Fin cfg0.N) (i : Fin 1024) (j : Fin 1024) :
    iblk0 V c 1 t (ix2 i j) = V c main_arg0 (ix2 ⟨1024 * t.val + i.val, by have := lt0 t; omega⟩ j) := by
  blk_ext [iblk0, (index0 t).2.1]
theorem norm_block (t : Fin cfg0.N) (i : Fin 1024) (j : Fin 1024) :
    out0_2 (F := Ideal) (iblk0 V c 0 t) (iblk0 V c 1 t) (ix2 i j)
      = Norm.out (V c main_arg0 : Mat 8192 1024) (row (V c main_v0)) (ix2 ⟨1024 * t.val + i.val, by have := lt0 t; omega⟩ j) := by
  unfold out0_2
  rw [View.canon_cons_unit_lit (S := S1024x1024) (off := ![0, 0]) _ _ _ (by decide), View.ld_unit_lit (S := S1x1024) (off := ![0, 0]) _ _ (by decide), View.ld_unit_lit (S := S1024x1024) (off := ![0, 0]) _ _ (by decide), norm_pay]
  pointwise [Norm.out, Norm.hat, Norm.inv, Norm.sq, row, norm_g, norm_x]
theorem norm_final : (dat0 V c).arrAt 2 cfg0.N = Norm.out (V c main_arg0) (row (V c main_v0)) := by
  refine (dat0 V c).arrAt_eq_of_covers 2 _ (by decide +kernel) fun t hf y => ?_
  blk_simp
  have ey : y = ix2 (y 0) (y 1) := by funext a; fin_cases a <;> rfl
  rw [after0_2]
  refine (congrArg _ ey).trans ((norm_block V c t (y 0) (y 1)).trans (congrArg _ ?_))
  blk_ext [(index0 t).2.2]

/-! ## Its gradients -/

theorem sq_pay (x : Vec Ideal S512x1024 .f32) (i : Fin 512) (j : Fin 1) :
    k7_pay5 (F := Ideal) x (ix2 i j) = Norm.sq x i := by
  pointwise [k7_pay5, Norm.sq]
theorem inv_pay (x : Vec Ideal S512x1024 .f32) (i : Fin 512) (j : Fin 1) :
    k7_pay6 (F := Ideal) x (ix2 i j) = Norm.inv x i := by
  pointwise [k7_pay6, sq_pay, Norm.inv]
theorem dg_pay (x dy : Vec Ideal S512x1024 .f32) (i : Fin 1) (j : Fin 1024) :
    k7_pay7 (F := Ideal) x dy (ix2 i j) = Norm.dg x dy (ix1 j) := by
  pointwise [k7_pay7, k7_pay4, inv_pay, Norm.dg, Norm.hat]
theorem dx_pay (g : Vec Ideal S1x1024 .f32) (x dy res : Vec Ideal S512x1024 .f32) (i : Fin 512) (j : Fin 1024) :
    k7_pay2 (k7_pay8 (F := Ideal) g x dy) res (ix2 i j) = Norm.dx x (row g) dy res (ix2 i j) := by
  pointwise [k7_pay2, k7_pay8, k7_pay4, inv_pay, sq_pay, Norm.dx, Norm.q, row]
  simp only [Fin.sum_univ_one]
theorem acc_pay (a b : FVec Ideal S1x1024 .f32) (i : Fin 1) (j : Fin 1024) :
    k7_pay1 (F := Ideal) a b (ix2 i j) = b (ix2 i j) + a (ix2 i j) := by
  pointwise [k7_pay1]
theorem zero_pay (i : Fin 1) (j : Fin 1024) : k7_pay9 (F := Ideal) (ix2 i j) = 0 := by
  pointwise [k7_pay9]

theorem index7 (t : Fin cfg7.N) :
    win7_0.index t = ![0, 0] ∧ win7_1.index t = ![t.val, 0] ∧ win7_2.index t = ![t.val, 0] ∧ win7_3.index t = ![t.val, 0]
      ∧ win7_4.index t = ![0, 0] ∧ win7_5.index t = ![t.val, 0] := by
  revert t; decide +kernel
theorem lt7 (t : Fin cfg7.N) : t.val < 16 := t.isLt.trans_le (by decide)

theorem bwd_g (t : Fin cfg7.N) (i : Fin 1) (j : Fin 1024) :
    iblk7 V c 0 t (ix2 i j) = V c main_v0 (ix2 i j) := by
  blk_ext [iblk7, (index7 t).1]
theorem bwd_x (t : Fin cfg7.N) (i : Fin 512) (j : Fin 1024) :
    iblk7 V c 1 t (ix2 i j) = V c main_arg0 (ix2 ⟨512 * t.val + i.val, by have := lt7 t; omega⟩ j) := by
  blk_ext [iblk7, (index7 t).2.1]
theorem bwd_dy (t : Fin cfg7.N) (i : Fin 512) (j : Fin 1024) :
    iblk7 V c 2 t (ix2 i j) = V c main_v11 (ix2 ⟨512 * t.val + i.val, by have := lt7 t; omega⟩ j) := by
  blk_ext [iblk7, (index7 t).2.2.1]
theorem bwd_res (t : Fin cfg7.N) (i : Fin 512) (j : Fin 1024) :
    iblk7 V c 3 t (ix2 i j) = V c main_arg5 (ix2 ⟨512 * t.val + i.val, by have := lt7 t; omega⟩ j) := by
  blk_ext [iblk7, (index7 t).2.2.2.1]

/-- What a point leaves in the two arrays, at the first point and at the others. -/
theorem dg_A (t : Fin cfg7.N) (h0 : t.val % 16 = 0) :
    (outsAt7 V c t.val t.isLt).1 = k7_pay1 (k7_pay7 (iblk7 V c 1 t) (iblk7 V c 2 t)) (k7_pay9 (F := Ideal)) := by
  rw [outsAt7_A V c t h0]
  frame_open
  simp (disch := decide) only [View.read_writes_junk_eq_canon, View.canon_cons_unit_lit', View.readAt_eq_ld, View.ld_unit_lit', View.readCov_unit_lit', View.readCov_cons_unit_lit', Memref.IsWhole.read_unread]
theorem dg_B (t : Fin cfg7.N) (h0 : ¬t.val % 16 = 0) :
    (outsAt7 V c t.val t.isLt).1 = k7_pay1 (k7_pay7 (iblk7 V c 1 t) (iblk7 V c 2 t)) (outsAt7 V c (t.val - 1) (Nat.lt_of_le_of_lt (Nat.sub_le _ _) t.isLt)).1 := by
  rw [outsAt7_B V c t h0]
  frame_open
  simp (disch := decide) only [View.read_writes_junk_eq_canon, View.canon_cons_unit_lit', View.readAt_eq_ld, View.ld_unit_lit', View.readCov_unit_lit', View.readCov_cons_unit_lit', Memref.IsWhole.read_unread]
theorem dx_A (t : Fin cfg7.N) (h0 : t.val % 16 = 0) :
    (outsAt7 V c t.val t.isLt).2.1 = k7_pay2 (k7_pay8 (iblk7 V c 0 t) (iblk7 V c 1 t) (iblk7 V c 2 t)) (iblk7 V c 3 t) := by
  rw [outsAt7_A V c t h0]
  frame_open
  simp (disch := decide) only [View.read_writes_junk_eq_canon, View.canon_cons_unit_lit', View.readAt_eq_ld, View.ld_unit_lit', View.readCov_unit_lit', View.readCov_cons_unit_lit', Memref.IsWhole.read_unread]
theorem dx_B (t : Fin cfg7.N) (h0 : ¬t.val % 16 = 0) :
    (outsAt7 V c t.val t.isLt).2.1 = k7_pay2 (k7_pay8 (iblk7 V c 0 t) (iblk7 V c 1 t) (iblk7 V c 2 t)) (iblk7 V c 3 t) := by
  rw [outsAt7_B V c t h0]
  frame_open
  simp (disch := decide) only [View.read_writes_junk_eq_canon, View.canon_cons_unit_lit', View.readAt_eq_ld, View.ld_unit_lit', View.readCov_unit_lit', View.readCov_cons_unit_lit', Memref.IsWhole.read_unread]

theorem dx_block (t : Fin cfg7.N) (i : Fin 512) (j : Fin 1024) :
    (outsAt7 V c t.val t.isLt).2.1 (ix2 i j)
      = Norm.dx (V c main_arg0 : Mat 8192 1024) (row (V c main_v0)) (V c main_v11) (V c main_arg5) (ix2 ⟨512 * t.val + i.val, by have := lt7 t; omega⟩ j) := by
  have h : (outsAt7 V c t.val t.isLt).2.1 = k7_pay2 (k7_pay8 (iblk7 V c 0 t) (iblk7 V c 1 t) (iblk7 V c 2 t)) (iblk7 V c 3 t) := by
    by_cases h0 : t.val % 16 = 0
    · exact dx_A V c t h0
    · exact dx_B V c t h0
  rw [h, dx_pay]
  pointwise [Norm.dx, Norm.q, Norm.inv, Norm.sq, row, bwd_g, bwd_x, bwd_dy, bwd_res]
theorem dx_final : (dat7 V c).arrAt 5 cfg7.N = Norm.dx (V c main_arg0) (row (V c main_v0)) (V c main_v11) (V c main_arg5) := by
  refine (dat7 V c).arrAt_eq_of_covers 5 _ (by decide +kernel) fun t hf y => ?_
  blk_simp
  have ey : y = ix2 (y 0) (y 1) := by funext a; fin_cases a <;> rfl
  rw [after7_5]
  refine (congrArg _ ey).trans ((dx_block V c t (y 0) (y 1)).trans (congrArg _ ?_))
  blk_ext [(index7 t).2.2.2.2.2]

/-- The part of the gain's gradient that point `n` adds at column `j`. -/
def part (n : ℕ) (j : Fin 1024) : EReal :=
  if h : n < 16 then ∑ r : Fin 512, (fun i : Fin 8192 => Norm.hat (V c main_arg0 : Mat 8192 1024) (ix2 i j) * V c main_v11 (ix2 i j)) ⟨n * 512 + r.val, by omega⟩
  else 0
theorem part_eq (t : Fin cfg7.N) (j : Fin 1024) : Norm.dg (iblk7 V c 1 t : Mat 512 1024) (iblk7 V c 2 t) (ix1 j) = part V c t.val j := by
  have e (r : Fin 512) : (⟨512 * t.val + r.val, by have := lt7 t; omega⟩ : Fin 8192) = ⟨t.val * 512 + r.val, by have := lt7 t; omega⟩ :=
    Fin.ext (by show 512 * t.val + r.val = t.val * 512 + r.val; omega)
  rw [part, dif_pos (lt7 t)]
  refine Finset.sum_congr rfl fun r _ => ?_
  pointwise [Norm.hat, Norm.inv, Norm.sq, bwd_x, bwd_dy, e]
theorem dg_met (n : ℕ) (hn : n < cfg7.N) (j : Fin 1024) :
    (outsAt7 V c n hn).1 (ix2 0 j) = ∑ k ∈ Finset.range (n + 1), part V c k j := by
  induction n with
  | zero =>
    rw [dg_A V c ⟨0, hn⟩ rfl, acc_pay, zero_pay, zero_add, dg_pay, part_eq V c ⟨0, hn⟩ j, Finset.sum_range_one]
  | succ n ih =>
    have h16 := lt7 ⟨n + 1, hn⟩
    have h0 : ¬(n + 1) % 16 = 0 := by change n + 1 < 16 at h16; omega
    rw [dg_B V c ⟨n + 1, hn⟩ h0, acc_pay, dg_pay, part_eq V c ⟨n + 1, hn⟩ j, Finset.sum_range_succ]
    exact congrArg (· + _) (ih _)
theorem dg_sum (j : Fin 1024) : ∑ k ∈ Finset.range 16, part V c k j = Norm.dg (V c main_arg0 : Mat 8192 1024) (V c main_v11) (ix1 j) := by
  rw [Finset.sum_range]
  refine Eq.trans ?_ (Fin.sum_univ_tiles 16 512 rfl _).symm
  exact Finset.sum_congr rfl fun k _ => dif_pos k.isLt
theorem dg_last (t : Fin cfg7.N) (h : t.val = 15) (j : Fin 1024) :
    (outsAt7 V c t.val t.isLt).1 (ix2 0 j) = Norm.dg (V c main_arg0 : Mat 8192 1024) (V c main_v11) (ix1 j) := by
  rw [dg_met, h, dg_sum]
theorem dg_final : (dat7 V c).arrAt 4 cfg7.N = fun i : S1x1024.Idx => Norm.dg (V c main_arg0 : Mat 8192 1024) (V c main_v11) (ix1 (i 1)) := by
  refine (dat7 V c).arrAt_eq_of_covers 4 _ (by decide +kernel) fun t hf y => ?_
  have h15 : t.val = 15 := by have := (flush7_4 t).mp hf; have := lt7 t; omega
  blk_simp
  have ey : y = ix2 0 (y 1) := by
    funext a; fin_cases a
    · exact Subsingleton.elim (α := Fin 1) _ _
    · rfl
  rw [after7_4]
  refine (congrArg _ ey).trans ((dg_last V c t h15 (y 1)).trans (congrArg _ ?_))
  blk_ext [(index7 t).2.2.2.2.1]

end Cert.ProjIdeal.Value
end
-- ==== Proof.ProjValue.lean ====
module

public import proofs.«01_k».proof.Proof.ProjBlocks
public import proofs.«01_k».proof.Proof.ProjNorm

/-!
# The results around the mixers over the extended reals

The contents of each array when its call returns, followed through the calls in their order, from the arguments.
-/

@[expose] public section

set_option maxRecDepth 16384

noncomputable section

namespace Cert.ProjIdeal.Value
open Cert.ProjIdeal Cert.ProjIdeal.Gen Idealize.ShloMosaic Idealize.ShloMosaic.TcCoe Idealize.SL.Sem
open Cert.Products
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg)

local notation "𝕄" => MT nD τ sig Unit (Elt Ideal) ℕ (UR sig nD τ) ℕ

/-! ## The run: every array ends at the last contents of the chain of calls -/

set_option backward.isDefEq.respectTransparency.types false in
theorem run : θ_run defs (onTc (τ := τ) (main (F := Ideal))) ⟨m, fun _ => 0, ρ⟩ (fun r => ∀ c : Dev nD,
    ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-! ## The arrays, call by call -/

section Arrays
variable (c : Dev nD)

theorem cast_v1 : W1 m ρ c (Proc.devRef .tc main_v1) = m ((c : Thread nD τ).loc main_arg2) := by
  unfold W1
  after_results
  rfl

theorem cast_v2 : W1 m ρ c (Proc.devRef .tc main_v2) = m ((c : Thread nD τ).loc main_arg3) := by
  unfold W1
  after_results
  rfl

theorem cast_v3 : W1 m ρ c (Proc.devRef .tc main_v3) = m ((c : Thread nD τ).loc main_arg4) := by
  unfold W1
  after_results
  rfl

theorem cast_v4 : W1 m ρ c (Proc.devRef .tc main_v4) = m ((c : Thread nD τ).loc main_arg5) := by
  unfold W1
  after_results
  rfl

theorem cast_v5 : W1 m ρ c (Proc.devRef .tc main_v5) = m ((c : Thread nD τ).loc main_arg6) := by
  unfold W1
  after_results
  rfl

theorem gain_row : row (W1 m ρ c (Proc.devRef .tc main_v0)) = (m ((c : Thread nD τ).loc main_arg1)) := by
  unfold W1
  after_results
  funext j
  have ej : j = ix1 (j 0) := by funext a; fin_cases a; rfl
  refine Eq.trans ?_ (congrArg _ ej.symm)
  pointwise [row]

theorem norm_at : W2 m ρ c (Proc.devRef .tc main_v6) = Norm.out (m ((c : Thread nD τ).loc main_arg0)) (m ((c : Thread nD τ).loc main_arg1)) :=
  (W2_arr m ρ c 2).trans ((norm_final (V1 m ρ) c).trans
    (congrArg₂ Norm.out (W1_args m ρ c main_arg0 (by decide)) (gain_row m ρ c)))

theorem projIn_at : W3 m ρ c (Proc.devRef .tc main_v7) = nn (Norm.out (m ((c : Thread nD τ).loc main_arg0)) (m ((c : Thread nD τ).loc main_arg1))) (m ((c : Thread nD τ).loc main_arg3)) :=
  (W3_arr m ρ c 2).trans ((projIn_final (V2 m ρ) c).trans
    (congrArg₂ nn (norm_at m ρ c) ((W2_of m ρ c main_v2 (by decide +kernel)).trans (cast_v2 m ρ c))))

theorem projOut_at : W4 m ρ c (Proc.devRef .tc main_v8) = plus (nn (m ((c : Thread nD τ).loc main_arg2)) (m ((c : Thread nD τ).loc main_arg4))) (m ((c : Thread nD τ).loc main_arg0)) :=
  (W4_arr m ρ c 3).trans ((projOut_final (V3 m ρ) c).trans
    (congrArg₂ plus (congrArg₂ nn (((W3_of m ρ c main_v1 (by decide +kernel)).trans (W2_of m ρ c main_v1 (by decide +kernel))).trans (cast_v1 m ρ c)) (((W3_of m ρ c main_v3 (by decide +kernel)).trans (W2_of m ρ c main_v3 (by decide +kernel))).trans (cast_v3 m ρ c))) (W3_args m ρ c main_arg0 (by decide))))

theorem dmixed_at : W5 m ρ c (Proc.devRef .tc main_v9) = nt (m ((c : Thread nD τ).loc main_arg5)) (m ((c : Thread nD τ).loc main_arg4)) :=
  (W5_arr m ρ c 2).trans ((dmixed_final (V4 m ρ) c).trans
    (congrArg₂ nt ((((W4_of m ρ c main_v4 (by decide +kernel)).trans (W3_of m ρ c main_v4 (by decide +kernel))).trans (W2_of m ρ c main_v4 (by decide +kernel))).trans (cast_v4 m ρ c)) ((((W4_of m ρ c main_v3 (by decide +kernel)).trans (W3_of m ρ c main_v3 (by decide +kernel))).trans (W2_of m ρ c main_v3 (by decide +kernel))).trans (cast_v3 m ρ c))))

theorem dwOut_at : W6 m ρ c (Proc.devRef .tc main_v10) = tn (m ((c : Thread nD τ).loc main_arg2)) (m ((c : Thread nD τ).loc main_arg5)) :=
  (W6_arr m ρ c 2).trans ((dwOut_final (V5 m ρ) c).trans
    (congrArg₂ tn (((((W5_of m ρ c main_v1 (by decide +kernel)).trans (W4_of m ρ c main_v1 (by decide +kernel))).trans (W3_of m ρ c main_v1 (by decide +kernel))).trans (W2_of m ρ c main_v1 (by decide +kernel))).trans (cast_v1 m ρ c)) (((((W5_of m ρ c main_v4 (by decide +kernel)).trans (W4_of m ρ c main_v4 (by decide +kernel))).trans (W3_of m ρ c main_v4 (by decide +kernel))).trans (W2_of m ρ c main_v4 (by decide +kernel))).trans (cast_v4 m ρ c))))

theorem dh_at : W7 m ρ c (Proc.devRef .tc main_v11) = nt (m ((c : Thread nD τ).loc main_arg6)) (m ((c : Thread nD τ).loc main_arg3)) :=
  (W7_arr m ρ c 2).trans ((dh_final (V6 m ρ) c).trans
    (congrArg₂ nt ((((((W6_of m ρ c main_v5 (by decide +kernel)).trans (W5_of m ρ c main_v5 (by decide +kernel))).trans (W4_of m ρ c main_v5 (by decide +kernel))).trans (W3_of m ρ c main_v5 (by decide +kernel))).trans (W2_of m ρ c main_v5 (by decide +kernel))).trans (cast_v5 m ρ c)) ((((((W6_of m ρ c main_v2 (by decide +kernel)).trans (W5_of m ρ c main_v2 (by decide +kernel))).trans (W4_of m ρ c main_v2 (by decide +kernel))).trans (W3_of m ρ c main_v2 (by decide +kernel))).trans (W2_of m ρ c main_v2 (by decide +kernel))).trans (cast_v2 m ρ c))))

theorem dwIn_at : W8 m ρ c (Proc.devRef .tc main_v12) = tn (Norm.out (m ((c : Thread nD τ).loc main_arg0)) (m ((c : Thread nD τ).loc main_arg1))) (m ((c : Thread nD τ).loc main_arg6)) :=
  (W8_arr m ρ c 2).trans ((dwIn_final (V7 m ρ) c).trans
    (congrArg₂ tn ((((((W7_of m ρ c main_v6 (by decide +kernel)).trans (W6_of m ρ c main_v6 (by decide +kernel))).trans (W5_of m ρ c main_v6 (by decide +kernel))).trans (W4_of m ρ c main_v6 (by decide +kernel))).trans (W3_of m ρ c main_v6 (by decide +kernel))).trans (norm_at m ρ c)) (((((((W7_of m ρ c main_v5 (by decide +kernel)).trans (W6_of m ρ c main_v5 (by decide +kernel))).trans (W5_of m ρ c main_v5 (by decide +kernel))).trans (W4_of m ρ c main_v5 (by decide +kernel))).trans (W3_of m ρ c main_v5 (by decide +kernel))).trans (W2_of m ρ c main_v5 (by decide +kernel))).trans (cast_v5 m ρ c))))

theorem gain_row_end : row (W8 m ρ c (Proc.devRef .tc main_v0)) = (m ((c : Thread nD τ).loc main_arg1)) :=
  (congrArg row (((((((W8_of m ρ c main_v0 (by decide +kernel)).trans (W7_of m ρ c main_v0 (by decide +kernel))).trans (W6_of m ρ c main_v0 (by decide +kernel))).trans (W5_of m ρ c main_v0 (by decide +kernel))).trans (W4_of m ρ c main_v0 (by decide +kernel))).trans (W3_of m ρ c main_v0 (by decide +kernel))).trans (W2_of m ρ c main_v0 (by decide +kernel)))).trans (gain_row m ρ c)
theorem dx_at : W9 m ρ c (Proc.devRef .tc main_v13_1) = Norm.dx (m ((c : Thread nD τ).loc main_arg0)) (m ((c : Thread nD τ).loc main_arg1)) (nt (m ((c : Thread nD τ).loc main_arg6)) (m ((c : Thread nD τ).loc main_arg3))) (m ((c : Thread nD τ).loc main_arg5)) :=
  (W9_arr m ρ c 5).trans ((dx_final (V8 m ρ) c).trans
    (congr (congr (congrArg₂ Norm.dx (W8_args m ρ c main_arg0 (by decide)) (gain_row_end m ρ c)) ((W8_of m ρ c main_v11 (by decide +kernel)).trans (dh_at m ρ c))) (W8_args m ρ c main_arg5 (by decide))))
theorem dg_at : W9 m ρ c (Proc.devRef .tc main_v13_0) = fun i : S1x1024.Idx => Norm.dg (m ((c : Thread nD τ).loc main_arg0)) (nt (m ((c : Thread nD τ).loc main_arg6)) (m ((c : Thread nD τ).loc main_arg3))) (ix1 (i 1)) :=
  (W9_arr m ρ c 4).trans ((dg_final (V8 m ρ) c).trans
    (congrArg₂ (fun (a b : Mat 8192 1024) (i : S1x1024.Idx) => Norm.dg a b (ix1 (i 1))) (W8_args m ρ c main_arg0 (by decide)) ((W8_of m ρ c main_v11 (by decide +kernel)).trans (dh_at m ρ c))))
theorem gain_end : W10 m ρ c (Proc.devRef .tc main_v14) = Norm.dg (m ((c : Thread nD τ).loc main_arg0)) (nt (m ((c : Thread nD τ).loc main_arg6)) (m ((c : Thread nD τ).loc main_arg3))) := by
  have e : W10 m ρ c (Proc.devRef .tc main_v14) = shapeCast S1024 (W9 m ρ c (Proc.devRef .tc main_v13_0)) shapeCasts_S1x1024_S1024 := by
    unfold W10
    after_results
    rfl
  rw [e, dg_at]
  funext j
  have ej : j = ix1 (j 0) := by funext a; fin_cases a; rfl
  refine (congrArg _ ej).trans (Eq.trans ?_ (congrArg _ ej.symm))
  pointwise

theorem projIn_end : W10 m ρ c (Proc.devRef .tc main_v7) = nn (Norm.out (m ((c : Thread nD τ).loc main_arg0)) (m ((c : Thread nD τ).loc main_arg1))) (m ((c : Thread nD τ).loc main_arg3)) :=
  (((((((W10_of m ρ c main_v7 (by decide +kernel)).trans (W9_of m ρ c main_v7 (by decide +kernel))).trans (W8_of m ρ c main_v7 (by decide +kernel))).trans (W7_of m ρ c main_v7 (by decide +kernel))).trans (W6_of m ρ c main_v7 (by decide +kernel))).trans (W5_of m ρ c main_v7 (by decide +kernel))).trans (W4_of m ρ c main_v7 (by decide +kernel))).trans (projIn_at m ρ c)

theorem projOut_end : W10 m ρ c (Proc.devRef .tc main_v8) = plus (nn (m ((c : Thread nD τ).loc main_arg2)) (m ((c : Thread nD τ).loc main_arg4))) (m ((c : Thread nD τ).loc main_arg0)) :=
  ((((((W10_of m ρ c main_v8 (by decide +kernel)).trans (W9_of m ρ c main_v8 (by decide +kernel))).trans (W8_of m ρ c main_v8 (by decide +kernel))).trans (W7_of m ρ c main_v8 (by decide +kernel))).trans (W6_of m ρ c main_v8 (by decide +kernel))).trans (W5_of m ρ c main_v8 (by decide +kernel))).trans (projOut_at m ρ c)

theorem dmixed_end : W10 m ρ c (Proc.devRef .tc main_v9) = nt (m ((c : Thread nD τ).loc main_arg5)) (m ((c : Thread nD τ).loc main_arg4)) :=
  (((((W10_of m ρ c main_v9 (by decide +kernel)).trans (W9_of m ρ c main_v9 (by decide +kernel))).trans (W8_of m ρ c main_v9 (by decide +kernel))).trans (W7_of m ρ c main_v9 (by decide +kernel))).trans (W6_of m ρ c main_v9 (by decide +kernel))).trans (dmixed_at m ρ c)

theorem dwOut_end : W10 m ρ c (Proc.devRef .tc main_v10) = tn (m ((c : Thread nD τ).loc main_arg2)) (m ((c : Thread nD τ).loc main_arg5)) :=
  ((((W10_of m ρ c main_v10 (by decide +kernel)).trans (W9_of m ρ c main_v10 (by decide +kernel))).trans (W8_of m ρ c main_v10 (by decide +kernel))).trans (W7_of m ρ c main_v10 (by decide +kernel))).trans (dwOut_at m ρ c)

theorem dwIn_end : W10 m ρ c (Proc.devRef .tc main_v12) = tn (Norm.out (m ((c : Thread nD τ).loc main_arg0)) (m ((c : Thread nD τ).loc main_arg1))) (m ((c : Thread nD τ).loc main_arg6)) :=
  ((W10_of m ρ c main_v12 (by decide +kernel)).trans (W9_of m ρ c main_v12 (by decide +kernel))).trans (dwIn_at m ρ c)

theorem dx_end : W10 m ρ c (Proc.devRef .tc main_v13_1) = Norm.dx (m ((c : Thread nD τ).loc main_arg0)) (m ((c : Thread nD τ).loc main_arg1)) (nt (m ((c : Thread nD τ).loc main_arg6)) (m ((c : Thread nD τ).loc main_arg3))) (m ((c : Thread nD τ).loc main_arg5)) :=
  (W10_of m ρ c main_v13_1 (by decide +kernel)).trans (dx_at m ρ c)

end Arrays

/-- The results and the arguments at the end, from the arguments. -/
theorem run_values : θ_run defs (onTc (τ := τ) (main (F := Ideal))) ⟨m, fun _ => 0, ρ⟩ (fun r => ∀ c : Dev nD,
      r.2.mem ((c : Thread nD τ).loc main_v7) = nn (Norm.out (m ((c : Thread nD τ).loc main_arg0)) (m ((c : Thread nD τ).loc main_arg1))) (m ((c : Thread nD τ).loc main_arg3))
      ∧ r.2.mem ((c : Thread nD τ).loc main_v8) = plus (nn (m ((c : Thread nD τ).loc main_arg2)) (m ((c : Thread nD τ).loc main_arg4))) (m ((c : Thread nD τ).loc main_arg0))
      ∧ r.2.mem ((c : Thread nD τ).loc main_v13_1) = Norm.dx (m ((c : Thread nD τ).loc main_arg0)) (m ((c : Thread nD τ).loc main_arg1)) (nt (m ((c : Thread nD τ).loc main_arg6)) (m ((c : Thread nD τ).loc main_arg3))) (m ((c : Thread nD τ).loc main_arg5))
      ∧ r.2.mem ((c : Thread nD τ).loc main_v14) = Norm.dg (m ((c : Thread nD τ).loc main_arg0)) (nt (m ((c : Thread nD τ).loc main_arg6)) (m ((c : Thread nD τ).loc main_arg3)))
      ∧ r.2.mem ((c : Thread nD τ).loc main_v9) = nt (m ((c : Thread nD τ).loc main_arg5)) (m ((c : Thread nD τ).loc main_arg4))
      ∧ r.2.mem ((c : Thread nD τ).loc main_v12) = tn (Norm.out (m ((c : Thread nD τ).loc main_arg0)) (m ((c : Thread nD τ).loc main_arg1))) (m ((c : Thread nD τ).loc main_arg6))
      ∧ r.2.mem ((c : Thread nD τ).loc main_v10) = tn (m ((c : Thread nD τ).loc main_arg2)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(h c _ (mem_uc main_v7 (by decide))).trans (projIn_end m ρ c),
    (h c _ (mem_uc main_v8 (by decide))).trans (projOut_end m ρ c),
    (h c _ (mem_uc main_v13_1 (by decide))).trans (dx_end m ρ c),
    (h c _ (mem_uc main_v14 (by decide))).trans (gain_end m ρ c),
    (h c _ (mem_uc main_v9 (by decide))).trans (dmixed_end m ρ c),
    (h c _ (mem_uc main_v12 (by decide))).trans (dwIn_end m ρ c),
    (h c _ (mem_uc main_v10 (by decide))).trans (dwOut_end m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c)⟩) (run m ρ)

end Cert.ProjIdeal.Value
end
-- ==== Proof.ProjReferenceValue.lean ====
module

public import proofs.«01_k».proof.Proof.Norm
public import proofs.«01_k».proof.Proof.Gen.ProjReferenceIdeal.Run

/-!
# The projections' reference over the extended reals

The reference's results, read down to the same products.
-/

@[expose] public section

noncomputable section

namespace Cert.ProjReferenceIdeal.Value
open Cert.ProjReferenceIdeal Cert.ProjReferenceIdeal.Gen Idealize.ShloMosaic Idealize.ShloMosaic.TcCoe Idealize.SL.Sem
open Cert.Products

variable (a0 : FVec Ideal S8192x1024 .f32) (a1 : FVec Ideal S1024 .f32) (a2 : FVec Ideal S8192x1024 .f32) (a3 : FVec Ideal S1024x3840 .f32) (a4 : FVec Ideal S1024x1024 .f32) (a5 : FVec Ideal S8192x1024 .f32) (a6 : FVec Ideal S8192x3840 .f32)

/-- An array is known by its entries. -/
theorem mat_ext {p q : ℕ} {x y : Mat p q} (h : ∀ (i : Fin p) (j : Fin q), x (ix2 i j) = y (ix2 i j)) : x = y := by
  funext i
  have e : i = ix2 (i 0) (i 1) := by funext a; fin_cases a <;> rfl
  rw [e]
  exact h _ _

/-! ## The normalisation and its gradients -/

theorem add_first (a b c d : EReal) : d + a + b + c = a + b + c + d := by
  rw [add_assoc, add_assoc, add_comm, ← add_assoc]
theorem norm_eq (x : FVec Ideal S8192x1024 .f32) (g : FVec Ideal S1024 .f32) :
    mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))
      = Norm.out x g := by
  refine mat_ext fun i j => ?_
  pointwise [Norm.out, Norm.hat, Norm.inv, Norm.sq]
theorem dg_eq (x dy : FVec Ideal S8192x1024 .f32) :
    Host.reduceAdd (shapeCast _ (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) dy) (constant S_ .f32 0x00000000#32) reducesTo_S8192x1024_S1024_d0 h_S_) shapeCasts_S1024_S1x1024) (constant S_ .f32 0x00000000#32) reducesTo_S1x1024_S1024_d0 h_S_
      = Norm.dg x dy := by
  funext j
  have ej : j = ix1 (j 0) := by funext a; fin_cases a; rfl
  refine (congrArg _ ej).trans (Eq.trans ?_ (congrArg _ ej.symm))
  pointwise [Norm.dg, Norm.hat, Norm.inv, Norm.sq]
  exact Fin.sum_univ_one _
theorem dx_eq (x dy ct : FVec Ideal S8192x1024 .f32) (g : FVec Ideal S1024 .f32) :
    addf (addf (addf ct (mulf (mulf dy (broadcastInDim S8192x1024 ![0, 1] bcast_S1x1024_S8192x1024_0_1 (broadcastInDim S1x1024 ![1] bcast_S1024_S1x1024_1 g))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x (broadcastInDim S8192x1024 ![0] bcast_S8192_S8192x1024_0 (Host.reduceAdd (Host.divf (mulf (shapeCast _ (Host.reduceAdd (mulf x (mulf dy (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf dy (broadcastInDim S8192x1024 ![0, 1] bcast_S1x1024_S8192x1024_0_1 (broadcastInDim S1x1024 ![1] bcast_S1024_S1x1024_1 g)))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)
      = Norm.dx x g dy ct := by
  refine mat_ext fun i j => ?_
  pointwise [Norm.dx, Norm.q, Norm.inv, Norm.sq]
  simp only [Fin.sum_univ_one]
  exact add_first _ _ _ _

theorem dot_dh (a : FVec Ideal S8192x3840 .f32) (b : FVec Ideal S1024x3840 .f32) :
    Host.dotGeneral dot_S8192x3840_S1024x3840_S8192x1024_1_1_0_0_n_n none a b = nt a b := by
  refine mat_ext fun i j => ?_
  pointwise [nt]

theorem res_proj : Host.dotGeneral dot_S8192x1024_S1024x3840_S8192x3840_1_0_0_1_n_n none (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1))) a3 = nn (Norm.out a0 a1) a3 := by
  rw [norm_eq]
  refine mat_ext fun i j => ?_
  pointwise [nn]

theorem res_x1 : addf a0 (Host.dotGeneral dot_S8192x1024_S1024x1024_S8192x1024_1_0_0_1_n_n none a2 a4) = plus (nn a2 a4) a0 := by
  refine mat_ext fun i j => ?_
  pointwise [plus, nn, add_comm]

theorem res_dx (m : (ℓ : Loc nD τ sig) → Buf (Elt Ideal) ℓ) (c : Dev nD) : res_main_v46 m c = Norm.dx (m ((c.tc : Thread nD τ).loc main_arg0)) (m ((c.tc : Thread nD τ).loc main_arg1)) (nt (m ((c.tc : Thread nD τ).loc main_arg6)) (m ((c.tc : Thread nD τ).loc main_arg3))) (m ((c.tc : Thread nD τ).loc main_arg5)) := by
  unfold res_main_v46
  rw [dx_eq, dot_dh]

theorem res_dg : Host.reduceAdd (shapeCast _ (Host.reduceAdd (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x3840_S1024x3840_S8192x1024_1_1_0_0_n_n none a6 a3)) (constant S_ .f32 0x00000000#32) reducesTo_S8192x1024_S1024_d0 h_S_) shapeCasts_S1024_S1x1024) (constant S_ .f32 0x00000000#32) reducesTo_S1x1024_S1024_d0 h_S_ = Norm.dg a0 (nt a6 a3) := by
  rw [dg_eq, dot_dh]

theorem res_dmixed : Host.dotGeneral dot_S8192x1024_S1024x1024_S8192x1024_1_1_0_0_n_n none (shapeCast _ a5 shapeCasts_S8192x1024_S8192x1024) a4 = nt a5 a4 := by
  rw [shapeCast_self]
  refine mat_ext fun i j => ?_
  pointwise [nt]

theorem res_dwIn : transpose S1024x3840 [1, 0] (Host.dotGeneral dot_S8192x3840_S8192x1024_S3840x1024_0_0_1_1_n_n none a6 (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a1)))) transposes_S3840x1024_S1024x3840_1_0 = tn (Norm.out a0 a1) a6 := by
  rw [norm_eq]
  refine mat_ext fun i j => ?_
  rw [tn_comm]
  pointwise [tn]

theorem res_dwOut : transpose S1024x1024 [1, 0] (Host.dotGeneral dot_S8192x1024_S8192x1024_S1024x1024_0_0_1_1_n_n none (shapeCast _ a5 shapeCasts_S8192x1024_S8192x1024) a2) transposes_S1024x1024_S1024x1024_1_0 = tn a2 a5 := by
  rw [shapeCast_self]
  refine mat_ext fun i j => ?_
  rw [tn_comm]
  pointwise [tn]

end Cert.ProjReferenceIdeal.Value
end
-- ==== Proof.Gelu.lean ====
module

public import proofs.«01_k».proof.Proof.Products

/-!
# The gated output over the extended reals

The activation of the gate, its gradient, and the three arrays the gate and its gradient leave: the mixed features, whose
columns from `p` on hold the gated values, and the two cotangents.
-/

@[expose] public section

noncomputable section

namespace Cert.Products
open Idealize.ShloMosaic

/-- The constants, as both programs spell them. -/
abbrev cubic : EReal := Ideal.ofBits .f32 0x3D372713#32
abbrev root : EReal := Ideal.ofBits .f32 0x3F4C422A#32
abbrev half : EReal := Ideal.ofBits .f32 0x3F000000#32
abbrev three : EReal := Ideal.ofBits .f32 0x40400000#32

/-- The activation, `y g(y)`, and its gradient at `y` applied to the cotangent `d`. -/
def Gelu.th (y : EReal) : EReal := Ideal.tanh (root * (y + cubic * (y * (y * y))))
def Gelu.g (y : EReal) : EReal := half * (1 + Gelu.th y)
def Gelu.r (y d : EReal) : EReal := root * (half * (y * d) * ((1 + Gelu.th y) * (1 - Gelu.th y)))
def Gelu.d (y d : EReal) : EReal := d * Gelu.g y + Gelu.r y d + cubic * Gelu.r y d * (three * (y * y))

/-- The columns of `a` from `p` on, and `a` with those columns replaced by `b`. -/
def cols {s n : ℕ} (w p : ℕ) (h : p + w ≤ n) (a : Mat s n) : Mat s w :=
  fun i => a (ix2 (i 0) ⟨p + (i 1).val, Nat.lt_of_lt_of_le (Nat.add_lt_add_left (i 1).isLt p) h⟩)
def put {s n w : ℕ} (p : ℕ) (a : Mat s n) (b : Mat s w) : Mat s n := fun i =>
  if h : p ≤ (i 1).val ∧ (i 1).val < p + w then b (ix2 (i 0) ⟨(i 1).val - p, by omega⟩) else a i

theorem put_in {s n w : ℕ} (p : ℕ) (a : Mat s n) (b : Mat s w) (i : Fin s) (j : Fin w) (h : p + j.val < n) :
    put p a b (ix2 i ⟨p + j.val, h⟩) = b (ix2 i j) := by
  have hj := j.isLt
  unfold put
  rw [dif_pos ⟨Nat.le_add_right _ _, Nat.add_lt_add_left hj p⟩]
  refine congrArg b (congrArg (ix2 i) (Fin.ext ?_))
  exact Nat.add_sub_cancel_left _ _
theorem put_out {s n w : ℕ} (p : ℕ) (a : Mat s n) (b : Mat s w) (i : (⟨2, ![s, n]⟩ : Shape).Idx)
    (h : ¬(p ≤ (i 1).val ∧ (i 1).val < p + w)) : put p a b i = a i := dif_neg h

/-- The gated values, from the recurrence's outputs `h` and the gate's inputs `y`; and the cotangents of both, from the
cotangent `d`. -/
def Gelu.out {s w : ℕ} (h y : Mat s w) : Mat s w := fun i => y i * Gelu.g (y i) * h i
def Gelu.dh {s w : ℕ} (y d : Mat s w) : Mat s w := fun i => y i * Gelu.g (y i) * d i
def Gelu.dy {s w : ℕ} (h y d : Mat s w) : Mat s w := fun i => Gelu.d (y i) (d i * h i)

end Cert.Products
end
-- ==== Proof.GateBlocks.lean ====
module

public import proofs.«01_k».proof.Proof.Gelu
public import proofs.«01_k».proof.Proof.Gen.GateIdeal.Frame
public import Idealize.ShloMosaic.Lib.Pipeline.ReadBack
public import Idealize.ShloMosaic.Lib.Pipeline.ValueKit.Point
public import Idealize.ShloMosaic.Lib.Pipeline.ValueKit.Partial

/-!
# The gate's two calls over the extended reals

What each call leaves in its arrays, from the arrays it finds. Each writes one strip of columns of a wider array and leaves
the other columns as they were.
-/

@[expose] public section

set_option maxRecDepth 16384

noncomputable section

namespace Cert.GateIdeal.Value
open Cert.GateIdeal Cert.GateIdeal.Gen Idealize.ShloMosaic Idealize.ShloMosaic.TcCoe Idealize.SL.Sem
open Cert.Products
open Idealize.ShloMosaic.Pipeline (Dat)

variable (V : (c : Dev nD) → (b : Ref sig .tc) → Buf (Elt Ideal) ((c : Thread nD τ).loc b)) (c : Dev nD)

/-! ## The gated values -/

theorem out_pay (h y : Vec Ideal S1024x256 .f32) (i : Fin 1024) (j : Fin 256) :
    k0_pay1 (F := Ideal) h y (ix2 i j) = Gelu.out h y (ix2 i j) := by
  pointwise [k0_pay1, Gelu.out, Gelu.g, Gelu.th]

theorem index0 (t : Fin cfg0.N) :
    win0_0.index t = ![t.val, 0] ∧ win0_1.index t = ![t.val, 13] ∧ win0_2.index t = ![t.val, 3] := by
  revert t; decide +kernel
theorem lt0 (t : Fin cfg0.N) : t.val < 8 := t.isLt.trans_le (by decide)

theorem out_h (t : Fin cfg0.N) (i : Fin 1024) (j : Fin 256) :
    iblk0 V c 0 t (ix2 i j) = V c main_arg0 (ix2 ⟨1024 * t.val + i.val, by have := lt0 t; omega⟩ j) := by
  blk_ext [iblk0, (index0 t).1]
theorem out_y (t : Fin cfg0.N) (i : Fin 1024) (j : Fin 256) :
    iblk0 V c 1 t (ix2 i j) = V c main_arg1 (ix2 ⟨1024 * t.val + i.val, by have := lt0 t; omega⟩ ⟨3328 + j.val, by omega⟩) := by
  blk_ext [iblk0, (index0 t).2.1]

theorem out_at (t : Fin cfg0.N) : outsAt0 V c t = k0_pay1 (iblk0 V c 0 t) (iblk0 V c 1 t) := by
  unfold outsAt0 out0_A_2
  frame_open
  simp (disch := decide) only [View.read_writes_junk_eq_canon, View.canon_cons_unit_lit', View.readAt_eq_ld, View.ld_unit_lit', View.readCov_unit_lit', View.readCov_cons_unit_lit', Memref.IsWhole.read_unread]

theorem out_block (t : Fin cfg0.N) (i : Fin 1024) (j : Fin 256) :
    outsAt0 V c t (ix2 i j) = put 768 (V c main_v2 : Mat 8192 1024) (Gelu.out (V c main_arg0 : Mat 8192 256) (cols 256 3328 (by decide) (V c main_arg1 : Mat 8192 3840)))
      (ix2 ⟨1024 * t.val + i.val, by have := lt0 t; omega⟩ ⟨768 + j.val, by omega⟩) := by
  rw [out_at, out_pay, put_in]
  pointwise [Gelu.out, cols, out_h, out_y]

theorem out_final : (dat0 V c).arrAt 2 cfg0.N
    = put 768 (V c main_v2 : Mat 8192 1024) (Gelu.out (V c main_arg0 : Mat 8192 256) (cols 256 3328 (by decide) (V c main_arg1 : Mat 8192 3840))) := by
  refine (dat0 V c).arrAt_eq_of_coversWhere_of_agree 2 _ (fun β => β 1 = 3) (by decide +kernel) (fun t hf y => ?_) (fun j hj => ?_)
  · blk_simp
    have ey : y = ix2 (y 0) (y 1) := by funext a; fin_cases a <;> rfl
    rw [after0_2]
    refine (congrArg _ ey).trans ((out_block V c t (y 0) (y 1)).trans (congrArg _ ?_))
    blk_ext [(index0 t).2.2]
  · blk_simp [Pipeline.Window.cell_apply] at hj
    refine (put_out 768 _ _ _ ?_).symm
    blk_simp
    omega

/-! ## The cotangents -/

theorem dh_pay (y d : Vec Ideal S1024x256 .f32) (i : Fin 1024) (j : Fin 256) :
    k1_pay3 (F := Ideal) y d (ix2 i j) = Gelu.dh y d (ix2 i j) := by
  pointwise [k1_pay3, k1_pay2, k1_pay1, Gelu.dh, Gelu.g, Gelu.th]
theorem dy_pay (h y d : Vec Ideal S1024x256 .f32) (i : Fin 1024) (j : Fin 256) :
    k1_pay4 (F := Ideal) h y d (ix2 i j) = Gelu.dy h y d (ix2 i j) := by
  pointwise [k1_pay4, k1_pay2, k1_pay1, Gelu.dy, Gelu.d, Gelu.r, Gelu.g, Gelu.th]

theorem index1 (t : Fin cfg1.N) :
    win1_0.index t = ![t.val, 0] ∧ win1_1.index t = ![t.val, 13] ∧ win1_2.index t = ![t.val, 3] ∧ win1_3.index t = ![t.val, 0]
      ∧ win1_4.index t = ![t.val, 13] := by
  revert t; decide +kernel
theorem lt1 (t : Fin cfg1.N) : t.val < 8 := t.isLt.trans_le (by decide)

theorem bwd_h (t : Fin cfg1.N) (i : Fin 1024) (j : Fin 256) :
    iblk1 V c 0 t (ix2 i j) = V c main_arg0 (ix2 ⟨1024 * t.val + i.val, by have := lt1 t; omega⟩ j) := by
  blk_ext [iblk1, (index1 t).1]
theorem bwd_y (t : Fin cfg1.N) (i : Fin 1024) (j : Fin 256) :
    iblk1 V c 1 t (ix2 i j) = V c main_arg1 (ix2 ⟨1024 * t.val + i.val, by have := lt1 t; omega⟩ ⟨3328 + j.val, by omega⟩) := by
  blk_ext [iblk1, (index1 t).2.1]
theorem bwd_d (t : Fin cfg1.N) (i : Fin 1024) (j : Fin 256) :
    iblk1 V c 2 t (ix2 i j) = V c main_arg3 (ix2 ⟨1024 * t.val + i.val, by have := lt1 t; omega⟩ ⟨768 + j.val, by omega⟩) := by
  blk_ext [iblk1, (index1 t).2.2.1]

theorem dh_at (t : Fin cfg1.N) : (outsAt1 V c t).1 = k1_pay3 (iblk1 V c 1 t) (iblk1 V c 2 t) := by
  unfold outsAt1 out1_A_3
  frame_open
  simp (disch := decide) only [View.read_writes_junk_eq_canon, View.canon_cons_unit_lit', View.readAt_eq_ld, View.ld_unit_lit', View.readCov_unit_lit', View.readCov_cons_unit_lit', Memref.IsWhole.read_unread]
theorem dy_at (t : Fin cfg1.N) : (outsAt1 V c t).2 = k1_pay4 (iblk1 V c 0 t) (iblk1 V c 1 t) (iblk1 V c 2 t) := by
  unfold outsAt1 out1_A_4
  frame_open
  simp (disch := decide) only [View.read_writes_junk_eq_canon, View.canon_cons_unit_lit', View.readAt_eq_ld, View.ld_unit_lit', View.readCov_unit_lit', View.readCov_cons_unit_lit', Memref.IsWhole.read_unread]

theorem dh_block (t : Fin cfg1.N) (i : Fin 1024) (j : Fin 256) :
    (outsAt1 V c t).1 (ix2 i j) = Gelu.dh (cols 256 3328 (by decide) (V c main_arg1 : Mat 8192 3840)) (cols 256 768 (by decide) (V c main_arg3 : Mat 8192 1024))
      (ix2 ⟨1024 * t.val + i.val, by have := lt1 t; omega⟩ j) := by
  rw [dh_at, dh_pay]
  pointwise [Gelu.dh, cols, bwd_y, bwd_d]
theorem dy_block (t : Fin cfg1.N) (i : Fin 1024) (j : Fin 256) :
    (outsAt1 V c t).2 (ix2 i j) = put 3328 (V c main_v3_1 : Mat 8192 3840) (Gelu.dy (V c main_arg0 : Mat 8192 256) (cols 256 3328 (by decide) (V c main_arg1 : Mat 8192 3840)) (cols 256 768 (by decide) (V c main_arg3 : Mat 8192 1024)))
      (ix2 ⟨1024 * t.val + i.val, by have := lt1 t; omega⟩ ⟨3328 + j.val, by omega⟩) := by
  rw [dy_at, dy_pay, put_in]
  pointwise [Gelu.dy, cols, bwd_h, bwd_y, bwd_d]

theorem dh_final : (dat1 V c).arrAt 3 cfg1.N
    = Gelu.dh (cols 256 3328 (by decide) (V c main_arg1 : Mat 8192 3840)) (cols 256 768 (by decide) (V c main_arg3 : Mat 8192 1024)) := by
  refine (dat1 V c).arrAt_eq_of_covers 3 _ (by decide +kernel) fun t hf y => ?_
  blk_simp
  have ey : y = ix2 (y 0) (y 1) := by funext a; fin_cases a <;> rfl
  rw [after1_3]
  refine (congrArg _ ey).trans ((dh_block V c t (y 0) (y 1)).trans (congrArg _ ?_))
  blk_ext [(index1 t).2.2.2.1]
theorem dy_final : (dat1 V c).arrAt 4 cfg1.N
    = put 3328 (V c main_v3_1 : Mat 8192 3840) (Gelu.dy (V c main_arg0 : Mat 8192 256) (cols 256 3328 (by decide) (V c main_arg1 : Mat 8192 3840)) (cols 256 768 (by decide) (V c main_arg3 : Mat 8192 1024))) := by
  refine (dat1 V c).arrAt_eq_of_coversWhere_of_agree 4 _ (fun β => β 1 = 13) (by decide +kernel) (fun t hf y => ?_) (fun j hj => ?_)
  · blk_simp
    have ey : y = ix2 (y 0) (y 1) := by funext a; fin_cases a <;> rfl
    rw [after1_4]
    refine (congrArg _ ey).trans ((dy_block V c t (y 0) (y 1)).trans (congrArg _ ?_))
    blk_ext [(index1 t).2.2.2.2]
  · blk_simp [Pipeline.Window.cell_apply] at hj
    refine (put_out 3328 _ _ _ ?_).symm
    blk_simp
    omega

end Cert.GateIdeal.Value
end
-- ==== Proof.GateValue.lean ====
module

public import proofs.«01_k».proof.Proof.GateBlocks

/-!
# The gate's results over the extended reals

The contents of each array when its call returns, followed through both calls, from the arguments.
-/

@[expose] public section

set_option maxRecDepth 16384

noncomputable section

namespace Cert.GateIdeal.Value
open Cert.GateIdeal Cert.GateIdeal.Gen Idealize.ShloMosaic Idealize.ShloMosaic.TcCoe Idealize.SL.Sem
open Cert.Products
open Idealize.SL Idealize.SL.RA Idealize.SL.BI
open scoped Idealize.SL.BI
open Idealize.SL.BI.BIBase Idealize.SL.BI.Laws Idealize.SL.ProofMode
open Idealize.ShloMosaic.Rounds Idealize.ShloMosaic.Tactic

variable (m : (ℓ : Loc nD τ sig) → Buf (Elt Ideal) ℓ) (ρ : Dev nD → PrngReg)

local notation "𝕄" => MT nD τ sig Unit (Elt Ideal) ℕ (UR sig nD τ) ℕ

/-! ## The run: every array ends at the last contents of the chain of calls -/

set_option backward.isDefEq.respectTransparency.types false in
theorem run : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-! ## The arrays, call by call -/

section Arrays
variable (c : Dev nD)

theorem mixed_in : W1 m ρ c (Proc.devRef .tc main_v2) = m ((c : Thread nD τ).loc main_arg2) := by
  unfold W1
  after_results
  rfl
theorem dproj_cast : W1 m ρ c (Proc.devRef .tc main_v1) = m ((c : Thread nD τ).loc main_arg4) := by
  unfold W1
  after_results
  rfl
theorem dproj_in : W3 m ρ c (Proc.devRef .tc main_v3_1) = m ((c : Thread nD τ).loc main_arg4) := by
  have e : W3 m ρ c (Proc.devRef .tc main_v3_1) = W2 m ρ c (Proc.devRef .tc main_v1) := by
    unfold W3
    after_results
    rfl
  exact e.trans ((W2_of m ρ c main_v1 (by decide +kernel)).trans (dproj_cast m ρ c))

theorem out_end : W5 m ρ c (Proc.devRef .tc main_v4) = put 768 ((m ((c : Thread nD τ).loc main_arg2)) : Mat 8192 1024) (Gelu.out ((m ((c : Thread nD τ).loc main_arg0)) : Mat 8192 256) (cols 256 3328 (by decide) ((m ((c : Thread nD τ).loc main_arg1)) : Mat 8192 3840))) := by
  have e : W5 m ρ c (Proc.devRef .tc main_v4) = W4 m ρ c (Proc.devRef .tc main_v2) := by
    unfold W5
    after_results
    rfl
  refine e.trans ((W4_of m ρ c main_v2 (by decide +kernel)).trans ((W3_of m ρ c main_v2 (by decide +kernel)).trans ((W2_arr m ρ c 2).trans ((out_final (V1 m ρ) c).trans ?_))))
  dsimp only [V1]
  rw [mixed_in, W1_args m ρ c main_arg0 (by decide), W1_args m ρ c main_arg1 (by decide)]
theorem dh_end : W5 m ρ c (Proc.devRef .tc main_v3_0) = Gelu.dh (cols 256 3328 (by decide) ((m ((c : Thread nD τ).loc main_arg1)) : Mat 8192 3840)) (cols 256 768 (by decide) ((m ((c : Thread nD τ).loc main_arg3)) : Mat 8192 1024)) := by
  refine (W5_of m ρ c main_v3_0 (by decide +kernel)).trans ((W4_arr m ρ c 3).trans ((dh_final (V3 m ρ) c).trans ?_))
  dsimp only [V3]
  rw [W3_args m ρ c main_arg1 (by decide), W3_args m ρ c main_arg3 (by decide)]
theorem dy_end : W5 m ρ c (Proc.devRef .tc main_v5) = put 3328 ((m ((c : Thread nD τ).loc main_arg4)) : Mat 8192 3840) (Gelu.dy ((m ((c : Thread nD τ).loc main_arg0)) : Mat 8192 256) (cols 256 3328 (by decide) ((m ((c : Thread nD τ).loc main_arg1)) : Mat 8192 3840)) (cols 256 768 (by decide) ((m ((c : Thread nD τ).loc main_arg3)) : Mat 8192 1024))) := by
  have e : W5 m ρ c (Proc.devRef .tc main_v5) = W4 m ρ c (Proc.devRef .tc main_v3_1) := by
    unfold W5
    after_results
    rfl
  refine e.trans ((W4_arr m ρ c 4).trans ((dy_final (V3 m ρ) c).trans ?_))
  dsimp only [V3]
  rw [dproj_in, W3_args m ρ c main_arg0 (by decide), W3_args m ρ c main_arg1 (by decide), W3_args m ρ c main_arg3 (by decide)]
end Arrays

/-- The results and the arguments at the end, from the arguments. -/
theorem run_values : θ_run defs (onTc (τ := τ) (main (F := Ideal))) ⟨m, fun _ => 0, ρ⟩ (fun r => ∀ c : Dev nD,
      r.2.mem ((c : Thread nD τ).loc main_v4) = put 768 ((m ((c : Thread nD τ).loc main_arg2)) : Mat 8192 1024) (Gelu.out ((m ((c : Thread nD τ).loc main_arg0)) : Mat 8192 256) (cols 256 3328 (by decide) ((m ((c : Thread nD τ).loc main_arg1)) : Mat 8192 3840)))
      ∧ r.2.mem ((c : Thread nD τ).loc main_v3_0) = Gelu.dh (cols 256 3328 (by decide) ((m ((c : Thread nD τ).loc main_arg1)) : Mat 8192 3840)) (cols 256 768 (by decide) ((m ((c : Thread nD τ).loc main_arg3)) : Mat 8192 1024))
      ∧ r.2.mem ((c : Thread nD τ).loc main_v5) = put 3328 ((m ((c : Thread nD τ).loc main_arg4)) : Mat 8192 3840) (Gelu.dy ((m ((c : Thread nD τ).loc main_arg0)) : Mat 8192 256) (cols 256 3328 (by decide) ((m ((c : Thread nD τ).loc main_arg1)) : Mat 8192 3840)) (cols 256 768 (by decide) ((m ((c : Thread nD τ).loc main_arg3)) : Mat 8192 1024)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c _ (mem_uc main_v4 (by decide))).trans (out_end m ρ c),
    (h c _ (mem_uc main_v3_0 (by decide))).trans (dh_end m ρ c),
    (h c _ (mem_uc main_v5 (by decide))).trans (dy_end m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c)⟩) (run m ρ)

end Cert.GateIdeal.Value
end
-- ==== Proof.GateReferenceValue.lean ====
module

public import proofs.«01_k».proof.Proof.Gelu
public import proofs.«01_k».proof.Proof.Gen.GateReferenceIdeal.Run

/-!
# The gate's reference over the extended reals

The reference's results, read down to the same arrays.
-/

@[expose] public section

noncomputable section

namespace Cert.GateReferenceIdeal.Value
open Cert.GateReferenceIdeal Cert.GateReferenceIdeal.Gen Idealize.ShloMosaic Idealize.ShloMosaic.TcCoe Idealize.SL.Sem
open Cert.Products

variable (a0 : FVec Ideal S8192x256 .f32) (a1 : FVec Ideal S8192x3840 .f32) (a2 : FVec Ideal S8192x1024 .f32) (a3 : FVec Ideal S8192x1024 .f32)

/-- An array is known by its entries. -/
theorem mat_ext {p q : ℕ} {x y : Mat p q} (h : ∀ (i : Fin p) (j : Fin q), x (ix2 i j) = y (ix2 i j)) : x = y := by
  funext i
  have e : i = ix2 (i 0) (i 1) := by funext a; fin_cases a <;> rfl
  rw [e]
  exact h _ _

theorem th_eq (y : EReal) : Ideal.tanh (root * (y + cubic * (y * y * y))) = Gelu.th y := by
  rw [mul_assoc y y y]
  rfl

theorem res_out : concatenate S8192x1024 1 [⟨S8192x768, (extractStridedSlice S8192x768 ![0, 0] a2 slices_S8192x1024_S8192x768_0_0)⟩, ⟨S8192x256, (mulf (mulf (extractStridedSlice S8192x256 ![0, 3328] a1 slices_S8192x3840_S8192x256_0_3328) (mulf (broadcastInDim S8192x256 ![] bcast_S_S8192x256 (constant S_ .f32 0x3F000000#32)) (addf (broadcastInDim S8192x256 ![] bcast_S_S8192x256 (constant S_ .f32 0x3F800000#32)) (Host.tanh (mulf (broadcastInDim S8192x256 ![] bcast_S_S8192x256 (constant S_ .f32 0x3F4C422A#32)) (addf (extractStridedSlice S8192x256 ![0, 3328] a1 slices_S8192x3840_S8192x256_0_3328) (mulf (broadcastInDim S8192x256 ![] bcast_S_S8192x256 (constant S_ .f32 0x3D372713#32)) (mulf (mulf (extractStridedSlice S8192x256 ![0, 3328] a1 slices_S8192x3840_S8192x256_0_3328) (extractStridedSlice S8192x256 ![0, 3328] a1 slices_S8192x3840_S8192x256_0_3328)) (extractStridedSlice S8192x256 ![0, 3328] a1 slices_S8192x3840_S8192x256_0_3328))))))))) a0)⟩] concatenates_S8192x768_S8192x256_S8192x1024_d1
      = put 768 (a2 : Mat 8192 1024) (Gelu.out (a0 : Mat 8192 256) (cols 256 3328 (by decide) (a1 : Mat 8192 3840))) := by
  refine mat_ext fun i j => ?_
  pointwise [put, Gelu.out, cols]
  simp only [th_eq]
  by_cases h : j.val < 768
  · rw [dif_pos h, dif_neg (Nat.not_le.mpr h)]
  · rw [dif_neg h, dif_pos (Nat.not_lt.mp h)]
    rfl

theorem res_dh : mulf (mulf (extractStridedSlice S8192x256 ![0, 3328] a1 slices_S8192x3840_S8192x256_0_3328) (mulf (broadcastInDim S8192x256 ![] bcast_S_S8192x256 (constant S_ .f32 0x3F000000#32)) (addf (broadcastInDim S8192x256 ![] bcast_S_S8192x256 (constant S_ .f32 0x3F800000#32)) (Host.tanh (mulf (broadcastInDim S8192x256 ![] bcast_S_S8192x256 (constant S_ .f32 0x3F4C422A#32)) (addf (extractStridedSlice S8192x256 ![0, 3328] a1 slices_S8192x3840_S8192x256_0_3328) (mulf (broadcastInDim S8192x256 ![] bcast_S_S8192x256 (constant S_ .f32 0x3D372713#32)) (mulf (mulf (extractStridedSlice S8192x256 ![0, 3328] a1 slices_S8192x3840_S8192x256_0_3328) (extractStridedSlice S8192x256 ![0, 3328] a1 slices_S8192x3840_S8192x256_0_3328)) (extractStridedSlice S8192x256 ![0, 3328] a1 slices_S8192x3840_S8192x256_0_3328))))))))) (extractStridedSlice S8192x256 ![0, 768] a3 slices_S8192x1024_S8192x256_0_768)
      = Gelu.dh (cols 256 3328 (by decide) (a1 : Mat 8192 3840)) (cols 256 768 (by decide) (a3 : Mat 8192 1024)) := by
  refine mat_ext fun i j => ?_
  pointwise [Gelu.dh, cols]
  simp only [th_eq]
  rfl

theorem res_dy (m : (ℓ : Loc nD τ sig) → Buf (Elt Ideal) ℓ) (c : Dev nD) :
    res_main_v42 m c = put 3328 ((m ((c.tc : Thread nD τ).loc main_arg4)) : Mat 8192 3840) (Gelu.dy ((m ((c.tc : Thread nD τ).loc main_arg0)) : Mat 8192 256) (cols 256 3328 (by decide) ((m ((c.tc : Thread nD τ).loc main_arg1)) : Mat 8192 3840)) (cols 256 768 (by decide) ((m ((c.tc : Thread nD τ).loc main_arg3)) : Mat 8192 1024))) := by
  unfold res_main_v42
  refine mat_ext fun i j => ?_
  pointwise [put, Gelu.dy, cols]
  simp only [th_eq]
  by_cases h : j.val < 3328
  · rw [dif_pos h, dif_neg fun q => absurd q.1 (Nat.not_le.mpr h)]
  · rw [dif_neg h]
    by_cases h' : j.val - 3328 < 256
    · rw [dif_pos h', dif_pos ⟨Nat.not_lt.mp h, by omega⟩]
      rfl
    · rw [dif_neg h', dif_neg (by omega)]
      exact congrArg _ (congrArg (ix2 i) (Fin.ext (show 3584 + (j.val - 3328 - 256) = j.val by omega)))

end Cert.GateReferenceIdeal.Value
end
-- ==== Proof.LossMaths.lean ====
module

public import proofs.«01_k».proof.Proof.Norm
public import Idealize.ShloMosaic.Lib.IdealHost

/-!
# The loss over the extended reals

Half the sum of the rows' mean squared errors of the normalised input against the target, and its gradients.
-/

@[expose] public section

noncomputable section

namespace Cert.Products
open Idealize.ShloMosaic

namespace Loss

/-- The constant 1/2, as both programs spell it. -/
abbrev half : EReal := Ideal.ofBits .f32 0x3F000000#32

variable {s : ℕ}

/-- The error, a row's mean square of it, and the loss. -/
def err (x : Mat s 1024) (g : Row 1024) (t : Mat s 1024) : Mat s 1024 := fun i => Norm.out x g i - t i
def mean (x : Mat s 1024) (g : Row 1024) (t : Mat s 1024) (i : Fin s) : EReal :=
  Ideal.div (∑ y : Fin 1024, err x g t (ix2 i y) * err x g t (ix2 i y)) Norm.width
def val (x : Mat s 1024) (g : Row 1024) (t : Mat s 1024) : EReal := half * ∑ i : Fin s, mean x g t i

/-- The cotangent of the normalised rows, and those of `x` and of the gain. -/
def dy (x : Mat s 1024) (g : Row 1024) (t : Mat s 1024) : Mat s 1024 := fun i =>
  Ideal.div half Norm.width * (two * err x g t i)
def dx (x : Mat s 1024) (g : Row 1024) (t : Mat s 1024) : Mat s 1024 := fun i =>
  dy x g t i * g (ix1 (i 1)) * Norm.inv x (i 0) + x i * Norm.q x g (dy x g t) (i 0) + Norm.q x g (dy x g t) (i 0) * x i
def dg (x : Mat s 1024) (g : Row 1024) (t : Mat s 1024) : Row 1024 := Norm.dg x (dy x g t)

theorem half_eq : half = (((1 : ℝ) / 2 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem two_times (a : EReal) : two * a = a + a := by
  rw [two_eq, show ((2 : ℝ) : EReal) = 1 + 1 by norm_cast, EReal.right_distrib_of_nonneg zero_le_one zero_le_one, one_mul]

/-- The square's gradient as twice the product, and as the sum of both products. -/
theorem both (c e : EReal) : e * c + c * e = c * (two * e) := by
  rw [mul_comm e c, mul_left_comm, two_times]

/-- A half of a sum is the sum of the halves. -/
theorem half_sum {n : ℕ} (f : Fin n → EReal) : half * ∑ i, f i = ∑ i, half * f i := by
  rw [half_eq]
  induction (Finset.univ : Finset (Fin n)) using Finset.induction_on with
  | empty => simp
  | insert a s h ih =>
    rw [Finset.sum_insert h, Finset.sum_insert h, EReal.left_distrib_of_nonneg_of_ne_top (by norm_num) (EReal.coe_ne_top _), ih]

end Loss

end Cert.Products
end
-- ==== Proof.LossBlocks.lean ====
module

public import proofs.«01_k».proof.Proof.LossMaths
public import proofs.«01_k».proof.Proof.Gen.LossIdeal.Frame
public import Idealize.ShloMosaic.Lib.Pipeline.ReadBack
public import Idealize.ShloMosaic.Lib.Pipeline.ValueKit.Point

/-!
# The loss call over the extended reals

What the call leaves in its arrays, from the arrays it finds. It adds the loss and the gain's gradient up over the points of
its grid.
-/

@[expose] public section

set_option maxRecDepth 16384

noncomputable section

namespace Cert.LossIdeal.Value
open Cert.LossIdeal Cert.LossIdeal.Gen Idealize.ShloMosaic Idealize.ShloMosaic.TcCoe Idealize.SL.Sem
open Cert.Products
open Idealize.ShloMosaic.Pipeline (Dat)

variable (m : (ℓ : Loc nD τ sig) → Buf (Elt Ideal) ℓ) (c : Dev nD)

/-! ## One block of rows -/

section Pay
variable (g : Vec Ideal S1x1024 .f32) (x t : Vec Ideal S256x1024 .f32)

theorem sq_pay (i : Fin 256) (j : Fin 1) : k0_pay3 (F := Ideal) x (ix2 i j) = Norm.sq x i := by
  pointwise [k0_pay3, Norm.sq]
theorem inv_pay (i : Fin 256) (j : Fin 1) : k0_pay4 (F := Ideal) x (ix2 i j) = Norm.inv x i := by
  pointwise [k0_pay4, sq_pay, Norm.inv]
theorem hat_pay (i : Fin 256) (j : Fin 1024) : k0_pay6 (F := Ideal) x (ix2 i j) = Norm.hat x (ix2 i j) := by
  pointwise [k0_pay6, inv_pay, Norm.hat]
theorem err_pay (i : Fin 256) (j : Fin 1024) : k0_pay7 (F := Ideal) g x t (ix2 i j) = Loss.err x (row g) t (ix2 i j) := by
  pointwise [k0_pay7, k0_pay2, hat_pay, Loss.err, Norm.out, row]
theorem val_pay (i j : Fin 1) : k0_pay8 (F := Ideal) g x t (ix2 i j) = Loss.val x (row g) t := by
  pointwise [k0_pay8, err_pay, Loss.val, Loss.mean]
theorem cot_pay (i : Fin 256) (j : Fin 1) : k0_pay9 (F := Ideal) (ix2 i j) = Ideal.div Loss.half Norm.width := by
  pointwise [k0_pay9]
  simp only [Finset.univ_unique, Finset.sum_singleton]
theorem dy_pay (i : Fin 256) (j : Fin 1024) :
    k0_pay10 (F := Ideal) (k0_pay7 g x t) (k0_pay9 (F := Ideal)) (ix2 i j) = Loss.dy x (row g) t (ix2 i j) := by
  pointwise [k0_pay10, err_pay, cot_pay, Loss.dy]
  simp only [Fin.sum_univ_one]
  exact Loss.both _ _
theorem dx_pay (i : Fin 256) (j : Fin 1024) :
    k0_pay11 (F := Ideal) (k0_pay2 g) x (k0_pay4 x) (k0_pay5 x) (k0_pay7 g x t) (k0_pay9 (F := Ideal)) (ix2 i j)
      = Loss.dx x (row g) t (ix2 i j) := by
  pointwise [k0_pay11, k0_pay2, k0_pay5, inv_pay, sq_pay, dy_pay, Loss.dx, Norm.q, row]
  simp only [Fin.sum_univ_one]
theorem val_acc (a : Vec Ideal S1x128 .f32) (i : Fin 1) (j : Fin 128) :
    k0_pay14 (F := Ideal) (k0_pay8 g x t) a (ix2 i j) = a (ix2 i j) + Loss.val x (row g) t := by
  pointwise [k0_pay14, val_pay]
theorem dg_acc (a : Vec Ideal S1x1024 .f32) (i : Fin 1) (j : Fin 1024) :
    k0_pay15 (F := Ideal) (k0_pay6 x) (k0_pay7 g x t) (k0_pay9 (F := Ideal)) a (ix2 i j) = a (ix2 i j) + Loss.dg x (row g) t (ix1 j) := by
  pointwise [k0_pay15, hat_pay, dy_pay, Loss.dg, Norm.dg]
theorem val_zero (i : Fin 1) (j : Fin 128) : k0_pay12 (F := Ideal) (ix2 i j) = 0 := by
  pointwise [k0_pay12]
theorem dg_zero (i : Fin 1) (j : Fin 1024) : k0_pay13 (F := Ideal) (ix2 i j) = 0 := by
  pointwise [k0_pay13]
end Pay

/-! ## The blocks -/

theorem index0 (t : Fin cfg0.N) :
    win0_0.index t = ![0, 0] ∧ win0_1.index t = ![t.val, 0] ∧ win0_2.index t = ![t.val, 0] ∧ win0_3.index t = ![0, 0]
      ∧ win0_4.index t = ![t.val, 0] ∧ win0_5.index t = ![0, 0] := by
  revert t; decide +kernel
theorem lt0 (t : Fin cfg0.N) : t.val < 32 := t.isLt.trans_le (by decide)

/-- The arrays the call finds. -/
abbrev G : Row 1024 := row (V m c main_v0)
abbrev X : Mat 8192 1024 := V m c main_arg1
abbrev T : Mat 8192 1024 := V m c main_arg2

theorem blk_g (t : Fin cfg0.N) (i : Fin 1) (j : Fin 1024) : iblk m c 0 t (ix2 i j) = V m c main_v0 (ix2 i j) := by
  blk_ext [iblk, (index0 t).1]
theorem blk_x (t : Fin cfg0.N) (i : Fin 256) (j : Fin 1024) :
    iblk m c 1 t (ix2 i j) = V m c main_arg1 (ix2 ⟨256 * t.val + i.val, by have := lt0 t; omega⟩ j) := by
  blk_ext [iblk, (index0 t).2.1]
theorem blk_t (t : Fin cfg0.N) (i : Fin 256) (j : Fin 1024) :
    iblk m c 2 t (ix2 i j) = V m c main_arg2 (ix2 ⟨256 * t.val + i.val, by have := lt0 t; omega⟩ j) := by
  blk_ext [iblk, (index0 t).2.2.1]

/-! ## What a point leaves, at the first point and at the others -/

theorem val_A (t : Fin cfg0.N) (h0 : t.val % 32 = 0) :
    (outsAt0 m c t.val t.isLt).1 = k0_pay14 (k0_pay8 (iblk m c 0 t) (iblk m c 1 t) (iblk m c 2 t)) (k0_pay12 (F := Ideal)) := by
  rw [outsAt0_A m c t h0]
  frame_open
  simp (disch := decide) only [View.read_writes_junk_eq_canon, View.canon_cons_unit_lit', View.readAt_eq_ld, View.ld_unit_lit', View.readCov_unit_lit', View.readCov_cons_unit_lit', Memref.IsWhole.read_unread]
theorem val_B (t : Fin cfg0.N) (h0 : ¬t.val % 32 = 0) :
    (outsAt0 m c t.val t.isLt).1 = k0_pay14 (k0_pay8 (iblk m c 0 t) (iblk m c 1 t) (iblk m c 2 t)) (outsAt0 m c (t.val - 1) (Nat.lt_of_le_of_lt (Nat.sub_le _ _) t.isLt)).1 := by
  rw [outsAt0_B m c t h0]
  frame_open
  simp (disch := decide) only [View.read_writes_junk_eq_canon, View.canon_cons_unit_lit', View.readAt_eq_ld, View.ld_unit_lit', View.readCov_unit_lit', View.readCov_cons_unit_lit', Memref.IsWhole.read_unread]
theorem dg_A (t : Fin cfg0.N) (h0 : t.val % 32 = 0) :
    (outsAt0 m c t.val t.isLt).2.2.1 = k0_pay15 (k0_pay6 (iblk m c 1 t)) (k0_pay7 (iblk m c 0 t) (iblk m c 1 t) (iblk m c 2 t)) (k0_pay9 (F := Ideal)) (k0_pay13 (F := Ideal)) := by
  rw [outsAt0_A m c t h0]
  frame_open
  simp (disch := decide) only [View.read_writes_junk_eq_canon, View.canon_cons_unit_lit', View.readAt_eq_ld, View.ld_unit_lit', View.readCov_unit_lit', View.readCov_cons_unit_lit', Memref.IsWhole.read_unread]
theorem dg_B (t : Fin cfg0.N) (h0 : ¬t.val % 32 = 0) :
    (outsAt0 m c t.val t.isLt).2.2.1 = k0_pay15 (k0_pay6 (iblk m c 1 t)) (k0_pay7 (iblk m c 0 t) (iblk m c 1 t) (iblk m c 2 t)) (k0_pay9 (F := Ideal)) (outsAt0 m c (t.val - 1) (Nat.lt_of_le_of_lt (Nat.sub_le _ _) t.isLt)).2.2.1 := by
  rw [outsAt0_B m c t h0]
  frame_open
  simp (disch := decide) only [View.read_writes_junk_eq_canon, View.canon_cons_unit_lit', View.readAt_eq_ld, View.ld_unit_lit', View.readCov_unit_lit', View.readCov_cons_unit_lit', Memref.IsWhole.read_unread]
theorem dx_A (t : Fin cfg0.N) (h0 : t.val % 32 = 0) :
    (outsAt0 m c t.val t.isLt).2.1 = k0_pay11 (k0_pay2 (iblk m c 0 t)) (iblk m c 1 t) (k0_pay4 (iblk m c 1 t)) (k0_pay5 (iblk m c 1 t)) (k0_pay7 (iblk m c 0 t) (iblk m c 1 t) (iblk m c 2 t)) (k0_pay9 (F := Ideal)) := by
  rw [outsAt0_A m c t h0]
  frame_open
  simp (disch := decide) only [View.read_writes_junk_eq_canon, View.canon_cons_unit_lit', View.readAt_eq_ld, View.ld_unit_lit', View.readCov_unit_lit', View.readCov_cons_unit_lit', Memref.IsWhole.read_unread]
theorem dx_B (t : Fin cfg0.N) (h0 : ¬t.val % 32 = 0) :
    (outsAt0 m c t.val t.isLt).2.1 = k0_pay11 (k0_pay2 (iblk m c 0 t)) (iblk m c 1 t) (k0_pay4 (iblk m c 1 t)) (k0_pay5 (iblk m c 1 t)) (k0_pay7 (iblk m c 0 t) (iblk m c 1 t) (iblk m c 2 t)) (k0_pay9 (F := Ideal)) := by
  rw [outsAt0_B m c t h0]
  frame_open
  simp (disch := decide) only [View.read_writes_junk_eq_canon, View.canon_cons_unit_lit', View.readAt_eq_ld, View.ld_unit_lit', View.readCov_unit_lit', View.readCov_cons_unit_lit', Memref.IsWhole.read_unread]

/-! ## The input's cotangent -/

theorem dx_block (t : Fin cfg0.N) (i : Fin 256) (j : Fin 1024) :
    (outsAt0 m c t.val t.isLt).2.1 (ix2 i j) = Loss.dx (X m c) (G m c) (T m c) (ix2 ⟨256 * t.val + i.val, by have := lt0 t; omega⟩ j) := by
  have h : (outsAt0 m c t.val t.isLt).2.1 = k0_pay11 (k0_pay2 (iblk m c 0 t)) (iblk m c 1 t) (k0_pay4 (iblk m c 1 t)) (k0_pay5 (iblk m c 1 t)) (k0_pay7 (iblk m c 0 t) (iblk m c 1 t) (iblk m c 2 t)) (k0_pay9 (F := Ideal)) := by
    by_cases h0 : t.val % 32 = 0
    · exact dx_A m c t h0
    · exact dx_B m c t h0
  rw [h, dx_pay]
  pointwise [Loss.dx, Loss.dy, Loss.err, Norm.out, Norm.hat, Norm.q, Norm.inv, Norm.sq, row, blk_g, blk_x, blk_t]
theorem dx_final : (dats m 0 c).arrAt 4 cfg0.N = Loss.dx (X m c) (G m c) (T m c) := by
  refine (dats m 0 c).arrAt_eq_of_covers 4 _ (by decide +kernel) fun t hf y => ?_
  blk_simp
  have ey : y = ix2 (y 0) (y 1) := by funext a; fin_cases a <;> rfl
  rw [after0_4]
  refine (congrArg _ ey).trans ((dx_block m c t (y 0) (y 1)).trans (congrArg _ ?_))
  blk_ext [(index0 t).2.2.2.2.1]

/-! ## The gain's gradient -/

/-- The summand of row `i` at column `j`, and the part that point `n` adds. -/
def summand (j : Fin 1024) (i : Fin 8192) : EReal := Norm.hat (X m c) (ix2 i j) * Loss.dy (X m c) (G m c) (T m c) (ix2 i j)
def part (n : ℕ) (j : Fin 1024) : EReal := if h : n < 32 then ∑ r : Fin 256, summand m c j ⟨n * 256 + r.val, by omega⟩ else 0
theorem row_at (t : Fin cfg0.N) (r : Fin 256) : (⟨256 * t.val + r.val, by have := lt0 t; omega⟩ : Fin 8192) = ⟨t.val * 256 + r.val, by have := lt0 t; omega⟩ :=
  Fin.ext (by show 256 * t.val + r.val = t.val * 256 + r.val; omega)
theorem part_eq (t : Fin cfg0.N) (j : Fin 1024) :
    Loss.dg (iblk m c 1 t : Mat 256 1024) (row (iblk m c 0 t)) (iblk m c 2 t) (ix1 j) = part m c t.val j := by
  rw [part, dif_pos (lt0 t), Loss.dg, Norm.dg]
  refine Finset.sum_congr rfl fun r _ => ?_
  pointwise [summand, Loss.dy, Loss.err, Norm.out, Norm.hat, Norm.inv, Norm.sq, row, blk_g, blk_x, blk_t, row_at t]
theorem dg_met (n : ℕ) (hn : n < cfg0.N) (j : Fin 1024) :
    (outsAt0 m c n hn).2.2.1 (ix2 0 j) = ∑ k ∈ Finset.range (n + 1), part m c k j := by
  induction n with
  | zero =>
    rw [dg_A m c ⟨0, hn⟩ rfl, dg_acc, dg_zero, zero_add, part_eq m c ⟨0, hn⟩ j, Finset.sum_range_one]
  | succ n ih =>
    have h32 := lt0 ⟨n + 1, hn⟩
    have h0 : ¬(n + 1) % 32 = 0 := by change n + 1 < 32 at h32; omega
    rw [dg_B m c ⟨n + 1, hn⟩ h0, dg_acc, part_eq m c ⟨n + 1, hn⟩ j, Finset.sum_range_succ]
    exact congrArg (· + _) (ih _)
theorem dg_sum (j : Fin 1024) : ∑ k ∈ Finset.range 32, part m c k j = Loss.dg (X m c) (G m c) (T m c) (ix1 j) := by
  rw [Finset.sum_range]
  refine Eq.trans ?_ (Fin.sum_univ_tiles 32 256 rfl (summand m c j)).symm
  exact Finset.sum_congr rfl fun k _ => dif_pos k.isLt
theorem dg_last (t : Fin cfg0.N) (h : t.val = 31) (j : Fin 1024) :
    (outsAt0 m c t.val t.isLt).2.2.1 (ix2 0 j) = Loss.dg (X m c) (G m c) (T m c) (ix1 j) := by
  rw [dg_met, h, dg_sum]
theorem dg_final : (dats m 0 c).arrAt 5 cfg0.N = fun i : S1x1024.Idx => Loss.dg (X m c) (G m c) (T m c) (ix1 (i 1)) := by
  refine (dats m 0 c).arrAt_eq_of_covers 5 _ (by decide +kernel) fun t hf y => ?_
  have h31 : t.val = 31 := by have := (flush0_5 t).mp hf; have := lt0 t; omega
  blk_simp
  have ey : y = ix2 0 (y 1) := by
    funext a; fin_cases a
    · exact Subsingleton.elim (α := Fin 1) _ _
    · rfl
  rw [after0_5]
  refine (congrArg _ ey).trans ((dg_last m c t h31 (y 1)).trans (congrArg _ ?_))
  blk_ext [(index0 t).2.2.2.2.2]

/-! ## The loss -/

/-- The part of the loss that point `n` adds. -/
def share (n : ℕ) : EReal :=
  if h : n < 32 then Loss.half * ∑ r : Fin 256, Loss.mean (X m c) (G m c) (T m c) ⟨n * 256 + r.val, by omega⟩
  else 0
theorem share_eq (t : Fin cfg0.N) : Loss.val (iblk m c 1 t : Mat 256 1024) (row (iblk m c 0 t)) (iblk m c 2 t) = share m c t.val := by
  rw [share, dif_pos (lt0 t), Loss.val]
  refine congrArg (Loss.half * ·) (Finset.sum_congr rfl fun r _ => ?_)
  pointwise [Loss.mean, Loss.err, Norm.out, Norm.hat, Norm.inv, Norm.sq, row, blk_g, blk_x, blk_t, row_at t]
theorem val_met (n : ℕ) (hn : n < cfg0.N) (j : Fin 128) :
    (outsAt0 m c n hn).1 (ix2 0 j) = ∑ k ∈ Finset.range (n + 1), share m c k := by
  induction n with
  | zero =>
    rw [val_A m c ⟨0, hn⟩ rfl, val_acc, val_zero, zero_add, share_eq m c ⟨0, hn⟩, Finset.sum_range_one]
  | succ n ih =>
    have h32 := lt0 ⟨n + 1, hn⟩
    have h0 : ¬(n + 1) % 32 = 0 := by change n + 1 < 32 at h32; omega
    rw [val_B m c ⟨n + 1, hn⟩ h0, val_acc, share_eq m c ⟨n + 1, hn⟩, Finset.sum_range_succ]
    exact congrArg (· + _) (ih _)
theorem val_sum : ∑ k ∈ Finset.range 32, share m c k = Loss.val (X m c) (G m c) (T m c) := by
  rw [Finset.sum_range, Loss.val]
  refine Eq.trans ?_ (congrArg (Loss.half * ·) (Fin.sum_univ_tiles 32 256 rfl _).symm)
  rw [Loss.half_sum]
  exact Finset.sum_congr rfl fun k _ => dif_pos k.isLt
theorem val_last (t : Fin cfg0.N) (h : t.val = 31) (j : Fin 128) :
    (outsAt0 m c t.val t.isLt).1 (ix2 0 j) = Loss.val (X m c) (G m c) (T m c) := by
  rw [val_met, h, val_sum]
theorem val_final : (dats m 0 c).arrAt 3 cfg0.N = fun _ : S1x128.Idx => Loss.val (X m c) (G m c) (T m c) := by
  refine (dats m 0 c).arrAt_eq_of_covers 3 _ (by decide +kernel) fun t hf y => ?_
  have h31 : t.val = 31 := by have := (flush0_3 t).mp hf; have := lt0 t; omega
  blk_simp
  have ey : y = ix2 0 (y 1) := by
    funext a; fin_cases a
    · exact Subsingleton.elim (α := Fin 1) _ _
    · rfl
  rw [after0_3]
  exact (congrArg _ ey).trans (val_last m c t h31 (y 1))

end Cert.LossIdeal.Value
end
-- ==== Proof.LossValue.lean ====
module

public import proofs.«01_k».proof.Proof.LossBlocks

/-!
# The loss's results over the extended reals

The call finds the gain as a matrix of one row; the loss is the first entry of the row it leaves.
-/

@[expose] public section

set_option maxRecDepth 16384

noncomputable section

namespace Cert.LossIdeal.Value
open Cert.LossIdeal Cert.LossIdeal.Gen Idealize.ShloMosaic Idealize.ShloMosaic.TcCoe Idealize.SL.Sem
open Cert.Products

variable (m : (ℓ : Loc nD τ sig) → Buf (Elt Ideal) ℓ) (c : Dev nD)

theorem gain_row : G m c = m ((c : Thread nD τ).loc main_arg0) := by
  have e : V m c main_v0 = shapeCast S1x1024 (m ((c : Thread nD τ).loc main_arg0)) shapeCasts_S1024_S1x1024 := by
    show StableHlo.after (List.flatten [hostOps0]) _ _ = _
    simp only [hostOps0, List.flatten_cons, List.flatten_nil, List.append_nil, List.cons_append, List.nil_append]
    after_results
    rfl
  unfold G
  rw [e]
  funext j
  have ej : j = ix1 (j 0) := by funext a; fin_cases a; rfl
  refine Eq.trans ?_ (congrArg _ ej.symm)
  pointwise [row]

theorem loss_end : Pipeline.afterTail₀ cfgs (dats m) 0 (V0 m) [hostOps1] c main_v3 = fun _ : S_.Idx => Loss.val (m ((c : Thread nD τ).loc main_arg1)) (m ((c : Thread nD τ).loc main_arg0)) (m ((c : Thread nD τ).loc main_arg2)) := by
  have e : Pipeline.afterTail₀ cfgs (dats m) 0 (V0 m) [hostOps1] c main_v3
      = shapeCast S_ (extractStridedSlice S1x1 ![0, 0] ((dats m 0 c).arrAt 3 cfg0.N : FVec Ideal S1x128 .f32) slices_S1x128_S1x1_0_0) shapeCasts_S1x1_S_ := by
    unfold Pipeline.afterTail₀
    simp only [hostOps1, List.flatten_cons, List.flatten_nil, List.append_nil, List.cons_append, List.nil_append]
    after_results
    exact congrArg (fun x : FVec Ideal S1x128 .f32 => shapeCast S_ (extractStridedSlice S1x1 ![0, 0] x slices_S1x128_S1x1_0_0) shapeCasts_S1x1_S_)
      (Pipeline.withArrays_arr spec0 launch0.win.arr_inj c (V0 m c) (fun w => (dats m 0 c).arrAt w cfg0.N) 3)
  rw [e, val_final, gain_row, X, T, V_main_arg1, V_main_arg2]
  funext i
  rfl
theorem dx_end : (dats m 0 c).arrAt 4 cfg0.N = Loss.dx (m ((c : Thread nD τ).loc main_arg1)) (m ((c : Thread nD τ).loc main_arg0)) (m ((c : Thread nD τ).loc main_arg2)) := by
  rw [dx_final, gain_row, X, T, V_main_arg1, V_main_arg2]
theorem row_cast (d : Row 1024) : shapeCast S1024 (fun i : S1x1024.Idx => d (ix1 (i 1)) : FVec Ideal S1x1024 .f32) shapeCasts_S1x1024_S1024 = d := by
  funext j
  have ej : j = ix1 (j 0) := by funext a; fin_cases a; rfl
  refine (congrArg _ ej).trans (Eq.trans ?_ (congrArg _ ej.symm))
  pointwise
theorem dg_tail : Pipeline.afterTail₀ cfgs (dats m) 0 (V0 m) [hostOps1] c main_v4
      = shapeCast S1024 ((dats m 0 c).arrAt 5 cfg0.N : FVec Ideal S1x1024 .f32) shapeCasts_S1x1024_S1024 := by
  unfold Pipeline.afterTail₀
  simp only [hostOps1, List.flatten_cons, List.flatten_nil, List.append_nil, List.cons_append, List.nil_append]
  after_results
  exact congrArg (fun x : FVec Ideal S1x1024 .f32 => shapeCast S1024 x shapeCasts_S1x1024_S1024)
    (Pipeline.withArrays_arr spec0 launch0.win.arr_inj c (V0 m c) (fun w => (dats m 0 c).arrAt w cfg0.N) 5)
theorem dg_end : Pipeline.afterTail₀ cfgs (dats m) 0 (V0 m) [hostOps1] c main_v4 = Loss.dg (m ((c : Thread nD τ).loc main_arg1)) (m ((c : Thread nD τ).loc main_arg0)) (m ((c : Thread nD τ).loc main_arg2)) := by
  rw [dg_tail, dg_final, gain_row, X, T, V_main_arg1, V_main_arg2]
  exact row_cast _

/-- The results and the arguments at the end, from the arguments. -/
theorem run_values (ρ : Dev nD → PrngReg) : θ_run defs (onTc (τ := τ) (main (F := Ideal))) ⟨m, fun _ => 0, ρ⟩ (fun r => ∀ c : Dev nD,
      r.2.mem ((c : Thread nD τ).loc main_v3) = (fun _ : S_.Idx => Loss.val (m ((c : Thread nD τ).loc main_arg1)) (m ((c : Thread nD τ).loc main_arg0)) (m ((c : Thread nD τ).loc main_arg2)))
      ∧ r.2.mem ((c : Thread nD τ).loc main_v1_1) = Loss.dx (m ((c : Thread nD τ).loc main_arg1)) (m ((c : Thread nD τ).loc main_arg0)) (m ((c : Thread nD τ).loc main_arg2))
      ∧ r.2.mem ((c : Thread nD τ).loc main_v4) = Loss.dg (m ((c : Thread nD τ).loc main_arg1)) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h.1.rest_eq c main_v3 (by decide)).trans (loss_end m c),
    (h.1.out_eq c 4).trans (dx_end m c), (h.1.rest_eq c main_v4 (by decide)).trans (dg_end m c), h.2 c⟩)
    (θ_run_and (run_main m ρ) (unchanged m ρ))

end Cert.LossIdeal.Value
end
-- ==== Proof.LossReferenceValue.lean ====
module

public import proofs.«01_k».proof.Proof.LossMaths
public import proofs.«01_k».proof.Proof.Gen.LossReferenceIdeal.Run

/-!
# The loss's reference over the extended reals

The reference's results, read down to the same arrays.
-/

@[expose] public section

noncomputable section

namespace Cert.LossReferenceIdeal.Value
open Cert.LossReferenceIdeal Cert.LossReferenceIdeal.Gen Idealize.ShloMosaic Idealize.ShloMosaic.TcCoe Idealize.SL.Sem
open Cert.Products

variable (a0 : FVec Ideal S1024 .f32) (a1 : FVec Ideal S8192x1024 .f32) (a2 : FVec Ideal S8192x1024 .f32)

/-- An array is known by its entries. -/
theorem mat_ext {p q : ℕ} {x y : Mat p q} (h : ∀ (i : Fin p) (j : Fin q), x (ix2 i j) = y (ix2 i j)) : x = y := by
  funext i
  have e : i = ix2 (i 0) (i 1) := by funext a; fin_cases a <;> rfl
  rw [e]
  exact h _ _

theorem res_loss : mulf (constant S_ .f32 0x3F000000#32) (Host.reduceAdd (Host.divf (Host.reduceAdd (mulf (subf (mulf (mulf a1 (broadcastInDim S8192x1024 ![0, 1] bcast_S8192x1_S8192x1024_0_1 (Host.rsqrt (addf (Host.divf (broadcastInDim S8192x1 ![0] bcast_S8192_S8192x1_0 (Host.reduceAdd (mulf a1 a1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a0))) a2) (subf (mulf (mulf a1 (broadcastInDim S8192x1024 ![0, 1] bcast_S8192x1_S8192x1024_0_1 (Host.rsqrt (addf (Host.divf (broadcastInDim S8192x1 ![0] bcast_S8192_S8192x1_0 (Host.reduceAdd (mulf a1 a1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a0))) a2)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)
      = fun _ => Loss.val a1 a0 a2 := by
  funext i
  pointwise [Loss.val, Loss.mean, Loss.err, Norm.out, Norm.hat, Norm.inv, Norm.sq]

theorem res_dg : Host.reduceAdd (shapeCast _ (Host.reduceAdd (mulf (mulf a1 (broadcastInDim S8192x1024 ![0, 1] bcast_S8192x1_S8192x1024_0_1 (Host.rsqrt (addf (Host.divf (broadcastInDim S8192x1 ![0] bcast_S8192_S8192x1_0 (Host.reduceAdd (mulf a1 a1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a1 (broadcastInDim S8192x1024 ![0, 1] bcast_S8192x1_S8192x1024_0_1 (Host.rsqrt (addf (Host.divf (broadcastInDim S8192x1 ![0] bcast_S8192_S8192x1_0 (Host.reduceAdd (mulf a1 a1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 a0))) a2)))) (constant S_ .f32 0x00000000#32) reducesTo_S8192x1024_S1024_d0 h_S_) shapeCasts_S1024_S1x1024) (constant S_ .f32 0x00000000#32) reducesTo_S1x1024_S1024_d0 h_S_
      = Loss.dg a1 a0 a2 := by
  funext j
  have ej : j = ix1 (j 0) := by funext a; fin_cases a; rfl
  refine (congrArg _ ej).trans (Eq.trans ?_ (congrArg _ ej.symm))
  pointwise [Loss.dg, Norm.dg, Loss.dy, Loss.err, Norm.out, Norm.hat, Norm.inv, Norm.sq]
  exact Fin.sum_univ_one _

theorem res_dx (m : (ℓ : Loc nD τ sig) → Buf (Elt Ideal) ℓ) (c : Dev nD) :
    res_main_v50 m c = Loss.dx (m ((c.tc : Thread nD τ).loc main_arg1)) (m ((c.tc : Thread nD τ).loc main_arg0)) (m ((c.tc : Thread nD τ).loc main_arg2)) := by
  unfold res_main_v50
  refine mat_ext fun i j => ?_
  pointwise [Loss.dx, Loss.dy, Loss.err, Norm.out, Norm.hat, Norm.q, Norm.inv, Norm.sq]
  simp only [Fin.sum_univ_one]

end Cert.LossReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardReferenceIdeal
public import proofs.«01_k».proof.Proof.Gen.KernelIdeal.Value
public import proofs.«01_k».proof.Proof.Gen.ForwardIdeal.Value
public import proofs.«01_k».proof.Proof.Gen.ReferenceIdeal.Run
public import proofs.«01_k».proof.Proof.Gen.ForwardReferenceIdeal.Run
public import proofs.«01_k».proof.Proof.ForwardValue
public import proofs.«01_k».proof.Proof.KernelValue
public import proofs.«01_k».proof.Proof.ForwardReferenceValue
public import proofs.«01_k».proof.Proof.ReferenceValue
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Gen.MlpReferenceIdeal.Run
public import proofs.«01_k».proof.Proof.MlpValue
public import proofs.«01_k».proof.Proof.MlpReferenceValue
public import proofs.«01_k».proof.Proof.ProjValue
public import proofs.«01_k».proof.Proof.ProjReferenceValue
public import proofs.«01_k».proof.Proof.Gen.Gate.Frame
public import proofs.«01_k».proof.Proof.Gen.GateIdeal.Frame
public import proofs.«01_k».proof.Proof.Gen.GateReferenceIdeal.Run
public import proofs.«01_k».proof.Proof.Gen.Gate
public import proofs.«01_k».proof.Proof.Gen.GateIdeal
public import proofs.«01_k».proof.Proof.Gen.GateReferenceIdeal
public import proofs.«01_k».proof.Proof.Gen.Loss.Frame
public import proofs.«01_k».proof.Proof.Gen.LossIdeal.Frame
public import proofs.«01_k».proof.Proof.Gen.LossReferenceIdeal.Run
public import proofs.«01_k».proof.Proof.Gen.Loss
public import proofs.«01_k».proof.Proof.Gen.LossIdeal
public import proofs.«01_k».proof.Proof.Gen.LossReferenceIdeal
public import proofs.«01_k».proof.Proof.GateValue
public import proofs.«01_k».proof.Proof.GateReferenceValue
public import proofs.«01_k».proof.Proof.LossValue
public import proofs.«01_k».proof.Proof.LossReferenceValue
public import Idealize.ShloMosaic.Adequacy
public import Idealize.ShloMosaic.Init
public import Idealize.ShloMosaic.Lib.Quiescent

/-! The proof of the certificate: the frames, the idealizations without a rewrite, and the value claims, each the
kernel's closed form against the reference's. -/

@[expose] public section

noncomputable section

namespace Cert.Proof

open Idealize.ShloMosaic Idealize.ShloMosaic.TcCoe Idealize.SL.Sem

/-- The program declares no semaphore and leaves its arguments unchanged. -/
theorem frame_ReferenceIdeal : Cert.quiescent_ReferenceIdeal := fun m ρ _ =>
  (θ_run _ _ _).mono (fun r h => ⟨fun c => (h c).2.2.2.2.2.2, sem_eq_zero_of_no_sems (by decide) r.2⟩)
    (Cert.ReferenceIdeal.Value.run (F := Ideal) m ρ)

/-- The program declares no semaphore and leaves its arguments unchanged. -/
theorem frame_ForwardReferenceIdeal : Cert.quiescent_ForwardReferenceIdeal := fun m ρ _ =>
  (θ_run _ _ _).mono (fun r h => ⟨fun c => (h c).2.2, sem_eq_zero_of_no_sems (by decide) r.2⟩)
    (Cert.ForwardReferenceIdeal.Value.run (F := Ideal) m ρ)

/-- The backward recurrence's six results are the scan's cotangents. -/
theorem algebraic_Kernel : Cert.algebraic_KernelIdeal_ReferenceIdeal := by
  intro m ρ m' ρ' _ hagree
  refine ⟨fun c => Maths.duRes (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)), fun c => Maths.dwRes (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Maths.dqkRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Maths.dqdRes (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Maths.dkdRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Maths.ddecRes (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run _ _ _).mono (fun _ h c => ⟨((h c).1).trans (Cert.KernelIdeal.Value.final_du m c), ((h c).2.1).trans (Cert.KernelIdeal.Value.final_dw m c), ((h c).2.2.1).trans (Cert.KernelIdeal.Value.final_dqk m c), ((h c).2.2.2.1).trans (Cert.KernelIdeal.Value.final_dqd m c), ((h c).2.2.2.2.1).trans (Cert.KernelIdeal.Value.final_dkd m c), ((h c).2.2.2.2.2.1).trans (Cert.KernelIdeal.Value.final_ddec m c), (h c).2.2.2.2.2.2⟩)
      (Cert.KernelIdeal.Value.run_blocks (F := Ideal) m ρ)
  · exact (θ_run _ _ _).mono (fun _ h c => ⟨((h c).1).trans ((Cert.ReferenceIdeal.Value.res_du _ _ _ _ _ _ _ _ ).trans (by rw [(hagree c).2.1, (hagree c).2.2.1, (hagree c).2.2.2.1, (hagree c).2.2.2.2.1, (hagree c).2.2.2.2.2.1, (hagree c).2.2.2.2.2.2.2])), ((h c).2.1).trans ((Cert.ReferenceIdeal.Value.res_dw _ _ _ _ _ _ _ _ ).trans (by rw [(hagree c).2.1, (hagree c).2.2.1, (hagree c).2.2.2.1, (hagree c).2.2.2.2.1, (hagree c).2.2.2.2.2.1, (hagree c).2.2.2.2.2.2.1, (hagree c).2.2.2.2.2.2.2])), ((h c).2.2.1).trans ((Cert.ReferenceIdeal.Value.res_dqk _ _ _ _ _ _ _ _ ).trans (by rw [(hagree c).1, (hagree c).2.1, (hagree c).2.2.2.2.2.2.1, (hagree c).2.2.2.2.2.2.2])), ((h c).2.2.2.1).trans ((Cert.ReferenceIdeal.Value.res_dqd _ _ _ _ _ _ _ _ ).trans (by rw [(hagree c).2.2.2.2.2.2.1, (hagree c).2.2.2.2.2.2.2])), ((h c).2.2.2.2.1).trans ((Cert.ReferenceIdeal.Value.res_dkd _ _ _ _ _ _ _ _ ).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2])), ((h c).2.2.2.2.2.1).trans ((Cert.ReferenceIdeal.Value.res_ddec _ _ _ _ _ _ _ _ ).trans (by rw [(hagree c).2.1, (hagree c).2.2.1, (hagree c).2.2.2.1, (hagree c).2.2.2.2.1, (hagree c).2.2.2.2.2.1, (hagree c).2.2.2.2.2.2.1, (hagree c).2.2.2.2.2.2.2])), (h c).2.2.2.2.2.2⟩)
      (Cert.ReferenceIdeal.StepIter.run_iter (F := Ideal) m' ρ' (fun c => Cert.ReferenceIdeal.Value.it (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (fun _ => rfl) (fun _ _ => rfl))

/-- The forward recurrence's output and saved states are the scan's. -/
theorem algebraic_Forward : Cert.algebraic_ForwardIdeal_ForwardReferenceIdeal := by
  intro m ρ m' ρ' _ hagree
  refine ⟨fun c => Maths.oRes (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)), fun c => Maths.sRes (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)), ?_, ?_⟩
  · exact (θ_run _ _ _).mono (fun _ h c => ⟨((h c).1).trans (Cert.ForwardIdeal.Value.final_o m c), ((h c).2.1).trans (Cert.ForwardIdeal.Value.final_s m c), (h c).2.2⟩)
      (Cert.ForwardIdeal.Value.run_blocks (F := Ideal) m ρ)
  · exact (θ_run _ _ _).mono (fun _ h c => ⟨((h c).1).trans ((Cert.ForwardReferenceIdeal.Value.res_o _ _ _ _ _ _ ).trans (by rw [(hagree c).1, (hagree c).2.1, (hagree c).2.2.1, (hagree c).2.2.2.1, (hagree c).2.2.2.2.1, (hagree c).2.2.2.2.2])), ((h c).2.1).trans ((Cert.ForwardReferenceIdeal.Value.res_s _ _ _ _ _ _ ).trans (by rw [(hagree c).1, (hagree c).2.1, (hagree c).2.2.2.2.1, (hagree c).2.2.2.2.2])), (h c).2.2⟩)
      (Cert.ForwardReferenceIdeal.StepIter.run_iter (F := Ideal) m' ρ' (fun c => Cert.ForwardReferenceIdeal.Value.it (m' ((c.tc : Thread Cert.ForwardReferenceIdeal.nD Cert.ForwardReferenceIdeal.τ).loc Cert.ForwardReferenceIdeal.main_arg0)) (m' ((c.tc : Thread Cert.ForwardReferenceIdeal.nD Cert.ForwardReferenceIdeal.τ).loc Cert.ForwardReferenceIdeal.main_arg1)) (m' ((c.tc : Thread Cert.ForwardReferenceIdeal.nD Cert.ForwardReferenceIdeal.τ).loc Cert.ForwardReferenceIdeal.main_arg2)) (m' ((c.tc : Thread Cert.ForwardReferenceIdeal.nD Cert.ForwardReferenceIdeal.τ).loc Cert.ForwardReferenceIdeal.main_arg3)) (m' ((c.tc : Thread Cert.ForwardReferenceIdeal.nD Cert.ForwardReferenceIdeal.τ).loc Cert.ForwardReferenceIdeal.main_arg4)) (m' ((c.tc : Thread Cert.ForwardReferenceIdeal.nD Cert.ForwardReferenceIdeal.τ).loc Cert.ForwardReferenceIdeal.main_arg5))) (fun _ => rfl) (fun _ _ => rfl))

/-- The program declares no semaphore and leaves its arguments unchanged. -/
theorem frame_MlpReferenceIdeal : Cert.quiescent_MlpReferenceIdeal := fun m ρ _ =>
  (θ_run _ _ _).mono (fun r h => ⟨fun c => (h c).2.2.2.2.2, sem_eq_zero_of_no_sems (by decide) r.2⟩)
    (Cert.MlpReferenceIdeal.Value.run (F := Ideal) m ρ)

/-- The program declares no semaphore and leaves its arguments unchanged. -/
theorem frame_ProjReferenceIdeal : Cert.quiescent_ProjReferenceIdeal := fun m ρ _ =>
  (θ_run _ _ _).mono (fun r h => ⟨fun c => (h c).2.2.2.2.2.2.2, sem_eq_zero_of_no_sems (by decide) r.2⟩)
    (Cert.ProjReferenceIdeal.Value.run (F := Ideal) m ρ)

/-- The feed-forward sublayer's output, and the cotangents of its input, its gain and its two weights. -/
theorem algebraic_Mlp : Cert.algebraic_MlpIdeal_MlpReferenceIdeal := by
  intro m ρ m' ρ' _ hagree
  refine ⟨fun c => Products.Mlp.out (m ((c.tc : Thread Cert.MlpIdeal.nD Cert.MlpIdeal.τ).loc Cert.MlpIdeal.main_arg0)) (Products.Norm.out (m ((c.tc : Thread Cert.MlpIdeal.nD Cert.MlpIdeal.τ).loc Cert.MlpIdeal.main_arg0)) (m ((c.tc : Thread Cert.MlpIdeal.nD Cert.MlpIdeal.τ).loc Cert.MlpIdeal.main_arg1))) (m ((c.tc : Thread Cert.MlpIdeal.nD Cert.MlpIdeal.τ).loc Cert.MlpIdeal.main_arg2)) (m ((c.tc : Thread Cert.MlpIdeal.nD Cert.MlpIdeal.τ).loc Cert.MlpIdeal.main_arg3)), fun c => Products.Norm.dx (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (Products.Mlp.dh (Products.Norm.out (m ((c.tc : Thread Cert.MlpIdeal.nD Cert.MlpIdeal.τ).loc Cert.MlpIdeal.main_arg0)) (m ((c.tc : Thread Cert.MlpIdeal.nD Cert.MlpIdeal.τ).loc Cert.MlpIdeal.main_arg1))) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) (m ((c.tc : Thread Cert.MlpIdeal.nD Cert.MlpIdeal.τ).loc Cert.MlpIdeal.main_arg4)), fun c => Products.Norm.dg (m ((c.tc : Thread Cert.MlpIdeal.nD Cert.MlpIdeal.τ).loc Cert.MlpIdeal.main_arg0)) (Products.Mlp.dh (Products.Norm.out (m ((c.tc : Thread Cert.MlpIdeal.nD Cert.MlpIdeal.τ).loc Cert.MlpIdeal.main_arg0)) (m ((c.tc : Thread Cert.MlpIdeal.nD Cert.MlpIdeal.τ).loc Cert.MlpIdeal.main_arg1))) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))), fun c => Products.Mlp.dwUp (Products.Norm.out (m ((c.tc : Thread Cert.MlpIdeal.nD Cert.MlpIdeal.τ).loc Cert.MlpIdeal.main_arg0)) (m ((c.tc : Thread Cert.MlpIdeal.nD Cert.MlpIdeal.τ).loc Cert.MlpIdeal.main_arg1))) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)), fun c => Products.Mlp.dwDown (Products.Norm.out (m ((c.tc : Thread Cert.MlpIdeal.nD Cert.MlpIdeal.τ).loc Cert.MlpIdeal.main_arg0)) (m ((c.tc : Thread Cert.MlpIdeal.nD Cert.MlpIdeal.τ).loc Cert.MlpIdeal.main_arg1))) (m ((c.tc : Thread Cert.MlpIdeal.nD Cert.MlpIdeal.τ).loc Cert.MlpIdeal.main_arg2)) (m ((c.tc : Thread Cert.MlpIdeal.nD Cert.MlpIdeal.τ).loc Cert.MlpIdeal.main_arg4)), ?_, ?_⟩
  · exact Cert.MlpIdeal.Value.run_values m ρ
  · exact (θ_run _ _ _).mono (fun _ h c => ⟨((h c).1).trans ((Cert.MlpReferenceIdeal.Value.res_out _ _ _ _).trans (by rw [(hagree c).1, (hagree c).2.1, (hagree c).2.2.1, (hagree c).2.2.2.1])), ((h c).2.1).trans ((Cert.MlpReferenceIdeal.Value.res_dx m' c).trans (by rw [(hagree c).1, (hagree c).2.1, (hagree c).2.2.1, (hagree c).2.2.2.1, (hagree c).2.2.2.2])), ((h c).2.2.1).trans ((Cert.MlpReferenceIdeal.Value.res_dg _ _ _ _ _).trans (by rw [(hagree c).1, (hagree c).2.1, (hagree c).2.2.1, (hagree c).2.2.2.1, (hagree c).2.2.2.2])), ((h c).2.2.2.1).trans ((Cert.MlpReferenceIdeal.Value.res_dwUp _ _ _ _ _).trans (by rw [(hagree c).1, (hagree c).2.1, (hagree c).2.2.1, (hagree c).2.2.2.1, (hagree c).2.2.2.2])), ((h c).2.2.2.2.1).trans ((Cert.MlpReferenceIdeal.Value.res_dwDown _ _ _ _).trans (by rw [(hagree c).1, (hagree c).2.1, (hagree c).2.2.1, (hagree c).2.2.2.2])), (h c).2.2.2.2.2⟩)
      (Cert.MlpReferenceIdeal.Value.run (F := Ideal) m' ρ')

/-- The normalised input's projection, the sublayer's output, and the cotangents of the inputs, the gain and the weights. -/
theorem algebraic_Proj : Cert.algebraic_ProjIdeal_ProjReferenceIdeal := by
  intro m ρ m' ρ' _ hagree
  refine ⟨fun c => Products.nn (Products.Norm.out (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg3)), fun c => Products.plus (Products.nn (m ((c.tc : Thread Cert.ProjIdeal.nD Cert.ProjIdeal.τ).loc Cert.ProjIdeal.main_arg2)) (m ((c.tc : Thread Cert.ProjIdeal.nD Cert.ProjIdeal.τ).loc Cert.ProjIdeal.main_arg4))) (m ((c.tc : Thread Cert.ProjIdeal.nD Cert.ProjIdeal.τ).loc Cert.ProjIdeal.main_arg0)), fun c => Products.Norm.dx (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (Products.nt (m ((c.tc : Thread Cert.ProjIdeal.nD Cert.ProjIdeal.τ).loc Cert.ProjIdeal.main_arg6)) (m ((c.tc : Thread Cert.ProjIdeal.nD Cert.ProjIdeal.τ).loc Cert.ProjIdeal.main_arg3))) (m ((c.tc : Thread Cert.ProjIdeal.nD Cert.ProjIdeal.τ).loc Cert.ProjIdeal.main_arg5)), fun c => Products.Norm.dg (m ((c.tc : Thread Cert.ProjIdeal.nD Cert.ProjIdeal.τ).loc Cert.ProjIdeal.main_arg0)) (Products.nt (m ((c.tc : Thread Cert.ProjIdeal.nD Cert.ProjIdeal.τ).loc Cert.ProjIdeal.main_arg6)) (m ((c.tc : Thread Cert.ProjIdeal.nD Cert.ProjIdeal.τ).loc Cert.ProjIdeal.main_arg3))), fun c => Products.nt (m ((c.tc : Thread Cert.ProjIdeal.nD Cert.ProjIdeal.τ).loc Cert.ProjIdeal.main_arg5)) (m ((c.tc : Thread Cert.ProjIdeal.nD Cert.ProjIdeal.τ).loc Cert.ProjIdeal.main_arg4)), fun c => Products.tn (Products.Norm.out (m ((c.tc : Thread Cert.ProjIdeal.nD Cert.ProjIdeal.τ).loc Cert.ProjIdeal.main_arg0)) (m ((c.tc : Thread Cert.ProjIdeal.nD Cert.ProjIdeal.τ).loc Cert.ProjIdeal.main_arg1))) (m ((c.tc : Thread Cert.ProjIdeal.nD Cert.ProjIdeal.τ).loc Cert.ProjIdeal.main_arg6)), fun c => Products.tn (m ((c.tc : Thread Cert.ProjIdeal.nD Cert.ProjIdeal.τ).loc Cert.ProjIdeal.main_arg2)) (m ((c.tc : Thread Cert.ProjIdeal.nD Cert.ProjIdeal.τ).loc Cert.ProjIdeal.main_arg5)), ?_, ?_⟩
  · exact Cert.ProjIdeal.Value.run_values m ρ
  · exact (θ_run _ _ _).mono (fun _ h c => ⟨((h c).1).trans ((Cert.ProjReferenceIdeal.Value.res_proj _ _ _).trans (by rw [(hagree c).1, (hagree c).2.1, (hagree c).2.2.2.1])), ((h c).2.1).trans ((Cert.ProjReferenceIdeal.Value.res_x1 _ _ _).trans (by rw [(hagree c).1, (hagree c).2.2.1, (hagree c).2.2.2.2.1])), ((h c).2.2.1).trans ((Cert.ProjReferenceIdeal.Value.res_dx m' c).trans (by rw [(hagree c).1, (hagree c).2.1, (hagree c).2.2.2.1, (hagree c).2.2.2.2.2.1, (hagree c).2.2.2.2.2.2])), ((h c).2.2.2.1).trans ((Cert.ProjReferenceIdeal.Value.res_dg _ _ _).trans (by rw [(hagree c).1, (hagree c).2.2.2.1, (hagree c).2.2.2.2.2.2])), ((h c).2.2.2.2.1).trans ((Cert.ProjReferenceIdeal.Value.res_dmixed _ _).trans (by rw [(hagree c).2.2.2.2.1, (hagree c).2.2.2.2.2.1])), ((h c).2.2.2.2.2.1).trans ((Cert.ProjReferenceIdeal.Value.res_dwIn _ _ _).trans (by rw [(hagree c).1, (hagree c).2.1, (hagree c).2.2.2.2.2.2])), ((h c).2.2.2.2.2.2.1).trans ((Cert.ProjReferenceIdeal.Value.res_dwOut _ _).trans (by rw [(hagree c).2.2.1, (hagree c).2.2.2.2.2.1])), (h c).2.2.2.2.2.2.2⟩)
      (Cert.ProjReferenceIdeal.Value.run (F := Ideal) m' ρ')

/-- The program declares no semaphore and leaves its arguments unchanged. -/
theorem frame_GateReferenceIdeal : Cert.quiescent_GateReferenceIdeal := fun m ρ _ =>
  (θ_run _ _ _).mono (fun r h => ⟨fun c => (h c).2.2.2, sem_eq_zero_of_no_sems (by decide) r.2⟩)
    (Cert.GateReferenceIdeal.Value.run (F := Ideal) m ρ)

/-- The gated values among the mixed features, and the cotangents of the recurrence's outputs and of the gate's inputs. -/
theorem algebraic_Gate : Cert.algebraic_GateIdeal_GateReferenceIdeal := by
  intro m ρ m' ρ' _ hagree
  refine ⟨fun c => Products.put 768 ((m ((c.tc : Thread Cert.GateIdeal.nD Cert.GateIdeal.τ).loc Cert.GateIdeal.main_arg2)) : Products.Mat 8192 1024) (Products.Gelu.out ((m ((c.tc : Thread Cert.GateIdeal.nD Cert.GateIdeal.τ).loc Cert.GateIdeal.main_arg0)) : Products.Mat 8192 256) (Products.cols 256 3328 (by decide) ((m ((c.tc : Thread Cert.GateIdeal.nD Cert.GateIdeal.τ).loc Cert.GateIdeal.main_arg1)) : Products.Mat 8192 3840))), fun c => Products.Gelu.dh (Products.cols 256 3328 (by decide) ((m ((c.tc : Thread Cert.GateIdeal.nD Cert.GateIdeal.τ).loc Cert.GateIdeal.main_arg1)) : Products.Mat 8192 3840)) (Products.cols 256 768 (by decide) ((m ((c.tc : Thread Cert.GateIdeal.nD Cert.GateIdeal.τ).loc Cert.GateIdeal.main_arg3)) : Products.Mat 8192 1024)), fun c => Products.put 3328 ((m ((c.tc : Thread Cert.GateIdeal.nD Cert.GateIdeal.τ).loc Cert.GateIdeal.main_arg4)) : Products.Mat 8192 3840) (Products.Gelu.dy ((m ((c.tc : Thread Cert.GateIdeal.nD Cert.GateIdeal.τ).loc Cert.GateIdeal.main_arg0)) : Products.Mat 8192 256) (Products.cols 256 3328 (by decide) ((m ((c.tc : Thread Cert.GateIdeal.nD Cert.GateIdeal.τ).loc Cert.GateIdeal.main_arg1)) : Products.Mat 8192 3840)) (Products.cols 256 768 (by decide) ((m ((c.tc : Thread Cert.GateIdeal.nD Cert.GateIdeal.τ).loc Cert.GateIdeal.main_arg3)) : Products.Mat 8192 1024))), ?_, ?_⟩
  · exact Cert.GateIdeal.Value.run_values m ρ
  · exact (θ_run _ _ _).mono (fun _ h c => ⟨((h c).1).trans ((Cert.GateReferenceIdeal.Value.res_out _ _ _).trans (by rw [(hagree c).1, (hagree c).2.1, (hagree c).2.2.1])), ((h c).2.1).trans ((Cert.GateReferenceIdeal.Value.res_dh _ _).trans (by rw [(hagree c).2.1, (hagree c).2.2.2.1])), ((h c).2.2.1).trans ((Cert.GateReferenceIdeal.Value.res_dy m' c).trans (by rw [(hagree c).1, (hagree c).2.1, (hagree c).2.2.2.1, (hagree c).2.2.2.2])), (h c).2.2.2⟩)
      (Cert.GateReferenceIdeal.Value.run (F := Ideal) m' ρ')

/-- The program declares no semaphore and leaves its arguments unchanged. -/
theorem frame_LossReferenceIdeal : Cert.quiescent_LossReferenceIdeal := fun m ρ _ =>
  (θ_run _ _ _).mono (fun r h => ⟨fun c => (h c).2.2.2, sem_eq_zero_of_no_sems (by decide) r.2⟩)
    (Cert.LossReferenceIdeal.Value.run (F := Ideal) m ρ)

/-- The loss, and its gradients in the last hidden rows and in the gain. -/
theorem algebraic_Loss : Cert.algebraic_LossIdeal_LossReferenceIdeal := by
  intro m ρ m' ρ' _ hagree
  refine ⟨fun c => fun _ => Products.Loss.val ((m ((c.tc : Thread Cert.LossIdeal.nD Cert.LossIdeal.τ).loc Cert.LossIdeal.main_arg1)) : Products.Mat 8192 1024) ((m ((c.tc : Thread Cert.LossIdeal.nD Cert.LossIdeal.τ).loc Cert.LossIdeal.main_arg0)) : Products.Row 1024) ((m ((c.tc : Thread Cert.LossIdeal.nD Cert.LossIdeal.τ).loc Cert.LossIdeal.main_arg2)) : Products.Mat 8192 1024), fun c => Products.Loss.dx ((m ((c.tc : Thread Cert.LossIdeal.nD Cert.LossIdeal.τ).loc Cert.LossIdeal.main_arg1)) : Products.Mat 8192 1024) ((m ((c.tc : Thread Cert.LossIdeal.nD Cert.LossIdeal.τ).loc Cert.LossIdeal.main_arg0)) : Products.Row 1024) ((m ((c.tc : Thread Cert.LossIdeal.nD Cert.LossIdeal.τ).loc Cert.LossIdeal.main_arg2)) : Products.Mat 8192 1024), fun c => Products.Loss.dg ((m ((c.tc : Thread Cert.LossIdeal.nD Cert.LossIdeal.τ).loc Cert.LossIdeal.main_arg1)) : Products.Mat 8192 1024) ((m ((c.tc : Thread Cert.LossIdeal.nD Cert.LossIdeal.τ).loc Cert.LossIdeal.main_arg0)) : Products.Row 1024) ((m ((c.tc : Thread Cert.LossIdeal.nD Cert.LossIdeal.τ).loc Cert.LossIdeal.main_arg2)) : Products.Mat 8192 1024), ?_, ?_⟩
  · exact Cert.LossIdeal.Value.run_values m ρ
  · exact (θ_run _ _ _).mono (fun _ h c => ⟨((h c).1).trans ((Cert.LossReferenceIdeal.Value.res_loss _ _ _).trans (by rw [(hagree c).1, (hagree c).2.1, (hagree c).2.2]; rfl)), ((h c).2.1).trans ((Cert.LossReferenceIdeal.Value.res_dx m' c).trans (by rw [(hagree c).1, (hagree c).2.1, (hagree c).2.2])), ((h c).2.2.1).trans ((Cert.LossReferenceIdeal.Value.res_dg _ _ _).trans (by rw [(hagree c).1, (hagree c).2.1, (hagree c).2.2])), (h c).2.2.2⟩)
      (Cert.LossReferenceIdeal.Value.run (F := Ideal) m' ρ')

theorem claim : Cert.Claim := ⟨Cert.Kernel.Gen.facts, Cert.KernelIdeal.Gen.facts, Cert.ReferenceIdeal.Gen.facts, Cert.Forward.Gen.facts, Cert.ForwardIdeal.Gen.facts, Cert.ForwardReferenceIdeal.Gen.facts,
  Cert.Mlp.Gen.facts, Cert.MlpIdeal.Gen.facts, Cert.MlpReferenceIdeal.Gen.facts, Cert.Proj.Gen.facts, Cert.ProjIdeal.Gen.facts, Cert.ProjReferenceIdeal.Gen.facts,
  Cert.Gate.Gen.facts, Cert.GateIdeal.Gen.facts, Cert.GateReferenceIdeal.Gen.facts,
  Cert.Loss.Gen.facts, Cert.LossIdeal.Gen.facts, Cert.LossReferenceIdeal.Gen.facts,
  fun m ρ _ => Cert.Kernel.Gen.frame m ρ, fun m ρ _ => Cert.KernelIdeal.Gen.frame m ρ, frame_ReferenceIdeal,
  fun m ρ _ => Cert.Forward.Gen.frame m ρ, fun m ρ _ => Cert.ForwardIdeal.Gen.frame m ρ, frame_ForwardReferenceIdeal,
  fun m ρ _ => Cert.Mlp.Gen.frame m ρ, fun m ρ _ => Cert.MlpIdeal.Gen.frame m ρ, frame_MlpReferenceIdeal,
  fun m ρ _ => Cert.Proj.Gen.frame m ρ, fun m ρ _ => Cert.ProjIdeal.Gen.frame m ρ, frame_ProjReferenceIdeal,
  fun m ρ _ => Cert.Gate.Gen.frame m ρ, fun m ρ _ => Cert.GateIdeal.Gen.frame m ρ, frame_GateReferenceIdeal,
  fun m ρ _ => Cert.Loss.Gen.frame m ρ, fun m ρ _ => Cert.LossIdeal.Gen.frame m ρ, frame_LossReferenceIdeal,
  trivial, algebraic_Kernel, trivial, algebraic_Forward, trivial, algebraic_Mlp, trivial, algebraic_Proj, trivial, algebraic_Gate, trivial, algebraic_Loss⟩

end Cert.Proof

end
